-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)
  ∧ IdealRules.named_const.Statement Cert.KernelIdeal.κ "scale" .f32 0x3DD105EC#32 (((Real.sqrt 96)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v6) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  IdealRules.named_const.Statement Cert.Kernel9Ideal.κ "log2e" .f32 0x3FB8AA3B#32 (((Real.log 2)⁻¹ : ℝ) : EReal)
  ∧ IdealRules.named_const.Statement Cert.Kernel9Ideal.κ "fox_scale_log2e" .f32 0x3E38AA3B#32 (((8 * (Real.log 2))⁻¹ : ℝ) : EReal)
  ∧ IdealRules.named_const.Statement Cert.Kernel9Ideal.κ "ln2" .f32 0x3F317218#32 ((Real.log 2 : ℝ) : EReal)

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v68_0)) (v1 : (c : Dev Cert.Kernel9Ideal.nD) → Buf (Elt Ideal) ((c.tc : Thread Cert.Kernel9Ideal.nD Cert.Kernel9Ideal.τ).loc Cert.Kernel9Ideal.main_v68_1)) (v2 : (c : Dev Cert.Kernel9Ideal.nD) → Buf (Elt Ideal) ((c.tc : Thread Cert.Kernel9Ideal.nD Cert.Kernel9Ideal.τ).loc Cert.Kernel9Ideal.main_v68_2)) (v3 : (c : Dev Cert.Kernel9Ideal.nD) → Buf (Elt Ideal) ((c.tc : Thread Cert.Kernel9Ideal.nD Cert.Kernel9Ideal.τ).loc Cert.Kernel9Ideal.main_v68_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v68_0) = v0 c
          ∧ r.2.mem ((c.tc : Thread Cert.Kernel9Ideal.nD Cert.Kernel9Ideal.τ).loc Cert.Kernel9Ideal.main_v68_1) = v1 c
          ∧ r.2.mem ((c.tc : Thread Cert.Kernel9Ideal.nD Cert.Kernel9Ideal.τ).loc Cert.Kernel9Ideal.main_v68_2) = v2 c
          ∧ r.2.mem ((c.tc : Thread Cert.Kernel9Ideal.nD Cert.Kernel9Ideal.τ).loc Cert.Kernel9Ideal.main_v68_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v101) = v0 c
          ∧ r.2.mem ((c.tc : Thread Cert.Reference9Ideal.nD Cert.Reference9Ideal.τ).loc Cert.Reference9Ideal.main_v102) = v1 c
          ∧ r.2.mem ((c.tc : Thread Cert.Reference9Ideal.nD Cert.Reference9Ideal.τ).loc Cert.Reference9Ideal.main_v103) = v2 c
          ∧ r.2.mem ((c.tc : Thread Cert.Reference9Ideal.nD Cert.Reference9Ideal.τ).loc Cert.Reference9Ideal.main_v104) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v38) = v0 c
          ∧ r.2.mem ((c.tc : Thread Cert.Reference10Ideal.nD Cert.Reference10Ideal.τ).loc Cert.Reference10Ideal.main_v39) = v1 c
          ∧ r.2.mem ((c.tc : Thread Cert.Reference10Ideal.nD Cert.Reference10Ideal.τ).loc Cert.Reference10Ideal.main_v21) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v54) = v0 c
          ∧ r.2.mem ((c.tc : Thread Cert.Reference11Ideal.nD Cert.Reference11Ideal.τ).loc Cert.Reference11Ideal.main_v55) = v1 c
          ∧ r.2.mem ((c.tc : Thread Cert.Reference11Ideal.nD Cert.Reference11Ideal.τ).loc Cert.Reference11Ideal.main_v38) = v2 c
          ∧ r.2.mem ((c.tc : Thread Cert.Reference11Ideal.nD Cert.Reference11Ideal.τ).loc Cert.Reference11Ideal.main_v56) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v50) = v0 c
          ∧ r.2.mem ((c.tc : Thread Cert.Reference12Ideal.nD Cert.Reference12Ideal.τ).loc Cert.Reference12Ideal.main_v33) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v16) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v5) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)) (v5 : (c : Dev Cert.Kernel18Ideal.nD) → Buf (Elt Ideal) ((c.tc : Thread Cert.Kernel18Ideal.nD Cert.Kernel18Ideal.τ).loc Cert.Kernel18Ideal.main_v0_5)) (v6 : (c : Dev Cert.Kernel18Ideal.nD) → Buf (Elt Ideal) ((c.tc : Thread Cert.Kernel18Ideal.nD Cert.Kernel18Ideal.τ).loc Cert.Kernel18Ideal.main_v0_6)) (v7 : (c : Dev Cert.Kernel18Ideal.nD) → Buf (Elt Ideal) ((c.tc : Thread Cert.Kernel18Ideal.nD Cert.Kernel18Ideal.τ).loc Cert.Kernel18Ideal.main_v0_7)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_v0_5) = v5 c
          ∧ r.2.mem ((c.tc : Thread Cert.Kernel18Ideal.nD Cert.Kernel18Ideal.τ).loc Cert.Kernel18Ideal.main_v0_6) = v6 c
          ∧ r.2.mem ((c.tc : Thread Cert.Kernel18Ideal.nD Cert.Kernel18Ideal.τ).loc Cert.Kernel18Ideal.main_v0_7) = v7 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v75) = v0 c
          ∧ r.2.mem ((c.tc : Thread Cert.Reference18Ideal.nD Cert.Reference18Ideal.τ).loc Cert.Reference18Ideal.main_v76) = v1 c
          ∧ r.2.mem ((c.tc : Thread Cert.Reference18Ideal.nD Cert.Reference18Ideal.τ).loc Cert.Reference18Ideal.main_v58) = v2 c
          ∧ r.2.mem ((c.tc : Thread Cert.Reference18Ideal.nD Cert.Reference18Ideal.τ).loc Cert.Reference18Ideal.main_v39) = v3 c
          ∧ r.2.mem ((c.tc : Thread Cert.Reference18Ideal.nD Cert.Reference18Ideal.τ).loc Cert.Reference18Ideal.main_v84) = v4 c
          ∧ r.2.mem ((c.tc : Thread Cert.Reference18Ideal.nD Cert.Reference18Ideal.τ).loc Cert.Reference18Ideal.main_v92) = v5 c
          ∧ r.2.mem ((c.tc : Thread Cert.Reference18Ideal.nD Cert.Reference18Ideal.τ).loc Cert.Reference18Ideal.main_v94) = v6 c
          ∧ r.2.mem ((c.tc : Thread Cert.Reference18Ideal.nD Cert.Reference18Ideal.τ).loc Cert.Reference18Ideal.main_v96) = v7 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v25) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S4096x1024 : Shape := ⟨2, ![4096, 1024]⟩
abbrev S4096x512 : Shape := ⟨2, ![4096, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v16 : IVec S_ 1) (main_v17 : FVec F S4096x512 .f32) : IVec S_ 1 :=
  let main_v18 : FVec F S4096x512 .f32 := Host.absf main_v17
  let main_cst_4 : FVec F S_ .f32 := constant S_ .f32 0x7F800000#32
  let main_v19 : FVec F S4096x512 .f32 := broadcastInDim S4096x512 ![] bcast_S_S4096x512 main_cst_4
  let main_v20 : IVec S4096x512 1 := cmpf .olt main_v18 main_v19
  let main_c_5 : IVec S_ 1 := constantI S_ 1 1#1
  let main_v21 : IVec S_ 1 := (fun x v => Host.reduce IntOp.andi x v reducesTo_S4096x512_S_d0_1 h_S_) main_v20 main_c_5
  let main_v22 : IVec S_ 1 := andi main_v16 main_v21
  main_v22

def fn {F : FTy → Type} [FloatOps F] (main_arg0 : FVec F S4096x1024 .bf16) (main_arg1 : FVec F S4096x1024 .bf16) (main_arg2 : FVec F S4096x512 .bf16) (main_arg3 : FVec F S4096x512 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4096x512 .f32 := (extf .f32 · bitsLt_bf16_f32) main_arg2
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_c_3 : IVec S_ 1 := constantI S_ 1 1#1
  let main_v15 : IVec S_ 1 := (fun x v => Host.reduce IntOp.andi x v reducesTo_S4096x512_S_d0_1 h_S_) main_v14 main_c_3
  let main_v16 : IVec S_ 1 := andi main_v10 main_v15
  let main_v17 : FVec F S4096x512 .f32 := (extf .f32 · bitsLt_bf16_f32) main_arg3
  fn_part1 (F := F) main_v16 main_v17
-- ==== Pre_finite9.lean ====
abbrev S4096x1536 : Shape := ⟨2, ![4096, 1536]⟩
abbrev S4096x8 : Shape := ⟨2, ![4096, 8]⟩
abbrev S4096x512 : Shape := ⟨2, ![4096, 512]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x1536 .bf16) (main_arg1 : FVec F S4096x8 .f32) (main_arg2 : FVec F S4096x512 .bf16) : IVec S_ 1 :=
  let main_v0 : FVec F S4096x1536 .f32 := (extf .f32 · bitsLt_bf16_f32) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_c : IVec S_ 1 := constantI S_ 1 1#1
  let main_v4 : IVec S_ 1 := (fun x v => Host.reduce IntOp.andi x v reducesTo_S4096x1536_S_d0_1 h_S_) main_v3 main_c
  let main_v5 : FVec F S4096x8 .f32 := Host.absf main_arg1
  let main_cst_0 : FVec F S_ .f32 := constant S_ .f32 0x7F800000#32
  let main_v6 : FVec F S4096x8 .f32 := broadcastInDim S4096x8 ![] bcast_S_S4096x8 main_cst_0
  let main_v7 : IVec S4096x8 1 := cmpf .olt main_v5 main_v6
  let main_c_1 : IVec S_ 1 := constantI S_ 1 1#1
  let main_v8 : IVec S_ 1 := (fun x v => Host.reduce IntOp.andi x v reducesTo_S4096x8_S_d0_1 h_S_) main_v7 main_c_1
  let main_v9 : IVec S_ 1 := andi main_v4 main_v8
  let main_v10 : FVec F S4096x512 .f32 := (extf .f32 · bitsLt_bf16_f32) main_arg2
  let main_v11 : FVec F S4096x512 .f32 := Host.absf main_v10
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  let main_c_3 : IVec S_ 1 := constantI S_ 1 1#1
  let main_v14 : IVec S_ 1 := (fun x v => Host.reduce IntOp.andi x v reducesTo_S4096x512_S_d0_1 h_S_) main_v13 main_c_3
  let main_v15 : IVec S_ 1 := andi main_v9 main_v14
  main_v15
-- ==== Kernel.lean ====
abbrev S4096x1024 : Shape := ⟨2, ![4096, 1024]⟩
abbrev S4096x512 : Shape := ⟨2, ![4096, 512]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S4096x8x64 : Shape := ⟨3, ![4096, 8, 64]⟩
abbrev S8x4096x64 : Shape := ⟨3, ![8, 4096, 64]⟩
abbrev S4x4096 : Shape := ⟨2, ![4, 4096]⟩
abbrev S4x4096x1 : Shape := ⟨3, ![4, 4096, 1]⟩
abbrev S4x4096x4 : Shape := ⟨3, ![4, 4096, 4]⟩
abbrev S4x4096x128 : Shape := ⟨3, ![4, 4096, 128]⟩
abbrev S8x512x1024 : Shape := ⟨3, ![8, 512, 1024]⟩
abbrev S8x1024x512 : Shape := ⟨3, ![8, 1024, 512]⟩
abbrev S8x512x512 : Shape := ⟨3, ![8, 512, 512]⟩
abbrev S4096x256 : Shape := ⟨2, ![4096, 256]⟩
abbrev S8x256x512 : Shape := ⟨3, ![8, 256, 512]⟩
abbrev S512x256 : Shape := ⟨2, ![512, 256]⟩
abbrev S512x128 : Shape := ⟨2, ![512, 128]⟩
abbrev S4096x128 : Shape := ⟨2, ![4096, 128]⟩
abbrev S8x128x512 : Shape := ⟨3, ![8, 128, 512]⟩
abbrev S1x4096x128 : Shape := ⟨3, ![1, 4096, 128]⟩
abbrev S128x512 : Shape := ⟨2, ![128, 512]⟩
abbrev S64x512 : Shape := ⟨2, ![64, 512]⟩
abbrev S1x512 : Shape := ⟨2, ![1, 512]⟩
abbrev S1x256x512 : Shape := ⟨3, ![1, 256, 512]⟩
abbrev S256x512 : Shape := ⟨2, ![256, 512]⟩
abbrev S1x128 : Shape := ⟨2, ![1, 128]⟩
abbrev S1x128x512 : Shape := ⟨3, ![1, 128, 512]⟩
abbrev S1x512x128 : Shape := ⟨3, ![1, 512, 128]⟩
abbrev S512x512 : Shape := ⟨2, ![512, 512]⟩
abbrev S512x1 : Shape := ⟨2, ![512, 1]⟩
abbrev S1024x256 : Shape := ⟨2, ![1024, 256]⟩
abbrev S1024x128 : Shape := ⟨2, ![1024, 128]⟩
abbrev S256x1024 : Shape := ⟨2, ![256, 1024]⟩
abbrev S128x1024 : Shape := ⟨2, ![128, 1024]⟩
abbrev S1x1024x128 : Shape := ⟨3, ![1, 1024, 128]⟩
abbrev S1024x512 : Shape := ⟨2, ![1024, 512]⟩
abbrev S1024x1 : Shape := ⟨2, ![1024, 1]⟩
abbrev S64x1024 : Shape := ⟨2, ![64, 1024]⟩

abbrev nBuf : Space → Nat
  | .hbm => 73
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x1024, .f32⟩
  | .hbm, ⟨5, _⟩ => ⟨S4096x8x128, .f32⟩
  | .hbm, ⟨6, _⟩ => ⟨S8x4096x128, .f32⟩
  | .hbm, ⟨7, _⟩ => ⟨S4096x1024, .f32⟩
  | .hbm, ⟨8, _⟩ => ⟨S4096x8x128, .f32⟩
  | .hbm, ⟨9, _⟩ => ⟨S8x4096x128, .f32⟩
  | .hbm, ⟨10, _⟩ => ⟨S8x4096x4096, .f32⟩
  | .hbm, ⟨11, _⟩ => ⟨S_, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S8x4096x4096, .i1⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .f32⟩
  | .hbm, ⟨37, _⟩ => ⟨S4096x512, .f32⟩
  | .hbm, ⟨38, _⟩ => ⟨S4096x8x64, .f32⟩
  | .hbm, ⟨39, _⟩ => ⟨S8x4096x64, .f32⟩
  | .hbm, ⟨40, _⟩ => ⟨S8x4096x64, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096, .f32⟩
  | .hbm, ⟨48, _⟩ => ⟨S4096x512, .f32⟩
  | .hbm, ⟨49, _⟩ => ⟨S4096x8x64, .f32⟩
  | .hbm, ⟨50, _⟩ => ⟨S8x4096x64, .f32⟩
  | .hbm, ⟨51, _⟩ => ⟨S8x4096x64, .f32⟩
  | .hbm, ⟨52, _⟩ => ⟨S_, .f32⟩
  | .hbm, ⟨53, _⟩ => ⟨S8x4096, .f32⟩
  | .hbm, ⟨54, _⟩ => ⟨S4x4096, .f32⟩
  | .hbm, ⟨55, _⟩ => ⟨S4x4096, .f32⟩
  | .hbm, ⟨56, _⟩ => ⟨S4x4096, .f32⟩
  | .hbm, ⟨57, _⟩ => ⟨S4x4096, .f32⟩
  | .hbm, ⟨58, _⟩ => ⟨S4x4096x1, .f32⟩
  | .hbm, ⟨59, _⟩ => ⟨S4x4096x1, .f32⟩
  | .hbm, ⟨60, _⟩ => ⟨S4x4096x1, .f32⟩
  | .hbm, ⟨61, _⟩ => ⟨S4x4096x1, .f32⟩
  | .hbm, ⟨62, _⟩ => ⟨S4x4096x4, .f32⟩
  | .hbm, ⟨63, _⟩ => ⟨S_, .i32⟩
  | .hbm, ⟨64, _⟩ => ⟨S_, .f32⟩
  | .hbm, ⟨65, _⟩ => ⟨S4x4096x128, .f32⟩
  | .hbm, ⟨66, _⟩ => ⟨S8x512x1024, .bf16⟩
  | .hbm, ⟨67, _⟩ => ⟨S8x1024x512, .bf16⟩
  | .hbm, ⟨68, _⟩ => ⟨S8x512x512, .bf16⟩
  | .hbm, ⟨69, _⟩ => ⟨S8x512x512, .bf16⟩
  | .hbm, ⟨70, _⟩ => ⟨S4096x1024, .f32⟩
  | .hbm, ⟨71, _⟩ => ⟨S4096x1024, .bf16⟩
  | .hbm, ⟨72, _⟩ => ⟨S4096x512, .bf16⟩
  | .local _ .vmem, ⟨0, _⟩ => ⟨S4096x256, .bf16⟩
  | .local _ .vmem, ⟨1, _⟩ => ⟨S4096x256, .bf16⟩
  | .local _ .vmem, ⟨2, _⟩ => ⟨S8x256x512, .bf16⟩
  | .local _ .vmem, ⟨3, _⟩ => ⟨S8x256x512, .bf16⟩
  | .local _ .vmem, ⟨4, _⟩ => ⟨S512x256, .bf16⟩
  | .local _ .vmem, ⟨5, _⟩ => ⟨S512x256, .bf16⟩
  | .local _ .vmem, ⟨6, _⟩ => ⟨S512x128, .bf16⟩
  | .local _ .vmem, ⟨7, _⟩ => ⟨S512x128, .bf16⟩
  | .local _ .vmem, ⟨8, _⟩ => ⟨S4096x128, .bf16⟩
  | .local _ .vmem, ⟨9, _⟩ => ⟨S4096x128, .bf16⟩
  | .local _ .vmem, ⟨10, _⟩ => ⟨S8x128x512, .bf16⟩
  | .local _ .vmem, ⟨11, _⟩ => ⟨S8x128x512, .bf16⟩
  | .local _ .vmem, ⟨12, _⟩ => ⟨S1x4096x128, .f32⟩
  | .local _ .vmem, ⟨13, _⟩ => ⟨S1x4096x128, .f32⟩
  | .local _ .vmem, ⟨14, _⟩ => ⟨S4096x256, .f32⟩
  | .local _ .vmem, ⟨15, _⟩ => ⟨S4096x256, .f32⟩
  | .local _ .vmem, ⟨16, _⟩ => ⟨S512x256, .bf16⟩
  | .local _ .vmem, ⟨17, _⟩ => ⟨S512x256, .bf16⟩
  | .local _ .vmem, ⟨18, _⟩ => ⟨S512x128, .bf16⟩
  | .local _ .vmem, ⟨19, _⟩ => ⟨S512x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c : Ref sig .tc := ⟨.hbm, 63, rfl⟩
abbrev main_call1_v0 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55_0 : Ref sig .tc := ⟨.hbm, 70, rfl⟩
abbrev main_v55_1 : Ref sig .tc := ⟨.hbm, 71, rfl⟩
abbrev main_v55_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v13 : BitVec 32 := Scalar.muli arg1 c512_i32
  v13
def k0_off1 (i : grid0.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v15 : Index := Scalar.indexCast v14
  let c0_9 : Index := 0#32
  ![v15.toNat, 0]
def k0_off2 (i : grid0.Coords) : Fin 3 → Nat :=
  let arg1 : BitVec 32 := BitVec.ofNat 32 (i 1).val
  let c0_i32_11 : BitVec 32 := 0#32
  let v23 : BitVec 32 := Scalar.addi arg1 c0_i32_11
  let v24 : Index := Scalar.indexCast v23
  let c0_12 : Index := 0#32
  let c0_13 : Index := 0#32
  ![v24.toNat, 0, 0]
def k0_off3 (i : grid0.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v31 : Index := Scalar.indexCast v14
  let c0_15 : Index := 0#32
  ![v31.toNat, 0]
def k0_off4 (i : grid0.Coords) : Fin 3 → Nat :=
  let arg1 : BitVec 32 := BitVec.ofNat 32 (i 1).val
  let c0_i32_18 : BitVec 32 := 0#32
  let v49 : BitVec 32 := Scalar.addi arg1 c0_i32_18
  let v50 : Index := Scalar.indexCast v49
  let c0_19 : Index := 0#32
  let c0_20 : Index := 0#32
  ![v50.toNat, 0, 0]
def k0_off5 (i : grid0.Coords) : Fin 3 → Nat :=
  let c0_21 : Index := 0#32
  let arg1 : BitVec 32 := BitVec.ofNat 32 (i 1).val
  let c512_i32 : BitVec 32 := 512#32
  let v13 : BitVec 32 := Scalar.muli arg1 c512_i32
  let v14 : BitVec 32 := v13
  let v53 : Index := Scalar.indexCast v14
  let c0_22 : Index := 0#32
  ![0, v53.toNat, 0]
@[reducible] def k0_t1_loop (i : grid0.Coords) : Scf.Loop 32 :=
  let arg1 : BitVec 32 := BitVec.ofNat 32 (i 1).val
  let c1_i32_44 : BitVec 32 := 1#32
  let v131 : BitVec 32 := Scalar.addi arg1 c1_i32_44
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c2_i32_45 : BitVec 32 := 2#32
  let v132 : BitVec 32 := Scalar.muli v130 c2_i32_45
  let v133 : BitVec 32 := Scalar.subi v132 v131
  let c1_i32_46 : BitVec 32 := 1#32
  let v135 : BitVec 32 := Scalar.divsi v133 c1_i32_46
  let v136 : BitVec 32 := Scalar.muli v135 c1_i32_46
  let v137 : BitVec 32 := Scalar.addi v131 v136
  let c1_i32_47 : BitVec 32 := 1#32
  ⟨v131, v137, c1_i32_47⟩
def k0_mult2 (i : grid0.Coords) (k0_t1 : Fin (k0_t1_loop i).trips) : BitVec 32 :=
  let arg1 : BitVec 32 := BitVec.ofNat 32 (i 1).val
  let c1_i32_44 : BitVec 32 := 1#32
  let v131 : BitVec 32 := Scalar.addi arg1 c1_i32_44
  let c1_i32_47 : BitVec 32 := 1#32
  let arg12 : BitVec 32 := Scf.iv v131 c1_i32_47 k0_t1
  let c512_i32_57 : BitVec 32 := 512#32
  let v157 : BitVec 32 := Scalar.muli arg12 c512_i32_57
  v157
def k0_off6 (i : grid0.Coords) (k0_t1 : Fin (k0_t1_loop i).trips) : Fin 2 → Nat :=
  let arg1 : BitVec 32 := BitVec.ofNat 32 (i 1).val
  let c1_i32_44 : BitVec 32 := 1#32
  let v131 : BitVec 32 := Scalar.addi arg1 c1_i32_44
  let c1_i32_47 : BitVec 32 := 1#32
  let arg12 : BitVec 32 := Scf.iv v131 c1_i32_47 k0_t1
  let c512_i32_57 : BitVec 32 := 512#32
  let v157 : BitVec 32 := Scalar.muli arg12 c512_i32_57
  let v158 : BitVec 32 := v157
  let v159 : Index := Scalar.indexCast v158
  let c0_58 : Index := 0#32
  ![v159.toNat, 0]
def k0_off7 (i : grid0.Coords) (k0_t1 : Fin (k0_t1_loop i).trips) : Fin 3 → Nat :=
  let arg1 : BitVec 32 := BitVec.ofNat 32 (i 1).val
  let c1_i32_44 : BitVec 32 := 1#32
  let v131 : BitVec 32 := Scalar.addi arg1 c1_i32_44
  let c1_i32_47 : BitVec 32 := 1#32
  let arg12 : BitVec 32 := Scf.iv v131 c1_i32_47 k0_t1
  let c0_i32_60 : BitVec 32 := 0#32
  let v167 : BitVec 32 := Scalar.addi arg12 c0_i32_60
  let v168 : Index := Scalar.indexCast v167
  let c0_61 : Index := 0#32
  let c0_62 : Index := 0#32
  ![v168.toNat, 0, 0]
def k0_off8 (i : grid0.Coords) (k0_t1 : Fin (k0_t1_loop i).trips) : Fin 2 → Nat :=
  let arg1 : BitVec 32 := BitVec.ofNat 32 (i 1).val
  let c1_i32_44 : BitVec 32 := 1#32
  let v131 : BitVec 32 := Scalar.addi arg1 c1_i32_44
  let c1_i32_47 : BitVec 32 := 1#32
  let arg12 : BitVec 32 := Scf.iv v131 c1_i32_47 k0_t1
  let c512_i32_57 : BitVec 32 := 512#32
  let v157 : BitVec 32 := Scalar.muli arg12 c512_i32_57
  let v158 : BitVec 32 := v157
  let v175 : Index := Scalar.indexCast v158
  let c0_64 : Index := 0#32
  ![v175.toNat, 0]
def k0_off9 (i : grid0.Coords) (k0_t1 : Fin (k0_t1_loop i).trips) : Fin 3 → Nat :=
  let arg1 : BitVec 32 := BitVec.ofNat 32 (i 1).val
  let c1_i32_44 : BitVec 32 := 1#32
  let v131 : BitVec 32 := Scalar.addi arg1 c1_i32_44
  let c1_i32_47 : BitVec 32 := 1#32
  let arg12 : BitVec 32 := Scf.iv v131 c1_i32_47 k0_t1
  let c0_i32_68 : BitVec 32 := 0#32
  let v193 : BitVec 32 := Scalar.addi arg12 c0_i32_68
  let v194 : Index := Scalar.indexCast v193
  let c0_69 : Index := 0#32
  let c0_70 : Index := 0#32
  ![v194.toNat, 0, 0]
def k0_off10 (i : grid0.Coords) (k0_t1 : Fin (k0_t1_loop i).trips) : Fin 3 → Nat :=
  let c0_71 : Index := 0#32
  let arg1 : BitVec 32 := BitVec.ofNat 32 (i 1).val
  let c1_i32_44 : BitVec 32 := 1#32
  let v131 : BitVec 32 := Scalar.addi arg1 c1_i32_44
  let c1_i32_47 : BitVec 32 := 1#32
  let arg12 : BitVec 32 := Scf.iv v131 c1_i32_47 k0_t1
  let c512_i32_57 : BitVec 32 := 512#32
  let v157 : BitVec 32 := Scalar.muli arg12 c512_i32_57
  let v158 : BitVec 32 := v157
  let v197 : Index := Scalar.indexCast v158
  let c0_72 : Index := 0#32
  ![0, v197.toNat, 0]
@[reducible] def k0_t2_loop (i : grid0.Coords) : Scf.Loop 32 :=
  let arg1 : BitVec 32 := BitVec.ofNat 32 (i 1).val
  let c1_i32_44 : BitVec 32 := 1#32
  let v131 : BitVec 32 := Scalar.addi arg1 c1_i32_44
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c2_i32_45 : BitVec 32 := 2#32
  let v132 : BitVec 32 := Scalar.muli v130 c2_i32_45
  let v133 : BitVec 32 := Scalar.subi v132 v131
  let c1_i32_46 : BitVec 32 := 1#32
  let v135 : BitVec 32 := Scalar.divsi v133 c1_i32_46
  let v136 : BitVec 32 := Scalar.muli v135 c1_i32_46
  let v137 : BitVec 32 := Scalar.addi v131 v136
  let v134 : BitVec 32 := Scalar.addi v131 v133
  let c1_i32_48 : BitVec 32 := 1#32
  ⟨v137, v134, c1_i32_48⟩
def k0_mult3 (i : grid0.Coords) (k0_t2 : Fin (k0_t2_loop i).trips) : BitVec 32 :=
  let arg1 : BitVec 32 := BitVec.ofNat 32 (i 1).val
  let c1_i32_44 : BitVec 32 := 1#32
  let v131 : BitVec 32 := Scalar.addi arg1 c1_i32_44
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c2_i32_45 : BitVec 32 := 2#32
  let v132 : BitVec 32 := Scalar.muli v130 c2_i32_45
  let v133 : BitVec 32 := Scalar.subi v132 v131
  let c1_i32_46 : BitVec 32 := 1#32
  let v135 : BitVec 32 := Scalar.divsi v133 c1_i32_46
  let v136 : BitVec 32 := Scalar.muli v135 c1_i32_46
  let v137 : BitVec 32 := Scalar.addi v131 v136
  let c1_i32_48 : BitVec 32 := 1#32
  let arg12 : BitVec 32 := Scf.iv v137 c1_i32_48 k0_t2
  let c512_i32_57 : BitVec 32 := 512#32
  let v157 : BitVec 32 := Scalar.muli arg12 c512_i32_57
  v157
def k0_off11 (i : grid0.Coords) (k0_t2 : Fin (k0_t2_loop i).trips) : Fin 2 → Nat :=
  let arg1 : BitVec 32 := BitVec.ofNat 32 (i 1).val
  let c1_i32_44 : BitVec 32 := 1#32
  let v131 : BitVec 32 := Scalar.addi arg1 c1_i32_44
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c2_i32_45 : BitVec 32 := 2#32
  let v132 : BitVec 32 := Scalar.muli v130 c2_i32_45
  let v133 : BitVec 32 := Scalar.subi v132 v131
  let c1_i32_46 : BitVec 32 := 1#32
  let v135 : BitVec 32 := Scalar.divsi v133 c1_i32_46
  let v136 : BitVec 32 := Scalar.muli v135 c1_i32_46
  let v137 : BitVec 32 := Scalar.addi v131 v136
  let c1_i32_48 : BitVec 32 := 1#32
  let arg12 : BitVec 32 := Scf.iv v137 c1_i32_48 k0_t2
  let c512_i32_57 : BitVec 32 := 512#32
  let v157 : BitVec 32 := Scalar.muli arg12 c512_i32_57
  let v158 : BitVec 32 := v157
  let v159 : Index := Scalar.indexCast v158
  let c0_58 : Index := 0#32
  ![v159.toNat, 0]
def k0_off12 (i : grid0.Coords) (k0_t2 : Fin (k0_t2_loop i).trips) : Fin 3 → Nat :=
  let arg1 : BitVec 32 := BitVec.ofNat 32 (i 1).val
  let c1_i32_44 : BitVec 32 := 1#32
  let v131 : BitVec 32 := Scalar.addi arg1 c1_i32_44
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c2_i32_45 : BitVec 32 := 2#32
  let v132 : BitVec 32 := Scalar.muli v130 c2_i32_45
  let v133 : BitVec 32 := Scalar.subi v132 v131
  let c1_i32_46 : BitVec 32 := 1#32
  let v135 : BitVec 32 := Scalar.divsi v133 c1_i32_46
  let v136 : BitVec 32 := Scalar.muli v135 c1_i32_46
  let v137 : BitVec 32 := Scalar.addi v131 v136
  let c1_i32_48 : BitVec 32 := 1#32
  let arg12 : BitVec 32 := Scf.iv v137 c1_i32_48 k0_t2
  let c0_i32_60 : BitVec 32 := 0#32
  let v167 : BitVec 32 := Scalar.addi arg12 c0_i32_60
  let v168 : Index := Scalar.indexCast v167
  let c0_61 : Index := 0#32
  let c0_62 : Index := 0#32
  ![v168.toNat, 0, 0]
def k0_off13 (i : grid0.Coords) (k0_t2 : Fin (k0_t2_loop i).trips) : Fin 2 → Nat :=
  let arg1 : BitVec 32 := BitVec.ofNat 32 (i 1).val
  let c1_i32_44 : BitVec 32 := 1#32
  let v131 : BitVec 32 := Scalar.addi arg1 c1_i32_44
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c2_i32_45 : BitVec 32 := 2#32
  let v132 : BitVec 32 := Scalar.muli v130 c2_i32_45
  let v133 : BitVec 32 := Scalar.subi v132 v131
  let c1_i32_46 : BitVec 32 := 1#32
  let v135 : BitVec 32 := Scalar.divsi v133 c1_i32_46
  let v136 : BitVec 32 := Scalar.muli v135 c1_i32_46
  let v137 : BitVec 32 := Scalar.addi v131 v136
  let c1_i32_48 : BitVec 32 := 1#32
  let arg12 : BitVec 32 := Scf.iv v137 c1_i32_48 k0_t2
  let c512_i32_57 : BitVec 32 := 512#32
  let v157 : BitVec 32 := Scalar.muli arg12 c512_i32_57
  let v158 : BitVec 32 := v157
  let v175 : Index := Scalar.indexCast v158
  let c0_64 : Index := 0#32
  ![v175.toNat, 0]
def k0_off14 (i : grid0.Coords) (k0_t2 : Fin (k0_t2_loop i).trips) : Fin 3 → Nat :=
  let arg1 : BitVec 32 := BitVec.ofNat 32 (i 1).val
  let c1_i32_44 : BitVec 32 := 1#32
  let v131 : BitVec 32 := Scalar.addi arg1 c1_i32_44
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c2_i32_45 : BitVec 32 := 2#32
  let v132 : BitVec 32 := Scalar.muli v130 c2_i32_45
  let v133 : BitVec 32 := Scalar.subi v132 v131
  let c1_i32_46 : BitVec 32 := 1#32
  let v135 : BitVec 32 := Scalar.divsi v133 c1_i32_46
  let v136 : BitVec 32 := Scalar.muli v135 c1_i32_46
  let v137 : BitVec 32 := Scalar.addi v131 v136
  let c1_i32_48 : BitVec 32 := 1#32
  let arg12 : BitVec 32 := Scf.iv v137 c1_i32_48 k0_t2
  let c0_i32_68 : BitVec 32 := 0#32
  let v193 : BitVec 32 := Scalar.addi arg12 c0_i32_68
  let v194 : Index := Scalar.indexCast v193
  let c0_69 : Index := 0#32
  let c0_70 : Index := 0#32
  ![v194.toNat, 0, 0]
def k0_off15 (i : grid0.Coords) (k0_t2 : Fin (k0_t2_loop i).trips) : Fin 3 → Nat :=
  let c0_71 : Index := 0#32
  let arg1 : BitVec 32 := BitVec.ofNat 32 (i 1).val
  let c1_i32_44 : BitVec 32 := 1#32
  let v131 : BitVec 32 := Scalar.addi arg1 c1_i32_44
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c2_i32_45 : BitVec 32 := 2#32
  let v132 : BitVec 32 := Scalar.muli v130 c2_i32_45
  let v133 : BitVec 32 := Scalar.subi v132 v131
  let c1_i32_46 : BitVec 32 := 1#32
  let v135 : BitVec 32 := Scalar.divsi v133 c1_i32_46
  let v136 : BitVec 32 := Scalar.muli v135 c1_i32_46
  let v137 : BitVec 32 := Scalar.addi v131 v136
  let c1_i32_48 : BitVec 32 := 1#32
  let arg12 : BitVec 32 := Scf.iv v137 c1_i32_48 k0_t2
  let c512_i32_57 : BitVec 32 := 512#32
  let v157 : BitVec 32 := Scalar.muli arg12 c512_i32_57
  let v158 : BitVec 32 := v157
  let v197 : Index := Scalar.indexCast v158
  let c0_72 : Index := 0#32
  ![0, v197.toNat, 0]
@[reducible] def k0_t3_loop (i : grid0.Coords) : Scf.Loop 32 :=
  let arg1 : BitVec 32 := BitVec.ofNat 32 (i 1).val
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c4_i32 : BitVec 32 := 4#32
  let v140 : BitVec 32 := Scalar.subi c4_i32 v130
  let c1_i32_49 : BitVec 32 := 1#32
  let v142 : BitVec 32 := Scalar.divsi v140 c1_i32_49
  let v143 : BitVec 32 := Scalar.muli v142 c1_i32_49
  let v144 : BitVec 32 := Scalar.addi v130 v143
  let c1_i32_50 : BitVec 32 := 1#32
  ⟨v130, v144, c1_i32_50⟩
def k0_mult4 (i : grid0.Coords) (k0_t3 : Fin (k0_t3_loop i).trips) : BitVec 32 :=
  let arg1 : BitVec 32 := BitVec.ofNat 32 (i 1).val
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c1_i32_50 : BitVec 32 := 1#32
  let arg12 : BitVec 32 := Scf.iv v130 c1_i32_50 k0_t3
  let c2_i32_57 : BitVec 32 := 2#32
  let v157 : BitVec 32 := Scalar.muli arg12 c2_i32_57
  let c512_i32_58 : BitVec 32 := 512#32
  let v158 : BitVec 32 := Scalar.muli v157 c512_i32_58
  v158
def k0_off16 (i : grid0.Coords) (k0_t3 : Fin (k0_t3_loop i).trips) : Fin 2 → Nat :=
  let arg1 : BitVec 32 := BitVec.ofNat 32 (i 1).val
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c1_i32_50 : BitVec 32 := 1#32
  let arg12 : BitVec 32 := Scf.iv v130 c1_i32_50 k0_t3
  let c2_i32_57 : BitVec 32 := 2#32
  let v157 : BitVec 32 := Scalar.muli arg12 c2_i32_57
  let c512_i32_58 : BitVec 32 := 512#32
  let v158 : BitVec 32 := Scalar.muli v157 c512_i32_58
  let v159 : BitVec 32 := v158
  let v160 : Index := Scalar.indexCast v159
  let c0_59 : Index := 0#32
  ![v160.toNat, 0]
def k0_off17 (i : grid0.Coords) (k0_t3 : Fin (k0_t3_loop i).trips) (c0_i32_61 : BitVec 32) : Fin 3 → Nat :=
  let arg1 : BitVec 32 := BitVec.ofNat 32 (i 1).val
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c1_i32_50 : BitVec 32 := 1#32
  let arg12 : BitVec 32 := Scf.iv v130 c1_i32_50 k0_t3
  let c2_i32_57 : BitVec 32 := 2#32
  let v157 : BitVec 32 := Scalar.muli arg12 c2_i32_57
  let v168 : BitVec 32 := Scalar.addi v157 c0_i32_61
  let v169 : Index := Scalar.indexCast v168
  let c0_62 : Index := 0#32
  let c0_63 : Index := 0#32
  ![v169.toNat, 0, 0]
def k0_off18 (i : grid0.Coords) (k0_t3 : Fin (k0_t3_loop i).trips) : Fin 2 → Nat :=
  let arg1 : BitVec 32 := BitVec.ofNat 32 (i 1).val
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c1_i32_50 : BitVec 32 := 1#32
  let arg12 : BitVec 32 := Scf.iv v130 c1_i32_50 k0_t3
  let c2_i32_57 : BitVec 32 := 2#32
  let v157 : BitVec 32 := Scalar.muli arg12 c2_i32_57
  let c512_i32_58 : BitVec 32 := 512#32
  let v158 : BitVec 32 := Scalar.muli v157 c512_i32_58
  let v159 : BitVec 32 := v158
  let v181 : Index := Scalar.indexCast v159
  let c0_68 : Index := 0#32
  ![v181.toNat, 0]
def k0_off19 (i : grid0.Coords) (k0_t3 : Fin (k0_t3_loop i).trips) (c0_i32_72 : BitVec 32) : Fin 3 → Nat :=
  let arg1 : BitVec 32 := BitVec.ofNat 32 (i 1).val
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c1_i32_50 : BitVec 32 := 1#32
  let arg12 : BitVec 32 := Scf.iv v130 c1_i32_50 k0_t3
  let c2_i32_57 : BitVec 32 := 2#32
  let v157 : BitVec 32 := Scalar.muli arg12 c2_i32_57
  let v199 : BitVec 32 := Scalar.addi v157 c0_i32_72
  let v200 : Index := Scalar.indexCast v199
  let c0_73 : Index := 0#32
  let c0_74 : Index := 0#32
  ![v200.toNat, 0, 0]
def k0_off20 (i : grid0.Coords) (k0_t3 : Fin (k0_t3_loop i).trips) : Fin 3 → Nat :=
  let c0_78 : Index := 0#32
  let arg1 : BitVec 32 := BitVec.ofNat 32 (i 1).val
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c1_i32_50 : BitVec 32 := 1#32
  let arg12 : BitVec 32 := Scf.iv v130 c1_i32_50 k0_t3
  let c2_i32_57 : BitVec 32 := 2#32
  let v157 : BitVec 32 := Scalar.muli arg12 c2_i32_57
  let c512_i32_58 : BitVec 32 := 512#32
  let v158 : BitVec 32 := Scalar.muli v157 c512_i32_58
  let v159 : BitVec 32 := v158
  let v208 : Index := Scalar.indexCast v159
  let c0_79 : Index := 0#32
  ![0, v208.toNat, 0]
@[reducible] def k0_t4_loop (i : grid0.Coords) : Scf.Loop 32 :=
  let arg1 : BitVec 32 := BitVec.ofNat 32 (i 1).val
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c4_i32 : BitVec 32 := 4#32
  let v140 : BitVec 32 := Scalar.subi c4_i32 v130
  let c1_i32_49 : BitVec 32 := 1#32
  let v142 : BitVec 32 := Scalar.divsi v140 c1_i32_49
  let v143 : BitVec 32 := Scalar.muli v142 c1_i32_49
  let v144 : BitVec 32 := Scalar.addi v130 v143
  let v141 : BitVec 32 := Scalar.addi v130 v140
  let c1_i32_51 : BitVec 32 := 1#32
  ⟨v144, v141, c1_i32_51⟩
def k0_mult5 (i : grid0.Coords) (k0_t4 : Fin (k0_t4_loop i).trips) : BitVec 32 :=
  let arg1 : BitVec 32 := BitVec.ofNat 32 (i 1).val
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c4_i32 : BitVec 32 := 4#32
  let v140 : BitVec 32 := Scalar.subi c4_i32 v130
  let c1_i32_49 : BitVec 32 := 1#32
  let v142 : BitVec 32 := Scalar.divsi v140 c1_i32_49
  let v143 : BitVec 32 := Scalar.muli v142 c1_i32_49
  let v144 : BitVec 32 := Scalar.addi v130 v143
  let c1_i32_51 : BitVec 32 := 1#32
  let arg12 : BitVec 32 := Scf.iv v144 c1_i32_51 k0_t4
  let c2_i32_57 : BitVec 32 := 2#32
  let v157 : BitVec 32 := Scalar.muli arg12 c2_i32_57
  let c512_i32_58 : BitVec 32 := 512#32
  let v158 : BitVec 32 := Scalar.muli v157 c512_i32_58
  v158
def k0_off21 (i : grid0.Coords) (k0_t4 : Fin (k0_t4_loop i).trips) : Fin 2 → Nat :=
  let arg1 : BitVec 32 := BitVec.ofNat 32 (i 1).val
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c4_i32 : BitVec 32 := 4#32
  let v140 : BitVec 32 := Scalar.subi c4_i32 v130
  let c1_i32_49 : BitVec 32 := 1#32
  let v142 : BitVec 32 := Scalar.divsi v140 c1_i32_49
  let v143 : BitVec 32 := Scalar.muli v142 c1_i32_49
  let v144 : BitVec 32 := Scalar.addi v130 v143
  let c1_i32_51 : BitVec 32 := 1#32
  let arg12 : BitVec 32 := Scf.iv v144 c1_i32_51 k0_t4
  let c2_i32_57 : BitVec 32 := 2#32
  let v157 : BitVec 32 := Scalar.muli arg12 c2_i32_57
  let c512_i32_58 : BitVec 32 := 512#32
  let v158 : BitVec 32 := Scalar.muli v157 c512_i32_58
  let v159 : BitVec 32 := v158
  let v160 : Index := Scalar.indexCast v159
  let c0_59 : Index := 0#32
  ![v160.toNat, 0]
def k0_off22 (i : grid0.Coords) (k0_t4 : Fin (k0_t4_loop i).trips) (c0_i32_61 : BitVec 32) : Fin 3 → Nat :=
  let arg1 : BitVec 32 := BitVec.ofNat 32 (i 1).val
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c4_i32 : BitVec 32 := 4#32
  let v140 : BitVec 32 := Scalar.subi c4_i32 v130
  let c1_i32_49 : BitVec 32 := 1#32
  let v142 : BitVec 32 := Scalar.divsi v140 c1_i32_49
  let v143 : BitVec 32 := Scalar.muli v142 c1_i32_49
  let v144 : BitVec 32 := Scalar.addi v130 v143
  let c1_i32_51 : BitVec 32 := 1#32
  let arg12 : BitVec 32 := Scf.iv v144 c1_i32_51 k0_t4
  let c2_i32_57 : BitVec 32 := 2#32
  let v157 : BitVec 32 := Scalar.muli arg12 c2_i32_57
  let v168 : BitVec 32 := Scalar.addi v157 c0_i32_61
  let v169 : Index := Scalar.indexCast v168
  let c0_62 : Index := 0#32
  let c0_63 : Index := 0#32
  ![v169.toNat, 0, 0]
def k0_off23 (i : grid0.Coords) (k0_t4 : Fin (k0_t4_loop i).trips) : Fin 2 → Nat :=
  let arg1 : BitVec 32 := BitVec.ofNat 32 (i 1).val
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c4_i32 : BitVec 32 := 4#32
  let v140 : BitVec 32 := Scalar.subi c4_i32 v130
  let c1_i32_49 : BitVec 32 := 1#32
  let v142 : BitVec 32 := Scalar.divsi v140 c1_i32_49
  let v143 : BitVec 32 := Scalar.muli v142 c1_i32_49
  let v144 : BitVec 32 := Scalar.addi v130 v143
  let c1_i32_51 : BitVec 32 := 1#32
  let arg12 : BitVec 32 := Scf.iv v144 c1_i32_51 k0_t4
  let c2_i32_57 : BitVec 32 := 2#32
  let v157 : BitVec 32 := Scalar.muli arg12 c2_i32_57
  let c512_i32_58 : BitVec 32 := 512#32
  let v158 : BitVec 32 := Scalar.muli v157 c512_i32_58
  let v159 : BitVec 32 := v158
  let v181 : Index := Scalar.indexCast v159
  let c0_68 : Index := 0#32
  ![v181.toNat, 0]
def k0_off24 (i : grid0.Coords) (k0_t4 : Fin (k0_t4_loop i).trips) (c0_i32_72 : BitVec 32) : Fin 3 → Nat :=
  let arg1 : BitVec 32 := BitVec.ofNat 32 (i 1).val
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c4_i32 : BitVec 32 := 4#32
  let v140 : BitVec 32 := Scalar.subi c4_i32 v130
  let c1_i32_49 : BitVec 32 := 1#32
  let v142 : BitVec 32 := Scalar.divsi v140 c1_i32_49
  let v143 : BitVec 32 := Scalar.muli v142 c1_i32_49
  let v144 : BitVec 32 := Scalar.addi v130 v143
  let c1_i32_51 : BitVec 32 := 1#32
  let arg12 : BitVec 32 := Scf.iv v144 c1_i32_51 k0_t4
  let c2_i32_57 : BitVec 32 := 2#32
  let v157 : BitVec 32 := Scalar.muli arg12 c2_i32_57
  let v199 : BitVec 32 := Scalar.addi v157 c0_i32_72
  let v200 : Index := Scalar.indexCast v199
  let c0_73 : Index := 0#32
  let c0_74 : Index := 0#32
  ![v200.toNat, 0, 0]
def k0_off25 (i : grid0.Coords) (k0_t4 : Fin (k0_t4_loop i).trips) : Fin 3 → Nat :=
  let c0_78 : Index := 0#32
  let arg1 : BitVec 32 := BitVec.ofNat 32 (i 1).val
  let c0_i32_38 : BitVec 32 := 0#32
  let v114 : BitVec 1 := Scalar.cmpi .sgt arg1 c0_i32_38
  let v115 : BitVec 32 := Scalar.extui v114
  let c0_i32_39 : BitVec 32 := 0#32
  let v116 : BitVec 1 := Scalar.cmpi .slt arg1 c0_i32_39
  let v117 : BitVec 32 := Scalar.extui v116
  let v118 : BitVec 32 := Scalar.subi v115 v117
  let c2_i32 : BitVec 32 := 2#32
  let c0_i32_40 : BitVec 32 := 0#32
  let v119 : BitVec 1 := Scalar.cmpi .sgt c2_i32 c0_i32_40
  let v120 : BitVec 32 := Scalar.extui v119
  let c0_i32_41 : BitVec 32 := 0#32
  let v121 : BitVec 1 := Scalar.cmpi .slt c2_i32 c0_i32_41
  let v122 : BitVec 32 := Scalar.extui v121
  let v123 : BitVec 32 := Scalar.subi v120 v122
  let v124 : BitVec 1 := Scalar.cmpi .ne v118 v123
  let v125 : BitVec 32 := Scalar.remsi arg1 c2_i32
  let c0_i32_42 : BitVec 32 := 0#32
  let v126 : BitVec 1 := Scalar.cmpi .ne v125 c0_i32_42
  let v127 : BitVec 1 := Scalar.andi v124 v126
  let v113 : BitVec 32 := Scalar.divsi arg1 c2_i32
  let c1_i32 : BitVec 32 := 1#32
  let v128 : BitVec 32 := Scalar.subi v113 c1_i32
  let v129 : BitVec 32 := Scalar.select v127 v128 v113
  let c1_i32_43 : BitVec 32 := 1#32
  let v130 : BitVec 32 := Scalar.addi v129 c1_i32_43
  let c4_i32 : BitVec 32 := 4#32
  let v140 : BitVec 32 := Scalar.subi c4_i32 v130
  let c1_i32_49 : BitVec 32 := 1#32
  let v142 : BitVec 32 := Scalar.divsi v140 c1_i32_49
  let v143 : BitVec 32 := Scalar.muli v142 c1_i32_49
  let v144 : BitVec 32 := Scalar.addi v130 v143
  let c1_i32_51 : BitVec 32 := 1#32
  let arg12 : BitVec 32 := Scf.iv v144 c1_i32_51 k0_t4
  let c2_i32_57 : BitVec 32 := 2#32
  let v157 : BitVec 32 := Scalar.muli arg12 c2_i32_57
  let c512_i32_58 : BitVec 32 := 512#32
  let v158 : BitVec 32 := Scalar.muli v157 c512_i32_58
  let v159 : BitVec 32 := v158
  let v208 : Index := Scalar.indexCast v159
  let c0_79 : Index := 0#32
  ![0, v208.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "ln2" => some ((Real.log 2 : ℝ) : EReal)
  | "scale" => some (((Real.sqrt 96)⁻¹ : ℝ) : EReal)
  | "scale_log2e" => some (((Real.sqrt 96)⁻¹ * (Real.log 2)⁻¹ : ℝ) : EReal)
  | _ => none
-- ==== ReferenceIdeal.lean ====
abbrev S4096x1024 : Shape := ⟨2, ![4096, 1024]⟩
abbrev S4096x512 : Shape := ⟨2, ![4096, 512]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S4096x8x64 : Shape := ⟨3, ![4096, 8, 64]⟩
abbrev S8x4096x64 : Shape := ⟨3, ![8, 4096, 64]⟩
abbrev S8x64x4096 : Shape := ⟨3, ![8, 64, 4096]⟩

abbrev nBuf : Space → Nat
  | .hbm => 111
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x8x128, .f32⟩
  | .hbm, ⟨8, _⟩ => ⟨S8x4096x128, .f32⟩
  | .hbm, ⟨9, _⟩ => ⟨S4096x8x128, .f32⟩
  | .hbm, ⟨10, _⟩ => ⟨S8x4096x128, .f32⟩
  | .hbm, ⟨11, _⟩ => ⟨S8x4096x4096, .f32⟩
  | .hbm, ⟨12, _⟩ => ⟨S_, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .i1⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S8x4096, .i1⟩
  | .hbm, ⟨43, _⟩ => ⟨S_, .f32⟩
  | .hbm, ⟨44, _⟩ => ⟨S8x4096, .f32⟩
  | .hbm, ⟨45, _⟩ => ⟨S8x4096, .i1⟩
  | .hbm, ⟨46, _⟩ => ⟨S_, .f32⟩
  | .hbm, ⟨47, _⟩ => ⟨S8x4096, .f32⟩
  | .hbm, ⟨48, _⟩ => ⟨S_, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S8x4096, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S8x4096x4096, .f32⟩
  | .hbm, ⟨62, _⟩ => ⟨S8x4096x4096, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x4096, .bf16⟩
  | .hbm, ⟨68, _⟩ => ⟨S8x4096x4096, .f32⟩
  | .hbm, ⟨69, _⟩ => ⟨S4096x8x64, .f32⟩
  | .hbm, ⟨70, _⟩ => ⟨S8x4096x64, .f32⟩
  | .hbm, ⟨71, _⟩ => ⟨S8x4096x64, .f32⟩
  | .hbm, ⟨72, _⟩ => ⟨S4096x8x64, .f32⟩
  | .hbm, ⟨73, _⟩ => ⟨S4096x512, .f32⟩
  | .hbm, ⟨74, _⟩ => ⟨S4096x512, .f32⟩
  | .hbm, ⟨75, _⟩ => ⟨S4096x8x64, .f32⟩
  | .hbm, ⟨76, _⟩ => ⟨S8x4096x64, .f32⟩
  | .hbm, ⟨77, _⟩ => ⟨S8x64x4096, .f32⟩
  | .hbm, ⟨78, _⟩ => ⟨S8x4096x64, .f32⟩
  | .hbm, ⟨79, _⟩ => ⟨S8x4096x4096, .f32⟩
  | .hbm, ⟨80, _⟩ => ⟨S4096x8x64, .f32⟩
  | .hbm, ⟨81, _⟩ => ⟨S4096x512, .f32⟩
  | .hbm, ⟨82, _⟩ => ⟨S8x4096x4096, .bf16⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S8x4096x4096, .f32⟩
  | .hbm, ⟨87, _⟩ => ⟨S_, .f32⟩
  | .hbm, ⟨88, _⟩ => ⟨S8x4096, .f32⟩
  | .hbm, ⟨89, _⟩ => ⟨S8x4096x1, .f32⟩
  | .hbm, ⟨90, _⟩ => ⟨S8x4096x1, .f32⟩
  | .hbm, ⟨91, _⟩ => ⟨S8x4096x4096, .f32⟩
  | .hbm, ⟨92, _⟩ => ⟨S8x4096x4096, .f32⟩
  | .hbm, ⟨93, _⟩ => ⟨S_, .f32⟩
  | .hbm, ⟨94, _⟩ => ⟨S8x4096, .f32⟩
  | .hbm, ⟨95, _⟩ => ⟨S8x4096x4096, .f32⟩
  | .hbm, ⟨96, _⟩ => ⟨S8x4096x4096, .f32⟩
  | .hbm, ⟨97, _⟩ => ⟨S8x4096x4096, .f32⟩
  | .hbm, ⟨98, _⟩ => ⟨S_, .f32⟩
  | .hbm, ⟨99, _⟩ => ⟨S8x4096x4096, .f32⟩
  | .hbm, ⟨100, _⟩ => ⟨S8x4096x4096, .f32⟩
  | .hbm, ⟨101, _⟩ => ⟨S8x4096x4096, .f32⟩
  | .hbm, ⟨102, _⟩ => ⟨S8x4096x4096, .f32⟩
  | .hbm, ⟨103, _⟩ => ⟨S8x4096x128, .f32⟩
  | .hbm, ⟨104, _⟩ => ⟨S8x4096x128, .f32⟩
  | .hbm, ⟨105, _⟩ => ⟨S4096x8x128, .f32⟩
  | .hbm, ⟨106, _⟩ => ⟨S4096x1024, .f32⟩
  | .hbm, ⟨107, _⟩ => ⟨S4096x8x128, .f32⟩
  | .hbm, ⟨108, _⟩ => ⟨S4096x1024, .f32⟩
  | .hbm, ⟨109, _⟩ => ⟨S4096x1024, .bf16⟩
  | .hbm, ⟨110, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_v17_1 : Ref sig .tc := ⟨.hbm, 24, rfl⟩
abbrev main_call0_v2 : Ref sig .tc := ⟨.hbm, 25, rfl⟩
abbrev main_v17_0 : Ref sig .tc := ⟨.hbm, 26, rfl⟩
abbrev main_call0_cst : Ref sig .tc := ⟨.hbm, 27, rfl⟩
abbrev main_v17_2 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call1_cst : Ref sig .tc := ⟨.hbm, 98, rfl⟩
abbrev main_call1_v0 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .hbm, ⟨3, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x1024, .bf16⟩
  | .hbm, ⟨2, _⟩ => ⟨S512x1024, .f32⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S4096x512, .f32⟩
  | .hbm, ⟨6, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4096x1536 : Shape := ⟨2, ![4096, 1536]⟩
abbrev S4096x8 : Shape := ⟨2, ![4096, 8]⟩
abbrev S4096x512 : Shape := ⟨2, ![4096, 512]⟩
abbrev S4096x8x64 : Shape := ⟨3, ![4096, 8, 64]⟩
abbrev S8x4096x64 : Shape := ⟨3, ![8, 4096, 64]⟩
abbrev S8x4096 : Shape := ⟨2, ![8, 4096]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x4096x4 : Shape := ⟨3, ![4, 4096, 4]⟩
abbrev S4x4096x128 : Shape := ⟨3, ![4, 4096, 128]⟩
abbrev S8x512x1536 : Shape := ⟨3, ![8, 512, 1536]⟩
abbrev S8x1536x512 : Shape := ⟨3, ![8, 1536, 512]⟩
abbrev S8x512x512 : Shape := ⟨3, ![8, 512, 512]⟩
abbrev S8x512x8 : Shape := ⟨3, ![8, 512, 8]⟩
abbrev S8x8x512 : Shape := ⟨3, ![8, 8, 512]⟩
abbrev S4096x128 : Shape := ⟨2, ![4096, 128]⟩
abbrev S8x128x512 : Shape := ⟨3, ![8, 128, 512]⟩
abbrev S512x128 : Shape := ⟨2, ![512, 128]⟩
abbrev S1x4096x128 : Shape := ⟨3, ![1, 4096, 128]⟩
abbrev S1x8x512 : Shape := ⟨3, ![1, 8, 512]⟩
abbrev S8x512 : Shape := ⟨2, ![8, 512]⟩
abbrev S8x1 : Shape := ⟨2, ![8, 1]⟩
abbrev S512 : Shape := ⟨1, ![512]⟩
abbrev S1x512 : Shape := ⟨2, ![1, 512]⟩
abbrev S64x512 : Shape := ⟨2, ![64, 512]⟩
abbrev S1x128 : Shape := ⟨2, ![1, 128]⟩
abbrev S1x128x512 : Shape := ⟨3, ![1, 128, 512]⟩
abbrev S128x512 : Shape := ⟨2, ![128, 512]⟩
abbrev S1x512x128 : Shape := ⟨3, ![1, 512, 128]⟩
abbrev S512x512 : Shape := ⟨2, ![512, 512]⟩
abbrev S512x1 : Shape := ⟨2, ![512, 1]⟩
abbrev S1024x128 : Shape := ⟨2, ![1024, 128]⟩
abbrev S128x1024 : Shape := ⟨2, ![128, 1024]⟩
abbrev S1x1024x128 : Shape := ⟨3, ![1, 1024, 128]⟩
abbrev S1024x512 : Shape := ⟨2, ![1024, 512]⟩
abbrev S1024x1 : Shape := ⟨2, ![1024, 1]⟩
abbrev S64x1024 : Shape := ⟨2, ![64, 1024]⟩
abbrev S1024 : Shape := ⟨1, ![1024]⟩
abbrev S128x1 : Shape := ⟨2, ![128, 1]⟩

abbrev nBuf : Space → Nat
  | .hbm => 86
  | .vmem => 23
  | .smem => 0
  | _ => 0

abbrev bufTy : (tb : Table) → Fin (tcTables nBuf tb) → BufTy
  | .hbm, ⟨0, _⟩ => ⟨S4096x1536, .bf16⟩
  | .hbm, ⟨1, _⟩ => ⟨S4096x8, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .f32⟩
  | .hbm, ⟨7, _⟩ => ⟨S4096x8x64, .f32⟩
  | .hbm, ⟨8, _⟩ => ⟨S8x4096x64, .f32⟩
  | .hbm, ⟨9, _⟩ => ⟨S4096x512, .f32⟩
  | .hbm, ⟨10, _⟩ => ⟨S4096x8x64, .f32⟩
  | .hbm, ⟨11, _⟩ => ⟨S8x4096x64, .f32⟩
  | .hbm, ⟨12, _⟩ => ⟨S8x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x1, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S4096, .i32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S8x4096x4096, .i1⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S4096x512, .f32⟩
  | .hbm, ⟨46, _⟩ => ⟨S4096x8x64, .f32⟩
  | .hbm, ⟨47, _⟩ => ⟨S8x4096x64, .f32⟩
  | .hbm, ⟨48, _⟩ => ⟨S8x4096x64, .f32⟩
  | .hbm, ⟨49, _⟩ => ⟨S8x4096x1, .f32⟩
  | .hbm, ⟨50, _⟩ => ⟨S8x4096x1, .f32⟩
  | .hbm, ⟨51, _⟩ => ⟨S8x4096, .f32⟩
  | .hbm, ⟨52, _⟩ => ⟨S8x4096, .f32⟩
  | .hbm, ⟨53, _⟩ => ⟨S8x4096, .f32⟩
  | .hbm, ⟨54, _⟩ => ⟨S_, .f32⟩
  | .hbm, ⟨55, _⟩ => ⟨S_, .f32⟩
  | .hbm, ⟨56, _⟩ => ⟨S8x4096, .f32⟩
  | .hbm, ⟨57, _⟩ => ⟨S8x4096, .f32⟩
  | .hbm, ⟨58, _⟩ => ⟨S4096x512, .f32⟩
  | .hbm, ⟨59, _⟩ => ⟨S4096x8x64, .f32⟩
  | .hbm, ⟨60, _⟩ => ⟨S8x4096x64, .f32⟩
  | .hbm, ⟨61, _⟩ => ⟨S8x4096x64, .f32⟩
  | .hbm, ⟨62, _⟩ => ⟨S_, .f32⟩
  | .hbm, ⟨63, _⟩ => ⟨S8x4096, .f32⟩
  | .hbm, ⟨64, _⟩ => ⟨S4x4096, .f32⟩
  | .hbm, ⟨65, _⟩ => ⟨S4x4096, .f32⟩
  | .hbm, ⟨66, _⟩ => ⟨S4x4096, .f32⟩
  | .hbm, ⟨67, _⟩ => ⟨S4x4096, .f32⟩
  | .hbm, ⟨68, _⟩ => ⟨S4x4096x1, .f32⟩
  | .hbm, ⟨69, _⟩ => ⟨S4x4096x1, .f32⟩
  | .hbm, ⟨70, _⟩ => ⟨S4x4096x1, .f32⟩
  | .hbm, ⟨71, _⟩ => ⟨S4x4096x1, .f32⟩
  | .hbm, ⟨72, _⟩ => ⟨S4x4096x4, .f32⟩
  | .hbm, ⟨73, _⟩ => ⟨S_, .i32⟩
  | .hbm, ⟨74, _⟩ => ⟨S_, .f32⟩
  | .hbm, ⟨75, _⟩ => ⟨S4x4096x128, .f32⟩
  | .hbm, ⟨76, _⟩ => ⟨S8x512x1536, .bf16⟩
  | .hbm, ⟨77, _⟩ => ⟨S8x1536x512, .bf16⟩
  | .hbm, ⟨78, _⟩ => ⟨S8x512x512, .bf16⟩
  | .hbm, ⟨79, _⟩ => ⟨S8x512x512, .bf16⟩
  | .hbm, ⟨80, _⟩ => ⟨S8x512x8, .f32⟩
  | .hbm, ⟨81, _⟩ => ⟨S8x8x512, .f32⟩
  | .hbm, ⟨82, _⟩ => ⟨S4096x512, .f32⟩
  | .hbm, ⟨83, _⟩ => ⟨S4096x512, .bf16⟩
  | .hbm, ⟨84, _⟩ => ⟨S4096x512, .bf16⟩
  | .hbm, ⟨85, _⟩ => ⟨S4096x128, .f32⟩
  | .local _ .vmem, ⟨0, _⟩ => ⟨S4096x128, .bf16⟩
  | .local _ .vmem, ⟨1, _⟩ => ⟨S4096x128, .bf16⟩
  | .local _ .vmem, ⟨2, _⟩ => ⟨S8x128x512, .bf16⟩
  | .local _ .vmem, ⟨3, _⟩ => ⟨S8x128x512, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S4096x128, .bf16⟩
  | .local _ .vmem, ⟨9, _⟩ => ⟨S4096x128, .bf16⟩
  | .local _ .vmem, ⟨10, _⟩ => ⟨S8x128x512, .bf16⟩
  | .local _ .vmem, ⟨11, _⟩ => ⟨S8x128x512, .bf16⟩
  | .local _ .vmem, ⟨12, _⟩ => ⟨S1x4096x128, .f32⟩
  | .local _ .vmem, ⟨13, _⟩ => ⟨S1x4096x128, .f32⟩
  | .local _ .vmem, ⟨14, _⟩ => ⟨S1x8x512, .f32⟩
  | .local _ .vmem, ⟨15, _⟩ => ⟨S1x8x512, .f32⟩
  | .local _ .vmem, ⟨16, _⟩ => ⟨S4096x128, .f32⟩
  | .local _ .vmem, ⟨17, _⟩ => ⟨S4096x128, .f32⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S4096x128, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_4 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_c : Ref sig .tc := ⟨.hbm, 73, rfl⟩
abbrev main_call1_v0 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68_0 : Ref sig .tc := ⟨.hbm, 82, rfl⟩
abbrev main_v68_1 : Ref sig .tc := ⟨.hbm, 83, rfl⟩
abbrev main_v68_2 : Ref sig .tc := ⟨.hbm, 84, rfl⟩
abbrev main_v68_3 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v46 : BitVec 32 := Scalar.muli arg1 c512_i32
  v46
def k0_off1 (i : grid0.Coords) : Fin 2 → Nat :=
  let arg1 : BitVec 32 := BitVec.ofNat 32 (i 1).val
  let c512_i32 : BitVec 32 := 512#32
  let v46 : BitVec 32 := Scalar.muli arg1 c512_i32
  let v47 : BitVec 32 := v46
  let v48 : Index := Scalar.indexCast v47
  let c0_25 : Index := 0#32
  ![v48.toNat, 0]
def k0_off2 (i : grid0.Coords) : Fin 3 → Nat :=
  let arg1 : BitVec 32 := BitVec.ofNat 32 (i 1).val
  let c0_i32_29 : BitVec 32 := 0#32
  let v67 : BitVec 32 := Scalar.addi arg1 c0_i32_29
  let v68 : Index := Scalar.indexCast v67
  let c0_30 : Index := 0#32
  let c0_31 : Index := 0#32
  ![v68.toNat, 0, 0]
def k0_off3 (i : grid0.Coords) : Fin 3 → Nat :=
  let c0_40 : Index := 0#32
  let arg1 : BitVec 32 := BitVec.ofNat 32 (i 1).val
  let c512_i32 : BitVec 32 := 512#32
  let v46 : BitVec 32 := Scalar.muli arg1 c512_i32
  let v47 : BitVec 32 := v46
  let v97 : Index := Scalar.indexCast v47
  let c0_41 : Index := 0#32
  ![0, v97.toNat, 0]
@[reducible] def k0_t1_loop (i : grid0.Coords) : Scf.Loop 32 :=
  let arg1 : BitVec 32 := BitVec.ofNat 32 (i 1).val
  let c1_i32_76 : BitVec 32 := 1#32
  let v220 : BitVec 32 := Scalar.addi arg1 c1_i32_76
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c2_i32_77 : BitVec 32 := 2#32
  let v221 : BitVec 32 := Scalar.muli v219 c2_i32_77
  let v222 : BitVec 32 := Scalar.subi v221 v220
  let c1_i32_78 : BitVec 32 := 1#32
  let v224 : BitVec 32 := Scalar.divsi v222 c1_i32_78
  let v225 : BitVec 32 := Scalar.muli v224 c1_i32_78
  let v226 : BitVec 32 := Scalar.addi v220 v225
  let c1_i32_79 : BitVec 32 := 1#32
  ⟨v220, v226, c1_i32_79⟩
def k0_mult2 (i : grid0.Coords) (k0_t1 : Fin (k0_t1_loop i).trips) : BitVec 32 :=
  let arg1 : BitVec 32 := BitVec.ofNat 32 (i 1).val
  let c1_i32_76 : BitVec 32 := 1#32
  let v220 : BitVec 32 := Scalar.addi arg1 c1_i32_76
  let c1_i32_79 : BitVec 32 := 1#32
  let arg14 : BitVec 32 := Scf.iv v220 c1_i32_79 k0_t1
  let c512_i32_96 : BitVec 32 := 512#32
  let v274 : BitVec 32 := Scalar.muli arg14 c512_i32_96
  v274
def k0_off4 (i : grid0.Coords) (k0_t1 : Fin (k0_t1_loop i).trips) : Fin 2 → Nat :=
  let arg1 : BitVec 32 := BitVec.ofNat 32 (i 1).val
  let c1_i32_76 : BitVec 32 := 1#32
  let v220 : BitVec 32 := Scalar.addi arg1 c1_i32_76
  let c1_i32_79 : BitVec 32 := 1#32
  let arg14 : BitVec 32 := Scf.iv v220 c1_i32_79 k0_t1
  let c512_i32_96 : BitVec 32 := 512#32
  let v274 : BitVec 32 := Scalar.muli arg14 c512_i32_96
  let v275 : BitVec 32 := v274
  let v276 : Index := Scalar.indexCast v275
  let c0_97 : Index := 0#32
  ![v276.toNat, 0]
def k0_off5 (i : grid0.Coords) (k0_t1 : Fin (k0_t1_loop i).trips) : Fin 3 → Nat :=
  let arg1 : BitVec 32 := BitVec.ofNat 32 (i 1).val
  let c1_i32_76 : BitVec 32 := 1#32
  let v220 : BitVec 32 := Scalar.addi arg1 c1_i32_76
  let c1_i32_79 : BitVec 32 := 1#32
  let arg14 : BitVec 32 := Scf.iv v220 c1_i32_79 k0_t1
  let c0_i32_102 : BitVec 32 := 0#32
  let v295 : BitVec 32 := Scalar.addi arg14 c0_i32_102
  let v296 : Index := Scalar.indexCast v295
  let c0_103 : Index := 0#32
  let c0_104 : Index := 0#32
  ![v296.toNat, 0, 0]
def k0_off6 (i : grid0.Coords) (k0_t1 : Fin (k0_t1_loop i).trips) : Fin 3 → Nat :=
  let c0_113 : Index := 0#32
  let arg1 : BitVec 32 := BitVec.ofNat 32 (i 1).val
  let c1_i32_76 : BitVec 32 := 1#32
  let v220 : BitVec 32 := Scalar.addi arg1 c1_i32_76
  let c1_i32_79 : BitVec 32 := 1#32
  let arg14 : BitVec 32 := Scf.iv v220 c1_i32_79 k0_t1
  let c512_i32_96 : BitVec 32 := 512#32
  let v274 : BitVec 32 := Scalar.muli arg14 c512_i32_96
  let v275 : BitVec 32 := v274
  let v325 : Index := Scalar.indexCast v275
  let c0_114 : Index := 0#32
  ![0, v325.toNat, 0]
@[reducible] def k0_t2_loop (i : grid0.Coords) : Scf.Loop 32 :=
  let arg1 : BitVec 32 := BitVec.ofNat 32 (i 1).val
  let c1_i32_76 : BitVec 32 := 1#32
  let v220 : BitVec 32 := Scalar.addi arg1 c1_i32_76
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c2_i32_77 : BitVec 32 := 2#32
  let v221 : BitVec 32 := Scalar.muli v219 c2_i32_77
  let v222 : BitVec 32 := Scalar.subi v221 v220
  let c1_i32_78 : BitVec 32 := 1#32
  let v224 : BitVec 32 := Scalar.divsi v222 c1_i32_78
  let v225 : BitVec 32 := Scalar.muli v224 c1_i32_78
  let v226 : BitVec 32 := Scalar.addi v220 v225
  let v223 : BitVec 32 := Scalar.addi v220 v222
  let c1_i32_80 : BitVec 32 := 1#32
  ⟨v226, v223, c1_i32_80⟩
def k0_mult3 (i : grid0.Coords) (k0_t2 : Fin (k0_t2_loop i).trips) : BitVec 32 :=
  let arg1 : BitVec 32 := BitVec.ofNat 32 (i 1).val
  let c1_i32_76 : BitVec 32 := 1#32
  let v220 : BitVec 32 := Scalar.addi arg1 c1_i32_76
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c2_i32_77 : BitVec 32 := 2#32
  let v221 : BitVec 32 := Scalar.muli v219 c2_i32_77
  let v222 : BitVec 32 := Scalar.subi v221 v220
  let c1_i32_78 : BitVec 32 := 1#32
  let v224 : BitVec 32 := Scalar.divsi v222 c1_i32_78
  let v225 : BitVec 32 := Scalar.muli v224 c1_i32_78
  let v226 : BitVec 32 := Scalar.addi v220 v225
  let c1_i32_80 : BitVec 32 := 1#32
  let arg14 : BitVec 32 := Scf.iv v226 c1_i32_80 k0_t2
  let c512_i32_96 : BitVec 32 := 512#32
  let v274 : BitVec 32 := Scalar.muli arg14 c512_i32_96
  v274
def k0_off7 (i : grid0.Coords) (k0_t2 : Fin (k0_t2_loop i).trips) : Fin 2 → Nat :=
  let arg1 : BitVec 32 := BitVec.ofNat 32 (i 1).val
  let c1_i32_76 : BitVec 32 := 1#32
  let v220 : BitVec 32 := Scalar.addi arg1 c1_i32_76
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c2_i32_77 : BitVec 32 := 2#32
  let v221 : BitVec 32 := Scalar.muli v219 c2_i32_77
  let v222 : BitVec 32 := Scalar.subi v221 v220
  let c1_i32_78 : BitVec 32 := 1#32
  let v224 : BitVec 32 := Scalar.divsi v222 c1_i32_78
  let v225 : BitVec 32 := Scalar.muli v224 c1_i32_78
  let v226 : BitVec 32 := Scalar.addi v220 v225
  let c1_i32_80 : BitVec 32 := 1#32
  let arg14 : BitVec 32 := Scf.iv v226 c1_i32_80 k0_t2
  let c512_i32_96 : BitVec 32 := 512#32
  let v274 : BitVec 32 := Scalar.muli arg14 c512_i32_96
  let v275 : BitVec 32 := v274
  let v276 : Index := Scalar.indexCast v275
  let c0_97 : Index := 0#32
  ![v276.toNat, 0]
def k0_off8 (i : grid0.Coords) (k0_t2 : Fin (k0_t2_loop i).trips) : Fin 3 → Nat :=
  let arg1 : BitVec 32 := BitVec.ofNat 32 (i 1).val
  let c1_i32_76 : BitVec 32 := 1#32
  let v220 : BitVec 32 := Scalar.addi arg1 c1_i32_76
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c2_i32_77 : BitVec 32 := 2#32
  let v221 : BitVec 32 := Scalar.muli v219 c2_i32_77
  let v222 : BitVec 32 := Scalar.subi v221 v220
  let c1_i32_78 : BitVec 32 := 1#32
  let v224 : BitVec 32 := Scalar.divsi v222 c1_i32_78
  let v225 : BitVec 32 := Scalar.muli v224 c1_i32_78
  let v226 : BitVec 32 := Scalar.addi v220 v225
  let c1_i32_80 : BitVec 32 := 1#32
  let arg14 : BitVec 32 := Scf.iv v226 c1_i32_80 k0_t2
  let c0_i32_102 : BitVec 32 := 0#32
  let v295 : BitVec 32 := Scalar.addi arg14 c0_i32_102
  let v296 : Index := Scalar.indexCast v295
  let c0_103 : Index := 0#32
  let c0_104 : Index := 0#32
  ![v296.toNat, 0, 0]
def k0_off9 (i : grid0.Coords) (k0_t2 : Fin (k0_t2_loop i).trips) : Fin 3 → Nat :=
  let c0_113 : Index := 0#32
  let arg1 : BitVec 32 := BitVec.ofNat 32 (i 1).val
  let c1_i32_76 : BitVec 32 := 1#32
  let v220 : BitVec 32 := Scalar.addi arg1 c1_i32_76
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c2_i32_77 : BitVec 32 := 2#32
  let v221 : BitVec 32 := Scalar.muli v219 c2_i32_77
  let v222 : BitVec 32 := Scalar.subi v221 v220
  let c1_i32_78 : BitVec 32 := 1#32
  let v224 : BitVec 32 := Scalar.divsi v222 c1_i32_78
  let v225 : BitVec 32 := Scalar.muli v224 c1_i32_78
  let v226 : BitVec 32 := Scalar.addi v220 v225
  let c1_i32_80 : BitVec 32 := 1#32
  let arg14 : BitVec 32 := Scf.iv v226 c1_i32_80 k0_t2
  let c512_i32_96 : BitVec 32 := 512#32
  let v274 : BitVec 32 := Scalar.muli arg14 c512_i32_96
  let v275 : BitVec 32 := v274
  let v325 : Index := Scalar.indexCast v275
  let c0_114 : Index := 0#32
  ![0, v325.toNat, 0]
@[reducible] def k0_t3_loop (i : grid0.Coords) : Scf.Loop 32 :=
  let arg1 : BitVec 32 := BitVec.ofNat 32 (i 1).val
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c4_i32 : BitVec 32 := 4#32
  let v229 : BitVec 32 := Scalar.subi c4_i32 v219
  let c1_i32_81 : BitVec 32 := 1#32
  let v231 : BitVec 32 := Scalar.divsi v229 c1_i32_81
  let v232 : BitVec 32 := Scalar.muli v231 c1_i32_81
  let v233 : BitVec 32 := Scalar.addi v219 v232
  let c1_i32_82 : BitVec 32 := 1#32
  ⟨v219, v233, c1_i32_82⟩
def k0_mult4 (i : grid0.Coords) (k0_t3 : Fin (k0_t3_loop i).trips) : BitVec 32 :=
  let arg1 : BitVec 32 := BitVec.ofNat 32 (i 1).val
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c1_i32_82 : BitVec 32 := 1#32
  let arg14 : BitVec 32 := Scf.iv v219 c1_i32_82 k0_t3
  let c2_i32_96 : BitVec 32 := 2#32
  let v274 : BitVec 32 := Scalar.muli arg14 c2_i32_96
  let c512_i32_97 : BitVec 32 := 512#32
  let v275 : BitVec 32 := Scalar.muli v274 c512_i32_97
  v275
def k0_off10 (i : grid0.Coords) (k0_t3 : Fin (k0_t3_loop i).trips) : Fin 2 → Nat :=
  let arg1 : BitVec 32 := BitVec.ofNat 32 (i 1).val
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c1_i32_82 : BitVec 32 := 1#32
  let arg14 : BitVec 32 := Scf.iv v219 c1_i32_82 k0_t3
  let c2_i32_96 : BitVec 32 := 2#32
  let v274 : BitVec 32 := Scalar.muli arg14 c2_i32_96
  let c512_i32_97 : BitVec 32 := 512#32
  let v275 : BitVec 32 := Scalar.muli v274 c512_i32_97
  let v276 : BitVec 32 := v275
  let v277 : Index := Scalar.indexCast v276
  let c0_98 : Index := 0#32
  ![v277.toNat, 0]
def k0_off11 (i : grid0.Coords) (k0_t3 : Fin (k0_t3_loop i).trips) (c0_i32_103 : BitVec 32) : Fin 3 → Nat :=
  let arg1 : BitVec 32 := BitVec.ofNat 32 (i 1).val
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c1_i32_82 : BitVec 32 := 1#32
  let arg14 : BitVec 32 := Scf.iv v219 c1_i32_82 k0_t3
  let c2_i32_96 : BitVec 32 := 2#32
  let v274 : BitVec 32 := Scalar.muli arg14 c2_i32_96
  let v296 : BitVec 32 := Scalar.addi v274 c0_i32_103
  let v297 : Index := Scalar.indexCast v296
  let c0_104 : Index := 0#32
  let c0_105 : Index := 0#32
  ![v297.toNat, 0, 0]
def k0_off12 (i : grid0.Coords) (k0_t3 : Fin (k0_t3_loop i).trips) : Fin 3 → Nat :=
  let c0_120 : Index := 0#32
  let arg1 : BitVec 32 := BitVec.ofNat 32 (i 1).val
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c1_i32_82 : BitVec 32 := 1#32
  let arg14 : BitVec 32 := Scf.iv v219 c1_i32_82 k0_t3
  let c2_i32_96 : BitVec 32 := 2#32
  let v274 : BitVec 32 := Scalar.muli arg14 c2_i32_96
  let c512_i32_97 : BitVec 32 := 512#32
  let v275 : BitVec 32 := Scalar.muli v274 c512_i32_97
  let v276 : BitVec 32 := v275
  let v336 : Index := Scalar.indexCast v276
  let c0_121 : Index := 0#32
  ![0, v336.toNat, 0]
@[reducible] def k0_t4_loop (i : grid0.Coords) : Scf.Loop 32 :=
  let arg1 : BitVec 32 := BitVec.ofNat 32 (i 1).val
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c4_i32 : BitVec 32 := 4#32
  let v229 : BitVec 32 := Scalar.subi c4_i32 v219
  let c1_i32_81 : BitVec 32 := 1#32
  let v231 : BitVec 32 := Scalar.divsi v229 c1_i32_81
  let v232 : BitVec 32 := Scalar.muli v231 c1_i32_81
  let v233 : BitVec 32 := Scalar.addi v219 v232
  let v230 : BitVec 32 := Scalar.addi v219 v229
  let c1_i32_83 : BitVec 32 := 1#32
  ⟨v233, v230, c1_i32_83⟩
def k0_mult5 (i : grid0.Coords) (k0_t4 : Fin (k0_t4_loop i).trips) : BitVec 32 :=
  let arg1 : BitVec 32 := BitVec.ofNat 32 (i 1).val
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c4_i32 : BitVec 32 := 4#32
  let v229 : BitVec 32 := Scalar.subi c4_i32 v219
  let c1_i32_81 : BitVec 32 := 1#32
  let v231 : BitVec 32 := Scalar.divsi v229 c1_i32_81
  let v232 : BitVec 32 := Scalar.muli v231 c1_i32_81
  let v233 : BitVec 32 := Scalar.addi v219 v232
  let c1_i32_83 : BitVec 32 := 1#32
  let arg14 : BitVec 32 := Scf.iv v233 c1_i32_83 k0_t4
  let c2_i32_96 : BitVec 32 := 2#32
  let v274 : BitVec 32 := Scalar.muli arg14 c2_i32_96
  let c512_i32_97 : BitVec 32 := 512#32
  let v275 : BitVec 32 := Scalar.muli v274 c512_i32_97
  v275
def k0_off13 (i : grid0.Coords) (k0_t4 : Fin (k0_t4_loop i).trips) : Fin 2 → Nat :=
  let arg1 : BitVec 32 := BitVec.ofNat 32 (i 1).val
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c4_i32 : BitVec 32 := 4#32
  let v229 : BitVec 32 := Scalar.subi c4_i32 v219
  let c1_i32_81 : BitVec 32 := 1#32
  let v231 : BitVec 32 := Scalar.divsi v229 c1_i32_81
  let v232 : BitVec 32 := Scalar.muli v231 c1_i32_81
  let v233 : BitVec 32 := Scalar.addi v219 v232
  let c1_i32_83 : BitVec 32 := 1#32
  let arg14 : BitVec 32 := Scf.iv v233 c1_i32_83 k0_t4
  let c2_i32_96 : BitVec 32 := 2#32
  let v274 : BitVec 32 := Scalar.muli arg14 c2_i32_96
  let c512_i32_97 : BitVec 32 := 512#32
  let v275 : BitVec 32 := Scalar.muli v274 c512_i32_97
  let v276 : BitVec 32 := v275
  let v277 : Index := Scalar.indexCast v276
  let c0_98 : Index := 0#32
  ![v277.toNat, 0]
def k0_off14 (i : grid0.Coords) (k0_t4 : Fin (k0_t4_loop i).trips) (c0_i32_103 : BitVec 32) : Fin 3 → Nat :=
  let arg1 : BitVec 32 := BitVec.ofNat 32 (i 1).val
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c4_i32 : BitVec 32 := 4#32
  let v229 : BitVec 32 := Scalar.subi c4_i32 v219
  let c1_i32_81 : BitVec 32 := 1#32
  let v231 : BitVec 32 := Scalar.divsi v229 c1_i32_81
  let v232 : BitVec 32 := Scalar.muli v231 c1_i32_81
  let v233 : BitVec 32 := Scalar.addi v219 v232
  let c1_i32_83 : BitVec 32 := 1#32
  let arg14 : BitVec 32 := Scf.iv v233 c1_i32_83 k0_t4
  let c2_i32_96 : BitVec 32 := 2#32
  let v274 : BitVec 32 := Scalar.muli arg14 c2_i32_96
  let v296 : BitVec 32 := Scalar.addi v274 c0_i32_103
  let v297 : Index := Scalar.indexCast v296
  let c0_104 : Index := 0#32
  let c0_105 : Index := 0#32
  ![v297.toNat, 0, 0]
def k0_off15 (i : grid0.Coords) (k0_t4 : Fin (k0_t4_loop i).trips) : Fin 3 → Nat :=
  let c0_120 : Index := 0#32
  let arg1 : BitVec 32 := BitVec.ofNat 32 (i 1).val
  let c0_i32_69 : BitVec 32 := 0#32
  let v203 : BitVec 1 := Scalar.cmpi .sgt arg1 c0_i32_69
  let v204 : BitVec 32 := Scalar.extui v203
  let c0_i32_70 : BitVec 32 := 0#32
  let v205 : BitVec 1 := Scalar.cmpi .slt arg1 c0_i32_70
  let v206 : BitVec 32 := Scalar.extui v205
  let v207 : BitVec 32 := Scalar.subi v204 v206
  let c2_i32_68 : BitVec 32 := 2#32
  let c0_i32_71 : BitVec 32 := 0#32
  let v208 : BitVec 1 := Scalar.cmpi .sgt c2_i32_68 c0_i32_71
  let v209 : BitVec 32 := Scalar.extui v208
  let c0_i32_72 : BitVec 32 := 0#32
  let v210 : BitVec 1 := Scalar.cmpi .slt c2_i32_68 c0_i32_72
  let v211 : BitVec 32 := Scalar.extui v210
  let v212 : BitVec 32 := Scalar.subi v209 v211
  let v213 : BitVec 1 := Scalar.cmpi .ne v207 v212
  let v214 : BitVec 32 := Scalar.remsi arg1 c2_i32_68
  let c0_i32_73 : BitVec 32 := 0#32
  let v215 : BitVec 1 := Scalar.cmpi .ne v214 c0_i32_73
  let v216 : BitVec 1 := Scalar.andi v213 v215
  let v202 : BitVec 32 := Scalar.divsi arg1 c2_i32_68
  let c1_i32_74 : BitVec 32 := 1#32
  let v217 : BitVec 32 := Scalar.subi v202 c1_i32_74
  let v218 : BitVec 32 := Scalar.select v216 v217 v202
  let c1_i32_75 : BitVec 32 := 1#32
  let v219 : BitVec 32 := Scalar.addi v218 c1_i32_75
  let c4_i32 : BitVec 32 := 4#32
  let v229 : BitVec 32 := Scalar.subi c4_i32 v219
  let c1_i32_81 : BitVec 32 := 1#32
  let v231 : BitVec 32 := Scalar.divsi v229 c1_i32_81
  let v232 : BitVec 32 := Scalar.muli v231 c1_i32_81
  let v233 : BitVec 32 := Scalar.addi v219 v232
  let c1_i32_83 : BitVec 32 := 1#32
  let arg14 : BitVec 32 := Scf.iv v233 c1_i32_83 k0_t4
  let c2_i32_96 : BitVec 32 := 2#32
  let v274 : BitVec 32 := Scalar.muli arg14 c2_i32_96
  let c512_i32_97 : BitVec 32 := 512#32
  let v275 : BitVec 32 := Scalar.muli v274 c512_i32_97
  let v276 : BitVec 32 := v275
  let v336 : Index := Scalar.indexCast v276
  let c0_121 : Index := 0#32
  ![0, v336.toNat, 0]
def k0_mult6 (i : grid0.Coords) : BitVec 32 :=
  let arg1 : BitVec 32 := BitVec.ofNat 32 (i 1).val
  let c512_i32_93 : BitVec 32 := 512#32
  let v265 : BitVec 32 := Scalar.muli arg1 c512_i32_93
  v265
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Kernel9Ideal.lean ====
variable {F : FTy → Type} [FloatOps F] [Named F]
def κ : String → Option EReal := fun
  | "fox_scale_log2e" => some (((8 * (Real.log 2))⁻¹ : ℝ) : EReal)
  | "ln2" => some ((Real.log 2 : ℝ) : EReal)
  | "log2e" => some (((Real.log 2)⁻¹ : ℝ) : EReal)
  | _ => none
-- ==== Reference9Ideal.lean ====
abbrev S4096x1536 : Shape := ⟨2, ![4096, 1536]⟩
abbrev S4096x8 : Shape := ⟨2, ![4096, 8]⟩
abbrev S4096x512 : Shape := ⟨2, ![4096, 512]⟩
abbrev S4096x8x64 : Shape := ⟨3, ![4096, 8, 64]⟩
abbrev S8x4096x64 : Shape := ⟨3, ![8, 4096, 64]⟩
abbrev S8x4096 : Shape := ⟨2, ![8, 4096]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S4096x128 : Shape := ⟨2, ![4096, 128]⟩

abbrev nBuf : Space → Nat
  | .hbm => 136
  | .vmem => 0
  | .smem => 0
  | _ => 0

abbrev hbmTy0_0 (i : Nat) : BufTy := match i % 128 with
  | 0 => ⟨S4096x1536, .bf16⟩
  | 1 => ⟨S4096x8, .f32⟩
  | 2 => ⟨S4096x512, .bf16⟩
  | 3 => ⟨S4096x512, .bf16⟩
  | 4 => ⟨S4096x512, .bf16⟩
  | 5 => ⟨S4096x512, .bf16⟩
  | 6 => ⟨S4096x512, .f32⟩
  | 7 => ⟨S4096x512, .f32⟩
  | 8 => ⟨S4096x512, .f32⟩
  | 9 => ⟨S4096x8x64, .f32⟩
  | 10 => ⟨S8x4096x64, .f32⟩
  | 11 => ⟨S4096x8x64, .f32⟩
  | 12 => ⟨S8x4096x64, .f32⟩
  | 13 => ⟨S8x4096, .f32⟩
  | 14 => ⟨S8x4096x4096, .f32⟩
  | 15 => ⟨S_, .f32⟩
  | 16 => ⟨S8x4096x4096, .f32⟩
  | 17 => ⟨S8x4096x4096, .f32⟩
  | 18 => ⟨S8x4096x1, .f32⟩
  | 19 => ⟨S8x1x4096, .f32⟩
  | 20 => ⟨S8x4096x4096, .f32⟩
  | 21 => ⟨S8x4096x4096, .f32⟩
  | 22 => ⟨S8x4096x4096, .f32⟩
  | 23 => ⟨S8x4096x4096, .f32⟩
  | 24 => ⟨S4096, .i32⟩
  | 25 => ⟨S1x4096, .i32⟩
  | 26 => ⟨S4096x1, .i32⟩
  | 27 => ⟨S4096x4096, .i32⟩
  | 28 => ⟨S4096x4096, .i32⟩
  | 29 => ⟨S4096x4096, .i1⟩
  | 30 => ⟨S_, .f32⟩
  | 31 => ⟨S_, .f32⟩
  | 32 => ⟨S8x4096x4096, .i1⟩
  | 33 => ⟨S8x4096x4096, .f32⟩
  | 34 => ⟨S8x4096x4096, .f32⟩
  | 35 => ⟨S_, .f32⟩
  | 36 => ⟨S8x4096x4096, .f32⟩
  | 37 => ⟨S_, .f32⟩
  | 38 => ⟨S8x4096, .f32⟩
  | 39 => ⟨S8x4096x1, .f32⟩
  | 40 => ⟨S8x4096x4096, .f32⟩
  | 41 => ⟨S8x4096x4096, .i1⟩
  | 42 => ⟨S8x4096x4096, .f32⟩
  | 43 => ⟨S_, .f32⟩
  | 44 => ⟨S8x4096, .f32⟩
  | 45 => ⟨S_, .f32⟩
  | 46 => ⟨S8x4096, .f32⟩
  | 47 => ⟨S8x4096, .f32⟩
  | 48 => ⟨S_, .f32⟩
  | 49 => ⟨S8x4096, .f32⟩
  | 50 => ⟨S8x4096, .i1⟩
  | 51 => ⟨S_, .f32⟩
  | 52 => ⟨S8x4096, .f32⟩
  | 53 => ⟨S8x4096, .i1⟩
  | 54 => ⟨S_, .f32⟩
  | 55 => ⟨S8x4096, .f32⟩
  | 56 => ⟨S_, .f32⟩
  | 57 => ⟨S8x4096, .f32⟩
  | 58 => ⟨S_, .f32⟩
  | 59 => ⟨S8x4096, .f32⟩
  | 60 => ⟨S8x4096, .f32⟩
  | 61 => ⟨S8x4096, .f32⟩
  | 62 => ⟨S8x4096x1, .f32⟩
  | 63 => ⟨S8x4096x4096, .f32⟩
  | 64 => ⟨S8x4096x4096, .f32⟩
  | 65 => ⟨S8x4096x4096, .f32⟩
  | 66 => ⟨S_, .f32⟩
  | 67 => ⟨S8x4096, .f32⟩
  | 68 => ⟨S8x4096x1, .f32⟩
  | 69 => ⟨S8x4096x4096, .f32⟩
  | 70 => ⟨S8x4096x4096, .f32⟩
  | 71 => ⟨S8x4096x1, .f32⟩
  | 72 => ⟨S_, .f32⟩
  | 73 => ⟨S8x4096x1, .f32⟩
  | 74 => ⟨S8x4096x1, .f32⟩
  | 75 => ⟨S8x4096x4096, .bf16⟩
  | 76 => ⟨S8x4096x4096, .f32⟩
  | 77 => ⟨S4096x8x64, .f32⟩
  | 78 => ⟨S8x4096x64, .f32⟩
  | 79 => ⟨S8x4096x64, .f32⟩
  | 80 => ⟨S4096x8x64, .f32⟩
  | 81 => ⟨S4096x512, .f32⟩
  | 82 => ⟨S4096x512, .f32⟩
  | 83 => ⟨S4096x8x64, .f32⟩
  | 84 => ⟨S8x4096x64, .f32⟩
  | 85 => ⟨S8x64x4096, .f32⟩
  | 86 => ⟨S8x4096x64, .f32⟩
  | 87 => ⟨S8x4096x4096, .f32⟩
  | 88 => ⟨S4096x8x64, .f32⟩
  | 89 => ⟨S4096x512, .f32⟩
  | 90 => ⟨S8x4096x4096, .bf16⟩
  | 91 => ⟨S8x4096x4096, .f32⟩
  | 92 => ⟨S8x4096x4096, .f32⟩
  | 93 => ⟨S8x4096x4096, .f32⟩
  | 94 => ⟨S8x4096x4096, .f32⟩
  | 95 => ⟨S_, .f32⟩
  | 96 => ⟨S8x4096, .f32⟩
  | 97 => ⟨S8x4096x1, .f32⟩
  | 98 => ⟨S8x4096x1, .f32⟩
  | 99 => ⟨S8x4096x4096, .f32⟩
  | 100 => ⟨S8x4096x4096, .f32⟩
  | 101 => ⟨S_, .f32⟩
  | 102 => ⟨S8x4096, .f32⟩
  | 103 => ⟨S8x4096x4096, .f32⟩
  | 104 => ⟨S8x4096x4096, .f32⟩
  | 105 => ⟨S8x4096x4096, .f32⟩
  | 106 => ⟨S_, .f32⟩
  | 107 => ⟨S8x4096x4096, .f32⟩
  | 108 => ⟨S8x4096x4096, .f32⟩
  | 109 => ⟨S_, .f32⟩
  | 110 => ⟨S8x4096, .f32⟩
  | 111 => ⟨S8x4096x1, .f32⟩
  | 112 => ⟨S8x4096x4096, .f32⟩
  | 113 => ⟨S_, .f32⟩
  | 114 => ⟨S8x4096, .f32⟩
  | 115 => ⟨S8x1x4096, .f32⟩
  | 116 => ⟨S_, .f32⟩
  | 117 => ⟨S8x4096, .f32⟩
  | 118 => ⟨S_, .f32⟩
  | 119 => ⟨S8x4096, .f32⟩
  | 120 => ⟨S8x4096, .f32⟩
  | 121 => ⟨S_, .f32⟩
  | 122 => ⟨S8x4096x4096, .f32⟩
  | 123 => ⟨S8x4096x4096, .f32⟩
  | 124 => ⟨S8x4096x64, .f32⟩
  | 125 => ⟨S8x4096x64, .f32⟩
  | 126 => ⟨S4096x8, .f32⟩
  | 127 => ⟨S4096x8x64, .f32⟩
  | _ => ⟨S4096x1536, .bf16⟩

abbrev hbmTy0_1 (i : Nat) : BufTy := match i % 128 with
  | 0 => ⟨S4096x512, .f32⟩
  | 1 => ⟨S4096x8x64, .f32⟩
  | 2 => ⟨S4096x512, .f32⟩
  | 3 => ⟨S4096x512, .bf16⟩
  | 4 => ⟨S4096x512, .bf16⟩
  | 5 => ⟨S_, .i32⟩
  | 6 => ⟨S_, .f32⟩
  | 7 => ⟨S4096x128, .f32⟩
  | _ => ⟨S4096x1536, .bf16⟩

abbrev hbmTy (i : Nat) : BufTy := match i / 128 with
  | 0 => hbmTy0_0 i
  | 1 => hbmTy0_1 i
  | _ => ⟨S4096x1536, .bf16⟩

abbrev bufTy : (tb : Table) → Fin (tcTables nBuf tb) → BufTy
  | .hbm, ⟨i, _⟩ => hbmTy i
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_12 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_call1_cst : Ref sig .tc := ⟨.hbm, 106, rfl⟩
abbrev main_call1_v0 : Ref sig .tc := ⟨.hbm, 107, rfl⟩
abbrev main_v84 : Ref sig .tc := ⟨.hbm, 108, rfl⟩
abbrev main_cst_13 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_14 : Ref sig .tc := ⟨.hbm, 113, rfl⟩
abbrev main_v88 : Ref sig .tc := ⟨.hbm, 114, rfl⟩
abbrev main_v89 : Ref sig .tc := ⟨.hbm, 115, rfl⟩
abbrev main_cst_15 : Ref sig .tc := ⟨.hbm, 116, rfl⟩
abbrev main_v90 : Ref sig .tc := ⟨.hbm, 117, rfl⟩
abbrev main_cst_16 : Ref sig .tc := ⟨.hbm, 118, rfl⟩
abbrev main_v91 : Ref sig .tc := ⟨.hbm, 119, rfl⟩
abbrev main_v92 : Ref sig .tc := ⟨.hbm, 120, rfl⟩
abbrev main_cst_17 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_c : Ref sig .tc := ⟨.hbm, 133, rfl⟩
abbrev main_call2_v0 : Ref sig .tc := ⟨.hbm, 134, rfl⟩
abbrev main_v104 : Ref sig .tc := ⟨.hbm, 135, rfl⟩

abbrev nD : Nat := 1
abbrev τ : Topo := Topo.v7x

variable {F : FTy → Type} [FloatOps F]
-- ==== Kernel10.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference10Ideal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel11.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]
-- ==== Reference11Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .bf16⟩
  | .hbm, ⟨79, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_cst_8 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Kernel12.lean ====
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .bf16⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true]
-- ==== Reference12Ideal.lean ====
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .bf16⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S512x1024, .f32⟩
  | .hbm, ⟨31, _⟩ => ⟨S4096x512, .f32⟩
  | .hbm, ⟨32, _⟩ => ⟨S512x1024, .f32⟩
  | .hbm, ⟨33, _⟩ => ⟨S4096x512, .f32⟩
  | .hbm, ⟨34, _⟩ => ⟨S512x1024, .f32⟩
  | .hbm, ⟨35, _⟩ => ⟨S4096x512, .f32⟩
  | .hbm, ⟨36, _⟩ => ⟨S1024x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4096x1024 : Shape := ⟨2, ![4096, 1024]⟩
abbrev S1536x1024 : Shape := ⟨2, ![1536, 1024]⟩
abbrev S4096x1536 : Shape := ⟨2, ![4096, 1536]⟩
abbrev S8x1536x512 : Shape := ⟨3, ![8, 1536, 512]⟩
abbrev S1024x1024 : Shape := ⟨2, ![1024, 1024]⟩
abbrev S1024x1536 : Shape := ⟨2, ![1024, 1536]⟩
abbrev S2x1536x512 : Shape := ⟨3, ![2, 1536, 512]⟩
abbrev S512x1536 : Shape := ⟨2, ![512, 1536]⟩
abbrev S1536x512 : Shape := ⟨2, ![1536, 512]⟩
abbrev S1x1536x512 : Shape := ⟨3, ![1, 1536, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .bf16⟩
  | .hbm, ⟨3, _⟩ => ⟨S8x1536x512, .bf16⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1024x1536, .bf16⟩
  | .local _ .vmem, ⟨4, _⟩ => ⟨S1024x1536, .bf16⟩
  | .local _ .vmem, ⟨5, _⟩ => ⟨S2x1536x512, .bf16⟩
  | .local _ .vmem, ⟨6, _⟩ => ⟨S2x1536x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S4096x1024 : Shape := ⟨2, ![4096, 1024]⟩
abbrev S1536x1024 : Shape := ⟨2, ![1536, 1024]⟩
abbrev S4096x1536 : Shape := ⟨2, ![4096, 1536]⟩
abbrev S8x512x1536 : Shape := ⟨3, ![8, 512, 1536]⟩
abbrev S8x1536x512 : Shape := ⟨3, ![8, 1536, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1024, .f32⟩
  | .hbm, ⟨3, _⟩ => ⟨S1536x1024, .f32⟩
  | .hbm, ⟨4, _⟩ => ⟨S4096x1536, .f32⟩
  | .hbm, ⟨5, _⟩ => ⟨S4096x1536, .bf16⟩
  | .hbm, ⟨6, _⟩ => ⟨S8x512x1536, .bf16⟩
  | .hbm, ⟨7, _⟩ => ⟨S8x1536x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel16.lean ====
abbrev S4096x384 : Shape := ⟨2, ![4096, 384]⟩
abbrev S4096x1024 : Shape := ⟨2, ![4096, 1024]⟩
abbrev S384x1024 : Shape := ⟨2, ![384, 1024]⟩
abbrev S2048x384 : Shape := ⟨2, ![2048, 384]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x384, .bf16⟩
  | .hbm, ⟨1, _⟩ => ⟨S4096x1024, .bf16⟩
  | .hbm, ⟨2, _⟩ => ⟨S384x1024, .f32⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4096x384 : Shape := ⟨2, ![4096, 384]⟩
abbrev S4096x1024 : Shape := ⟨2, ![4096, 1024]⟩
abbrev S_ : Shape := ⟨0, ![]⟩
abbrev S384x1024 : Shape := ⟨2, ![384, 1024]⟩
abbrev S1024x384 : Shape := ⟨2, ![1024, 384]⟩

abbrev nBuf : Space → Nat
  | .hbm => 9
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x1024, .bf16⟩
  | .hbm, ⟨2, _⟩ => ⟨S4096x384, .f32⟩
  | .hbm, ⟨3, _⟩ => ⟨S4096x1024, .f32⟩
  | .hbm, ⟨4, _⟩ => ⟨S_, .f32⟩
  | .hbm, ⟨5, _⟩ => ⟨S384x1024, .f32⟩
  | .hbm, ⟨6, _⟩ => ⟨S4096x1024, .f32⟩
  | .hbm, ⟨7, _⟩ => ⟨S1024x384, .f32⟩
  | .hbm, ⟨8, _⟩ => ⟨S384x1024, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4096x256 : Shape := ⟨2, ![4096, 256]⟩
abbrev S4096x1536 : Shape := ⟨2, ![4096, 1536]⟩
abbrev S256x1536 : Shape := ⟨2, ![256, 1536]⟩
abbrev S2048x256 : Shape := ⟨2, ![2048, 256]⟩
abbrev S2048x768 : Shape := ⟨2, ![2048, 768]⟩
abbrev S256x768 : Shape := ⟨2, ![256, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1536, .bf16⟩
  | .hbm, ⟨2, _⟩ => ⟨S256x1536, .f32⟩
  | .local _ .vmem, ⟨0, _⟩ => ⟨S2048x256, .bf16⟩
  | .local _ .vmem, ⟨1, _⟩ => ⟨S2048x256, .bf16⟩
  | .local _ .vmem, ⟨2, _⟩ => ⟨S2048x768, .bf16⟩
  | .local _ .vmem, ⟨3, _⟩ => ⟨S2048x768, .bf16⟩
  | .local _ .vmem, ⟨4, _⟩ => ⟨S256x768, .f32⟩
  | .local _ .vmem, ⟨5, _⟩ => ⟨S256x768, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x256 : Shape := ⟨2, ![4096, 256]⟩
abbrev S4096x1536 : Shape := ⟨2, ![4096, 1536]⟩
abbrev S_ : Shape := ⟨0, ![]⟩
abbrev S256x1536 : Shape := ⟨2, ![256, 1536]⟩
abbrev S1536x256 : Shape := ⟨2, ![1536, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1536, .bf16⟩
  | .hbm, ⟨2, _⟩ => ⟨S4096x256, .f32⟩
  | .hbm, ⟨3, _⟩ => ⟨S4096x1536, .f32⟩
  | .hbm, ⟨4, _⟩ => ⟨S_, .f32⟩
  | .hbm, ⟨5, _⟩ => ⟨S256x1536, .f32⟩
  | .hbm, ⟨6, _⟩ => ⟨S4096x1536, .f32⟩
  | .hbm, ⟨7, _⟩ => ⟨S1536x256, .f32⟩
  | .hbm, ⟨8, _⟩ => ⟨S256x1536, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S4x4096x128 : Shape := ⟨3, ![4, 4096, 128]⟩
abbrev S8x512x512 : Shape := ⟨3, ![8, 512, 512]⟩
abbrev S512x1024 : Shape := ⟨2, ![512, 1024]⟩
abbrev S512x512 : Shape := ⟨2, ![512, 512]⟩
abbrev S4x512x128 : Shape := ⟨3, ![4, 512, 128]⟩
abbrev S1x512x512 : Shape := ⟨3, ![1, 512, 512]⟩
abbrev S512 : Shape := ⟨1, ![512]⟩
abbrev S512x1 : Shape := ⟨2, ![512, 1]⟩
abbrev S512x128 : Shape := ⟨2, ![512, 128]⟩
abbrev S1x128 : Shape := ⟨2, ![1, 128]⟩
abbrev S1x512x128 : Shape := ⟨3, ![1, 512, 128]⟩

abbrev nBuf : Space → Nat
  | .hbm => 16
  | .vmem => 27
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S1x512, .f32⟩
  | .hbm, ⟨6, _⟩ => ⟨S4x4096x128, .f32⟩
  | .hbm, ⟨7, _⟩ => ⟨S4x4096x128, .f32⟩
  | .hbm, ⟨8, _⟩ => ⟨S4096x512, .bf16⟩
  | .hbm, ⟨9, _⟩ => ⟨S4096x512, .bf16⟩
  | .hbm, ⟨10, _⟩ => ⟨S1x512, .f32⟩
  | .hbm, ⟨11, _⟩ => ⟨S1x512, .f32⟩
  | .hbm, ⟨12, _⟩ => ⟨S4x4096x128, .f32⟩
  | .hbm, ⟨13, _⟩ => ⟨S4x4096x128, .f32⟩
  | .hbm, ⟨14, _⟩ => ⟨S8x512x512, .bf16⟩
  | .hbm, ⟨15, _⟩ => ⟨S8x512x512, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S4x512x128, .f32⟩
  | .local _ .vmem, ⟨10, _⟩ => ⟨S4x512x128, .f32⟩
  | .local _ .vmem, ⟨11, _⟩ => ⟨S4x512x128, .f32⟩
  | .local _ .vmem, ⟨12, _⟩ => ⟨S4x512x128, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S1x512, .f32⟩
  | .local _ .vmem, ⟨18, _⟩ => ⟨S1x512, .f32⟩
  | .local _ .vmem, ⟨19, _⟩ => ⟨S4x512x128, .f32⟩
  | .local _ .vmem, ⟨20, _⟩ => ⟨S4x512x128, .f32⟩
  | .local _ .vmem, ⟨21, _⟩ => ⟨S4x512x128, .f32⟩
  | .local _ .vmem, ⟨22, _⟩ => ⟨S4x512x128, .f32⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference18Ideal.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S4x4096x128 : Shape := ⟨3, ![4, 4096, 128]⟩
abbrev S_ : Shape := ⟨0, ![]⟩
abbrev S4096 : Shape := ⟨1, ![4096]⟩
abbrev S4096x1 : Shape := ⟨2, ![4096, 1]⟩
abbrev S512 : Shape := ⟨1, ![512]⟩
abbrev S4096x4x2x64 : Shape := ⟨4, ![4096, 4, 2, 64]⟩
abbrev S4096x4x2 : Shape := ⟨3, ![4096, 4, 2]⟩
abbrev S4x4096x2 : Shape := ⟨3, ![4, 4096, 2]⟩
abbrev S4x4096x124 : Shape := ⟨3, ![4, 4096, 124]⟩
abbrev S8x512x512 : Shape := ⟨3, ![8, 512, 512]⟩

abbrev nBuf : Space → Nat
  | .hbm => 123
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S1x512, .f32⟩
  | .hbm, ⟨6, _⟩ => ⟨S4x4096x128, .f32⟩
  | .hbm, ⟨7, _⟩ => ⟨S4x4096x128, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x1024, .f32⟩
  | .hbm, ⟨47, _⟩ => ⟨S1024x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x512, .f32⟩
  | .hbm, ⟨64, _⟩ => ⟨S4096x512, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x512, .f32⟩
  | .hbm, ⟨87, _⟩ => ⟨S4096x512, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x512, .f32⟩
  | .hbm, ⟨95, _⟩ => ⟨S4096x512, .f32⟩
  | .hbm, ⟨96, _⟩ => ⟨S4096x512, .f32⟩
  | .hbm, ⟨97, _⟩ => ⟨S4096x512, .f32⟩
  | .hbm, ⟨98, _⟩ => ⟨S4096x512, .f32⟩
  | .hbm, ⟨99, _⟩ => ⟨S4096x512, .bf16⟩
  | .hbm, ⟨100, _⟩ => ⟨S4096x512, .bf16⟩
  | .hbm, ⟨101, _⟩ => ⟨S4096x512, .f32⟩
  | .hbm, ⟨102, _⟩ => ⟨S4096x512, .f32⟩
  | .hbm, ⟨103, _⟩ => ⟨S4096x4x2x64, .f32⟩
  | .hbm, ⟨104, _⟩ => ⟨S_, .f32⟩
  | .hbm, ⟨105, _⟩ => ⟨S4096x4x2, .f32⟩
  | .hbm, ⟨106, _⟩ => ⟨S4x4096x2, .f32⟩
  | .hbm, ⟨107, _⟩ => ⟨S4x4096x2, .f32⟩
  | .hbm, ⟨108, _⟩ => ⟨S4x4096x124, .f32⟩
  | .hbm, ⟨109, _⟩ => ⟨S4x4096x128, .f32⟩
  | .hbm, ⟨110, _⟩ => ⟨S4096x512, .f32⟩
  | .hbm, ⟨111, _⟩ => ⟨S4096x512, .f32⟩
  | .hbm, ⟨112, _⟩ => ⟨S4096x4x2x64, .f32⟩
  | .hbm, ⟨113, _⟩ => ⟨S_, .f32⟩
  | .hbm, ⟨114, _⟩ => ⟨S4096x4x2, .f32⟩
  | .hbm, ⟨115, _⟩ => ⟨S4x4096x2, .f32⟩
  | .hbm, ⟨116, _⟩ => ⟨S4x4096x2, .f32⟩
  | .hbm, ⟨117, _⟩ => ⟨S4x4096x124, .f32⟩
  | .hbm, ⟨118, _⟩ => ⟨S4x4096x128, .f32⟩
  | .hbm, ⟨119, _⟩ => ⟨S8x512x512, .bf16⟩
  | .hbm, ⟨120, _⟩ => ⟨S8x512x512, .bf16⟩
  | .hbm, ⟨121, _⟩ => ⟨S8x512x512, .bf16⟩
  | .hbm, ⟨122, _⟩ => ⟨S8x512x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_cst_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_16 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩

abbrev nD : Nat := 1
abbrev τ : Topo := Topo.v7x

variable {F : FTy → Type} [FloatOps F]
-- ==== Kernel19.lean ====
abbrev S4096x512 : Shape := ⟨2, ![4096, 512]⟩
abbrev S1x512 : Shape := ⟨2, ![1, 512]⟩
abbrev S4096x1024 : Shape := ⟨2, ![4096, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x1024, .bf16⟩
  | .local _ .vmem, ⟨7, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S4096x1024 : Shape := ⟨2, ![4096, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x1024, .f32⟩
  | .hbm, ⟨35, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel20.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.DownBwd.lean ====
/-
  The gradient of the down product and of the squared ReLU before it: what the tiled kernel leaves in its
  result array is the transposed derivative of the plain text, index by index.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Down

open Cert.Kernel2Ideal Cert.Kernel2Ideal.Gen

variable (m : (ℓ : Loc nD τ sig) → Buf (Elt Ideal) ℓ)

/-- The plain text's value at a pair of indices: the row of the incoming gradient times the row of the
    weight, times the derivative of the squared ReLU, which is zero where the input is not positive. -/
def gradAt (D : FVec Ideal S4096x1024 .bf16) (W : FVec Ideal S4096x1024 .bf16) (U : FVec Ideal S4096x4096 .bf16) :
    FVec Ideal S4096x4096 .bf16 := fun j =>
  (∑ k : Fin 1024, D (ix2 (j 0) k) * W (ix2 (j 1) k)) * (Ideal.ofBits .f32 0x40000000#32 * max (U j) 0)

/-- Every window's block index at every point. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, _)

/-- What a point stores at an index of its block is the plain value at the index's place in the array. -/
theorem point (c : Dev nD) (t : Fin cfg0.N) (y : S1024x2048.Idx) :
    k0_pay1 (F := Ideal) (iblk m c 0 t) (iblk m c 1 t) (iblk m c 2 t) y
      = gradAt (m ((c : Thread nD τ).loc main_arg0)) (m ((c : Thread nD τ).loc main_arg1)) (m ((c : Thread nD τ).loc main_arg2))
          (((cfg0.win 3).blk t).view.emb y) := by
  pointwise [k0_pay1, gradAt]
  blk_point [iblk, V, idx t]

/-- The result array after the run. -/
theorem final (c : Dev nD) : (dats m 0 c).arrAt 3 (cfgs 0).N
    = gradAt (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel2Ideal.Down

namespace Cert.Reference2Ideal.Down

open Cert.Reference2Ideal Cert.Reference2Ideal.Gen

/-- The derivative as the plain text composes it. -/
def text (D : FVec Ideal S4096x1024 .bf16) (W : FVec Ideal S4096x1024 .bf16) (U : FVec Ideal S4096x4096 .bf16) : FVec Ideal S4096x4096 .bf16 :=
  truncf .bf16 (select (cmpf .ogt (extf .f32 U bitsLt_bf16_f32) (broadcastInDim S4096x4096 ![] bcast_S_S4096x4096 (constant S_ .f32 0x00000000#32))) (mulf (Host.dotGeneral dot_S4096x1024_S4096x1024_S4096x4096_1_1_0_0_n_n none (extf .f32 D bitsLt_bf16_f32) (extf .f32 W bitsLt_bf16_f32)) (mulf (broadcastInDim S4096x4096 ![] bcast_S_S4096x4096 (constant S_ .f32 0x40000000#32)) (maximumf (extf .f32 U bitsLt_bf16_f32) (broadcastInDim S4096x4096 ![] bcast_S_S4096x4096 (constant S_ .f32 0x00000000#32))))) (broadcastInDim S4096x4096 ![] bcast_S_S4096x4096 (constant S_ .f32 0x00000000#32))) bitsLt_bf16_f32

/-- The selection in the plain text changes nothing: where the input is not positive the factor is zero. -/
theorem text_eq (D : FVec Ideal S4096x1024 .bf16) (W : FVec Ideal S4096x1024 .bf16) (U : FVec Ideal S4096x4096 .bf16) :
    text D W U = Cert.Kernel2Ideal.Down.gradAt D W U := by
  funext j
  idx_vars j
  pointwise [text, Cert.Kernel2Ideal.Down.gradAt]
  split
  · rfl
  · rename_i h
    rw [max_eq_right (not_lt.mp h)]
    simp only [mul_zero]

end Cert.Reference2Ideal.Down

/-- The kernel's result and the plain text's are one function of the arguments. -/
theorem Cert.Proof.down : Cert.algebraic_Kernel2Ideal_Reference2Ideal := by
  pair_intro
  · run_from Cert.Kernel2Ideal.Gen.run_main m g
  · run_from Cert.Reference2Ideal.Value.run m' g'
    rw [Cert.Kernel2Ideal.Down.final m c]
    exact Cert.Reference2Ideal.Down.text_eq _ _ _

end
-- ==== Proof.DwDown.lean ====
/-
  The gradient of the down weight: the squared ReLU of the hidden values, transposed, times the incoming gradient,
  summed over two halves of the rows.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.DwDown

open Cert.Kernel3Ideal Cert.Kernel3Ideal.Gen

variable (m : (ℓ : Loc nD τ sig) → Buf (Elt Ideal) ℓ)

/-- The sum over the rows of the squared positive part times the incoming gradient. -/
def gradAt (A : FVec Ideal S4096x4096 .bf16) (B : FVec Ideal S4096x1024 .bf16) : FVec Ideal S4096x1024 .f32 := fun j =>
  ∑ s : Fin 4096, (max (A (ix2 s (j 0))) 0 * max (A (ix2 s (j 0))) 0) * B (ix2 s (j 1))

/-- Every window's block index at every point. -/
theorem idx : ∀ t : Fin cfg0.N, win0_0.index t = ![t.val % 2, t.val / 2] ∧ win0_1.index t = ![t.val % 2, 0]
    ∧ win0_2.index t = ![t.val / 2, 0] ∧ win0_3.index t = ![t.val / 2, 0] :=
  (by decide +kernel : ∀ t : Fin grid0.N, _)

theorem hzero (j) : k0_pay1 (F := Ideal) j = 0 := by pointwise [k0_pay1]

/-- A point adds its own rows' share. -/
theorem hpay (v3 : FVec Ideal S2048x1024 .bf16) (v9 : FVec Ideal S1024x1024 .f32) (v11 : FVec Ideal S2048x1024 .bf16) (j : S1024x1024.Idx) :
    k0_pay2 (F := Ideal) v3 v9 v11 j
      = v9 j + ∑ k : Fin 2048, (max (v3 (ix2 k (j 0))) 0 * max (v3 (ix2 k (j 0))) 0) * v11 (ix2 k (j 1)) := by
  pointwise [k0_pay2]

/-- The sum after the last point of a run is the sum over all rows. -/
theorem total (c : Dev nD) (t : Fin cfg0.N) (ht : t.val % 2 = 1) (y : S1024x1024.Idx) :
    (outsAt0 m c t.val t.isLt).1 y = gradAt (m ((c : Thread nD τ).loc main_arg0)) (m ((c : Thread nD τ).loc main_arg1))
      (((cfg0.win 2).blk t).view.emb y) := by
  rw [Pipeline.eq_sum_fin_of_reset_step_apply_of_flush (fun n h => (outsAt0 m c n h).1) 2 (fun _ => 0) _
    (fun t h j => by rw [outsAt0_A m c t h (by omega)]; frame_out; rw [hpay, hzero])
    (fun t h j => by rw [outsAt0_B m c t h (by omega)]; frame_out; rw [hpay]) t ht y, zero_add]
  unfold gradAt
  refine Fin.sum_mul_add_congr fun s k hl => ?_
  idx_vars y
  blk_point [iblk, V, idx t, idx ⟨_, Pipeline.run_point_lt_of_flush t ht s⟩]

/-- The array of sums after the run. -/
theorem final (c : Dev nD) : (dats m 0 c).arrAt 2 (cfgs 0).N
    = gradAt (m ((c : Thread nD τ).loc main_arg0)) (m ((c : Thread nD τ).loc main_arg1)) := by
  refine (dats m 0 c).arrAt_eq_of_covers 2 _ (by decide +kernel) fun t hf y => ?_
  blk_simp
  rw [after0_2]
  exact total m c t ((flush0_2 t).mp hf) y

/-- The last point of a run copies the sums it has just completed. -/
theorem copied (c : Dev nD) (t : Fin cfg0.N) (ht : t.val % 2 = 1) (y : S1024x1024.Idx) :
    (outsAt0 m c t.val t.isLt).2 y = (outsAt0 m c t.val t.isLt).1 y := by
  rw [outsAt0_B m c t (by omega) ht]; frame_out
  pointwise [k0_pay3]

/-- The copy after the run. -/
theorem final_copy (c : Dev nD) : (dats m 0 c).arrAt 3 (cfgs 0).N
    = gradAt (m ((c : Thread nD τ).loc main_arg0)) (m ((c : Thread nD τ).loc main_arg1)) := by
  refine (dats m 0 c).arrAt_eq_of_covers 3 _ (by decide +kernel) fun t hf y => ?_
  blk_simp
  rw [after0_3]
  have ht := (flush0_3 t).mp hf
  exact (copied m c t ht y).trans (total m c t ht y)

end Cert.Kernel3Ideal.DwDown

namespace Cert.Reference3Ideal.DwDown

open Cert.Reference3Ideal Cert.Reference3Ideal.Gen

/-- The derivative as the plain text composes it. -/
def text (A : FVec Ideal S4096x4096 .bf16) (B : FVec Ideal S4096x1024 .bf16) : FVec Ideal S4096x1024 .f32 :=
  transpose S4096x1024 [1, 0] (Host.dotGeneral dot_S4096x1024_S4096x4096_S1024x4096_0_0_1_1_n_n none (extf .f32 B bitsLt_bf16_f32) (mulf (maximumf (extf .f32 A bitsLt_bf16_f32) (broadcastInDim S4096x4096 ![] bcast_S_S4096x4096 (constant S_ .f32 0x00000000#32))) (maximumf (extf .f32 A bitsLt_bf16_f32) (broadcastInDim S4096x4096 ![] bcast_S_S4096x4096 (constant S_ .f32 0x00000000#32))))) transposes_S1024x4096_S4096x1024_1_0

theorem text_eq (A : FVec Ideal S4096x4096 .bf16) (B : FVec Ideal S4096x1024 .bf16) :
    text A B = Cert.Kernel3Ideal.DwDown.gradAt A B := by
  funext j
  idx_vars j
  pointwise [text, Cert.Kernel3Ideal.DwDown.gradAt]
  exact Finset.sum_congr rfl fun s _ => mul_comm _ _

end Cert.Reference3Ideal.DwDown

/-- The kernel's results and the plain text's are the same functions of the arguments. -/
theorem Cert.Proof.dw_down : Cert.algebraic_Kernel3Ideal_Reference3Ideal := by
  pair_intro
  · run_from Cert.Kernel3Ideal.Gen.run_main m g
  · run_from Cert.Reference3Ideal.Value.run m' g'
    · rw [Cert.Kernel3Ideal.DwDown.final m c]
      exact Cert.Reference3Ideal.DwDown.text_eq _ _
    · rw [Cert.Kernel3Ideal.DwDown.final_copy m c]
      exact Cert.Reference3Ideal.DwDown.text_eq _ _

end
-- ==== Proof.DwUp.lean ====
/-
  The gradient of the up weight: the normed input, transposed, times the gradient of the hidden values, summed over
  two halves of the rows, in four shards of columns.
-/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.DwUp

open Cert.Kernel4Ideal Cert.Kernel4Ideal.Gen

variable (m : (ℓ : Loc nD τ sig) → Buf (Elt Ideal) ℓ)

/-- The sum over the rows of the value times the incoming gradient, in shards of 1024 columns. -/
def gradAt (A : FVec Ideal S4096x1024 .bf16) (B : FVec Ideal S4096x4096 .bf16) : FVec Ideal S4x1024x1024 .f32 := fun j =>
  ∑ s : Fin 4096, A (ix2 s (j 1)) * B (ix2 s ⟨(j 0).val * 1024 + (j 2).val, by have := (j 0).isLt; have := (j 2).isLt; simp at *; omega⟩)

/-- Every window's block index at every point. -/
theorem idx : ∀ t : Fin cfg0.N, win0_0.index t = ![t.val % 2, 0] ∧ win0_1.index t = ![t.val % 2, t.val / 2]
    ∧ win0_2.index t = ![t.val / 2, 0, 0] ∧ win0_3.index t = ![t.val / 2, 0, 0] :=
  (by decide +kernel : ∀ t : Fin grid0.N, _)

theorem hzero (j) : k0_pay1 (F := Ideal) j = 0 := by pointwise [k0_pay1]

/-- A point adds its own rows' share. -/
theorem hpay (v3 : FVec Ideal S2048x1024 .bf16) (v4 : FVec Ideal S1x1024x1024 .f32) (v6 : FVec Ideal S2048x1024 .bf16) (j : S1x1024x1024.Idx) :
    k0_pay2 (F := Ideal) v3 v4 v6 j = v4 j + ∑ k : Fin 2048, v3 (ix2 k (j 1)) * v6 (ix2 k (j 2)) := by
  pointwise [k0_pay2]

/-- The sum after the last point of a run is the sum over all rows. -/
theorem total (c : Dev nD) (t : Fin cfg0.N) (ht : t.val % 2 = 1) (y : S1x1024x1024.Idx) :
    (outsAt0 m c t.val t.isLt).1 y = gradAt (m ((c : Thread nD τ).loc main_arg0)) (m ((c : Thread nD τ).loc main_arg1))
      (((cfg0.win 2).blk t).view.emb y) := by
  rw [Pipeline.eq_sum_fin_of_reset_step_apply_of_flush (fun n h => (outsAt0 m c n h).1) 2 (fun _ => 0) _
    (fun t h j => by rw [outsAt0_A m c t h (by omega)]; frame_out; rw [hpay, hzero])
    (fun t h j => by rw [outsAt0_B m c t h (by omega)]; frame_out; rw [hpay]) t ht y, zero_add]
  unfold gradAt
  refine Fin.sum_mul_add_congr fun s k hl => ?_
  idx_vars y
  blk_point [iblk, V, idx t, idx ⟨_, Pipeline.run_point_lt_of_flush t ht s⟩]

/-- The array of sums after the run. -/
theorem final (c : Dev nD) : (dats m 0 c).arrAt 2 (cfgs 0).N
    = gradAt (m ((c : Thread nD τ).loc main_arg0)) (m ((c : Thread nD τ).loc main_arg1)) := by
  refine (dats m 0 c).arrAt_eq_of_covers 2 _ (by decide +kernel) fun t hf y => ?_
  blk_simp
  rw [after0_2]
  exact total m c t ((flush0_2 t).mp hf) y

/-- The last point of a run copies the sums it has just completed. -/
theorem copied (c : Dev nD) (t : Fin cfg0.N) (ht : t.val % 2 = 1) (y : S1x1024x1024.Idx) :
    (outsAt0 m c t.val t.isLt).2 y = (outsAt0 m c t.val t.isLt).1 y := by
  rw [outsAt0_B m c t (by omega) ht]; frame_out
  pointwise [k0_pay3]

/-- The copy after the run. -/
theorem final_copy (c : Dev nD) : (dats m 0 c).arrAt 3 (cfgs 0).N
    = gradAt (m ((c : Thread nD τ).loc main_arg0)) (m ((c : Thread nD τ).loc main_arg1)) := by
  refine (dats m 0 c).arrAt_eq_of_covers 3 _ (by decide +kernel) fun t hf y => ?_
  blk_simp
  rw [after0_3]
  have ht := (flush0_3 t).mp hf
  exact (copied m c t ht y).trans (total m c t ht y)

end Cert.Kernel4Ideal.DwUp

namespace Cert.Reference4Ideal.DwUp

open Cert.Reference4Ideal Cert.Reference4Ideal.Gen

/-- The derivative as the plain text composes it. -/
def text (A : FVec Ideal S4096x1024 .bf16) (B : FVec Ideal S4096x4096 .bf16) : FVec Ideal S4x1024x1024 .f32 :=
  transpose S4x1024x1024 [1, 0, 2] (shapeCast _ (transpose S1024x4096 [1, 0] (Host.dotGeneral dot_S4096x4096_S4096x1024_S4096x1024_0_0_1_1_n_n none (extf .f32 B bitsLt_bf16_f32) (extf .f32 A bitsLt_bf16_f32)) transposes_S4096x1024_S1024x4096_1_0) shapeCasts_S1024x4096_S1024x4x1024) transposes_S1024x4x1024_S4x1024x1024_1_0_2

theorem text_eq (A : FVec Ideal S4096x1024 .bf16) (B : FVec Ideal S4096x4096 .bf16) :
    text A B = Cert.Kernel4Ideal.DwUp.gradAt A B := by
  funext j
  idx_vars j
  pointwise [text, Cert.Kernel4Ideal.DwUp.gradAt]
  exact Finset.sum_congr rfl fun s _ => mul_comm _ _

end Cert.Reference4Ideal.DwUp

/-- The kernel's results and the plain text's are the same functions of the arguments. -/
theorem Cert.Proof.dw_up : Cert.algebraic_Kernel4Ideal_Reference4Ideal := by
  pair_intro
  · run_from Cert.Kernel4Ideal.Gen.run_main m g
  · run_from Cert.Reference4Ideal.Value.run m' g'
    · rw [Cert.Kernel4Ideal.DwUp.final m c]
      exact Cert.Reference4Ideal.DwUp.text_eq _ _
    · rw [Cert.Kernel4Ideal.DwUp.final_copy m c]
      exact Cert.Reference4Ideal.DwUp.text_eq _ _

end
-- ==== Proof.DwO.lean ====
/-
  The gradient of the output weight: the mixed values, transposed, times the incoming gradient, summed over two
  halves of the rows.
-/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.DwO

open Cert.Kernel5Ideal Cert.Kernel5Ideal.Gen

variable (m : (ℓ : Loc nD τ sig) → Buf (Elt Ideal) ℓ)

/-- The sum over the rows of the value times the incoming gradient. -/
def gradAt (A : FVec Ideal S4096x1024 .bf16) (B : FVec Ideal S4096x1024 .bf16) : FVec Ideal S1024x1024 .f32 := fun j =>
  ∑ s : Fin 4096, A (ix2 s (j 0)) * B (ix2 s (j 1))

/-- Every window's block index at every point. -/
theorem idx : ∀ t : Fin cfg0.N, win0_0.index t = ![t.val % 2, 0] ∧ win0_1.index t = ![t.val % 2, 0]
    ∧ win0_2.index t = ![0, 0] ∧ win0_3.index t = ![0, 0] :=
  (by decide +kernel : ∀ t : Fin grid0.N, _)

theorem hzero (j) : k0_pay1 (F := Ideal) j = 0 := by pointwise [k0_pay1]

/-- A point adds its own rows' share. -/
theorem hpay (v3 : FVec Ideal S2048x1024 .bf16) (v4 : FVec Ideal S1024x1024 .f32) (v6 : FVec Ideal S2048x1024 .bf16) (j : S1024x1024.Idx) :
    k0_pay2 (F := Ideal) v3 v4 v6 j = v4 j + ∑ k : Fin 2048, v3 (ix2 k (j 0)) * v6 (ix2 k (j 1)) := by
  pointwise [k0_pay2]

/-- The sum after the last point of a run is the sum over all rows. -/
theorem total (c : Dev nD) (t : Fin cfg0.N) (ht : t.val % 2 = 1) (y : S1024x1024.Idx) :
    (outsAt0 m c t.val t.isLt).1 y = gradAt (m ((c : Thread nD τ).loc main_arg0)) (m ((c : Thread nD τ).loc main_arg1))
      (((cfg0.win 2).blk t).view.emb y) := by
  rw [Pipeline.eq_sum_fin_of_reset_step_apply_of_flush (fun n h => (outsAt0 m c n h).1) 2 (fun _ => 0) _
    (fun t h j => by rw [outsAt0_A m c t h (by omega)]; frame_out; rw [hpay, hzero])
    (fun t h j => by rw [outsAt0_B m c t h (by omega)]; frame_out; rw [hpay]) t ht y, zero_add]
  unfold gradAt
  refine Fin.sum_mul_add_congr fun s k hl => ?_
  idx_vars y
  blk_point [iblk, V, idx t, idx ⟨_, Pipeline.run_point_lt_of_flush t ht s⟩]

/-- The array of sums after the run. -/
theorem final (c : Dev nD) : (dats m 0 c).arrAt 2 (cfgs 0).N
    = gradAt (m ((c : Thread nD τ).loc main_arg0)) (m ((c : Thread nD τ).loc main_arg1)) := by
  refine (dats m 0 c).arrAt_eq_of_covers 2 _ (by decide +kernel) fun t hf y => ?_
  blk_simp
  rw [after0_2]
  exact total m c t ((flush0_2 t).mp hf) y

/-- The last point of a run copies the sums it has just completed. -/
theorem copied (c : Dev nD) (t : Fin cfg0.N) (ht : t.val % 2 = 1) (y : S1024x1024.Idx) :
    (outsAt0 m c t.val t.isLt).2 y = (outsAt0 m c t.val t.isLt).1 y := by
  rw [outsAt0_B m c t (by omega) ht]; frame_out
  pointwise [k0_pay3]

/-- The copy after the run. -/
theorem final_copy (c : Dev nD) : (dats m 0 c).arrAt 3 (cfgs 0).N
    = gradAt (m ((c : Thread nD τ).loc main_arg0)) (m ((c : Thread nD τ).loc main_arg1)) := by
  refine (dats m 0 c).arrAt_eq_of_covers 3 _ (by decide +kernel) fun t hf y => ?_
  blk_simp
  rw [after0_3]
  have ht := (flush0_3 t).mp hf
  exact (copied m c t ht y).trans (total m c t ht y)

end Cert.Kernel5Ideal.DwO

namespace Cert.Reference5Ideal.DwO

open Cert.Reference5Ideal Cert.Reference5Ideal.Gen

/-- The derivative as the plain text composes it. -/
def text (A : FVec Ideal S4096x1024 .bf16) (B : FVec Ideal S4096x1024 .bf16) : FVec Ideal S1024x1024 .f32 :=
  transpose S1024x1024 [1, 0] (Host.dotGeneral dot_S4096x1024_S4096x1024_S1024x1024_0_0_1_1_n_n none (extf .f32 B bitsLt_bf16_f32) (extf .f32 A bitsLt_bf16_f32)) transposes_S1024x1024_S1024x1024_1_0

theorem text_eq (A : FVec Ideal S4096x1024 .bf16) (B : FVec Ideal S4096x1024 .bf16) :
    text A B = Cert.Kernel5Ideal.DwO.gradAt A B := by
  funext j
  idx_vars j
  pointwise [text, Cert.Kernel5Ideal.DwO.gradAt]
  exact Finset.sum_congr rfl fun s _ => mul_comm _ _

end Cert.Reference5Ideal.DwO

/-- The kernel's results and the plain text's are the same functions of the arguments. -/
theorem Cert.Proof.dw_o : Cert.algebraic_Kernel5Ideal_Reference5Ideal := by
  pair_intro
  · run_from Cert.Kernel5Ideal.Gen.run_main m g
  · run_from Cert.Reference5Ideal.Value.run m' g'
    · rw [Cert.Kernel5Ideal.DwO.final m c]
      exact Cert.Reference5Ideal.DwO.text_eq _ _
    · rw [Cert.Kernel5Ideal.DwO.final_copy m c]
      exact Cert.Reference5Ideal.DwO.text_eq _ _

end
-- ==== Proof.DwQkv.lean ====
/-
  The gradient of the transposed weight of the queries (and of the keys and of the values, by the same call): the
  gradient of the projection, transposed, times the normed input, summed over two halves of the rows.
-/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.DwQkv

open Cert.Kernel6Ideal Cert.Kernel6Ideal.Gen

variable (m : (ℓ : Loc nD τ sig) → Buf (Elt Ideal) ℓ)

/-- The sum over the rows of the incoming gradient times the value. -/
def gradAt (A : FVec Ideal S4096x512 .f32) (B : FVec Ideal S4096x1024 .bf16) : FVec Ideal S512x1024 .f32 := fun j =>
  ∑ s : Fin 4096, A (ix2 s (j 0)) * B (ix2 s (j 1))

/-- Every window's block index at every point. -/
theorem idx : ∀ t : Fin cfg0.N, win0_0.index t = ![t.val % 2, 0] ∧ win0_1.index t = ![t.val % 2, 0]
    ∧ win0_2.index t = ![0, 0] :=
  (by decide +kernel : ∀ t : Fin grid0.N, _)

theorem hzero (j) : k0_pay1 (F := Ideal) j = 0 := by pointwise [k0_pay1]

/-- A point adds its own rows' share. -/
theorem hpay (v3 : FVec Ideal S2048x512 .f32) (v4 : FVec Ideal S512x1024 .f32) (v6 : FVec Ideal S2048x1024 .bf16) (j : S512x1024.Idx) :
    k0_pay2 (F := Ideal) v3 v4 v6 j = v4 j + ∑ k : Fin 2048, v3 (ix2 k (j 0)) * v6 (ix2 k (j 1)) := by
  pointwise [k0_pay2]

/-- The sum after the last point of a run is the sum over all rows. -/
theorem total (c : Dev nD) (t : Fin cfg0.N) (ht : t.val % 2 = 1) (y : S512x1024.Idx) :
    (outsAt0 m c t.val t.isLt) y = gradAt (m ((c : Thread nD τ).loc main_arg0)) (m ((c : Thread nD τ).loc main_arg1))
      (((cfg0.win 2).blk t).view.emb y) := by
  rw [Pipeline.eq_sum_fin_of_reset_step_apply_of_flush (fun n h => (outsAt0 m c n h)) 2 (fun _ => 0) _
    (fun t h j => by rw [outsAt0_A m c t h]; frame_out; rw [hpay, hzero])
    (fun t h j => by rw [outsAt0_B m c t h]; frame_out; rw [hpay]) t ht y, zero_add]
  unfold gradAt
  refine Fin.sum_mul_add_congr fun s k hl => ?_
  idx_vars y
  blk_point [iblk, V, idx t, idx ⟨_, Pipeline.run_point_lt_of_flush t ht s⟩]

/-- The array of sums after the run. -/
theorem final (c : Dev nD) : (dats m 0 c).arrAt 2 (cfgs 0).N
    = gradAt (m ((c : Thread nD τ).loc main_arg0)) (m ((c : Thread nD τ).loc main_arg1)) := by
  refine (dats m 0 c).arrAt_eq_of_covers 2 _ (by decide +kernel) fun t hf y => ?_
  blk_simp
  rw [after0_2]
  exact total m c t ((flush0_2 t).mp hf) y

end Cert.Kernel6Ideal.DwQkv

namespace Cert.Reference6Ideal.DwQkv

open Cert.Reference6Ideal Cert.Reference6Ideal.Gen

/-- The derivative as the plain text composes it. -/
def text (A : FVec Ideal S4096x512 .f32) (B : FVec Ideal S4096x1024 .bf16) : FVec Ideal S512x1024 .f32 :=
  Host.dotGeneral dot_S4096x512_S4096x1024_S512x1024_0_0_1_1_n_n none A (extf .f32 B bitsLt_bf16_f32)

theorem text_eq (A : FVec Ideal S4096x512 .f32) (B : FVec Ideal S4096x1024 .bf16) :
    text A B = Cert.Kernel6Ideal.DwQkv.gradAt A B := by
  funext j
  idx_vars j
  pointwise [text, Cert.Kernel6Ideal.DwQkv.gradAt]

end Cert.Reference6Ideal.DwQkv

/-- The kernel's results and the plain text's are the same functions of the arguments. -/
theorem Cert.Proof.dw_qkv : Cert.algebraic_Kernel6Ideal_Reference6Ideal := by
  pair_intro
  · run_from Cert.Kernel6Ideal.Gen.run_main m g
  · run_from Cert.Reference6Ideal.Value.run m' g'
    rw [Cert.Kernel6Ideal.DwQkv.final m c]
    exact Cert.Reference6Ideal.DwQkv.text_eq _ _

end
-- ==== Proof.DwSmall.lean ====
/-
  The gradient of the transposed weight of the narrow projections: the gradient of the projection, transposed, times
  the normed input, summed over two halves of the rows.
-/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.DwSmall

open Cert.Kernel7Ideal Cert.Kernel7Ideal.Gen

variable (m : (ℓ : Loc nD τ sig) → Buf (Elt Ideal) ℓ)

/-- The sum over the rows of the incoming gradient times the value. -/
def gradAt (A : FVec Ideal S4096x1024 .bf16) (B : FVec Ideal S4096x1024 .bf16) : FVec Ideal S1024x1024 .f32 := fun j =>
  ∑ s : Fin 4096, A (ix2 s (j 0)) * B (ix2 s (j 1))

/-- Every window's block index at every point. -/
theorem idx : ∀ t : Fin cfg0.N, win0_0.index t = ![t.val % 2, 0] ∧ win0_1.index t = ![t.val % 2, 0]
    ∧ win0_2.index t = ![0, 0] :=
  (by decide +kernel : ∀ t : Fin grid0.N, _)

theorem hzero (j) : k0_pay1 (F := Ideal) j = 0 := by pointwise [k0_pay1]

/-- A point adds its own rows' share. -/
theorem hpay (v3 : FVec Ideal S2048x1024 .bf16) (v4 : FVec Ideal S1024x1024 .f32) (v6 : FVec Ideal S2048x1024 .bf16) (j : S1024x1024.Idx) :
    k0_pay2 (F := Ideal) v3 v4 v6 j = v4 j + ∑ k : Fin 2048, v3 (ix2 k (j 0)) * v6 (ix2 k (j 1)) := by
  pointwise [k0_pay2]

/-- The sum after the last point of a run is the sum over all rows. -/
theorem total (c : Dev nD) (t : Fin cfg0.N) (ht : t.val % 2 = 1) (y : S1024x1024.Idx) :
    (outsAt0 m c t.val t.isLt) y = gradAt (m ((c : Thread nD τ).loc main_arg0)) (m ((c : Thread nD τ).loc main_arg1))
      (((cfg0.win 2).blk t).view.emb y) := by
  rw [Pipeline.eq_sum_fin_of_reset_step_apply_of_flush (fun n h => (outsAt0 m c n h)) 2 (fun _ => 0) _
    (fun t h j => by rw [outsAt0_A m c t h]; frame_out; rw [hpay, hzero])
    (fun t h j => by rw [outsAt0_B m c t h]; frame_out; rw [hpay]) t ht y, zero_add]
  unfold gradAt
  refine Fin.sum_mul_add_congr fun s k hl => ?_
  idx_vars y
  blk_point [iblk, V, idx t, idx ⟨_, Pipeline.run_point_lt_of_flush t ht s⟩]

/-- The array of sums after the run. -/
theorem final (c : Dev nD) : (dats m 0 c).arrAt 2 (cfgs 0).N
    = gradAt (m ((c : Thread nD τ).loc main_arg0)) (m ((c : Thread nD τ).loc main_arg1)) := by
  refine (dats m 0 c).arrAt_eq_of_covers 2 _ (by decide +kernel) fun t hf y => ?_
  blk_simp
  rw [after0_2]
  exact total m c t ((flush0_2 t).mp hf) y

end Cert.Kernel7Ideal.DwSmall

namespace Cert.Reference7Ideal.DwSmall

open Cert.Reference7Ideal Cert.Reference7Ideal.Gen

/-- The derivative as the plain text composes it. -/
def text (A : FVec Ideal S4096x1024 .bf16) (B : FVec Ideal S4096x1024 .bf16) : FVec Ideal S1024x1024 .f32 :=
  Host.dotGeneral dot_S4096x1024_S4096x1024_S1024x1024_0_0_1_1_n_n none (extf .f32 A bitsLt_bf16_f32) (extf .f32 B bitsLt_bf16_f32)

theorem text_eq (A : FVec Ideal S4096x1024 .bf16) (B : FVec Ideal S4096x1024 .bf16) :
    text A B = Cert.Kernel7Ideal.DwSmall.gradAt A B := by
  funext j
  idx_vars j
  pointwise [text, Cert.Kernel7Ideal.DwSmall.gradAt]

end Cert.Reference7Ideal.DwSmall

/-- The kernel's results and the plain text's are the same functions of the arguments. -/
theorem Cert.Proof.dw_small : Cert.algebraic_Kernel7Ideal_Reference7Ideal := by
  pair_intro
  · run_from Cert.Kernel7Ideal.Gen.run_main m g
  · run_from Cert.Reference7Ideal.Value.run m' g'
    rw [Cert.Kernel7Ideal.DwSmall.final m c]
    exact Cert.Reference7Ideal.DwSmall.text_eq _ _

end
-- ==== Proof.MlpUp.lean ====
/-
  The up projection: what the tiled kernel leaves in its result array is the plain product.
-/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.MlpUp

open Cert.Kernel8Ideal Cert.Kernel8Ideal.Gen

variable (m : (ℓ : Loc nD τ sig) → Buf (Elt Ideal) ℓ)

/-- The plain product. -/
def productAt (A : FVec Ideal S4096x1024 .bf16) (B : FVec Ideal S1024x4096 .bf16) : FVec Ideal S4096x4096 .bf16 := fun j =>
  ∑ k : Fin 1024, A (ix2 (j 0) k) * B (ix2 k (j 1))

/-- Every window's block index at every point. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- What a point stores at an index of its block is the plain value at the index's place in the array. -/
theorem point (c : Dev nD) (t : Fin cfg0.N) (y : S1024x2048.Idx) :
    k0_pay1 (F := Ideal) (iblk m c 0 t) (iblk m c 1 t) y
      = productAt (m ((c : Thread nD τ).loc main_arg0)) (m ((c : Thread nD τ).loc main_arg1)) (((cfg0.win 2).blk t).view.emb y) := by
  pointwise [k0_pay1, productAt]
  blk_point [iblk, V, idx t]

/-- The result array after the run. -/
theorem final (c : Dev nD) : (dats m 0 c).arrAt 2 (cfgs 0).N
    = productAt (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.MlpUp

namespace Cert.Reference8Ideal.MlpUp

open Cert.Reference8Ideal Cert.Reference8Ideal.Gen

/-- The product as the plain text composes it. -/
def text (A : FVec Ideal S4096x1024 .bf16) (B : FVec Ideal S1024x4096 .bf16) : FVec Ideal S4096x4096 .bf16 :=
  truncf .bf16 (Host.dotGeneral dot_S4096x1024_S1024x4096_S4096x4096_1_0_0_1_n_n none (extf .f32 A bitsLt_bf16_f32) (extf .f32 B bitsLt_bf16_f32)) bitsLt_bf16_f32

theorem text_eq (A : FVec Ideal S4096x1024 .bf16) (B : FVec Ideal S1024x4096 .bf16) :
    text A B = Cert.Kernel8Ideal.MlpUp.productAt A B := by
  funext j
  idx_vars j
  pointwise [text, Cert.Kernel8Ideal.MlpUp.productAt]

end Cert.Reference8Ideal.MlpUp

/-- The kernel's result and the plain text's are one function of the arguments. -/
theorem Cert.Proof.mlp_up : Cert.algebraic_Kernel8Ideal_Reference8Ideal := by
  pair_intro
  · run_from Cert.Kernel8Ideal.Gen.run_main m g
  · run_from Cert.Reference8Ideal.Value.run m' g'
    rw [Cert.Kernel8Ideal.MlpUp.final m c]
    exact Cert.Reference8Ideal.MlpUp.text_eq _ _

end
-- ==== Proof.KernelIdealFrame.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The frame of the attention backward call (`KernelIdeal`).  Nothing is said here of what the three outputs
    hold: the body is run with its output blocks at arbitrary contents and gives them back at some contents.
    The value run of the idealised program is in its own module. -/

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's one test: the tile of keys is the first of its head pair. -/
abbrev FirstTile (i : grid0.Coords) : Prop :=
  (Scalar.cmpi .ne (Scalar.extui (Scalar.cmpi .eq (BitVec.ofNat 32 (i 1).val) 0#32)) 0#32) = 1#1

/-- What the body holds before and after it ran: the seven inputs at their contents, the three outputs at some. -/
def Held (c : Dev nD) (arg2 : Memref sig .tc .vmem S4096x256 .bf16) (arg3 : Memref sig .tc .vmem S8x256x512 .bf16) (arg4 : Memref sig .tc .vmem S512x256 .bf16) (arg5 : Memref sig .tc .vmem S512x128 .bf16) (arg6 : Memref sig .tc .vmem S4096x128 .bf16) (arg7 : Memref sig .tc .vmem S8x128x512 .bf16) (arg8 : Memref sig .tc .vmem S1x4096x128 .f32) (arg9 : Memref sig .tc .vmem S4096x256 .f32) (arg10 : Memref sig .tc .vmem S512x256 .bf16) (arg11 : Memref sig .tc .vmem S512x128 .bf16)
    (x0 : Vec F S4096x256 .bf16) (x1 : Vec F S8x256x512 .bf16) (x2 : Vec F S512x256 .bf16) (x3 : Vec F S512x128 .bf16) (x4 : Vec F S4096x128 .bf16) (x5 : Vec F S8x128x512 .bf16) (x6 : Vec F S1x4096x128 .f32) : sProp 𝕄 :=
  iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ (∃ d, owns (c : Thread nD τ) arg9 fullShare d)
      ∗ (∃ d, owns (c : Thread nD τ) arg10 fullShare d)
      ∗ (∃ d, owns (c : Thread nD τ) arg11 fullShare d))

set_option maxHeartbeats 4000000 in
/-- The body, on whole staging buffers: it ends, with its inputs as they were.  Both outcomes of its test are run
    by the same steps. -/
theorem body_held (c : Dev nD) (i : grid0.Coords) (arg2 : Memref sig .tc .vmem S4096x256 .bf16) (harg2 : arg2.IsWhole) (arg3 : Memref sig .tc .vmem S8x256x512 .bf16) (harg3 : arg3.IsWhole) (arg4 : Memref sig .tc .vmem S512x256 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1x4096x128 .f32) (harg8 : arg8.IsWhole) (arg9 : Memref sig .tc .vmem S4096x256 .f32) (harg9 : arg9.IsWhole) (arg10 : Memref sig .tc .vmem S512x256 .bf16) (harg10 : arg10.IsWhole) (arg11 : Memref sig .tc .vmem S512x128 .bf16) (harg11 : arg11.IsWhole)
    (x0 : Vec F S4096x256 .bf16) (x1 : Vec F S8x256x512 .bf16) (x2 : Vec F S512x256 .bf16) (x3 : Vec F S512x128 .bf16) (x4 : Vec F S4096x128 .bf16) (x5 : Vec F S8x128x512 .bf16) (x6 : Vec F S1x4096x128 .f32) (E : Set ℕ) (K : PUnit → sProp 𝕄) :
    iprop(Held c arg2 arg3 arg4 arg5 arg6 arg7 arg8 arg9 arg10 arg11 x0 x1 x2 x3 x4 x5 x6 ∗ (Held c arg2 arg3 arg4 arg5 arg6 arg7 arg8 arg9 arg10 arg11 x0 x1 x2 x3 x4 x5 x6 -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11) K := by
  unfold Held
  simp only [cc0_mla_bwd_eq_skeleton]; unfold cc0_mla_bwd_skel
  simp only [k0_part9_eq_skeleton, k0_part10_eq_skeleton, k0_part11_eq_skeleton]
  unfold owns
  by_cases hc : FirstTile i
  all_goals
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

/-- The three outputs are the windows nothing is said of. -/
def outputs : Fin 10 → Bool := fun w => w.val == 7 || w.val == 8 || w.val == 9

/-- The launch's data: arrays as the region finds them, each input block left in place, outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

/-- What the launch hands the body at a point, -/
def given (c : Dev nD) (t : Fin cfg0.N) : sProp 𝕄 :=
  iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare d)
      ∗ (∃ d, owns (c : Thread nD τ) (win0_8.stage (cfg0.slots t 8)) fullShare d)
      ∗ (∃ d, owns (c : Thread nD τ) (win0_9.stage (cfg0.slots t 9)) fullShare d))

/-- and what it takes back. -/
def returned (c : Dev nD) (t : Fin cfg0.N) : sProp 𝕄 :=
  iprop((dats m 0 c).Φ t.succ ∗ (dats m 0 c).owesAt () t.succ
      ∗ owns (c : Thread nD τ) (win0_0.stage (cfg0.slots t 0)) fullShare ((dats m 0 c).after 0 t)
      ∗ owns (c : Thread nD τ) (win0_1.stage (cfg0.slots t 1)) fullShare ((dats m 0 c).after 1 t)
      ∗ owns (c : Thread nD τ) (win0_2.stage (cfg0.slots t 2)) fullShare ((dats m 0 c).after 2 t)
      ∗ owns (c : Thread nD τ) (win0_3.stage (cfg0.slots t 3)) fullShare ((dats m 0 c).after 3 t)
      ∗ owns (c : Thread nD τ) (win0_4.stage (cfg0.slots t 4)) fullShare ((dats m 0 c).after 4 t)
      ∗ owns (c : Thread nD τ) (win0_5.stage (cfg0.slots t 5)) fullShare ((dats m 0 c).after 5 t)
      ∗ owns (c : Thread nD τ) (win0_6.stage (cfg0.slots t 6)) fullShare ((dats m 0 c).after 6 t)
      ∗ (∃ d, owns (c : Thread nD τ) (win0_7.stage (cfg0.slots t 7)) fullShare d)
      ∗ (∃ d, owns (c : Thread nD τ) (win0_8.stage (cfg0.slots t 8)) fullShare d)
      ∗ (∃ d, owns (c : Thread nD τ) (win0_9.stage (cfg0.slots t 9)) fullShare d))

set_option maxHeartbeats 1600000 in
theorem body_point (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_held c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  unfold Held
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ outputs := fun t => by
  rw [bigSep_W0, bigSep_W0, body_row]
  exact triple_restated (body_point m c t) rfl .rfl fun _ => .rfl

-- the launch theorem's implicit arguments are found by unfolding plain definitions in a type
set_option backward.isDefEq.respectTransparency.types false in
/-- The launch ends with its input arrays unchanged and every counter at zero. -/
theorem launched : θ_run defs (onTc (τ := τ) (main (F := F))) (s₀ m ρ) (fun r =>
    (Pipeline.RDat.FramePost (cfgs 0) (fun c => (dats m 0 c).toRForget outputs) (V m)) r ∧ r.2.sem = fun _ => 0) :=
  Pipeline.θ_run_frame_forget (Q' := _) cfgs (dats m) (0 : Fin 1) launch0 defs₀ Variants.none outputs m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- A run that ends with the input arrays as the region found them ends with the arguments as launched. -/
theorem arguments_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.RDat.FramePost.arr_in h c 0 rfl).trans ((hA c 0).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 4 rfl).trans ((hA c 4).trans (V_main_arg3 m c))⟩) h

/-- The frame: the arguments end unchanged and the machine quiet. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and
    (arguments_of m ρ (fun c => (dats m 0 c).toRForget outputs) (A_eq m)
      ((θ_run defs _ _).mono (fun _ h => h.1) (launched m ρ)))
    ((θ_run defs _ _).mono (fun _ h => h.2) (launched m ρ))

end Cert.KernelIdeal.Bwd

end
-- ==== Proof.Tile.lean ====
module

public import proofs.«01_k».proof.Defs
public import proofs.«01_k».proof.Proof.Gen.KernelIdeal.Skeleton
public import Idealize.ShloMosaic.Lib.Pipeline.ValueKit
public import Idealize.ShloMosaic.Lib.Pointwise
public import Idealize.ShloMosaic.Lib.WordCmp

/-! One tile of keys of the attention backward kernel, by entries: the terms that a row of queries adds to the
    gradients of the keys, of the values and of the queries, and the values of the body's expressions on rows it
    has loaded.  Rows are natural numbers, read modulo the 4096 rows of the arrays. -/

@[expose] public section

set_option maxRecDepth 16384

noncomputable section
open Idealize.ShloMosaic Idealize.ShloMosaic.TcCoe Idealize.SL.Sem
namespace Cert.KernelIdeal.Bwd
open Cert.KernelIdeal Cert.KernelIdeal.Gen

/-- Row `r` of the arrays. -/
def rowN (r : ℕ) : Fin 4096 := ⟨r % 4096, Nat.mod_lt _ (by norm_num)⟩

/-- Row `r` of an array that is laid out as eight transposed blocks of 512 rows. -/
def atT {w : ℕ} (x : FVec Ideal ⟨3, ![8, w, 512]⟩ .bf16) (r : ℕ) (f : Fin w) : EReal :=
  x (ix3 (⟨r / 512 % 8, Nat.mod_lt _ (by norm_num)⟩ : Fin 8) f (⟨r % 512, Nat.mod_lt _ (by norm_num)⟩ : Fin 512))

/-- Column `f` of head `n` of the pair, among the 256 columns of the queries and keys. -/
def colQ (n : Fin 2) (f : Fin 128) : Fin 256 := ⟨128 * n.val + f.val, by omega⟩
/-- Column `e` of head `n`, among the 128 columns of the values. -/
def colV (n : Fin 2) (e : Fin 64) : Fin 128 := ⟨64 * n.val + e.val, by omega⟩
/-- The lane of the row statistics that holds head `n`'s log-sum, -/
def laneL (n : Fin 2) : Fin 128 := ⟨n.val, by omega⟩
/-- and the one that holds its sum of products of output and gradient. -/
def laneD (n : Fin 2) : Fin 128 := ⟨2 + n.val, by omega⟩

/-- The constants of the body. -/
def cL : EReal := (((Real.sqrt 96)⁻¹ * (Real.log 2)⁻¹ : ℝ) : EReal)
def cS : EReal := (((Real.sqrt 96)⁻¹ : ℝ) : EReal)
def cN : EReal := ((Real.log 2 : ℝ) : EReal)

variable (x0 : FVec Ideal S4096x256 .bf16) (x1 : FVec Ideal S8x256x512 .bf16) (x2 : FVec Ideal S512x256 .bf16)
  (x3 : FVec Ideal S512x128 .bf16) (x4 : FVec Ideal S4096x128 .bf16) (x5 : FVec Ideal S8x128x512 .bf16)
  (x6 : FVec Ideal S1x4096x128 .f32)

/-- The score of row `r` against key `c` of the tile, in powers of two. -/
def score (n : Fin 2) (r : ℕ) (c : Fin 512) : EReal :=
  ∑ f : Fin 128, x0 (ix2 (rowN r) (colQ n f)) * cL * x2 (ix2 c (colQ n f))

/-- The weight of key `512 * j + c` for row `r`: nothing for a later key. -/
def prob (j : ℕ) (n : Fin 2) (r : ℕ) (c : Fin 512) : EReal :=
  Ideal.exp2 ((if 512 * j + c.val ≤ r then score x0 x2 n r c else ⊥) - x6 (ix3 0 (rowN r) (laneL n)))

/-- The gradient of that weight: head `n`'s half of the incoming gradient times the tile's values. -/
def dprob (n : Fin 2) (r : ℕ) (c : Fin 512) : EReal :=
  ∑ l : Fin 128, (if l.val / 64 = n.val then x4 (ix2 (rowN r) l) else 0) * x3 (ix2 c l)

/-- The gradient of the score. -/
def dscore (j : ℕ) (n : Fin 2) (r : ℕ) (c : Fin 512) : EReal :=
  prob x0 x2 x6 j n r c * (dprob x3 x4 n r c - x6 (ix3 0 (rowN r) (laneD n)))

/-- What row `r` adds to the gradient of the tile's values, -/
def termV (j : ℕ) (n : Fin 2) (e : Fin 64) (c : Fin 512) (r : ℕ) : EReal :=
  atT x5 r (colV n e) * prob x0 x2 x6 j n r c

/-- to the gradient of the tile's keys, -/
def termK (j : ℕ) (n : Fin 2) (f : Fin 128) (c : Fin 512) (r : ℕ) : EReal :=
  atT x1 r (colQ n f) * cL * dscore x0 x2 x3 x4 x6 j n r c

/-- and what the tile adds to the gradient of row `r` of the queries. -/
def termQ (j : ℕ) (n : Fin 2) (r : ℕ) (f : Fin 128) : EReal :=
  (∑ c : Fin 512, dscore x0 x2 x3 x4 x6 j n r c * x2 (ix2 c (colQ n f))) * cS

/-- The head and the column within it of one of the 256 columns. -/
def headQ (l : Fin 256) : Fin 2 := ⟨l.val / 128, by omega⟩
def inQ (l : Fin 256) : Fin 128 := ⟨l.val % 128, by omega⟩

/-- A sum over 1024 rows is one over their two halves. -/
theorem two_rows (g : ℕ → EReal) (R : ℕ) :
    ∑ k : Fin 1024, g (R + k.val) = ∑ k : Fin 512, g (R + k.val) + ∑ k : Fin 512, g (R + (512 + k.val)) :=
  Fin.sum_univ_add (a := 512) (b := 512) fun k : Fin (512 + 512) => g (R + k.val)

/-- The comparison of two counters on the diagonal tile is the comparison of key and row. -/
theorem diag_le (j b : ℕ) (k c : Fin 512) (hj : j = b) (x y : EReal) :
    (if 512 * j + c.val ≤ 512 * b + k.val then x else y)
      = Scalar.select (IntOp.cmpi .sle (BitVec.ofNat 32 c.val) (BitVec.ofNat 32 k.val)) x y := by
  have h : IntOp.cmpi .sle (BitVec.ofNat 32 c.val) (BitVec.ofNat 32 k.val) = if c.val ≤ k.val then 1#1 else 0#1 := by
    rw [WordCmp.cmpi_sle_of_lt (by simp only [BitVec.toNat_ofNat]; omega) (by simp only [BitVec.toNat_ofNat]; omega),
      BitVec.toNat_ofNat, BitVec.toNat_ofNat, Nat.mod_eq_of_lt (by omega), Nat.mod_eq_of_lt (by omega)]
    by_cases hc : c.val ≤ k.val <;> simp [hc]
  rw [h]
  by_cases hc : c.val ≤ k.val
  · rw [if_pos hc, if_pos (by omega)]; rfl
  · rw [if_neg hc, if_neg (by omega)]; rfl

theorem narrow_S (st : FVec Ideal S1x512x128 .f32) (k : Fin 512) (l : Fin 128) : k0_pay16 (F := Ideal) st (ix2 k l) = st (ix3 0 k l) := by
  pointwise [k0_pay16]

theorem diag_S (st : FVec Ideal S1x512x128 .f32) (k : Fin 512) (l : Fin 128) : k0_pay96 (F := Ideal) st (ix2 k l) = st (ix3 0 k l) := by
  pointwise [k0_pay96]

theorem colQ0 (f : Fin 128) : colQ 0 f = ⟨f.val, by omega⟩ := Fin.ext (by simp [colQ])
theorem colV0 (f : Fin 64) : colV 0 f = ⟨f.val, by omega⟩ := Fin.ext (by simp [colV])
theorem select_slt (l : Fin 128) (a : EReal) :
    Scalar.select (IntOp.cmpi .slt (BitVec.ofNat 32 l.val) 64#32) a 0 = if l.val / 64 = (0 : Fin 2).val then a else 0 := by
  have h : ∀ l : Fin 128, IntOp.cmpi .slt (BitVec.ofNat 32 l.val) 64#32 = if l.val / 64 = (0 : Fin 2).val then 1#1 else 0#1 := by decide +kernel
  rw [h]; split <;> rfl
theorem select_sge (l : Fin 128) (a : EReal) :
    Scalar.select (IntOp.cmpi .sge (BitVec.ofNat 32 l.val) 64#32) a 0 = if l.val / 64 = (1 : Fin 2).val then a else 0 := by
  have h : ∀ l : Fin 128, IntOp.cmpi .sge (BitVec.ofNat 32 l.val) 64#32 = if l.val / 64 = (1 : Fin 2).val then 1#1 else 0#1 := by decide +kernel
  rw [h]; split <;> rfl

section
variable (j b : ℕ) (q : FVec Ideal S512x256 .bf16) (qt : FVec Ideal S1x256x512 .bf16) (d : FVec Ideal S512x128 .bf16) (dt : FVec Ideal S1x128x512 .bf16) (st : FVec Ideal S512x128 .f32)

theorem narrow_p0 (hj : j < b) (hq : ∀ (k : Fin 512) (f : Fin 256), q (ix2 k f) = x0 (ix2 (rowN (512 * b + k.val)) f)) (hst : ∀ (k : Fin 512) (l : Fin 128), st (ix2 k l) = x6 (ix3 0 (rowN (512 * b + k.val)) l)) (k : Fin 512) (c : Fin 512) :
    k0_pay17 (F := Ideal) (k0_pay82 x2) (k0_pay8 q) st (ix2 k c) = prob x0 x2 x6 j 0 (512 * b + k.val) c := by
  have hm : 512 * j + c.val ≤ 512 * b + k.val := by omega
  pointwise [k0_pay17, k0_pay82, k0_pay8, k0_pay7]
  simp only [hq, hst]
  unfold prob score; rw [if_pos hm]
  rfl

theorem narrow_p1 (hj : j < b) (hq : ∀ (k : Fin 512) (f : Fin 256), q (ix2 k f) = x0 (ix2 (rowN (512 * b + k.val)) f)) (hst : ∀ (k : Fin 512) (l : Fin 128), st (ix2 k l) = x6 (ix3 0 (rowN (512 * b + k.val)) l)) (k : Fin 512) (c : Fin 512) :
    k0_pay21 (F := Ideal) (k0_pay83 x2) (k0_pay9 q) st (ix2 k c) = prob x0 x2 x6 j 1 (512 * b + k.val) c := by
  have hm : 512 * j + c.val ≤ 512 * b + k.val := by omega
  pointwise [k0_pay21, k0_pay83, k0_pay9, k0_pay7]
  simp only [hq, hst]
  unfold prob score; rw [if_pos hm]
  rfl

theorem narrow_ds0 (hj : j < b) (hq : ∀ (k : Fin 512) (f : Fin 256), q (ix2 k f) = x0 (ix2 (rowN (512 * b + k.val)) f)) (hst : ∀ (k : Fin 512) (l : Fin 128), st (ix2 k l) = x6 (ix3 0 (rowN (512 * b + k.val)) l)) (hd : ∀ (k : Fin 512) (l : Fin 128), d (ix2 k l) = x4 (ix2 (rowN (512 * b + k.val)) l)) (k : Fin 512) (c : Fin 512) :
    k0_pay18 (F := Ideal) x3 (k0_pay82 x2) (k0_pay8 q) (k0_pay13 d) st (ix2 k c) = dscore x0 x2 x3 x4 x6 j 0 (512 * b + k.val) c := by
  pointwise [k0_pay18, k0_pay13, k0_pay11, k0_pay12]
  simp only [narrow_p0 x0 x2 x6 j b q st hj hq hst, hd, hst]
  unfold dscore dprob
  simp only [select_slt, ite_mul, zero_mul]
  rfl

theorem narrow_ds1 (hj : j < b) (hq : ∀ (k : Fin 512) (f : Fin 256), q (ix2 k f) = x0 (ix2 (rowN (512 * b + k.val)) f)) (hst : ∀ (k : Fin 512) (l : Fin 128), st (ix2 k l) = x6 (ix3 0 (rowN (512 * b + k.val)) l)) (hd : ∀ (k : Fin 512) (l : Fin 128), d (ix2 k l) = x4 (ix2 (rowN (512 * b + k.val)) l)) (k : Fin 512) (c : Fin 512) :
    k0_pay22 (F := Ideal) x3 (k0_pay83 x2) (k0_pay9 q) (k0_pay14 d) st (ix2 k c) = dscore x0 x2 x3 x4 x6 j 1 (512 * b + k.val) c := by
  pointwise [k0_pay22, k0_pay14, k0_pay11, k0_pay12]
  simp only [narrow_p1 x0 x2 x6 j b q st hj hq hst, hd, hst]
  unfold dscore dprob
  simp only [select_sge, ite_mul, zero_mul]
  rfl

theorem narrow_V0 (hj : j < b) (hq : ∀ (k : Fin 512) (f : Fin 256), q (ix2 k f) = x0 (ix2 (rowN (512 * b + k.val)) f)) (hst : ∀ (k : Fin 512) (l : Fin 128), st (ix2 k l) = x6 (ix3 0 (rowN (512 * b + k.val)) l)) (hdt : ∀ (e : Fin 128) (k : Fin 512), dt (ix3 0 e k) = atT x5 (512 * b + k.val) e) (a : FVec Ideal S64x512 .f32) (e : Fin 64) (c : Fin 512) :
    k0_pay19 (F := Ideal) (k0_pay82 x2) a (k0_pay8 q) (k0_pay15 dt) st (ix2 e c) = a (ix2 e c) + ∑ k : Fin 512, termV x0 x2 x5 x6 j 0 e c (512 * b + k.val) := by
  pointwise [k0_pay19, k0_pay15]
  simp only [narrow_p0 x0 x2 x6 j b q st hj hq hst, hdt]
  simp only [termV, termK, colV0, colQ0]; try rfl

theorem narrow_V1 (hj : j < b) (hq : ∀ (k : Fin 512) (f : Fin 256), q (ix2 k f) = x0 (ix2 (rowN (512 * b + k.val)) f)) (hst : ∀ (k : Fin 512) (l : Fin 128), st (ix2 k l) = x6 (ix3 0 (rowN (512 * b + k.val)) l)) (hdt : ∀ (e : Fin 128) (k : Fin 512), dt (ix3 0 e k) = atT x5 (512 * b + k.val) e) (a : FVec Ideal S64x512 .f32) (e : Fin 64) (c : Fin 512) :
    k0_pay23 (F := Ideal) (k0_pay83 x2) a (k0_pay9 q) (k0_pay15 dt) st (ix2 e c) = a (ix2 e c) + ∑ k : Fin 512, termV x0 x2 x5 x6 j 1 e c (512 * b + k.val) := by
  pointwise [k0_pay23, k0_pay15]
  simp only [narrow_p1 x0 x2 x6 j b q st hj hq hst, hdt]
  rfl

theorem narrow_K0 (hj : j < b) (hq : ∀ (k : Fin 512) (f : Fin 256), q (ix2 k f) = x0 (ix2 (rowN (512 * b + k.val)) f)) (hst : ∀ (k : Fin 512) (l : Fin 128), st (ix2 k l) = x6 (ix3 0 (rowN (512 * b + k.val)) l)) (hd : ∀ (k : Fin 512) (l : Fin 128), d (ix2 k l) = x4 (ix2 (rowN (512 * b + k.val)) l)) (hqt : ∀ (f : Fin 256) (k : Fin 512), qt (ix3 0 f k) = atT x1 (512 * b + k.val) f) (a : FVec Ideal S128x512 .f32) (f : Fin 128) (c : Fin 512) :
    k0_pay20 (F := Ideal) x3 (k0_pay82 x2) a (k0_pay8 q) (k0_pay10 qt) (k0_pay13 d) st (ix2 f c) = a (ix2 f c) + ∑ k : Fin 512, termK x0 x1 x2 x3 x4 x6 j 0 f c (512 * b + k.val) := by
  pointwise [k0_pay20, k0_pay10]
  simp only [narrow_ds0 x0 x2 x3 x4 x6 j b q d st hj hq hst hd, hqt]
  simp only [termV, termK, colV0, colQ0]; try rfl

theorem narrow_K1 (hj : j < b) (hq : ∀ (k : Fin 512) (f : Fin 256), q (ix2 k f) = x0 (ix2 (rowN (512 * b + k.val)) f)) (hst : ∀ (k : Fin 512) (l : Fin 128), st (ix2 k l) = x6 (ix3 0 (rowN (512 * b + k.val)) l)) (hd : ∀ (k : Fin 512) (l : Fin 128), d (ix2 k l) = x4 (ix2 (rowN (512 * b + k.val)) l)) (hqt : ∀ (f : Fin 256) (k : Fin 512), qt (ix3 0 f k) = atT x1 (512 * b + k.val) f) (a : FVec Ideal S128x512 .f32) (f : Fin 128) (c : Fin 512) :
    k0_pay24 (F := Ideal) x3 (k0_pay83 x2) a (k0_pay9 q) (k0_pay10 qt) (k0_pay14 d) st (ix2 f c) = a (ix2 f c) + ∑ k : Fin 512, termK x0 x1 x2 x3 x4 x6 j 1 f c (512 * b + k.val) := by
  pointwise [k0_pay24, k0_pay10]
  simp only [narrow_ds1 x0 x2 x3 x4 x6 j b q d st hj hq hst hd, hqt]
  rfl

theorem narrow_Q (hj : j < b) (hq : ∀ (k : Fin 512) (f : Fin 256), q (ix2 k f) = x0 (ix2 (rowN (512 * b + k.val)) f)) (hst : ∀ (k : Fin 512) (l : Fin 128), st (ix2 k l) = x6 (ix3 0 (rowN (512 * b + k.val)) l)) (hd : ∀ (k : Fin 512) (l : Fin 128), d (ix2 k l) = x4 (ix2 (rowN (512 * b + k.val)) l)) (a : FVec Ideal S512x256 .f32) (k : Fin 512) (l : Fin 256) :
    k0_pay25 (F := Ideal) x3 (k0_pay82 x2) (k0_pay83 x2) (k0_pay8 q) (k0_pay9 q) (k0_pay13 d) (k0_pay14 d) st a (ix2 k l) = a (ix2 k l) + termQ x0 x2 x3 x4 x6 j (headQ l) (512 * b + k.val) (inQ l) := by
  pointwise [k0_pay25]
  split_ifs with h h'
  · have hh : headQ l = 0 := Fin.ext (by simp only [headQ]; exact Nat.div_eq_of_lt h)
    have hl : colQ 0 (inQ l) = l := Fin.ext (by simp only [colQ, inQ]; have : (0 : Fin 2).val = 0 := rfl; omega)
    simp only [narrow_ds0 x0 x2 x3 x4 x6 j b q d st hj hq hst hd]
    pointwise [k0_pay82]
    rw [termQ, hh, hl]; rfl
  · have hh : headQ l = 1 := Fin.ext (by simp only [headQ]; have : (1 : Fin 2).val = 1 := rfl; omega)
    have hl : colQ 1 (inQ l) = l := Fin.ext (by simp only [colQ, inQ]; have : (1 : Fin 2).val = 1 := rfl; omega)
    have hm : ∀ h' : 128 + (l.val - 128) < 256, (⟨128 + (l.val - 128), h'⟩ : Fin 256) = l := fun _ => Fin.ext (by simp only; omega)
    simp only [narrow_ds1 x0 x2 x3 x4 x6 j b q d st hj hq hst hd]
    pointwise [k0_pay83]
    simp only [hm]
    rw [termQ, hh, hl]; rfl
  · exact absurd rfl h'
end

section
variable (j b : ℕ) (q : FVec Ideal S512x256 .bf16) (qt : FVec Ideal S1x256x512 .bf16) (d : FVec Ideal S512x128 .bf16) (dt : FVec Ideal S1x128x512 .bf16) (st : FVec Ideal S1x512x128 .f32)

theorem diag_p0 (hj : j = b) (hq : ∀ (k : Fin 512) (f : Fin 256), q (ix2 k f) = x0 (ix2 (rowN (512 * b + k.val)) f)) (hst : ∀ (k : Fin 512) (l : Fin 128), st (ix3 0 k l) = x6 (ix3 0 (rowN (512 * b + k.val)) l)) (k : Fin 512) (c : Fin 512) :
    k0_pay97 (F := Ideal) (k0_pay82 x2) (k0_pay89 q) st (ix2 k c) = prob x0 x2 x6 j 0 (512 * b + k.val) c := by
  have hm := diag_le j b k c hj
  pointwise [k0_pay97, k0_pay82, k0_pay89, k0_pay88, k0_pay96]
  simp only [hq, hst]
  unfold prob score; simp only [← hm]
  rfl

theorem diag_p1 (hj : j = b) (hq : ∀ (k : Fin 512) (f : Fin 256), q (ix2 k f) = x0 (ix2 (rowN (512 * b + k.val)) f)) (hst : ∀ (k : Fin 512) (l : Fin 128), st (ix3 0 k l) = x6 (ix3 0 (rowN (512 * b + k.val)) l)) (k : Fin 512) (c : Fin 512) :
    k0_pay103 (F := Ideal) (k0_pay96 st) (k0_pay102 (F := Ideal) (k0_pay83 x2) (k0_pay90 q)) (iota .tc S512x512 32 [0] iota_S512x512_d0_w32) (ix2 k c) = prob x0 x2 x6 j 1 (512 * b + k.val) c := by
  have hm := diag_le j b k c hj
  pointwise [k0_pay103, k0_pay102, k0_pay83, k0_pay90, k0_pay88, k0_pay96]
  simp only [hq, hst]
  unfold prob score; simp only [← hm]
  rfl

theorem diag_ds0 (hj : j = b) (hq : ∀ (k : Fin 512) (f : Fin 256), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (k : Fin 512) (c : Fin 512) :
    k0_pay98 (F := Ideal) x3 (k0_pay82 x2) (k0_pay89 q) (k0_pay92 d) (k0_pay93 (F := Ideal)) (iota .tc S1x128 32 [1] iota_S1x128_d1_w32) st (ix2 k c) = dscore x0 x2 x3 x4 x6 j 0 (512 * b + k.val) c := by
  pointwise [k0_pay98, k0_pay92, k0_pay93, k0_pay96]
  simp only [diag_p0 x0 x2 x6 j b q st hj hq hst, hd, hst]
  unfold dscore dprob
  simp only [select_slt, ite_mul, zero_mul]
  rfl

theorem diag_ds1 (hj : j = b) (hq : ∀ (k : Fin 512) (f : Fin 256), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (k : Fin 512) (c : Fin 512) :
    k0_pay104 (F := Ideal) x3 (k0_pay94 (F := Ideal) (k0_pay92 d) (k0_pay93 (F := Ideal))) (k0_pay96 st) (k0_pay102 (F := Ideal) (k0_pay83 x2) (k0_pay90 q)) (iota .tc S512x512 32 [0] iota_S512x512_d0_w32) (ix2 k c) = dscore x0 x2 x3 x4 x6 j 1 (512 * b + k.val) c := by
  pointwise [k0_pay104, k0_pay94, k0_pay92, k0_pay93]
  have hS := diag_S st
  simp only [diag_p1 x0 x2 x6 j b q st hj hq hst, hd, hS, hst]
  unfold dscore dprob
  simp only [select_sge, ite_mul, zero_mul]
  rfl

theorem diag_V0 (hj : j = b) (hq : ∀ (k : Fin 512) (f : Fin 256), q (ix2 k f) = x0 (ix2 (rowN (512 * b + k.val)) f)) (hst : ∀ (k : Fin 512) (l : Fin 128), st (ix3 0 k l) = x6 (ix3 0 (rowN (512 * b + k.val)) l)) (hdt : ∀ (e : Fin 128) (k : Fin 512), dt (ix3 0 e k) = atT x5 (512 * b + k.val) e) (a : FVec Ideal S64x512 .f32) (e : Fin 64) (c : Fin 512) :
    k0_pay99 (F := Ideal) (k0_pay82 x2) a (k0_pay89 q) dt st (ix2 e c) = a (ix2 e c) + ∑ k : Fin 512, termV x0 x2 x5 x6 j 0 e c (512 * b + k.val) := by
  pointwise [k0_pay99, k0_pay95]
  simp only [diag_p0 x0 x2 x6 j b q st hj hq hst, hdt]
  simp only [termV, termK, colV0, colQ0]; try rfl

theorem diag_V1 (hj : j = b) (hq : ∀ (k : Fin 512) (f : Fin 256), q (ix2 k f) = x0 (ix2 (rowN (512 * b + k.val)) f)) (hst : ∀ (k : Fin 512) (l : Fin 128), st (ix3 0 k l) = x6 (ix3 0 (rowN (512 * b + k.val)) l)) (hdt : ∀ (e : Fin 128) (k : Fin 512), dt (ix3 0 e k) = atT x5 (512 * b + k.val) e) (a : FVec Ideal S64x512 .f32) (e : Fin 64) (c : Fin 512) :
    k0_pay105 (F := Ideal) a (k0_pay95 dt) (k0_pay96 st) (k0_pay102 (F := Ideal) (k0_pay83 x2) (k0_pay90 q)) (iota .tc S512x512 32 [0] iota_S512x512_d0_w32) (ix2 e c) = a (ix2 e c) + ∑ k : Fin 512, termV x0 x2 x5 x6 j 1 e c (512 * b + k.val) := by
  pointwise [k0_pay105, k0_pay95]
  simp only [diag_p1 x0 x2 x6 j b q st hj hq hst, hdt]
  rfl

theorem diag_K0 (hj : j = b) (hq : ∀ (k : Fin 512) (f : Fin 256), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (hqt : ∀ (f : Fin 256) (k : Fin 512), qt (ix3 0 f k) = atT x1 (512 * b + k.val) f) (a : FVec Ideal S128x512 .f32) (f : Fin 128) (c : Fin 512) :
    k0_pay100 (F := Ideal) x3 (k0_pay82 x2) a (k0_pay89 q) (k0_pay91 qt) (k0_pay92 d) (k0_pay93 (F := Ideal)) (iota .tc S1x128 32 [1] iota_S1x128_d1_w32) st (ix2 f c) = a (ix2 f c) + ∑ k : Fin 512, termK x0 x1 x2 x3 x4 x6 j 0 f c (512 * b + k.val) := by
  pointwise [k0_pay100, k0_pay91]
  simp only [diag_ds0 x0 x2 x3 x4 x6 j b q d st hj hq hst hd, hqt]
  simp only [termV, termK, colV0, colQ0]; try rfl

theorem diag_K1 (hj : j = b) (hq : ∀ (k : Fin 512) (f : Fin 256), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (hqt : ∀ (f : Fin 256) (k : Fin 512), qt (ix3 0 f k) = atT x1 (512 * b + k.val) f) (a : FVec Ideal S128x512 .f32) (f : Fin 128) (c : Fin 512) :
    k0_pay106 (F := Ideal) x3 a (k0_pay91 qt) (k0_pay94 (F := Ideal) (k0_pay92 d) (k0_pay93 (F := Ideal))) (k0_pay96 st) (k0_pay102 (F := Ideal) (k0_pay83 x2) (k0_pay90 q)) (iota .tc S512x512 32 [0] iota_S512x512_d0_w32) (ix2 f c) = a (ix2 f c) + ∑ k : Fin 512, termK x0 x1 x2 x3 x4 x6 j 1 f c (512 * b + k.val) := by
  pointwise [k0_pay106, k0_pay91]
  simp only [diag_ds1 x0 x2 x3 x4 x6 j b q d st hj hq hst hd, hqt]
  rfl

theorem diag_Q (hj : j = b) (hq : ∀ (k : Fin 512) (f : Fin 256), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (a : FVec Ideal S512x256 .f32) (k : Fin 512) (l : Fin 256) :
    k0_pay107 (F := Ideal) x3 (k0_pay83 x2) (k0_pay94 (F := Ideal) (k0_pay92 d) (k0_pay93 (F := Ideal))) (k0_pay96 st) (k0_pay101 x3 (k0_pay82 x2) (k0_pay89 q) (k0_pay92 d) (k0_pay93 (F := Ideal)) (iota .tc S1x128 32 [1] iota_S1x128_d1_w32) st) (k0_pay102 (F := Ideal) (k0_pay83 x2) (k0_pay90 q)) (iota .tc S512x512 32 [0] iota_S512x512_d0_w32) a (ix2 k l) = a (ix2 k l) + termQ x0 x2 x3 x4 x6 j (headQ l) (512 * b + k.val) (inQ l) := by
  pointwise [k0_pay107, k0_pay101]
  split_ifs with h h'
  · have hh : headQ l = 0 := Fin.ext (by simp only [headQ]; exact Nat.div_eq_of_lt h)
    have hl : colQ 0 (inQ l) = l := Fin.ext (by simp only [colQ, inQ]; have : (0 : Fin 2).val = 0 := rfl; omega)
    simp only [diag_ds0 x0 x2 x3 x4 x6 j b q d st hj hq hst hd]
    pointwise [k0_pay82]
    rw [termQ, hh, hl]; rfl
  · have hh : headQ l = 1 := Fin.ext (by simp only [headQ]; have : (1 : Fin 2).val = 1 := rfl; omega)
    have hl : colQ 1 (inQ l) = l := Fin.ext (by simp only [colQ, inQ]; have : (1 : Fin 2).val = 1 := rfl; omega)
    have hm : ∀ h' : 128 + (l.val - 128) < 256, (⟨128 + (l.val - 128), h'⟩ : Fin 256) = l := fun _ => Fin.ext (by simp only; omega)
    simp only [diag_ds1 x0 x2 x3 x4 x6 j b q d st hj hq hst hd]
    pointwise [k0_pay83]
    simp only [hm]
    rw [termQ, hh, hl]; rfl
  · exact absurd rfl h'
end

section
variable (j b : ℕ) (q : FVec Ideal S1024x256 .bf16) (qt qt2 : FVec Ideal S1x256x512 .bf16) (d : FVec Ideal S1024x128 .bf16) (dt dt2 : FVec Ideal S1x128x512 .bf16) (st : FVec Ideal S1x1024x128 .f32)

theorem wide_p0 (hj : j < 2 * b) (hq : ∀ (k : Fin 1024) (f : Fin 256), q (ix2 k f) = x0 (ix2 (rowN (1024 * b + k.val)) f)) (hst : ∀ (k : Fin 1024) (l : Fin 128), st (ix3 0 k l) = x6 (ix3 0 (rowN (1024 * b + k.val)) l)) (k : Fin 1024) (c : Fin 512) :
    k0_pay55 (F := Ideal) (k0_pay82 x2) (k0_pay46 q) st (ix2 k c) = prob x0 x2 x6 j 0 (1024 * b + k.val) c := by
  have hm : 512 * j + c.val ≤ 1024 * b + k.val := by omega
  pointwise [k0_pay55, k0_pay82, k0_pay46, k0_pay45, k0_pay54]
  simp only [hq, hst]
  unfold prob score; rw [if_pos hm]
  rfl

theorem wide_p1 (hj : j < 2 * b) (hq : ∀ (k : Fin 1024) (f : Fin 256), q (ix2 k f) = x0 (ix2 (rowN (1024 * b + k.val)) f)) (hst : ∀ (k : Fin 1024) (l : Fin 128), st (ix3 0 k l) = x6 (ix3 0 (rowN (1024 * b + k.val)) l)) (k : Fin 1024) (c : Fin 512) :
    k0_pay60 (F := Ideal) (k0_pay83 x2) (k0_pay47 q) st (ix2 k c) = prob x0 x2 x6 j 1 (1024 * b + k.val) c := by
  have hm : 512 * j + c.val ≤ 1024 * b + k.val := by omega
  pointwise [k0_pay60, k0_pay83, k0_pay47, k0_pay45, k0_pay54]
  simp only [hq, hst]
  unfold prob score; rw [if_pos hm]
  rfl

theorem wide_ds0 (hj : j < 2 * b) (hq : ∀ (k : Fin 1024) (f : Fin 256), q (ix2 k f) = x0 (ix2 (rowN (1024 * b + k.val)) f)) (hst : ∀ (k : Fin 1024) (l : Fin 128), st (ix3 0 k l) = x6 (ix3 0 (rowN (1024 * b + k.val)) l)) (hd : ∀ (k : Fin 1024) (l : Fin 128), d (ix2 k l) = x4 (ix2 (rowN (1024 * b + k.val)) l)) (k : Fin 1024) (c : Fin 512) :
    k0_pay56 (F := Ideal) x3 (k0_pay82 x2) (k0_pay46 q) (k0_pay51 d) st (ix2 k c) = dscore x0 x2 x3 x4 x6 j 0 (1024 * b + k.val) c := by
  pointwise [k0_pay56, k0_pay51, k0_pay49, k0_pay50, k0_pay54]
  simp only [wide_p0 x0 x2 x6 j b q st hj hq hst, hd, hst]
  unfold dscore dprob
  simp only [select_slt, ite_mul, zero_mul]
  rfl

theorem wide_ds1 (hj : j < 2 * b) (hq : ∀ (k : Fin 1024) (f : Fin 256), q (ix2 k f) = x0 (ix2 (rowN (1024 * b + k.val)) f)) (hst : ∀ (k : Fin 1024) (l : Fin 128), st (ix3 0 k l) = x6 (ix3 0 (rowN (1024 * b + k.val)) l)) (hd : ∀ (k : Fin 1024) (l : Fin 128), d (ix2 k l) = x4 (ix2 (rowN (1024 * b + k.val)) l)) (k : Fin 1024) (c : Fin 512) :
    k0_pay61 (F := Ideal) x3 (k0_pay83 x2) (k0_pay47 q) (k0_pay52 d) st (ix2 k c) = dscore x0 x2 x3 x4 x6 j 1 (1024 * b + k.val) c := by
  pointwise [k0_pay61, k0_pay52, k0_pay49, k0_pay50, k0_pay54]
  simp only [wide_p1 x0 x2 x6 j b q st hj hq hst, hd, hst]
  unfold dscore dprob
  simp only [select_sge, ite_mul, zero_mul]
  rfl

theorem wide_V0 (hj : j < 2 * b) (hq : ∀ (k : Fin 1024) (f : Fin 256), q (ix2 k f) = x0 (ix2 (rowN (1024 * b + k.val)) f)) (hst : ∀ (k : Fin 1024) (l : Fin 128), st (ix3 0 k l) = x6 (ix3 0 (rowN (1024 * b + k.val)) l)) (hdt : ∀ (e : Fin 128) (k : Fin 512), dt (ix3 0 e k) = atT x5 (1024 * b + k.val) e) (hdt2 : ∀ (e : Fin 128) (k : Fin 512), dt2 (ix3 0 e k) = atT x5 (1024 * b + (512 + k.val)) e) (a : FVec Ideal S64x512 .f32) (e : Fin 64) (c : Fin 512) :
    k0_pay57 (F := Ideal) (k0_pay82 x2) a (k0_pay46 q) dt dt2 st (ix2 e c) = a (ix2 e c) + ∑ k : Fin 1024, termV x0 x2 x5 x6 j 0 e c (1024 * b + k.val) := by
  pointwise [k0_pay57, k0_pay53]
  simp only [wide_p0 x0 x2 x6 j b q st hj hq hst, hdt, hdt2]
  rw [two_rows (fun r => termV x0 x2 x5 x6 j 0 e c r)]; simp only [termV, termK, colV0, colQ0]; try rfl

theorem wide_V1 (hj : j < 2 * b) (hq : ∀ (k : Fin 1024) (f : Fin 256), q (ix2 k f) = x0 (ix2 (rowN (1024 * b + k.val)) f)) (hst : ∀ (k : Fin 1024) (l : Fin 128), st (ix3 0 k l) = x6 (ix3 0 (rowN (1024 * b + k.val)) l)) (hdt : ∀ (e : Fin 128) (k : Fin 512), dt (ix3 0 e k) = atT x5 (1024 * b + k.val) e) (hdt2 : ∀ (e : Fin 128) (k : Fin 512), dt2 (ix3 0 e k) = atT x5 (1024 * b + (512 + k.val)) e) (a : FVec Ideal S64x512 .f32) (e : Fin 64) (c : Fin 512) :
    k0_pay62 (F := Ideal) (k0_pay83 x2) a (k0_pay47 q) dt dt2 st (ix2 e c) = a (ix2 e c) + ∑ k : Fin 1024, termV x0 x2 x5 x6 j 1 e c (1024 * b + k.val) := by
  pointwise [k0_pay62, k0_pay53]
  simp only [wide_p1 x0 x2 x6 j b q st hj hq hst, hdt, hdt2]
  rw [two_rows (fun r => termV x0 x2 x5 x6 j 1 e c r)]; rfl

theorem wide_K0 (hj : j < 2 * b) (hq : ∀ (k : Fin 1024) (f : Fin 256), q (ix2 k f) = x0 (ix2 (rowN (1024 * b + k.val)) f)) (hst : ∀ (k : Fin 1024) (l : Fin 128), st (ix3 0 k l) = x6 (ix3 0 (rowN (1024 * b + k.val)) l)) (hd : ∀ (k : Fin 1024) (l : Fin 128), d (ix2 k l) = x4 (ix2 (rowN (1024 * b + k.val)) l)) (hqt : ∀ (f : Fin 256) (k : Fin 512), qt (ix3 0 f k) = atT x1 (1024 * b + k.val) f) (hqt2 : ∀ (f : Fin 256) (k : Fin 512), qt2 (ix3 0 f k) = atT x1 (1024 * b + (512 + k.val)) f) (a : FVec Ideal S128x512 .f32) (f : Fin 128) (c : Fin 512) :
    k0_pay58 (F := Ideal) x3 (k0_pay82 x2) a (k0_pay46 q) (k0_pay48 qt qt2) (k0_pay51 d) st (ix2 f c) = a (ix2 f c) + ∑ k : Fin 1024, termK x0 x1 x2 x3 x4 x6 j 0 f c (1024 * b + k.val) := by
  pointwise [k0_pay58, k0_pay48]
  simp only [wide_ds0 x0 x2 x3 x4 x6 j b q d st hj hq hst hd, hqt, hqt2]
  rw [two_rows (fun r => termK x0 x1 x2 x3 x4 x6 j 0 f c r)]; simp only [termV, termK, colV0, colQ0]; try rfl

theorem wide_K1 (hj : j < 2 * b) (hq : ∀ (k : Fin 1024) (f : Fin 256), q (ix2 k f) = x0 (ix2 (rowN (1024 * b + k.val)) f)) (hst : ∀ (k : Fin 1024) (l : Fin 128), st (ix3 0 k l) = x6 (ix3 0 (rowN (1024 * b + k.val)) l)) (hd : ∀ (k : Fin 1024) (l : Fin 128), d (ix2 k l) = x4 (ix2 (rowN (1024 * b + k.val)) l)) (hqt : ∀ (f : Fin 256) (k : Fin 512), qt (ix3 0 f k) = atT x1 (1024 * b + k.val) f) (hqt2 : ∀ (f : Fin 256) (k : Fin 512), qt2 (ix3 0 f k) = atT x1 (1024 * b + (512 + k.val)) f) (a : FVec Ideal S128x512 .f32) (f : Fin 128) (c : Fin 512) :
    k0_pay1 (F := Ideal) a (k0_pay48 qt qt2) (k0_pay61 (F := Ideal) x3 (k0_pay83 x2) (k0_pay47 q) (k0_pay52 d) st) (ix2 f c) = a (ix2 f c) + ∑ k : Fin 1024, termK x0 x1 x2 x3 x4 x6 j 1 f c (1024 * b + k.val) := by
  pointwise [k0_pay1, k0_pay48]
  simp only [wide_ds1 x0 x2 x3 x4 x6 j b q d st hj hq hst hd, hqt, hqt2]
  rw [two_rows (fun r => termK x0 x1 x2 x3 x4 x6 j 1 f c r)]; rfl

theorem wide_Q (hj : j < 2 * b) (hq : ∀ (k : Fin 1024) (f : Fin 256), q (ix2 k f) = x0 (ix2 (rowN (1024 * b + k.val)) f)) (hst : ∀ (k : Fin 1024) (l : Fin 128), st (ix3 0 k l) = x6 (ix3 0 (rowN (1024 * b + k.val)) l)) (hd : ∀ (k : Fin 1024) (l : Fin 128), d (ix2 k l) = x4 (ix2 (rowN (1024 * b + k.val)) l)) (a : FVec Ideal S1024x256 .f32) (k : Fin 1024) (l : Fin 256) :
    k0_pay2 (F := Ideal) (k0_pay83 x2) (k0_pay59 (F := Ideal) x3 (k0_pay82 x2) (k0_pay46 q) (k0_pay51 d) st) (k0_pay61 (F := Ideal) x3 (k0_pay83 x2) (k0_pay47 q) (k0_pay52 d) st) a (ix2 k l) = a (ix2 k l) + termQ x0 x2 x3 x4 x6 j (headQ l) (1024 * b + k.val) (inQ l) := by
  pointwise [k0_pay2, k0_pay59]
  split_ifs with h h'
  · have hh : headQ l = 0 := Fin.ext (by simp only [headQ]; exact Nat.div_eq_of_lt h)
    have hl : colQ 0 (inQ l) = l := Fin.ext (by simp only [colQ, inQ]; have : (0 : Fin 2).val = 0 := rfl; omega)
    simp only [wide_ds0 x0 x2 x3 x4 x6 j b q d st hj hq hst hd]
    pointwise [k0_pay82]
    rw [termQ, hh, hl]; rfl
  · have hh : headQ l = 1 := Fin.ext (by simp only [headQ]; have : (1 : Fin 2).val = 1 := rfl; omega)
    have hl : colQ 1 (inQ l) = l := Fin.ext (by simp only [colQ, inQ]; have : (1 : Fin 2).val = 1 := rfl; omega)
    have hm : ∀ h' : 128 + (l.val - 128) < 256, (⟨128 + (l.val - 128), h'⟩ : Fin 256) = l := fun _ => Fin.ext (by simp only; omega)
    simp only [wide_ds1 x0 x2 x3 x4 x6 j b q d st hj hq hst hd]
    pointwise [k0_pay83]
    simp only [hm]
    rw [termQ, hh, hl]; rfl
  · exact absurd rfl h'
end

end Cert.KernelIdeal.Bwd
end
-- ==== Proof.Rows.lean ====
module

public import proofs.«01_k».proof.Proof.Tile

/-! Rows of the arrays, loaded and stored, and the running sums over them.  `Adds j R R'` says that a step of the body has added
    to its four accumulators the terms of the rows from `R` to `R'`, and `AddsQ` that it has added to the gradient of
    the queries the tile's term on each of those rows. -/

@[expose] public section

set_option maxRecDepth 16384

noncomputable section
open Idealize.ShloMosaic Idealize.ShloMosaic.TcCoe Idealize.SL.Sem
namespace Cert.KernelIdeal.Bwd
open Cert.KernelIdeal Cert.KernelIdeal.Gen

theorem rowN_of_lt {r : ℕ} (h : r < 4096) : (rowN r).val = r := Nat.mod_eq_of_lt h

/-! ### Loads -/

theorem ld_q (arg : Memref sig .tc .vmem S4096x256 .bf16) (h : arg.IsWhole) (x : FVec Ideal S4096x256 .bf16) (R : ℕ) (off : Fin 2 → ℕ)
    (hoff : off = ![R, 0]) (inb : ∀ a, off a + S512x256.size a ≤ S4096x256.size a) (k : Fin 512) (f : Fin 256) :
    View.readAt (Elt Ideal) arg.view (Rect.unit (s := S4096x256) off S512x256.size inb).toLoadRect (h.unread x) (ix2 k f)
      = x (ix2 (rowN (R + k.val)) f) := by
  subst hoff
  have hR : R + 512 ≤ 4096 := inb 0
  rw [View.readAt_eq_ld, Memref.IsWhole.read_unread]
  pointwise
  refine congrArg x ?_
  ext a
  refine Fin.cases ?_ (fun a => Fin.cases ?_ (fun a => a.elim0) a) a
  · exact (rowN_of_lt (by omega : R + k.val < 4096)).symm
  · rfl

theorem ld_q2 (arg : Memref sig .tc .vmem S4096x256 .bf16) (h : arg.IsWhole) (x : FVec Ideal S4096x256 .bf16) (R : ℕ) (off : Fin 2 → ℕ)
    (hoff : off = ![R, 0]) (inb : ∀ a, off a + S1024x256.size a ≤ S4096x256.size a) (k : Fin 1024) (f : Fin 256) :
    View.readAt (Elt Ideal) arg.view (Rect.unit (s := S4096x256) off S1024x256.size inb).toLoadRect (h.unread x) (ix2 k f)
      = x (ix2 (rowN (R + k.val)) f) := by
  subst hoff
  have hR : R + 1024 ≤ 4096 := inb 0
  rw [View.readAt_eq_ld, Memref.IsWhole.read_unread]
  pointwise
  refine congrArg x ?_
  ext a
  refine Fin.cases ?_ (fun a => Fin.cases ?_ (fun a => a.elim0) a) a
  · exact (rowN_of_lt (by omega : R + k.val < 4096)).symm
  · rfl

theorem ld_d (arg : Memref sig .tc .vmem S4096x128 .bf16) (h : arg.IsWhole) (x : FVec Ideal S4096x128 .bf16) (R : ℕ) (off : Fin 2 → ℕ)
    (hoff : off = ![R, 0]) (inb : ∀ a, off a + S512x128.size a ≤ S4096x128.size a) (k : Fin 512) (f : Fin 128) :
    View.readAt (Elt Ideal) arg.view (Rect.unit (s := S4096x128) off S512x128.size inb).toLoadRect (h.unread x) (ix2 k f)
      = x (ix2 (rowN (R + k.val)) f) := by
  subst hoff
  have hR : R + 512 ≤ 4096 := inb 0
  rw [View.readAt_eq_ld, Memref.IsWhole.read_unread]
  pointwise
  refine congrArg x ?_
  ext a
  refine Fin.cases ?_ (fun a => Fin.cases ?_ (fun a => a.elim0) a) a
  · exact (rowN_of_lt (by omega : R + k.val < 4096)).symm
  · rfl

theorem ld_d2 (arg : Memref sig .tc .vmem S4096x128 .bf16) (h : arg.IsWhole) (x : FVec Ideal S4096x128 .bf16) (R : ℕ) (off : Fin 2 → ℕ)
    (hoff : off = ![R, 0]) (inb : ∀ a, off a + S1024x128.size a ≤ S4096x128.size a) (k : Fin 1024) (f : Fin 128) :
    View.readAt (Elt Ideal) arg.view (Rect.unit (s := S4096x128) off S1024x128.size inb).toLoadRect (h.unread x) (ix2 k f)
      = x (ix2 (rowN (R + k.val)) f) := by
  subst hoff
  have hR : R + 1024 ≤ 4096 := inb 0
  rw [View.readAt_eq_ld, Memref.IsWhole.read_unread]
  pointwise
  refine congrArg x ?_
  ext a
  refine Fin.cases ?_ (fun a => Fin.cases ?_ (fun a => a.elim0) a) a
  · exact (rowN_of_lt (by omega : R + k.val < 4096)).symm
  · rfl

theorem ld_qt (arg : Memref sig .tc .vmem S8x256x512 .bf16) (h : arg.IsWhole) (x : FVec Ideal S8x256x512 .bf16) (g : ℕ) (off : Fin 3 → ℕ)
    (hoff : off = ![g, 0, 0]) (inb : ∀ a, off a + S1x256x512.size a ≤ S8x256x512.size a) (f : Fin 256) (k : Fin 512) :
    View.readAt (Elt Ideal) arg.view (Rect.unit (s := S8x256x512) off S1x256x512.size inb).toLoadRect (h.unread x) (ix3 0 f k)
      = atT x (512 * g + k.val) f := by
  subst hoff
  have hg : g + 1 ≤ 8 := inb 0
  rw [View.readAt_eq_ld, Memref.IsWhole.read_unread]
  pointwise
  unfold atT
  refine congrArg x ?_
  ext a
  refine Fin.cases ?_ (fun a => Fin.cases ?_ (fun a => Fin.cases ?_ (fun a => a.elim0) a) a) a
  · show g = (512 * g + k.val) / 512 % 8; omega
  · rfl
  · show k.val = (512 * g + k.val) % 512; omega

theorem ld_dt (arg : Memref sig .tc .vmem S8x128x512 .bf16) (h : arg.IsWhole) (x : FVec Ideal S8x128x512 .bf16) (g : ℕ) (off : Fin 3 → ℕ)
    (hoff : off = ![g, 0, 0]) (inb : ∀ a, off a + S1x128x512.size a ≤ S8x128x512.size a) (f : Fin 128) (k : Fin 512) :
    View.readAt (Elt Ideal) arg.view (Rect.unit (s := S8x128x512) off S1x128x512.size inb).toLoadRect (h.unread x) (ix3 0 f k)
      = atT x (512 * g + k.val) f := by
  subst hoff
  have hg : g + 1 ≤ 8 := inb 0
  rw [View.readAt_eq_ld, Memref.IsWhole.read_unread]
  pointwise
  unfold atT
  refine congrArg x ?_
  ext a
  refine Fin.cases ?_ (fun a => Fin.cases ?_ (fun a => Fin.cases ?_ (fun a => a.elim0) a) a) a
  · show g = (512 * g + k.val) / 512 % 8; omega
  · rfl
  · show k.val = (512 * g + k.val) % 512; omega

theorem ld_st (arg : Memref sig .tc .vmem S1x4096x128 .f32) (h : arg.IsWhole) (x : FVec Ideal S1x4096x128 .f32) (R : ℕ) (off : Fin 3 → ℕ)
    (hoff : off = ![0, R, 0]) (inb : ∀ a, off a + S1x512x128.size a ≤ S1x4096x128.size a) (k : Fin 512) (l : Fin 128) :
    View.readAt (Elt Ideal) arg.view (Rect.unit (s := S1x4096x128) off S1x512x128.size inb).toLoadRect (h.unread x) (ix3 0 k l)
      = x (ix3 0 (rowN (R + k.val)) l) := by
  subst hoff
  have hR : R + 512 ≤ 4096 := inb 1
  rw [View.readAt_eq_ld, Memref.IsWhole.read_unread]
  pointwise
  refine congrArg x ?_
  ext a
  refine Fin.cases ?_ (fun a => Fin.cases ?_ (fun a => Fin.cases ?_ (fun a => a.elim0) a) a) a
  · rfl
  · exact (rowN_of_lt (by omega : R + k.val < 4096)).symm
  · rfl

theorem ld_st2 (arg : Memref sig .tc .vmem S1x4096x128 .f32) (h : arg.IsWhole) (x : FVec Ideal S1x4096x128 .f32) (R : ℕ) (off : Fin 3 → ℕ)
    (hoff : off = ![0, R, 0]) (inb : ∀ a, off a + S1x1024x128.size a ≤ S1x4096x128.size a) (k : Fin 1024) (l : Fin 128) :
    View.readAt (Elt Ideal) arg.view (Rect.unit (s := S1x4096x128) off S1x1024x128.size inb).toLoadRect (h.unread x) (ix3 0 k l)
      = x (ix3 0 (rowN (R + k.val)) l) := by
  subst hoff
  have hR : R + 1024 ≤ 4096 := inb 1
  rw [View.readAt_eq_ld, Memref.IsWhole.read_unread]
  pointwise
  refine congrArg x ?_
  ext a
  refine Fin.cases ?_ (fun a => Fin.cases ?_ (fun a => Fin.cases ?_ (fun a => a.elim0) a) a) a
  · rfl
  · exact (rowN_of_lt (by omega : R + k.val < 4096)).symm
  · rfl

theorem ld_acc512 (arg : Memref sig .tc .vmem S4096x256 .f32) (G : BufTy.Contents (Elt Ideal) arg.view.ty) (R : ℕ) (off : Fin 2 → ℕ)
    (hoff : off = ![R, 0]) (inb : ∀ a, off a + S512x256.size a ≤ S4096x256.size a) (k : Fin 512) (l : Fin 256) :
    View.readAt (Elt Ideal) arg.view (Rect.unit (s := S4096x256) off S512x256.size inb).toLoadRect G (ix2 k l)
      = arg.view.read (Elt Ideal) G (ix2 (rowN (R + k.val)) l) := by
  subst hoff
  have hR : R + 512 ≤ 4096 := inb 0
  rw [View.readAt_eq_ld]
  pointwise
  refine congrArg _ ?_
  ext a
  refine Fin.cases ?_ (fun a => Fin.cases ?_ (fun a => a.elim0) a) a
  · exact (rowN_of_lt (by omega : R + k.val < 4096)).symm
  · rfl

theorem ld_acc1024 (arg : Memref sig .tc .vmem S4096x256 .f32) (G : BufTy.Contents (Elt Ideal) arg.view.ty) (R : ℕ) (off : Fin 2 → ℕ)
    (hoff : off = ![R, 0]) (inb : ∀ a, off a + S1024x256.size a ≤ S4096x256.size a) (k : Fin 1024) (l : Fin 256) :
    View.readAt (Elt Ideal) arg.view (Rect.unit (s := S4096x256) off S1024x256.size inb).toLoadRect G (ix2 k l)
      = arg.view.read (Elt Ideal) G (ix2 (rowN (R + k.val)) l) := by
  subst hoff
  have hR : R + 1024 ≤ 4096 := inb 0
  rw [View.readAt_eq_ld]
  pointwise
  refine congrArg _ ?_
  ext a
  refine Fin.cases ?_ (fun a => Fin.cases ?_ (fun a => a.elim0) a) a
  · exact (rowN_of_lt (by omega : R + k.val < 4096)).symm
  · rfl

/-! ### Running sums -/

theorem sum_rows (g : ℕ → EReal) (R n : ℕ) : ∑ k : Fin n, g (R + k.val) = ∑ r ∈ Finset.Ico R (R + n), g r := by
  rw [Finset.sum_Ico_eq_sum_range, Nat.add_sub_cancel_left, Finset.sum_range]

variable (x0 : FVec Ideal S4096x256 .bf16) (x1 : FVec Ideal S8x256x512 .bf16) (x2 : FVec Ideal S512x256 .bf16)
  (x3 : FVec Ideal S512x128 .bf16) (x4 : FVec Ideal S4096x128 .bf16) (x5 : FVec Ideal S8x128x512 .bf16)
  (x6 : FVec Ideal S1x4096x128 .f32)

/-- The four accumulators: gradients of keys and of values, for the first head and for the second. -/
abbrev Accs := FVec Ideal S128x512 .f32 × FVec Ideal S64x512 .f32 × FVec Ideal S128x512 .f32 × FVec Ideal S64x512 .f32

structure Adds (j R R' : ℕ) (a a' : Accs) : Prop where
  k0 : ∀ f c, a'.1 (ix2 f c) = a.1 (ix2 f c) + ∑ r ∈ Finset.Ico R R', termK x0 x1 x2 x3 x4 x6 j 0 f c r
  v0 : ∀ e c, a'.2.1 (ix2 e c) = a.2.1 (ix2 e c) + ∑ r ∈ Finset.Ico R R', termV x0 x2 x5 x6 j 0 e c r
  k1 : ∀ f c, a'.2.2.1 (ix2 f c) = a.2.2.1 (ix2 f c) + ∑ r ∈ Finset.Ico R R', termK x0 x1 x2 x3 x4 x6 j 1 f c r
  v1 : ∀ e c, a'.2.2.2 (ix2 e c) = a.2.2.2 (ix2 e c) + ∑ r ∈ Finset.Ico R R', termV x0 x2 x5 x6 j 1 e c r

theorem Adds.refl (j R : ℕ) (a : Accs) : Adds x0 x1 x2 x3 x4 x5 x6 j R R a a := by
  constructor <;> intros <;> rw [Finset.Ico_self, Finset.sum_empty, add_zero]

theorem Adds.trans {j R R' R'' : ℕ} {a a' a'' : Accs} (h : R ≤ R') (h' : R' ≤ R'')
    (A : Adds x0 x1 x2 x3 x4 x5 x6 j R R' a a') (B : Adds x0 x1 x2 x3 x4 x5 x6 j R' R'' a' a'') : Adds x0 x1 x2 x3 x4 x5 x6 j R R'' a a'' := by
  constructor <;> intro x y
  · rw [B.k0, A.k0, add_assoc, Finset.sum_Ico_consecutive _ h h']
  · rw [B.v0, A.v0, add_assoc, Finset.sum_Ico_consecutive _ h h']
  · rw [B.k1, A.k1, add_assoc, Finset.sum_Ico_consecutive _ h h']
  · rw [B.v1, A.v1, add_assoc, Finset.sum_Ico_consecutive _ h h']

/-- The tile's term for entry (`r`, `l`) of the gradient of the queries. -/
def tileQ (j : ℕ) (r : ℕ) (l : Fin 256) : EReal := termQ x0 x2 x3 x4 x6 j (headQ l) r (inQ l)

def AddsQ (j R R' : ℕ) (g g' : FVec Ideal S4096x256 .f32) : Prop :=
  ∀ (r : Fin 4096) (l : Fin 256), g' (ix2 r l) = g (ix2 r l) + if R ≤ r.val ∧ r.val < R' then tileQ x0 x2 x3 x4 x6 j r.val l else 0

theorem AddsQ.refl (j R : ℕ) (g : FVec Ideal S4096x256 .f32) : AddsQ x0 x2 x3 x4 x6 j R R g g := fun r l => by
  rw [if_neg (by omega), add_zero]

theorem AddsQ.trans {j R R' R'' : ℕ} {g g' g'' : FVec Ideal S4096x256 .f32} (h : R ≤ R') (h' : R' ≤ R'')
    (A : AddsQ x0 x2 x3 x4 x6 j R R' g g') (B : AddsQ x0 x2 x3 x4 x6 j R' R'' g' g'') : AddsQ x0 x2 x3 x4 x6 j R R'' g g'' := fun r l => by
  rw [B, A, add_assoc]
  by_cases h1 : R ≤ r.val ∧ r.val < R'
  · rw [if_pos h1, if_neg (by omega), if_pos (by omega), add_zero]
  · rw [if_neg h1, zero_add]
    by_cases h2 : R' ≤ r.val ∧ r.val < R''
    · rw [if_pos h2, if_pos (by omega)]
    · rw [if_neg h2, if_neg (by omega)]

/-! ### Stores -/

theorem store512 (arg : Memref sig .tc .vmem S4096x256 .f32) (G : BufTy.Contents (Elt Ideal) arg.view.ty) (j R : ℕ) (off : Fin 2 → ℕ)
    (hoff : off = ![R, 0]) (inb : ∀ a, off a + S512x256.size a ≤ S4096x256.size a) (w : FVec Ideal S512x256 .f32)
    (hw : ∀ (k : Fin 512) (l : Fin 256), w (ix2 k l) = arg.view.read (Elt Ideal) G (ix2 (rowN (R + k.val)) l) + tileQ x0 x2 x3 x4 x6 j (R + k.val) l) :
    AddsQ x0 x2 x3 x4 x6 j R (R + 512) (arg.view.read (Elt Ideal) G)
      (arg.view.read (Elt Ideal) (arg.view.writes (Elt Ideal) G [⟨Rect.unit (s := S4096x256) off S512x256.size inb, w⟩])) := fun r l => by
  subst hoff
  have hR : R + 512 ≤ 4096 := inb 0
  by_cases h : R ≤ r.val ∧ r.val < R + 512
  · have hx : ∀ a, (ix2 r l a).val = (Rect.unit (s := S4096x256) ![R, 0] S512x256.size inb).off a
        + (Rect.unit (s := S4096x256) ![R, 0] S512x256.size inb).stride a
          * (ix2 (⟨r.val - R, by omega⟩ : Fin 512) l a).val := by
      intro a
      refine Fin.cases ?_ (fun a => Fin.cases ?_ (fun a => a.elim0) a) a
      · show r.val = R + 1 * (r.val - R); omega
      · show l.val = 0 + 1 * l.val; omega
    rw [if_pos h]
    refine (View.read_writes_cons_hit_of_coords arg.view G (Rect.unit (s := S4096x256) ![R, 0] S512x256.size inb) w []
      (ix2 (⟨r.val - R, by omega⟩ : Fin 512) l) (ix2 r l) hx).trans ?_
    rw [hw]
    have e : R + (r.val - R) = r.val := by omega
    have er : rowN r.val = r := Fin.ext (rowN_of_lt r.isLt)
    simp only [e, er]
  · rw [if_neg h, add_zero, View.read_writes_cons_miss_of_axis _ _ _ _ _ 0 R 512 rfl rfl rfl (by
      show r.val < R ∨ R + 512 ≤ r.val; omega)]
    rfl

theorem store1024 (arg : Memref sig .tc .vmem S4096x256 .f32) (G : BufTy.Contents (Elt Ideal) arg.view.ty) (j R : ℕ) (off : Fin 2 → ℕ)
    (hoff : off = ![R, 0]) (inb : ∀ a, off a + S1024x256.size a ≤ S4096x256.size a) (w : FVec Ideal S1024x256 .f32)
    (hw : ∀ (k : Fin 1024) (l : Fin 256), w (ix2 k l) = arg.view.read (Elt Ideal) G (ix2 (rowN (R + k.val)) l) + tileQ x0 x2 x3 x4 x6 j (R + k.val) l) :
    AddsQ x0 x2 x3 x4 x6 j R (R + 1024) (arg.view.read (Elt Ideal) G)
      (arg.view.read (Elt Ideal) (arg.view.writes (Elt Ideal) G [⟨Rect.unit (s := S4096x256) off S1024x256.size inb, w⟩])) := fun r l => by
  subst hoff
  have hR : R + 1024 ≤ 4096 := inb 0
  by_cases h : R ≤ r.val ∧ r.val < R + 1024
  · have hx : ∀ a, (ix2 r l a).val = (Rect.unit (s := S4096x256) ![R, 0] S1024x256.size inb).off a
        + (Rect.unit (s := S4096x256) ![R, 0] S1024x256.size inb).stride a
          * (ix2 (⟨r.val - R, by omega⟩ : Fin 1024) l a).val := by
      intro a
      refine Fin.cases ?_ (fun a => Fin.cases ?_ (fun a => a.elim0) a) a
      · show r.val = R + 1 * (r.val - R); omega
      · show l.val = 0 + 1 * l.val; omega
    rw [if_pos h]
    refine (View.read_writes_cons_hit_of_coords arg.view G (Rect.unit (s := S4096x256) ![R, 0] S1024x256.size inb) w []
      (ix2 (⟨r.val - R, by omega⟩ : Fin 1024) l) (ix2 r l) hx).trans ?_
    rw [hw]
    have e : R + (r.val - R) = r.val := by omega
    have er : rowN r.val = r := Fin.ext (rowN_of_lt r.isLt)
    simp only [e, er]
  · rw [if_neg h, add_zero, View.read_writes_cons_miss_of_axis _ _ _ _ _ 0 R 1024 rfl rfl rfl (by
      show r.val < R ∨ R + 1024 ≤ r.val; omega)]
    rfl

end Cert.KernelIdeal.Bwd
-- ==== Proof.Trips.lean ====
module

public import proofs.«01_k».proof.Proof.Rows
public import proofs.«01_k».proof.Proof.Gen.KernelIdeal.Loops

/-! The two loops of the body that run, over the rows of queries after the tile: one block of 512 rows when the tile's
    number is even, then blocks of 1024 rows.  Each trip adds its rows' terms, so the loops together add those of all the
    rows after the tile. -/

@[expose] public section

set_option maxRecDepth 16384

noncomputable section
open Idealize.ShloMosaic Idealize.ShloMosaic.TcCoe Idealize.SL.Sem
namespace Cert.KernelIdeal.Bwd
open Cert.KernelIdeal Cert.KernelIdeal.Gen

variable (x0 : FVec Ideal S4096x256 .bf16) (x1 : FVec Ideal S8x256x512 .bf16) (x2 : FVec Ideal S512x256 .bf16)
  (x3 : FVec Ideal S512x128 .bf16) (x4 : FVec Ideal S4096x128 .bf16) (x5 : FVec Ideal S8x128x512 .bf16)
  (x6 : FVec Ideal S1x4096x128 .f32)

theorem t1_trips (i : grid0.Coords) : (k0_t1_loop i).trips = 1 - (i 1).val % 2 := by
  unfold k0_t1_loop; generalize i 1 = j; revert j; decide +kernel
theorem t2_trips (i : grid0.Coords) : (k0_t2_loop i).trips = 0 := by
  unfold k0_t2_loop; generalize i 1 = j; revert j; decide +kernel
theorem t3_trips (i : grid0.Coords) : (k0_t3_loop i).trips = 3 - (i 1).val / 2 := by
  unfold k0_t3_loop; generalize i 1 = j; revert j; decide +kernel
theorem t4_trips (i : grid0.Coords) : (k0_t4_loop i).trips = 0 := by
  unfold k0_t4_loop; generalize i 1 = j; revert j; decide +kernel

theorem t1_zero {i : grid0.Coords} (k : Fin (k0_t1_loop i).trips) : k.val = 0 := by
  have := lt_of_lt_of_eq k.isLt (t1_trips i); omega
theorem t3_lt {i : grid0.Coords} (k : Fin (k0_t3_loop i).trips) : k.val < 4 := by
  have := lt_of_lt_of_eq k.isLt (t3_trips i); omega

theorem off1 (i : grid0.Coords) : k0_off1 i = ![512 * (i 1).val, 0] := by
  unfold k0_off1; dsimp only; generalize i 1 = j; revert j; decide +kernel
theorem off2 (i : grid0.Coords) : k0_off2 i = ![(i 1).val, 0, 0] := by
  unfold k0_off2; dsimp only; generalize i 1 = j; revert j; decide +kernel
theorem off3 (i : grid0.Coords) : k0_off3 i = ![512 * (i 1).val, 0] := by
  unfold k0_off3; dsimp only; generalize i 1 = j; revert j; decide +kernel
theorem off4 (i : grid0.Coords) : k0_off4 i = ![(i 1).val, 0, 0] := by
  unfold k0_off4; dsimp only; generalize i 1 = j; revert j; decide +kernel
theorem off5 (i : grid0.Coords) : k0_off5 i = ![0, 512 * (i 1).val, 0] := by
  unfold k0_off5; dsimp only; generalize i 1 = j; revert j; decide +kernel
theorem off6 (i : grid0.Coords) (k : Fin (k0_t1_loop i).trips) : k0_off6 i k = ![512 * ((i 1).val + 1), 0] := by
  unfold k0_off6; dsimp only; rw [t1_zero k]; generalize i 1 = j; revert j; decide +kernel
theorem off7 (i : grid0.Coords) (k : Fin (k0_t1_loop i).trips) : k0_off7 i k = ![((i 1).val + 1), 0, 0] := by
  unfold k0_off7; dsimp only; rw [t1_zero k]; generalize i 1 = j; revert j; decide +kernel
theorem off8 (i : grid0.Coords) (k : Fin (k0_t1_loop i).trips) : k0_off8 i k = ![512 * ((i 1).val + 1), 0] := by
  unfold k0_off8; dsimp only; rw [t1_zero k]; generalize i 1 = j; revert j; decide +kernel
theorem off9 (i : grid0.Coords) (k : Fin (k0_t1_loop i).trips) : k0_off9 i k = ![((i 1).val + 1), 0, 0] := by
  unfold k0_off9; dsimp only; rw [t1_zero k]; generalize i 1 = j; revert j; decide +kernel
theorem off10 (i : grid0.Coords) (k : Fin (k0_t1_loop i).trips) : k0_off10 i k = ![0, 512 * ((i 1).val + 1), 0] := by
  unfold k0_off10; dsimp only; rw [t1_zero k]; generalize i 1 = j; revert j; decide +kernel
theorem off16 (i : grid0.Coords) (k : Fin (k0_t3_loop i).trips) : k0_off16 i k = ![1024 * ((i 1).val / 2 + 1 + k.val), 0] := by
  have hk := t3_lt k
  obtain ⟨k, hk'⟩ := k
  unfold k0_off16; dsimp only at hk ⊢; generalize i 1 = j; clear hk'
  revert k j; decide +kernel
theorem off17_0 (i : grid0.Coords) (k : Fin (k0_t3_loop i).trips) : k0_off17 i k 0#32 = ![2 * ((i 1).val / 2 + 1 + k.val), 0, 0] := by
  have hk := t3_lt k
  obtain ⟨k, hk'⟩ := k
  unfold k0_off17; dsimp only at hk ⊢; generalize i 1 = j; clear hk'
  revert k j; decide +kernel
theorem off17_1 (i : grid0.Coords) (k : Fin (k0_t3_loop i).trips) : k0_off17 i k 1#32 = ![2 * ((i 1).val / 2 + 1 + k.val) + 1, 0, 0] := by
  have hk := t3_lt k
  obtain ⟨k, hk'⟩ := k
  unfold k0_off17; dsimp only at hk ⊢; generalize i 1 = j; clear hk'
  revert k j; decide +kernel
theorem off18 (i : grid0.Coords) (k : Fin (k0_t3_loop i).trips) : k0_off18 i k = ![1024 * ((i 1).val / 2 + 1 + k.val), 0] := by
  have hk := t3_lt k
  obtain ⟨k, hk'⟩ := k
  unfold k0_off18; dsimp only at hk ⊢; generalize i 1 = j; clear hk'
  revert k j; decide +kernel
theorem off19_0 (i : grid0.Coords) (k : Fin (k0_t3_loop i).trips) : k0_off19 i k 0#32 = ![2 * ((i 1).val / 2 + 1 + k.val), 0, 0] := by
  have hk := t3_lt k
  obtain ⟨k, hk'⟩ := k
  unfold k0_off19; dsimp only at hk ⊢; generalize i 1 = j; clear hk'
  revert k j; decide +kernel
theorem off19_1 (i : grid0.Coords) (k : Fin (k0_t3_loop i).trips) : k0_off19 i k 1#32 = ![2 * ((i 1).val / 2 + 1 + k.val) + 1, 0, 0] := by
  have hk := t3_lt k
  obtain ⟨k, hk'⟩ := k
  unfold k0_off19; dsimp only at hk ⊢; generalize i 1 = j; clear hk'
  revert k j; decide +kernel
theorem off20 (i : grid0.Coords) (k : Fin (k0_t3_loop i).trips) : k0_off20 i k = ![0, 1024 * ((i 1).val / 2 + 1 + k.val), 0] := by
  have hk := t3_lt k
  obtain ⟨k, hk'⟩ := k
  unfold k0_off20; dsimp only at hk ⊢; generalize i 1 = j; clear hk'
  revert k j; decide +kernel

variable (𝒱 : Variants) (c : Dev nD) (bd : Option 𝒱.V) (i : grid0.Coords)
  (arg2 : Memref sig .tc .vmem S4096x256 .bf16) (harg2 : arg2.IsWhole) (arg3 : Memref sig .tc .vmem S8x256x512 .bf16)
  (harg3 : arg3.IsWhole) (arg4 : Memref sig .tc .vmem S512x256 .bf16) (harg4 : arg4.IsWhole)
  (arg5 : Memref sig .tc .vmem S512x128 .bf16) (harg5 : arg5.IsWhole) (arg6 : Memref sig .tc .vmem S4096x128 .bf16)
  (harg6 : arg6.IsWhole) (arg7 : Memref sig .tc .vmem S8x128x512 .bf16) (harg7 : arg7.IsWhole)
  (arg8 : Memref sig .tc .vmem S1x4096x128 .f32) (harg8 : arg8.IsWhole) (arg9 : Memref sig .tc .vmem S4096x256 .f32)
  (harg9 : arg9.IsWhole) (arg10 : Memref sig .tc .vmem S512x256 .bf16) (harg10 : arg10.IsWhole)
  (arg11 : Memref sig .tc .vmem S512x128 .bf16) (harg11 : arg11.IsWhole)

theorem trip_narrow (v131 : BitVec 32)
    (k : Fin (k0_t1_loop i).trips) (acc : Accs) (G : BufTy.Contents (Elt Ideal) arg9.view.ty) :
    Adds x0 x1 x2 x3 x4 x5 x6 (i 1).val (512 * ((i 1).val + 1)) (512 * ((i 1).val + 1) + 512) acc
      (tripR_k0_t1 (F := Ideal) 𝒱 c bd i arg2 harg2 arg3 harg3 arg4 harg4 arg5 harg5 arg6 harg6 arg7 harg7 arg8 harg8 arg9 harg9 arg10 harg10 arg11 harg11 x3 (k0_pay82 x2) (k0_pay83 x2) v131 (harg2.unread x0) (harg3.unread x1) (harg6.unread x4) (harg7.unread x5) (harg8.unread x6) k acc G)
    ∧ AddsQ x0 x2 x3 x4 x6 (i 1).val (512 * ((i 1).val + 1)) (512 * ((i 1).val + 1) + 512) (arg9.view.read (Elt Ideal) G)
      (arg9.view.read (Elt Ideal) (arg9.view.writes (Elt Ideal) G
        (tripL_k0_t1 (F := Ideal) 𝒱 c bd i arg2 harg2 arg3 harg3 arg4 harg4 arg5 harg5 arg6 harg6 arg7 harg7 arg8 harg8 arg9 harg9 arg10 harg10 arg11 harg11 x3 (k0_pay82 x2) (k0_pay83 x2) v131 (harg2.unread x0) (harg3.unread x1) (harg6.unread x4) (harg7.unread x5) (harg8.unread x6) k acc G))) := by
  have hj : (i 1).val < (i 1).val + 1 := Nat.lt_succ_self _
  have hq := ld_q arg2 harg2 x0 _ _ (off6 i k) (k0_off6_inb i k)
  have hqt := ld_qt arg3 harg3 x1 _ _ (off7 i k) (k0_off7_inb i k)
  have hd := ld_d arg6 harg6 x4 _ _ (off8 i k) (k0_off8_inb i k)
  have hdt := ld_dt arg7 harg7 x5 _ _ (off9 i k) (k0_off9_inb i k)
  have hs := ld_st arg8 harg8 x6 _ _ (off10 i k) (k0_off10_inb i k)
  have ha := ld_acc512 arg9 G _ _ (off6 i k) (k0_off6_inb i k)
  have hst := fun a b => (narrow_S _ a b).trans (hs a b)
  unfold tripR_k0_t1 tripL_k0_t1 trip_k0_t1
  refine ⟨⟨fun f c => ?_, fun e c => ?_, fun f c => ?_, fun e c => ?_⟩, ?_⟩
  · have h := narrow_K0 x0 x1 x2 x3 x4 x6 (i 1).val ((i 1).val + 1) _ _ _ _ hj hq hst hd hqt acc.1 f c
    rw [sum_rows] at h; exact h
  · have h := narrow_V0 x0 x2 x5 x6 (i 1).val ((i 1).val + 1) _ _ _ hj hq hst hdt acc.2.1 e c
    rw [sum_rows] at h; exact h
  · have h := narrow_K1 x0 x1 x2 x3 x4 x6 (i 1).val ((i 1).val + 1) _ _ _ _ hj hq hst hd hqt acc.2.2.1 f c
    rw [sum_rows] at h; exact h
  · have h := narrow_V1 x0 x2 x5 x6 (i 1).val ((i 1).val + 1) _ _ _ hj hq hst hdt acc.2.2.2 e c
    rw [sum_rows] at h; exact h
  · exact store512 x0 x2 x3 x4 x6 arg9 G (i 1).val _ _ (off6 i k) (k0_off6_inb i k) _ fun k' l =>
      (narrow_Q x0 x2 x3 x4 x6 (i 1).val ((i 1).val + 1) _ _ _ hj hq hst hd _ k' l).trans (by rw [ha]; rfl)

theorem trip_wide (v130 : BitVec 32)
    (k : Fin (k0_t3_loop i).trips) (acc : Accs) (G : BufTy.Contents (Elt Ideal) arg9.view.ty) :
    Adds x0 x1 x2 x3 x4 x5 x6 (i 1).val (1024 * ((i 1).val / 2 + 1 + k.val)) (1024 * ((i 1).val / 2 + 1 + k.val) + 1024) acc
      (tripR_k0_t3 (F := Ideal) 𝒱 c bd i arg2 harg2 arg3 harg3 arg4 harg4 arg5 harg5 arg6 harg6 arg7 harg7 arg8 harg8 arg9 harg9 arg10 harg10 arg11 harg11 x3 (k0_pay82 x2) (k0_pay83 x2) v130 (harg2.unread x0) (harg3.unread x1) (harg6.unread x4) (harg7.unread x5) (harg8.unread x6) k acc G)
    ∧ AddsQ x0 x2 x3 x4 x6 (i 1).val (1024 * ((i 1).val / 2 + 1 + k.val)) (1024 * ((i 1).val / 2 + 1 + k.val) + 1024) (arg9.view.read (Elt Ideal) G)
      (arg9.view.read (Elt Ideal) (arg9.view.writes (Elt Ideal) G
        (tripL_k0_t3 (F := Ideal) 𝒱 c bd i arg2 harg2 arg3 harg3 arg4 harg4 arg5 harg5 arg6 harg6 arg7 harg7 arg8 harg8 arg9 harg9 arg10 harg10 arg11 harg11 x3 (k0_pay82 x2) (k0_pay83 x2) v130 (harg2.unread x0) (harg3.unread x1) (harg6.unread x4) (harg7.unread x5) (harg8.unread x6) k acc G))) := by
  have hj : (i 1).val < 2 * ((i 1).val / 2 + 1 + k.val) := by omega
  have hq := ld_q2 arg2 harg2 x0 _ _ (off16 i k) (k0_off16_inb i k)
  have hqt : ∀ (f : Fin 256) (k' : Fin 512), _ = atT x1 (1024 * ((i 1).val / 2 + 1 + k.val) + k'.val) f := fun f k' =>
    (ld_qt arg3 harg3 x1 _ _ (off17_0 i k) (k0_off17_inb i k 0) f k').trans (congrArg (atT x1 · f) (by omega))
  have hqt2 : ∀ (f : Fin 256) (k' : Fin 512), _ = atT x1 (1024 * ((i 1).val / 2 + 1 + k.val) + (512 + k'.val)) f := fun f k' =>
    (ld_qt arg3 harg3 x1 _ _ (off17_1 i k) (k0_off17_inb i k 1) f k').trans (congrArg (atT x1 · f) (by omega))
  have hd := ld_d2 arg6 harg6 x4 _ _ (off18 i k) (k0_off18_inb i k)
  have hdt : ∀ (f : Fin 128) (k' : Fin 512), _ = atT x5 (1024 * ((i 1).val / 2 + 1 + k.val) + k'.val) f := fun f k' =>
    (ld_dt arg7 harg7 x5 _ _ (off19_0 i k) (k0_off19_inb i k 0) f k').trans (congrArg (atT x5 · f) (by omega))
  have hdt2 : ∀ (f : Fin 128) (k' : Fin 512), _ = atT x5 (1024 * ((i 1).val / 2 + 1 + k.val) + (512 + k'.val)) f := fun f k' =>
    (ld_dt arg7 harg7 x5 _ _ (off19_1 i k) (k0_off19_inb i k 1) f k').trans (congrArg (atT x5 · f) (by omega))
  have hst := ld_st2 arg8 harg8 x6 _ _ (off20 i k) (k0_off20_inb i k)
  have ha := ld_acc1024 arg9 G _ _ (off16 i k) (k0_off16_inb i k)
  unfold tripR_k0_t3 tripL_k0_t3 trip_k0_t3
  refine ⟨⟨fun f c => ?_, fun e c => ?_, fun f c => ?_, fun e c => ?_⟩, ?_⟩
  · have h := wide_K0 x0 x1 x2 x3 x4 x6 (i 1).val ((i 1).val / 2 + 1 + k.val) _ _ _ _ _ hj hq hst hd hqt hqt2 acc.1 f c
    rw [sum_rows] at h; exact h
  · have h := wide_V0 x0 x2 x5 x6 (i 1).val ((i 1).val / 2 + 1 + k.val) _ _ _ _ hj hq hst hdt hdt2 acc.2.1 e c
    rw [sum_rows] at h; exact h
  · have h := wide_K1 x0 x1 x2 x3 x4 x6 (i 1).val ((i 1).val / 2 + 1 + k.val) _ _ _ _ _ hj hq hst hd hqt hqt2 acc.2.2.1 f c
    rw [sum_rows] at h; exact h
  · have h := wide_V1 x0 x2 x5 x6 (i 1).val ((i 1).val / 2 + 1 + k.val) _ _ _ _ hj hq hst hdt hdt2 acc.2.2.2 e c
    rw [sum_rows] at h; exact h
  · exact store1024 x0 x2 x3 x4 x6 arg9 G (i 1).val _ _ (off16 i k) (k0_off16_inb i k) _ fun k' l =>
      (wide_Q x0 x2 x3 x4 x6 (i 1).val ((i 1).val / 2 + 1 + k.val) _ _ _ hj hq hst hd _ k' l).trans (by rw [ha]; rfl)

theorem loop_narrow (v131 : BitVec 32)
    (G : BufTy.Contents (Elt Ideal) arg9.view.ty) (init : Accs) :
    Adds x0 x1 x2 x3 x4 x5 x6 (i 1).val (512 * ((i 1).val + 1)) (1024 * ((i 1).val / 2 + 1)) init
      (st_k0_t1 (F := Ideal) 𝒱 c bd i arg2 harg2 arg3 harg3 arg4 harg4 arg5 harg5 arg6 harg6 arg7 harg7 arg8 harg8 arg9 harg9 arg10 harg10 arg11 harg11 x3 (k0_pay82 x2) (k0_pay83 x2) v131 (harg2.unread x0) (harg3.unread x1) (harg6.unread x4) (harg7.unread x5) (harg8.unread x6) G init (k0_t1_loop i).trips).1
    ∧ AddsQ x0 x2 x3 x4 x6 (i 1).val (512 * ((i 1).val + 1)) (1024 * ((i 1).val / 2 + 1)) (arg9.view.read (Elt Ideal) G)
      (arg9.view.read (Elt Ideal) (arg9.view.writes (Elt Ideal) G
        (st_k0_t1 (F := Ideal) 𝒱 c bd i arg2 harg2 arg3 harg3 arg4 harg4 arg5 harg5 arg6 harg6 arg7 harg7 arg8 harg8 arg9 harg9 arg10 harg10 arg11 harg11 x3 (k0_pay82 x2) (k0_pay83 x2) v131 (harg2.unread x0) (harg3.unread x1) (harg6.unread x4) (harg7.unread x5) (harg8.unread x6) G init (k0_t1_loop i).trips).2)) := by
  have hT := t1_trips i
  by_cases hj : (i 1).val % 2 = 0
  · have h0 : 0 < (k0_t1_loop i).trips := by rw [hT]; omega
    have h1 : (k0_t1_loop i).trips = (⟨0, h0⟩ : Fin (k0_t1_loop i).trips).val + 1 := hT.trans (by show _ = 0 + 1; omega)
    have hR : 1024 * ((i 1).val / 2 + 1) = 512 * ((i 1).val + 1) + 512 := by omega
    have e := st_k0_t1_succ (F := Ideal) 𝒱 c bd i arg2 harg2 arg3 harg3 arg4 harg4 arg5 harg5 arg6 harg6 arg7 harg7 arg8 harg8 arg9 harg9 arg10 harg10 arg11 harg11 x3 (k0_pay82 x2) (k0_pay83 x2) v131 (harg2.unread x0) (harg3.unread x1) (harg6.unread x4) (harg7.unread x5) (harg8.unread x6) G init ⟨0, h0⟩
    rw [← h1] at e
    have e0 : (st_k0_t1 (F := Ideal) 𝒱 c bd i arg2 harg2 arg3 harg3 arg4 harg4 arg5 harg5 arg6 harg6 arg7 harg7 arg8 harg8 arg9 harg9 arg10 harg10 arg11 harg11 x3 (k0_pay82 x2) (k0_pay83 x2) v131 (harg2.unread x0) (harg3.unread x1) (harg6.unread x4) (harg7.unread x5) (harg8.unread x6) G init (⟨0, h0⟩ : Fin (k0_t1_loop i).trips).val) = (init, []) := rfl
    rw [e0] at e
    rw [e, hR]
    dsimp only
    rw [List.append_nil]
    exact trip_narrow x0 x1 x2 x3 x4 x5 x6 𝒱 c bd i arg2 harg2 arg3 harg3 arg4 harg4 arg5 harg5 arg6 harg6 arg7 harg7 arg8 harg8 arg9 harg9 arg10 harg10 arg11 harg11 v131 ⟨0, h0⟩ init G
  · have h1 : (k0_t1_loop i).trips = 0 := by rw [hT]; omega
    have hR : 1024 * ((i 1).val / 2 + 1) = 512 * ((i 1).val + 1) := by omega
    rw [h1, hR]
    exact ⟨Adds.refl _ _ _ _ _ _ _ _ _ _, AddsQ.refl _ _ _ _ _ _ _ _⟩

theorem loop_wide_upto (v130 : BitVec 32)
    (G : BufTy.Contents (Elt Ideal) arg9.view.ty) (init : Accs) : ∀ n : ℕ, n ≤ (k0_t3_loop i).trips →
    Adds x0 x1 x2 x3 x4 x5 x6 (i 1).val (1024 * ((i 1).val / 2 + 1)) (1024 * ((i 1).val / 2 + 1 + n)) init
      (st_k0_t3 (F := Ideal) 𝒱 c bd i arg2 harg2 arg3 harg3 arg4 harg4 arg5 harg5 arg6 harg6 arg7 harg7 arg8 harg8 arg9 harg9 arg10 harg10 arg11 harg11 x3 (k0_pay82 x2) (k0_pay83 x2) v130 (harg2.unread x0) (harg3.unread x1) (harg6.unread x4) (harg7.unread x5) (harg8.unread x6) G init n).1
    ∧ AddsQ x0 x2 x3 x4 x6 (i 1).val (1024 * ((i 1).val / 2 + 1)) (1024 * ((i 1).val / 2 + 1 + n)) (arg9.view.read (Elt Ideal) G)
      (arg9.view.read (Elt Ideal) (arg9.view.writes (Elt Ideal) G
        (st_k0_t3 (F := Ideal) 𝒱 c bd i arg2 harg2 arg3 harg3 arg4 harg4 arg5 harg5 arg6 harg6 arg7 harg7 arg8 harg8 arg9 harg9 arg10 harg10 arg11 harg11 x3 (k0_pay82 x2) (k0_pay83 x2) v130 (harg2.unread x0) (harg3.unread x1) (harg6.unread x4) (harg7.unread x5) (harg8.unread x6) G init n).2))
  | 0, _ => ⟨Adds.refl _ _ _ _ _ _ _ _ _ _, AddsQ.refl _ _ _ _ _ _ _ _⟩
  | n + 1, hn => by
    obtain ⟨hA, hQ⟩ := loop_wide_upto v130 G init n (by omega)
    have e := st_k0_t3_succ (F := Ideal) 𝒱 c bd i arg2 harg2 arg3 harg3 arg4 harg4 arg5 harg5 arg6 harg6 arg7 harg7 arg8 harg8 arg9 harg9 arg10 harg10 arg11 harg11 x3 (k0_pay82 x2) (k0_pay83 x2) v130 (harg2.unread x0) (harg3.unread x1) (harg6.unread x4) (harg7.unread x5) (harg8.unread x6) G init ⟨n, hn⟩
    have t := trip_wide x0 x1 x2 x3 x4 x5 x6 𝒱 c bd i arg2 harg2 arg3 harg3 arg4 harg4 arg5 harg5 arg6 harg6 arg7 harg7 arg8 harg8 arg9 harg9 arg10 harg10 arg11 harg11 v130 ⟨n, hn⟩ (st_k0_t3 (F := Ideal) 𝒱 c bd i arg2 harg2 arg3 harg3 arg4 harg4 arg5 harg5 arg6 harg6 arg7 harg7 arg8 harg8 arg9 harg9 arg10 harg10 arg11 harg11 x3 (k0_pay82 x2) (k0_pay83 x2) v130 (harg2.unread x0) (harg3.unread x1) (harg6.unread x4) (harg7.unread x5) (harg8.unread x6) G init n).1 (arg9.view.writes (Elt Ideal) G (st_k0_t3 (F := Ideal) 𝒱 c bd i arg2 harg2 arg3 harg3 arg4 harg4 arg5 harg5 arg6 harg6 arg7 harg7 arg8 harg8 arg9 harg9 arg10 harg10 arg11 harg11 x3 (k0_pay82 x2) (k0_pay83 x2) v130 (harg2.unread x0) (harg3.unread x1) (harg6.unread x4) (harg7.unread x5) (harg8.unread x6) G init n).2)
    have e' : st_k0_t3 (F := Ideal) 𝒱 c bd i arg2 harg2 arg3 harg3 arg4 harg4 arg5 harg5 arg6 harg6 arg7 harg7 arg8 harg8 arg9 harg9 arg10 harg10 arg11 harg11 x3 (k0_pay82 x2) (k0_pay83 x2) v130 (harg2.unread x0) (harg3.unread x1) (harg6.unread x4) (harg7.unread x5) (harg8.unread x6) G init (n + 1) = _ := e
    rw [e']
    dsimp only
    rw [View.writes_append]
    have hR : 1024 * ((i 1).val / 2 + 1 + (n + 1)) = 1024 * ((i 1).val / 2 + 1 + n) + 1024 := by omega
    rw [hR]
    exact ⟨hA.trans _ _ _ _ _ _ _ (by omega) (by omega) t.1, hQ.trans _ _ _ _ _ (by omega) (by omega) t.2⟩

theorem loop_wide (v130 : BitVec 32)
    (G : BufTy.Contents (Elt Ideal) arg9.view.ty) (init : Accs) :
    Adds x0 x1 x2 x3 x4 x5 x6 (i 1).val (1024 * ((i 1).val / 2 + 1)) (4096) init
      (st_k0_t3 (F := Ideal) 𝒱 c bd i arg2 harg2 arg3 harg3 arg4 harg4 arg5 harg5 arg6 harg6 arg7 harg7 arg8 harg8 arg9 harg9 arg10 harg10 arg11 harg11 x3 (k0_pay82 x2) (k0_pay83 x2) v130 (harg2.unread x0) (harg3.unread x1) (harg6.unread x4) (harg7.unread x5) (harg8.unread x6) G init (k0_t3_loop i).trips).1
    ∧ AddsQ x0 x2 x3 x4 x6 (i 1).val (1024 * ((i 1).val / 2 + 1)) (4096) (arg9.view.read (Elt Ideal) G)
      (arg9.view.read (Elt Ideal) (arg9.view.writes (Elt Ideal) G
        (st_k0_t3 (F := Ideal) 𝒱 c bd i arg2 harg2 arg3 harg3 arg4 harg4 arg5 harg5 arg6 harg6 arg7 harg7 arg8 harg8 arg9 harg9 arg10 harg10 arg11 harg11 x3 (k0_pay82 x2) (k0_pay83 x2) v130 (harg2.unread x0) (harg3.unread x1) (harg6.unread x4) (harg7.unread x5) (harg8.unread x6) G init (k0_t3_loop i).trips).2)) := by
  have h := loop_wide_upto x0 x1 x2 x3 x4 x5 x6 𝒱 c bd i arg2 harg2 arg3 harg3 arg4 harg4 arg5 harg5 arg6 harg6 arg7 harg7 arg8 harg8 arg9 harg9 arg10 harg10 arg11 harg11 v130 G init _ le_rfl
  have hR : 1024 * ((i 1).val / 2 + 1 + (k0_t3_loop i).trips) = 4096 := by
    rw [t3_trips]; have : (i 1).val < 8 := (i 1).isLt; omega
  rw [hR] at h
  exact h

end Cert.KernelIdeal.Bwd
-- ==== Proof.Steps.lean ====
module

public import proofs.«01_k».proof.Proof.Trips
public import Idealize.ShloMosaic.Lib.Tactic

/-! The parts of the body of the attention backward call, on a tile of keys: what its three output blocks hold afterwards, as
    functions of its seven input blocks (and, for the gradient of the queries, of what the block held before). -/

@[expose] public section

set_option maxRecDepth 16384

noncomputable section

namespace Cert.KernelIdeal.BwdValue

open Cert.KernelIdeal.Gen
open Cert.KernelIdeal.Bwd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (x0 : FVec Ideal S4096x256 .bf16) (x1 : FVec Ideal S8x256x512 .bf16) (x2 : FVec Ideal S512x256 .bf16)
  (x3 : FVec Ideal S512x128 .bf16) (x4 : FVec Ideal S4096x128 .bf16) (x5 : FVec Ideal S8x128x512 .bf16)
  (x6 : FVec Ideal S1x4096x128 .f32)

/-- The head and the column within it of one of the 128 columns of the values. -/
def headV (l : Fin 128) : Fin 2 := ⟨l.val / 64, by omega⟩
def inV (l : Fin 128) : Fin 64 := ⟨l.val % 64, by omega⟩

/-- The gradient of the queries after tile `j`, from what it was before: the first tile starts from zero. -/
def outQ (j : ℕ) (d : FVec Ideal S4096x256 .f32) : FVec Ideal S4096x256 .f32 := fun y =>
  (if j = 0 then 0 else d y) + if 512 * j ≤ (y 0).val then tileQ x0 x2 x3 x4 x6 j (y 0).val (y 1) else 0

/-- The gradient of tile `j`'s keys, -/
def outK (j : ℕ) : FVec Ideal S512x256 .bf16 := fun y =>
  (∑ r ∈ Finset.Ico (512 * j) 4096, termK x0 x1 x2 x3 x4 x6 j (headQ (y 1)) (inQ (y 1)) (y 0) r) * cN

/-- and of its values. -/
def outV (j : ℕ) : FVec Ideal S512x128 .bf16 := fun y =>
  ∑ r ∈ Finset.Ico (512 * j) 4096, termV x0 x2 x5 x6 j (headV (y 1)) (inV (y 1)) (y 0) r

theorem pay5_entry (a b : FVec Ideal S128x512 .f32) (c : Fin 512) (l : Fin 256) :
    k0_pay5 (F := Ideal) a b (ix2 c l) = (if h : l.val < 128 then a (ix2 ⟨l.val, h⟩ c) else b (ix2 ⟨l.val - 128, by omega⟩ c)) * cN := by
  pointwise [k0_pay5]
  split_ifs with h h' <;> first | rfl | exact absurd rfl h'

theorem pay6_entry (a b : FVec Ideal S64x512 .f32) (c : Fin 512) (l : Fin 128) :
    k0_pay6 (F := Ideal) a b (ix2 c l) = (if h : l.val < 64 then a (ix2 ⟨l.val, h⟩ c) else b (ix2 ⟨l.val - 64, by omega⟩ c)) := by
  pointwise [k0_pay6]

theorem first_iff (i : grid0.Coords) : (Scalar.cmpi .ne (Scalar.extui (Scalar.cmpi .eq (BitVec.ofNat 32 (i 1).val) 0#32)) 0#32) = 1#1 ↔ (i 1).val = 0 := by
  generalize i 1 = j; revert j; decide +kernel

/-- The accumulators before the first step: zeros. -/
def zeros : Accs := (k0_pay84 (F := Ideal), k0_pay85 (F := Ideal), k0_pay86 (F := Ideal), k0_pay87 (F := Ideal))
theorem zeros_k0 (f : Fin 128) (c : Fin 512) : zeros.1 (ix2 f c) = (0 : EReal) := by
  show k0_pay84 (F := Ideal) (ix2 f c) = 0
  pointwise [k0_pay84]
theorem zeros_v0 (f : Fin 64) (c : Fin 512) : zeros.2.1 (ix2 f c) = (0 : EReal) := by
  show k0_pay85 (F := Ideal) (ix2 f c) = 0
  pointwise [k0_pay85]
theorem zeros_k1 (f : Fin 128) (c : Fin 512) : zeros.2.2.1 (ix2 f c) = (0 : EReal) := by
  show k0_pay86 (F := Ideal) (ix2 f c) = 0
  pointwise [k0_pay86]
theorem zeros_v1 (f : Fin 64) (c : Fin 512) : zeros.2.2.2 (ix2 f c) = (0 : EReal) := by
  show k0_pay87 (F := Ideal) (ix2 f c) = 0
  pointwise [k0_pay87]

theorem whole_store {s : Shape} {e : EltTy} (arg : Memref sig .tc .vmem s e) (f : BufTy.Contents (Elt Ideal) arg.view.ty)
    (off : Fin s.rank → ℕ) (hoff : ∀ a, off a = 0) (inb : ∀ a, off a + s.size a ≤ s.size a) (w : s.Idx → Elt Ideal e) (L : List (View.Piece (Elt Ideal) s e)) :
    arg.view.read (Elt Ideal) (arg.view.writes (Elt Ideal) f (⟨Rect.unit off s.size inb, w⟩ :: L)) = w :=
  funext fun y => View.read_writes_cons_hit_of_coords arg.view f (Rect.unit off s.size inb) w L y y fun a => by
    show (y a).val = off a + 1 * (y a).val
    rw [hoff]; omega

theorem whole_load {s : Shape} {e : EltTy} (arg : Memref sig .tc .vmem s e) (h : arg.IsWhole) (x : s.Idx → Elt Ideal e)
    (off : Fin s.rank → ℕ) (hoff : ∀ a, off a = 0) (inb : ∀ a, off a + s.size a ≤ s.size a) :
    View.readAt (Elt Ideal) arg.view (Rect.unit off s.size inb).toLoadRect (h.unread x) = x := by
  rw [View.readAt_eq_ld, Memref.IsWhole.read_unread]
  funext y
  refine congrArg x (funext fun a => Fin.ext ?_)
  show off a + 1 * (y a).val = (y a).val
  rw [hoff]; omega

section
variable (𝒱 : Variants) (c : Dev nD) (bd : Option 𝒱.V) (i : grid0.Coords)
  (arg2 : Memref sig .tc .vmem S4096x256 .bf16) (harg2 : arg2.IsWhole) (arg3 : Memref sig .tc .vmem S8x256x512 .bf16)
  (harg3 : arg3.IsWhole) (arg4 : Memref sig .tc .vmem S512x256 .bf16) (harg4 : arg4.IsWhole)
  (arg5 : Memref sig .tc .vmem S512x128 .bf16) (harg5 : arg5.IsWhole) (arg6 : Memref sig .tc .vmem S4096x128 .bf16)
  (harg6 : arg6.IsWhole) (arg7 : Memref sig .tc .vmem S8x128x512 .bf16) (harg7 : arg7.IsWhole)
  (arg8 : Memref sig .tc .vmem S1x4096x128 .f32) (harg8 : arg8.IsWhole) (arg9 : Memref sig .tc .vmem S4096x256 .f32)
  (harg9 : arg9.IsWhole) (arg10 : Memref sig .tc .vmem S512x256 .bf16) (harg10 : arg10.IsWhole)
  (arg11 : Memref sig .tc .vmem S512x128 .bf16) (harg11 : arg11.IsWhole)
  (v4 : Vec Ideal S512x128 .bf16) (v5 : FVec Ideal S512x128 .bf16) (v6 : FVec Ideal S512x128 .bf16) (g4 : v4 = x3) (g5 : v5 = k0_pay82 x2) (g6 : v6 = k0_pay83 x2)
  (e1 e2 e3 e4 : BitVec 32) (f : BufTy.Contents (Elt Ideal) arg9.view.ty) (L : List (View.Piece (Elt Ideal) S4096x256 .f32)) (init : Accs)
  (S1 S2 S3 S4 : Accs × List (View.Piece (Elt Ideal) S4096x256 .f32))
  (h1 : S1 = st_k0_t1 (F := Ideal) 𝒱 c bd i arg2 harg2 arg3 harg3 arg4 harg4 arg5 harg5 arg6 harg6 arg7 harg7 arg8 harg8 arg9 harg9 arg10 harg10 arg11 harg11 v4 v5 v6 e1 (harg2.unread x0) (harg3.unread x1) (harg6.unread x4) (harg7.unread x5) (harg8.unread x6) (arg9.view.writes (Elt Ideal) f (L)) init (Scf.trips (k0_t1_loop i).lb (k0_t1_loop i).ub (k0_t1_loop i).st))
  (h2 : S2 = st_k0_t2 (F := Ideal) 𝒱 c bd i arg2 harg2 arg3 harg3 arg4 harg4 arg5 harg5 arg6 harg6 arg7 harg7 arg8 harg8 arg9 harg9 arg10 harg10 arg11 harg11 v4 v5 v6 e2 (harg2.unread x0) (harg3.unread x1) (harg6.unread x4) (harg7.unread x5) (harg8.unread x6) (arg9.view.writes (Elt Ideal) f (S1.2 ++ L)) (S1.1.1, S1.1.2.1, S1.1.2.2.1, S1.1.2.2.2) (Scf.trips (k0_t2_loop i).lb (k0_t2_loop i).ub (k0_t2_loop i).st))
  (h3 : S3 = st_k0_t3 (F := Ideal) 𝒱 c bd i arg2 harg2 arg3 harg3 arg4 harg4 arg5 harg5 arg6 harg6 arg7 harg7 arg8 harg8 arg9 harg9 arg10 harg10 arg11 harg11 v4 v5 v6 e3 (harg2.unread x0) (harg3.unread x1) (harg6.unread x4) (harg7.unread x5) (harg8.unread x6) (arg9.view.writes (Elt Ideal) f (S2.2 ++ (S1.2 ++ L))) (S2.1.1, S2.1.2.1, S2.1.2.2.1, S2.1.2.2.2) (Scf.trips (k0_t3_loop i).lb (k0_t3_loop i).ub (k0_t3_loop i).st))
  (h4 : S4 = st_k0_t4 (F := Ideal) 𝒱 c bd i arg2 harg2 arg3 harg3 arg4 harg4 arg5 harg5 arg6 harg6 arg7 harg7 arg8 harg8 arg9 harg9 arg10 harg10 arg11 harg11 v4 v5 v6 e4 (harg2.unread x0) (harg3.unread x1) (harg6.unread x4) (harg7.unread x5) (harg8.unread x6) (arg9.view.writes (Elt Ideal) f (S3.2 ++ (S2.2 ++ (S1.2 ++ L)))) (S3.1.1, S3.1.2.1, S3.1.2.2.1, S3.1.2.2.2) (Scf.trips (k0_t4_loop i).lb (k0_t4_loop i).ub (k0_t4_loop i).st))

include g4 g5 g6 h1 h2 h3 h4 in
/-- The four loops, one after the other: two of them never run, the others cover the rows after the tile. -/
theorem loops :
    Adds x0 x1 x2 x3 x4 x5 x6 (i 1).val (512 * ((i 1).val + 1)) 4096 init S4.1
    ∧ AddsQ x0 x2 x3 x4 x6 (i 1).val (512 * ((i 1).val + 1)) 4096 (arg9.view.read (Elt Ideal) (arg9.view.writes (Elt Ideal) f L))
      (arg9.view.read (Elt Ideal) (arg9.view.writes (Elt Ideal) f (S4.2 ++ (S3.2 ++ (S2.2 ++ (S1.2 ++ L)))))) := by
  subst g4 g5 g6
  have t2 := t2_trips i
  have t4 := t4_trips i
  unfold Scf.Loop.trips at t2 t4
  rw [t2] at h2
  rw [t4] at h4
  have h2' : S2 = (S1.1, []) := h2
  have h4' : S4 = (S3.1, []) := h4
  clear h2 h4
  subst h2' h4'
  have n := loop_narrow x0 x1 x2 v4 x4 x5 x6 𝒱 c bd i arg2 harg2 arg3 harg3 arg4 harg4 arg5 harg5 arg6 harg6 arg7 harg7 arg8 harg8 arg9 harg9 arg10 harg10 arg11 harg11 e1 (arg9.view.writes (Elt Ideal) f L) init
  unfold Scf.Loop.trips at n
  rw [← h1] at n
  have w := loop_wide x0 x1 x2 v4 x4 x5 x6 𝒱 c bd i arg2 harg2 arg3 harg3 arg4 harg4 arg5 harg5 arg6 harg6 arg7 harg7 arg8 harg8 arg9 harg9 arg10 harg10 arg11 harg11 e3 (arg9.view.writes (Elt Ideal) f ([] ++ (S1.2 ++ L))) S1.1
  have h3' : S3 = st_k0_t3 (F := Ideal) 𝒱 c bd i arg2 harg2 arg3 harg3 arg4 harg4 arg5 harg5 arg6 harg6 arg7 harg7 arg8 harg8 arg9 harg9 arg10 harg10 arg11 harg11 v4 (k0_pay82 x2) (k0_pay83 x2) e3 (harg2.unread x0) (harg3.unread x1) (harg6.unread x4) (harg7.unread x5) (harg8.unread x6) (arg9.view.writes (Elt Ideal) f ([] ++ (S1.2 ++ L))) S1.1 (Scf.trips (k0_t3_loop i).lb (k0_t3_loop i).ub (k0_t3_loop i).st) := h3
  unfold Scf.Loop.trips at w
  rw [← h3'] at w
  simp only [List.nil_append, View.writes_append] at n w ⊢
  have hj : (i 1).val < 8 := (i 1).isLt
  exact ⟨n.1.trans _ _ _ _ _ _ _ (by omega) (by omega) w.1, n.2.trans _ _ _ _ _ (by omega) (by omega) w.2⟩

include g4 g5 g6 h1 h2 h3 h4 in
theorem outQ_of (d base : FVec Ideal S4096x256 .f32)
    (hb : ∀ y, base y = if (i 1).val = 0 then 0 else d y)
    (hL : AddsQ x0 x2 x3 x4 x6 (i 1).val (512 * (i 1).val) (512 * (i 1).val + 512) base (arg9.view.read (Elt Ideal) (arg9.view.writes (Elt Ideal) f L))) :
    arg9.view.read (Elt Ideal) (arg9.view.writes (Elt Ideal) f (S4.2 ++ (S3.2 ++ (S2.2 ++ (S1.2 ++ L))))) = outQ x0 x2 x3 x4 x6 (i 1).val d := by
  have hj : (i 1).val < 8 := (i 1).isLt
  have h := hL.trans _ _ _ _ _ (by omega) (by omega) (loops x0 x1 x2 x3 x4 x5 x6 𝒱 c bd i arg2 harg2 arg3 harg3 arg4 harg4 arg5 harg5 arg6 harg6 arg7 harg7 arg8 harg8 arg9 harg9 arg10 harg10 arg11 harg11 v4 v5 v6 g4 g5 g6 e1 e2 e3 e4 f L init S1 S2 S3 S4 h1 h2 h3 h4).2
  funext y
  idx_vars y
  rw [h y0 y1, hb]
  unfold outQ
  simp only [y0.isLt, and_true]
  rfl

include g4 g5 g6 h1 h2 h3 h4 in
theorem outK_of
    (h0 : Adds x0 x1 x2 x3 x4 x5 x6 (i 1).val (512 * (i 1).val) (512 * (i 1).val + 512) zeros init) :
    k0_pay5 (F := Ideal) S4.1.1 S4.1.2.2.1 = outK x0 x1 x2 x3 x4 x6 (i 1).val := by
  have hj : (i 1).val < 8 := (i 1).isLt
  have h := h0.trans _ _ _ _ _ _ _ (by omega) (by omega) (loops x0 x1 x2 x3 x4 x5 x6 𝒱 c bd i arg2 harg2 arg3 harg3 arg4 harg4 arg5 harg5 arg6 harg6 arg7 harg7 arg8 harg8 arg9 harg9 arg10 harg10 arg11 harg11 v4 v5 v6 g4 g5 g6 e1 e2 e3 e4 f L init S1 S2 S3 S4 h1 h2 h3 h4).1
  funext y
  idx_vars y
  rw [pay5_entry]
  unfold outK
  refine congrArg (· * cN) ?_
  show _ = ∑ r ∈ Finset.Ico (512 * (i 1).val) 4096, termK x0 x1 x2 x3 x4 x6 (i 1).val (headQ y1) (inQ y1) y0 r
  split_ifs with hl
  · have hh : headQ y1 = 0 := Fin.ext (by simp only [headQ]; exact Nat.div_eq_of_lt hl)
    have hi : inQ y1 = ⟨y1.val, hl⟩ := Fin.ext (by simp only [inQ]; omega)
    rw [h.k0, hh, hi, zeros_k0, zero_add]
  · have hh : headQ y1 = 1 := Fin.ext (by simp only [headQ]; have : (1 : Fin 2).val = 1 := rfl; omega)
    have hi : inQ y1 = ⟨y1.val - 128, by omega⟩ := Fin.ext (by simp only [inQ]; omega)
    rw [h.k1, hh, hi, zeros_k1, zero_add]

include g4 g5 g6 h1 h2 h3 h4 in
theorem outV_of
    (h0 : Adds x0 x1 x2 x3 x4 x5 x6 (i 1).val (512 * (i 1).val) (512 * (i 1).val + 512) zeros init) :
    k0_pay6 (F := Ideal) S4.1.2.1 S4.1.2.2.2 = outV x0 x2 x5 x6 (i 1).val := by
  have hj : (i 1).val < 8 := (i 1).isLt
  have h := h0.trans _ _ _ _ _ _ _ (by omega) (by omega) (loops x0 x1 x2 x3 x4 x5 x6 𝒱 c bd i arg2 harg2 arg3 harg3 arg4 harg4 arg5 harg5 arg6 harg6 arg7 harg7 arg8 harg8 arg9 harg9 arg10 harg10 arg11 harg11 v4 v5 v6 g4 g5 g6 e1 e2 e3 e4 f L init S1 S2 S3 S4 h1 h2 h3 h4).1
  funext y
  idx_vars y
  rw [pay6_entry]
  unfold outV
  show _ = ∑ r ∈ Finset.Ico (512 * (i 1).val) 4096, termV x0 x2 x5 x6 (i 1).val (headV y1) (inV y1) y0 r
  split_ifs with hl
  · have hh : headV y1 = 0 := Fin.ext (by simp only [headV]; exact Nat.div_eq_of_lt hl)
    have hi : inV y1 = ⟨y1.val, hl⟩ := Fin.ext (by simp only [inV]; omega)
    rw [h.v0, hh, hi, zeros_v0, zero_add]
  · have hh : headV y1 = 1 := Fin.ext (by simp only [headV]; have : (1 : Fin 2).val = 1 := rfl; omega)
    have hi : inV y1 = ⟨y1.val - 64, by omega⟩ := Fin.ext (by simp only [inV]; omega)
    rw [h.v1, hh, hi, zeros_v1, zero_add]

end

section
variable (j : ℕ) (v4 : Vec Ideal S512x128 .bf16) (v5 : FVec Ideal S512x128 .bf16) (v6 : FVec Ideal S512x128 .bf16) (g4 : v4 = x3) (g5 : v5 = k0_pay82 x2) (g6 : v6 = k0_pay83 x2)
  (q : FVec Ideal S512x256 .bf16) (qt : FVec Ideal S1x256x512 .bf16) (d : FVec Ideal S512x128 .bf16) (dt : FVec Ideal S1x128x512 .bf16) (st : FVec Ideal S1x512x128 .f32)
  (hq : ∀ (k : Fin 512) (f : Fin 256), q (ix2 k f) = x0 (ix2 (rowN (512 * j + k.val)) f))
  (hqt : ∀ (f : Fin 256) (k : Fin 512), qt (ix3 0 f k) = atT x1 (512 * j + k.val) f)
  (hd : ∀ (k : Fin 512) (l : Fin 128), d (ix2 k l) = x4 (ix2 (rowN (512 * j + k.val)) l))
  (hdt : ∀ (e : Fin 128) (k : Fin 512), dt (ix3 0 e k) = atT x5 (512 * j + k.val) e)
  (hst : ∀ (k : Fin 512) (l : Fin 128), st (ix3 0 k l) = x6 (ix3 0 (rowN (512 * j + k.val)) l))

include g4 g5 g6 hq hqt hd hdt hst in
/-- The step on the tile's own rows, from accumulators at zero. -/
theorem diag_adds : Adds x0 x1 x2 x3 x4 x5 x6 j (512 * j) (512 * j + 512) zeros
    (k0_pay100 v4 v5 k0_pay84 (k0_pay89 q) (k0_pay91 qt) (k0_pay92 d) k0_pay93 (iota .tc S1x128 32 [1] iota_S1x128_d1_w32) st,
      k0_pay99 v5 k0_pay85 (k0_pay89 q) dt st,
      k0_pay106 v4 k0_pay86 (k0_pay91 qt) (k0_pay94 (k0_pay92 d) k0_pay93) (k0_pay96 st) (k0_pay102 v6 (k0_pay90 q)) (iota .tc S512x512 32 [0] iota_S512x512_d0_w32),
      k0_pay105 k0_pay87 (k0_pay95 dt) (k0_pay96 st) (k0_pay102 v6 (k0_pay90 q)) (iota .tc S512x512 32 [0] iota_S512x512_d0_w32)) := by
  subst g4 g5 g6
  refine ⟨fun f c => ?_, fun e c => ?_, fun f c => ?_, fun e c => ?_⟩
  · have h := diag_K0 x0 x1 x2 v4 x4 x6 j j _ _ _ _ rfl hq hst hd hqt k0_pay84 f c
    rw [sum_rows] at h; exact h
  · have h := diag_V0 x0 x2 x5 x6 j j _ _ _ rfl hq hst hdt k0_pay85 e c
    rw [sum_rows] at h; exact h
  · have h := diag_K1 x0 x1 x2 v4 x4 x6 j j _ _ _ _ rfl hq hst hd hqt k0_pay86 f c
    rw [sum_rows] at h; exact h
  · have h := diag_V1 x0 x2 x5 x6 j j _ _ _ rfl hq hst hdt k0_pay87 e c
    rw [sum_rows] at h; exact h

include g4 g5 g6 hq hd hst in
theorem diag_addsQ (arg : Memref sig .tc .vmem S4096x256 .f32) (f : BufTy.Contents (Elt Ideal) arg.view.ty)
    (L : List (View.Piece (Elt Ideal) S4096x256 .f32)) (off : Fin 2 → ℕ)
    (hoff : off = ![512 * j, 0]) (inb : ∀ a, off a + S512x256.size a ≤ S4096x256.size a) :
    AddsQ x0 x2 x3 x4 x6 j (512 * j) (512 * j + 512) (arg.view.read (Elt Ideal) (arg.view.writes (Elt Ideal) f L))
      (arg.view.read (Elt Ideal) (arg.view.writes (Elt Ideal) f (⟨Rect.unit (s := S4096x256) off S512x256.size inb,
        k0_pay107 v4 v6 (k0_pay94 (k0_pay92 d) k0_pay93) (k0_pay96 st)
          (k0_pay101 v4 v5 (k0_pay89 q) (k0_pay92 d) k0_pay93 (iota .tc S1x128 32 [1] iota_S1x128_d1_w32) st)
          (k0_pay102 v6 (k0_pay90 q)) (iota .tc S512x512 32 [0] iota_S512x512_d0_w32)
          (View.readAt (Elt Ideal) arg.view (Rect.unit (s := S4096x256) off S512x256.size inb).toLoadRect
            (arg.view.writes (Elt Ideal) f L))⟩ :: L))) := by
  subst g4 g5 g6
  exact store512 x0 x2 v4 x4 x6 arg (arg.view.writes (Elt Ideal) f L) j _ _ hoff inb _ fun k' l =>
    (diag_Q x0 x2 v4 x4 x6 j j _ _ _ rfl hq hst hd _ k' l).trans (by rw [ld_acc512 arg _ _ _ hoff inb]; rfl)
end

end Cert.KernelIdeal.BwdValue

end
-- ==== Proof.Body.lean ====
module

public import proofs.«01_k».proof.Proof.Steps
public import proofs.«01_k».proof.Proof.KernelIdealFrame

/-! The body of the attention backward call, run on a tile of keys: what its three output blocks hold afterwards, as
    functions of its seven input blocks (and, for the gradient of the queries, of what the block held before). -/

@[expose] public section

set_option maxRecDepth 16384

noncomputable section

namespace Cert.KernelIdeal.BwdValue

open Cert.KernelIdeal.Gen
open Cert.KernelIdeal.Bwd hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (x0 : FVec Ideal S4096x256 .bf16) (x1 : FVec Ideal S8x256x512 .bf16) (x2 : FVec Ideal S512x256 .bf16)
  (x3 : FVec Ideal S512x128 .bf16) (x4 : FVec Ideal S4096x128 .bf16) (x5 : FVec Ideal S8x128x512 .bf16)
  (x6 : FVec Ideal S1x4096x128 .f32)

theorem zero2 : ∀ a : Fin 2, (![0, 0] : Fin 2 → ℕ) a = 0 := by decide

theorem pay81_entry (y : S4096x256.Idx) : k0_pay81 (F := Ideal) y = (0 : EReal) := by
  idx_vars y
  pointwise [k0_pay81]

set_option maxHeartbeats 4000000 in
/-- The body, on whole staging buffers. -/
theorem body_value (c : Dev nD) (i : grid0.Coords) (arg2 : Memref sig .tc .vmem S4096x256 .bf16) (harg2 : arg2.IsWhole) (arg3 : Memref sig .tc .vmem S8x256x512 .bf16) (harg3 : arg3.IsWhole) (arg4 : Memref sig .tc .vmem S512x256 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1x4096x128 .f32) (harg8 : arg8.IsWhole) (arg9 : Memref sig .tc .vmem S4096x256 .f32) (harg9 : arg9.IsWhole) (arg10 : Memref sig .tc .vmem S512x256 .bf16) (harg10 : arg10.IsWhole) (arg11 : Memref sig .tc .vmem S512x128 .bf16) (harg11 : arg11.IsWhole)
    (d7 : FVec Ideal S4096x256 .f32) (E : Set ℕ) (K : PUnit → sProp 𝕄) :
    iprop((owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare d7
      ∗ (∃ d, owns (c : Thread nD τ) arg10 fullShare d)
      ∗ (∃ d, owns (c : Thread nD τ) arg11 fullShare d))
      ∗ ((owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare (outQ x0 x2 x3 x4 x6 (i 1).val d7)
      ∗ owns (c : Thread nD τ) arg10 fullShare (outK x0 x1 x2 x3 x4 x6 (i 1).val)
      ∗ owns (c : Thread nD τ) arg11 fullShare (outV x0 x2 x5 x6 (i 1).val)) -∗ K ⟨⟩))
      ⊢ wp frame (wpE (defs₀ (F := Ideal)) Variants.none c none) E (cc0_mla_bwd i arg2 harg2 arg3 harg3 arg4 harg4 arg5 harg5 arg6 harg6 arg7 harg7 arg8 harg8 arg9 harg9 arg10 harg10 arg11 harg11) K := by
  simp only [cc0_mla_bwd_eq_skeleton]; unfold cc0_mla_bwd_skel
  simp only [k0_part9_eq_skeleton, k0_part10_eq_skeleton, k0_part11_eq_skeleton]
  unfold owns
  by_cases hc : FirstTile i
  all_goals
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc)
    sl_step
    have hq := ld_q arg2 harg2 x0 _ _ (off1 i) (k0_off1_inb i)
    have hqt := ld_qt arg3 harg3 x1 _ _ (off2 i) (k0_off2_inb i)
    have hd := ld_d arg6 harg6 x4 _ _ (off3 i) (k0_off3_inb i)
    have hdt := ld_dt arg7 harg7 x5 _ _ (off4 i) (k0_off4_inb i)
    have hst := ld_st arg8 harg8 x6 _ _ (off5 i) (k0_off5_inb i)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      generalize h4 : st_k0_t4 (F := Ideal) _ _ _ _ _ _ _ _ _ _ _ _ _ _ _ _ _ _ _ _ _ _ _ _ _ _ _ _ _ _ _ _ _ _ _ _ = S4
      generalize h3 : st_k0_t3 (F := Ideal) _ _ _ _ _ _ _ _ _ _ _ _ _ _ _ _ _ _ _ _ _ _ _ _ _ _ _ _ _ _ _ _ _ _ _ _ = S3 at h4 ⊢
      generalize h2 : st_k0_t2 (F := Ideal) _ _ _ _ _ _ _ _ _ _ _ _ _ _ _ _ _ _ _ _ _ _ _ _ _ _ _ _ _ _ _ _ _ _ _ _ = S2 at h3 h4 ⊢
      generalize h1 : st_k0_t1 (F := Ideal) _ _ _ _ _ _ _ _ _ _ _ _ _ _ _ _ _ _ _ _ _ _ _ _ _ _ _ _ _ _ _ _ _ _ _ _ = S1 at h2 h3 h4 ⊢
      refine outQ_of x0 x1 x2 x3 x4 x5 x6 _ _ _ i arg2 harg2 arg3 harg3 arg4 harg4 arg5 harg5 arg6 harg6 arg7 harg7 arg8 harg8 arg9 harg9 arg10 harg10 arg11 harg11 _ _ _ (whole_load arg5 harg5 x3 _ zero2 _) (congrArg k0_pay82 (whole_load arg4 harg4 x2 _ zero2 _)) (congrArg k0_pay83 (whole_load arg4 harg4 x2 _ zero2 _)) _ _ _ _ _ _ _ S1 S2 S3 S4 h1.symm h2.symm h3.symm h4.symm _ _ ?_ (diag_addsQ x0 x2 x3 x4 x6 (i 1).val _ _ _ (whole_load arg5 harg5 x3 _ zero2 _) (congrArg k0_pay82 (whole_load arg4 harg4 x2 _ zero2 _)) (congrArg k0_pay83 (whole_load arg4 harg4 x2 _ zero2 _)) _ _ _ hq hd hst arg9 _ _ _ (off1 i) (k0_off1_inb i))
      first
      | intro y
        rw [if_pos ((first_iff i).mp hc)]
        exact (congrFun (whole_store arg9 _ _ zero2 _ _ _) y).trans (pay81_entry y)
      | intro y
        rw [if_neg (fun h => hc ((first_iff i).mpr h))]
        exact congrFun hf7 y
    isplitl [H8]
    · iexists _; isplitr; swap; · iexact H8
      ipureintro
      refine (whole_store arg10 _ _ zero2 _ _ _).trans ?_
      generalize h4 : st_k0_t4 (F := Ideal) _ _ _ _ _ _ _ _ _ _ _ _ _ _ _ _ _ _ _ _ _ _ _ _ _ _ _ _ _ _ _ _ _ _ _ _ = S4
      generalize h3 : st_k0_t3 (F := Ideal) _ _ _ _ _ _ _ _ _ _ _ _ _ _ _ _ _ _ _ _ _ _ _ _ _ _ _ _ _ _ _ _ _ _ _ _ = S3 at h4 ⊢
      generalize h2 : st_k0_t2 (F := Ideal) _ _ _ _ _ _ _ _ _ _ _ _ _ _ _ _ _ _ _ _ _ _ _ _ _ _ _ _ _ _ _ _ _ _ _ _ = S2 at h3 h4 ⊢
      generalize h1 : st_k0_t1 (F := Ideal) _ _ _ _ _ _ _ _ _ _ _ _ _ _ _ _ _ _ _ _ _ _ _ _ _ _ _ _ _ _ _ _ _ _ _ _ = S1 at h2 h3 h4 ⊢
      exact outK_of x0 x1 x2 x3 x4 x5 x6 _ _ _ i arg2 harg2 arg3 harg3 arg4 harg4 arg5 harg5 arg6 harg6 arg7 harg7 arg8 harg8 arg9 harg9 arg10 harg10 arg11 harg11 _ _ _ (whole_load arg5 harg5 x3 _ zero2 _) (congrArg k0_pay82 (whole_load arg4 harg4 x2 _ zero2 _)) (congrArg k0_pay83 (whole_load arg4 harg4 x2 _ zero2 _)) _ _ _ _ _ _ _ S1 S2 S3 S4 h1.symm h2.symm h3.symm h4.symm (diag_adds x0 x1 x2 x3 x4 x5 x6 (i 1).val _ _ _ (whole_load arg5 harg5 x3 _ zero2 _) (congrArg k0_pay82 (whole_load arg4 harg4 x2 _ zero2 _)) (congrArg k0_pay83 (whole_load arg4 harg4 x2 _ zero2 _)) _ _ _ _ _ hq hqt hd hdt hst)
    iexists _; isplitr; swap; · iexact H9
    ipureintro
    refine (whole_store arg11 _ _ zero2 _ _ _).trans ?_
    generalize h4 : st_k0_t4 (F := Ideal) _ _ _ _ _ _ _ _ _ _ _ _ _ _ _ _ _ _ _ _ _ _ _ _ _ _ _ _ _ _ _ _ _ _ _ _ = S4
    generalize h3 : st_k0_t3 (F := Ideal) _ _ _ _ _ _ _ _ _ _ _ _ _ _ _ _ _ _ _ _ _ _ _ _ _ _ _ _ _ _ _ _ _ _ _ _ = S3 at h4 ⊢
    generalize h2 : st_k0_t2 (F := Ideal) _ _ _ _ _ _ _ _ _ _ _ _ _ _ _ _ _ _ _ _ _ _ _ _ _ _ _ _ _ _ _ _ _ _ _ _ = S2 at h3 h4 ⊢
    generalize h1 : st_k0_t1 (F := Ideal) _ _ _ _ _ _ _ _ _ _ _ _ _ _ _ _ _ _ _ _ _ _ _ _ _ _ _ _ _ _ _ _ _ _ _ _ = S1 at h2 h3 h4 ⊢
    exact outV_of x0 x1 x2 x3 x4 x5 x6 _ _ _ i arg2 harg2 arg3 harg3 arg4 harg4 arg5 harg5 arg6 harg6 arg7 harg7 arg8 harg8 arg9 harg9 arg10 harg10 arg11 harg11 _ _ _ (whole_load arg5 harg5 x3 _ zero2 _) (congrArg k0_pay82 (whole_load arg4 harg4 x2 _ zero2 _)) (congrArg k0_pay83 (whole_load arg4 harg4 x2 _ zero2 _)) _ _ _ _ _ _ _ S1 S2 S3 S4 h1.symm h2.symm h3.symm h4.symm (diag_adds x0 x1 x2 x3 x4 x5 x6 (i 1).val _ _ _ (whole_load arg5 harg5 x3 _ zero2 _) (congrArg k0_pay82 (whole_load arg4 harg4 x2 _ zero2 _)) (congrArg k0_pay83 (whole_load arg4 harg4 x2 _ zero2 _)) _ _ _ _ _ hq hqt hd hdt hst)

end Cert.KernelIdeal.BwdValue

end
-- ==== Proof.Run.lean ====
module

public import proofs.«01_k».proof.Proof.Body

/-! The value run of the attention backward call: what the three result arrays hold when the launch ends, block by
    block of the grid. -/

@[expose] public section

set_option maxRecDepth 16384

noncomputable section

namespace Cert.KernelIdeal.BwdValue

open Cert.KernelIdeal.Gen
open Cert.KernelIdeal.Bwd hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Point `n` of the grid's 32. -/
def point (n : ℕ) : Fin cfg0.N := ⟨n % 32, lt_of_lt_of_eq (Nat.mod_lt _ (by norm_num)) N_0.symm⟩

theorem point_val (t : Fin cfg0.N) : point t.val = t :=
  Fin.ext (Nat.mod_eq_of_lt (lt_of_lt_of_eq t.isLt N_0))

/-- The second coordinate of a point is its tile of keys. -/
theorem tile_of : ∀ t : Fin cfg0.N, (grid0.coords t 1).val = t.val % 8 :=
  (by decide +kernel : ∀ t : Fin grid0.N, (grid0.coords t 1).val = t.val % 8)

/-- The gradient of the queries after point `n`, from what its block held before it, -/
def stepQ (c : Dev nD) (n : ℕ) (d : FVec Ideal S4096x256 .f32) : FVec Ideal S4096x256 .f32 :=
  outQ (iblk m c 0 (point n)) (iblk m c 2 (point n)) (iblk m c 3 (point n)) (iblk m c 4 (point n)) (iblk m c 6 (point n)) (n % 8) d

/-- and from the start of the grid. -/
def accQ (c : Dev nD) : ℕ → FVec Ideal S4096x256 .f32
  | 0 => stepQ m c 0 fun _ => (0 : EReal)
  | n + 1 => stepQ m c (n + 1) (accQ c n)

/-- On the first tile nothing of the block's contents is kept. -/
theorem stepQ_first (c : Dev nD) (n : ℕ) (hn : n % 8 = 0) (d d' : FVec Ideal S4096x256 .f32) :
    stepQ m c n d = stepQ m c n d' := by
  unfold stepQ outQ; rw [hn]; funext y; simp only [if_pos]

/-- The launch's data: arrays as the region finds them, inputs left in place, the outputs by the body. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => accQ m c t.val
    | ⟨8, _⟩ => outK (iblk m c 0 t) (iblk m c 1 t) (iblk m c 2 t) (iblk m c 3 t) (iblk m c 4 t) (iblk m c 6 t) (t.val % 8)
    | ⟨9, _⟩ => outV (iblk m c 0 t) (iblk m c 2 t) (iblk m c 5 t) (iblk m c 6 t) (t.val % 8)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = accQ m c t.val := by dsimp only [dats]
theorem after_8 (c : Dev nD) (t : Fin cfg0.N) : (dats m 0 c).after 8 t
    = outK (iblk m c 0 t) (iblk m c 1 t) (iblk m c 2 t) (iblk m c 3 t) (iblk m c 4 t) (iblk m c 6 t) (t.val % 8) := by dsimp only [dats]
theorem after_9 (c : Dev nD) (t : Fin cfg0.N) : (dats m 0 c).after 9 t
    = outV (iblk m c 0 t) (iblk m c 2 t) (iblk m c 5 t) (iblk m c 6 t) (t.val % 8) := by dsimp only [dats]

theorem fetch_7 (t : Fin cfg0.N) : (cfg0.win 7).fetch t = false := rfl

/-- What the body leaves in the block of the gradient of the queries. -/
theorem step_of (c : Dev nD) (t : Fin cfg0.N) (d : FVec Ideal S4096x256 .f32) :
    outQ (iblk m c 0 t) (iblk m c 2 t) (iblk m c 3 t) (iblk m c 4 t) (iblk m c 6 t) (t.val % 8) ((dats m 0 c).before 7 t d)
      = accQ m c t.val := by
  have hs : ∀ d, outQ (iblk m c 0 t) (iblk m c 2 t) (iblk m c 3 t) (iblk m c 4 t) (iblk m c 6 t) (t.val % 8) d = stepQ m c t.val d := fun d => by
    unfold stepQ; rw [point_val]
  rw [hs]
  by_cases h8 : t.val % 8 = 0
  · generalize t.val = n at h8
    cases n with
    | zero => exact stepQ_first m c 0 rfl _ _
    | succ n => exact stepQ_first m c (n + 1) h8 _ _
  · have h0 : t.val ≠ 0 := fun h => h8 (by rw [h])
    have hb : (dats m 0 c).before 7 t d = accQ m c (t.val - 1) := by
      rw [(dats m 0 c).before_of_pos 7 t h0 (fetch_7 t) d, if_neg (fun hf => by have := (flush0_7 _).mp hf; dsimp only at this; omega)]
      exact after_7 m c _
    rw [hb]
    obtain ⟨n, hn⟩ := Nat.exists_eq_succ_of_ne_zero h0
    rw [hn]; rfl

/-- What the launch hands the body at a point, -/
def given (c : Dev nD) (t : Fin cfg0.N) : sProp 𝕄 :=
  iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare ((dats m 0 c).before 7 t d))
      ∗ (∃ d, owns (c : Thread nD τ) (win0_8.stage (cfg0.slots t 8)) fullShare ((dats m 0 c).before 8 t d))
      ∗ (∃ d, owns (c : Thread nD τ) (win0_9.stage (cfg0.slots t 9)) fullShare ((dats m 0 c).before 9 t d)))

/-- and what it takes back. -/
def returned (c : Dev nD) (t : Fin cfg0.N) : sProp 𝕄 :=
  iprop((dats m 0 c).Φ t.succ ∗ (dats m 0 c).owesAt () t.succ
      ∗ owns (c : Thread nD τ) (win0_0.stage (cfg0.slots t 0)) fullShare ((dats m 0 c).after 0 t)
      ∗ owns (c : Thread nD τ) (win0_1.stage (cfg0.slots t 1)) fullShare ((dats m 0 c).after 1 t)
      ∗ owns (c : Thread nD τ) (win0_2.stage (cfg0.slots t 2)) fullShare ((dats m 0 c).after 2 t)
      ∗ owns (c : Thread nD τ) (win0_3.stage (cfg0.slots t 3)) fullShare ((dats m 0 c).after 3 t)
      ∗ owns (c : Thread nD τ) (win0_4.stage (cfg0.slots t 4)) fullShare ((dats m 0 c).after 4 t)
      ∗ owns (c : Thread nD τ) (win0_5.stage (cfg0.slots t 5)) fullShare ((dats m 0 c).after 5 t)
      ∗ owns (c : Thread nD τ) (win0_6.stage (cfg0.slots t 6)) fullShare ((dats m 0 c).after 6 t)
      ∗ owns (c : Thread nD τ) (win0_7.stage (cfg0.slots t 7)) fullShare ((dats m 0 c).after 7 t)
      ∗ owns (c : Thread nD τ) (win0_8.stage (cfg0.slots t 8)) fullShare ((dats m 0 c).after 8 t)
      ∗ owns (c : Thread nD τ) (win0_9.stage (cfg0.slots t 9)) fullShare ((dats m 0 c).after 9 t))

set_option maxHeartbeats 1600000 in
theorem body_point (c : Dev nD) (t : Fin cfg0.N) :
    given m c t ⊢ wp frame (wpE (defs₀ (F := Ideal)) Variants.none c none) Set.univ (bodyAt0 t) (fun _ => returned m c t) := by
  unfold given returned bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [after_7, ← step_of m c t d7, ← tile_of t]
  iapply (body_value (iblk m c 0 t) (iblk m c 1 t) (iblk m c 2 t) (iblk m c 3 t) (iblk m c 4 t) (iblk m c 5 t) (iblk m c 6 t) c (grid0.coords t) _ _ _ _ _ _ _ _ _ _ _ _ _ _ _ _ _ _ _ _ ((dats m 0 c).before 7 t d7) Set.univ _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem obligation (c : Dev nD) : BodyObligation (dats m 0 c) (defs₀ (F := Ideal)) Variants.none () Set.univ := fun t => by
  rw [bigSep_W0, bigSep_W0, body_row]
  exact triple_restated (body_point m c t) rfl .rfl fun _ => .rfl

-- the launch theorem's implicit arguments are found by unfolding plain definitions in a type
set_option backward.isDefEq.respectTransparency.types false in
/-- The launch ends with every array as the data say and every counter at zero. -/
theorem launched : θ_run defs (onTc (τ := τ) (main (F := Ideal))) (s₀ m ρ) (fun r =>
    Pipeline.FramePost cfgs (dats m) (0 : Fin 1) (V m) r ∧ r.2.sem = fun _ => 0) :=
  Pipeline.θ_run_frame cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)
    (Q' := fun r => Pipeline.FramePost cfgs (dats m) (0 : Fin 1) (V m) r ∧ r.2.sem = fun _ => 0) (hQ' := fun _ h => h)

end Cert.KernelIdeal.BwdValue

end
-- ==== Proof.Entry.lean ====
module

public import proofs.«01_k».proof.Proof.Run
public import Idealize.ShloMosaic.Lib.StableHlo.Run

/-! What the host wrote before the attention backward launch, as the composition of its operations: the row
    statistics, from the masked logits of the softmax, and the transposed blocks of queries and gradients. -/

@[expose] public section

set_option maxRecDepth 16384

noncomputable section

namespace Cert.KernelIdeal.BwdValue

open Cert.KernelIdeal Cert.KernelIdeal.Gen
open Idealize.ShloMosaic Idealize.ShloMosaic.TcCoe Idealize.ShloMosaic.Tactic
open Idealize.SL.Sem

/-- The heads of an array of queries or keys, -/
def headsQ (x : FVec Ideal S4096x1024 .bf16) : FVec Ideal S8x4096x128 .f32 :=
  transpose S8x4096x128 [1, 0, 2] (shapeCast S4096x8x128 (extf .f32 x bitsLt_bf16_f32) shapeCasts_S4096x1024_S4096x8x128) transposes_S4096x8x128_S8x4096x128_1_0_2
/-- and of one of values or of their gradients. -/
def headsV (x : FVec Ideal S4096x512 .bf16) : FVec Ideal S8x4096x64 .f32 :=
  transpose S8x4096x64 [1, 0, 2] (shapeCast S4096x8x64 (extf .f32 x bitsLt_bf16_f32) shapeCasts_S4096x512_S4096x8x64) transposes_S4096x8x64_S8x4096x64_1_0_2

/-- The masked logits. -/
def logitsT (q k : FVec Ideal S4096x1024 .bf16) : FVec Ideal S8x4096x4096 .f32 :=
  select (broadcastInDim S8x4096x4096 ![1, 2] bcast_S4096x4096_S8x4096x4096_1_2
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (Host.divf (Host.dotGeneral dot_S8x4096x128_S8x4096x128_S8x4096x4096_2_2_1_1_0_0 none (headsQ q) (headsQ k))
      (broadcastInDim S8x4096x4096 ![] bcast_S_S8x4096x4096 (Host.sqrt (constant (F := Ideal) S_ .f32 0x42C00000#32))))
    (broadcastInDim S8x4096x4096 ![] bcast_S_S8x4096x4096 (constant (F := Ideal) S_ .f32 0xFF800000#32))

/-- The largest logit of every row. -/
def maxT (L : FVec Ideal S8x4096x4096 .f32) : FVec Ideal S8x4096 .f32 :=
  Host.reduce FloatOps.maximumf L (constant (F := Ideal) S_ .f32 0xFF800000#32) reducesTo_S8x4096x4096_S8x4096_d2 h_S_

/-- The exponentials of the logits less a number of every row, -/
def expT (L : FVec Ideal S8x4096x4096 .f32) (M : FVec Ideal S8x4096 .f32) : FVec Ideal S8x4096x4096 .f32 :=
  Host.exp (subf L (broadcastInDim S8x4096x4096 ![0, 1, 2] bcast_S8x4096x1_S8x4096x4096_0_1_2 (broadcastInDim S8x4096x1 ![0, 1] bcast_S8x4096_S8x4096x1_0_1 M)))
/-- their sums, -/
def sumT (E : FVec Ideal S8x4096x4096 .f32) : FVec Ideal S8x4096 .f32 :=
  Host.reduceAdd E (constant (F := Ideal) S_ .f32 0x00000000#32) reducesTo_S8x4096x4096_S8x4096_d2 h_S_
/-- and the weights. -/
def probT (E : FVec Ideal S8x4096x4096 .f32) (S : FVec Ideal S8x4096 .f32) : FVec Ideal S8x4096x4096 .f32 :=
  Host.divf E (broadcastInDim S8x4096x4096 ![0, 1, 2] bcast_S8x4096x1_S8x4096x4096_0_1_2 (broadcastInDim S8x4096x1 ![0, 1] bcast_S8x4096_S8x4096x1_0_1 S))

/-- The base 2 logarithm of a row's sum of exponentials. -/
def lseT (M S : FVec Ideal S8x4096 .f32) : FVec Ideal S8x4096 .f32 :=
  shapeCast S8x4096 (Host.divf (addf (broadcastInDim S8x4096x1 ![0, 1] bcast_S8x4096_S8x4096x1_0_1 M) (Host.log (broadcastInDim S8x4096x1 ![0, 1] bcast_S8x4096_S8x4096x1_0_1 S)))
    (broadcastInDim S8x4096x1 ![] bcast_S_S8x4096x1 (Host.log (constant (F := Ideal) S_ .f32 0x40000000#32)))) shapeCasts_S8x4096x1_S8x4096
/-- The product of a row's output and the output's gradient. -/
def deltaT (P : FVec Ideal S8x4096x4096 .f32) (v d : FVec Ideal S4096x512 .bf16) : FVec Ideal S8x4096 .f32 :=
  Host.reduceAdd (mulf (Host.dotGeneral dot_S8x4096x4096_S8x4096x64_S8x4096x64_2_1_1_2_0_0 none P (headsV v)) (headsV d))
    (constant (F := Ideal) S_ .f32 0x00000000#32) reducesTo_S8x4096x64_S8x4096_d2 h_S_

/-- The even heads of a row statistic, and the odd ones, one of each pair of heads. -/
def evenT (x : FVec Ideal S8x4096 .f32) : FVec Ideal S4x4096x1 .f32 :=
  broadcastInDim S4x4096x1 ![0, 1] bcast_S4x4096_S4x4096x1_0_1 (Host.slice S4x4096 ![0, 0] ![2, 1] x slicesBy_S8x4096_S4x4096_0s2_0s1)
def oddT (x : FVec Ideal S8x4096 .f32) : FVec Ideal S4x4096x1 .f32 :=
  broadcastInDim S4x4096x1 ![0, 1] bcast_S4x4096_S4x4096x1_0_1 (Host.slice S4x4096 ![1, 0] ![2, 1] x slicesBy_S8x4096_S4x4096_1s2_0s1)

/-- The statistics of the four pairs, in the first four of 128 lanes. -/
def statsT (a b : FVec Ideal S8x4096 .f32) : FVec Ideal S4x4096x128 .f32 :=
  pad S4x4096x128 ![0, 0, 0] ![0, 0, 124] ![0, 0, 0] (concatenate S4x4096x4 2 [⟨S4x4096x1, evenT a⟩, ⟨S4x4096x1, oddT a⟩, ⟨S4x4096x1, evenT b⟩, ⟨S4x4096x1, oddT b⟩] concatenates_S4x4096x1_S4x4096x1_S4x4096x1_S4x4096x1_S4x4096x4_d2)
    (sitofp (F := Ideal) .f32 (constantI S_ 32 0#32)) pads_S4x4096x4_S4x4096x128_000_000_01240 h_S_

variable (m : (ℓ : Loc nD τ sig) → Buf (Elt Ideal) ℓ)

/-- The host operations before the four statistics are put side by side, -/
abbrev opsStats : List (HloOp τ sig (Elt Ideal)) := hostOps0 ++ hostOps0_1 ++ hostOps0_2.take 36
/-- and those from there on. -/
abbrev opsRest : List (HloOp τ sig (Elt Ideal)) := hostOps0_2.drop 36 ++ hostOps0_3 ++ hostOps0_4

/-- The buffers before the four statistics are put side by side. -/
def before (c : Dev nD) : Valuation τ sig (Elt Ideal) := StableHlo.after opsStats (fun b => m (c, b))

theorem V_rest (c : Dev nD) (b : Ref sig .tc) : V m c b = StableHlo.after opsRest (before m c) b := by
  unfold before
  rw [← StableHlo.after_append]
  rfl

set_option maxHeartbeats 4000000 in
theorem entry_side (c : Dev nD) : V m c main_v50
    = pad S4x4096x128 ![0, 0, 0] ![0, 0, 124] ![0, 0, 0] (concatenate S4x4096x4 2 [⟨S4x4096x1, before m c main_v45⟩, ⟨S4x4096x1, before m c main_v46⟩, ⟨S4x4096x1, before m c main_v47⟩, ⟨S4x4096x1, before m c main_v48⟩] concatenates_S4x4096x1_S4x4096x1_S4x4096x1_S4x4096x1_S4x4096x4_d2)
       (sitofp (F := Ideal) .f32 (constantI S_ 32 0#32)) pads_S4x4096x4_S4x4096x128_000_000_01240 h_S_ := by
  rw [V_rest]
  generalize before m c = G
  simp only [opsRest, hostOps0_2, hostOps0_3, hostOps0_4, List.drop_succ_cons, List.drop_zero, List.cons_append, List.nil_append, StableHlo.after_cons, StableHlo.after_nil]
  after_results_simp
  rfl

/-- The arguments at launch. -/
abbrev argQ (c : Dev nD) : FVec Ideal S4096x1024 .bf16 := m ((c.tc : Thread nD τ).loc main_arg0)
abbrev argK (c : Dev nD) : FVec Ideal S4096x1024 .bf16 := m ((c.tc : Thread nD τ).loc main_arg1)
abbrev argV (c : Dev nD) : FVec Ideal S4096x512 .bf16 := m ((c.tc : Thread nD τ).loc main_arg2)
abbrev argD (c : Dev nD) : FVec Ideal S4096x512 .bf16 := m ((c.tc : Thread nD τ).loc main_arg3)

abbrev theL (c : Dev nD) : FVec Ideal S8x4096x4096 .f32 := logitsT (argQ m c) (argK m c)
abbrev theM (c : Dev nD) : FVec Ideal S8x4096 .f32 := maxT (theL m c)
abbrev theE (c : Dev nD) : FVec Ideal S8x4096x4096 .f32 := expT (theL m c) (theM m c)
abbrev theS (c : Dev nD) : FVec Ideal S8x4096 .f32 := sumT (theE m c)

set_option maxHeartbeats 4000000 in
theorem before_v45 (c : Dev nD) : before m c main_v45 = evenT (lseT (theM m c) (theS m c)) := by
  unfold before
  simp only [opsStats, hostOps0, hostOps0_1, hostOps0_2, List.take_succ_cons, List.take_zero, List.cons_append, List.nil_append, StableHlo.after_cons, StableHlo.after_nil]
  after_results_simp
  rfl

set_option maxHeartbeats 4000000 in
theorem before_v46 (c : Dev nD) : before m c main_v46 = oddT (lseT (theM m c) (theS m c)) := by
  unfold before
  simp only [opsStats, hostOps0, hostOps0_1, hostOps0_2, List.take_succ_cons, List.take_zero, List.cons_append, List.nil_append, StableHlo.after_cons, StableHlo.after_nil]
  after_results_simp
  rfl

set_option maxHeartbeats 4000000 in
theorem before_v47 (c : Dev nD) : before m c main_v47 = evenT (deltaT (probT (theE m c) (theS m c)) (argV m c) (argD m c)) := by
  unfold before
  simp only [opsStats, hostOps0, hostOps0_1, hostOps0_2, List.take_succ_cons, List.take_zero, List.cons_append, List.nil_append, StableHlo.after_cons, StableHlo.after_nil]
  after_results_simp
  rfl

set_option maxHeartbeats 4000000 in
theorem before_v48 (c : Dev nD) : before m c main_v48 = oddT (deltaT (probT (theE m c) (theS m c)) (argV m c) (argD m c)) := by
  unfold before
  simp only [opsStats, hostOps0, hostOps0_1, hostOps0_2, List.take_succ_cons, List.take_zero, List.cons_append, List.nil_append, StableHlo.after_cons, StableHlo.after_nil]
  after_results_simp
  rfl

/-- The array of row statistics. -/
theorem entry_stats (c : Dev nD) : V m c main_v50
    = statsT (lseT (theM m c) (theS m c)) (deltaT (probT (theE m c) (theS m c)) (argV m c) (argD m c)) := by
  rw [entry_side, before_v45, before_v46, before_v47, before_v48]
  rfl

/-- The transposed blocks of the queries, and of the gradients. -/
theorem entry_qt (c : Dev nD) : V m c main_v52
    = transpose S8x1024x512 [0, 2, 1] (shapeCast S8x512x1024 (argQ m c) shapeCasts_S4096x1024_S8x512x1024) transposes_S8x512x1024_S8x1024x512_0_2_1 := by
  rw [V_rest]
  have h : before m c main_arg0 = argQ m c := by
    unfold before
    simp only [opsStats, hostOps0, hostOps0_1, hostOps0_2, List.take_succ_cons, List.take_zero, List.cons_append, List.nil_append, StableHlo.after_cons, StableHlo.after_nil]
    after_results_simp
  generalize before m c = G at h ⊢
  simp only [opsRest, hostOps0_2, hostOps0_3, hostOps0_4, List.drop_succ_cons, List.drop_zero, List.cons_append, List.nil_append, StableHlo.after_cons, StableHlo.after_nil]
  after_results_simp
  rw [h]; rfl
theorem entry_dt (c : Dev nD) : V m c main_v54
    = transpose S8x512x512 [0, 2, 1] (shapeCast S8x512x512 (argD m c) shapeCasts_S4096x512_S8x512x512) transposes_S8x512x512_S8x512x512_0_2_1 := by
  rw [V_rest]
  have h : before m c main_arg3 = argD m c := by
    unfold before
    simp only [opsStats, hostOps0, hostOps0_1, hostOps0_2, List.take_succ_cons, List.take_zero, List.cons_append, List.nil_append, StableHlo.after_cons, StableHlo.after_nil]
    after_results_simp
  generalize before m c = G at h ⊢
  simp only [opsRest, hostOps0_2, hostOps0_3, hostOps0_4, List.drop_succ_cons, List.drop_zero, List.cons_append, List.nil_append, StableHlo.after_cons, StableHlo.after_nil]
  after_results_simp
  rw [h]; rfl

end Cert.KernelIdeal.BwdValue

end
-- ==== Proof.RefText.lean ====
module

public import proofs.«01_k».proof.Proof.Entry
public import proofs.«01_k».proof.Proof.Gen.ReferenceIdeal.Run

/-! The plain text's results as the composition of its operations, in the stages of a softmax and of its gradient. -/

@[expose] public section

set_option maxRecDepth 16384

noncomputable section

namespace Cert.ReferenceIdeal.Attention

open Cert.ReferenceIdeal Cert.ReferenceIdeal.Gen
open Cert.KernelIdeal.BwdValue (headsQ headsV logitsT maxT expT sumT probT)
open Idealize.ShloMosaic Idealize.ShloMosaic.TcCoe

/-- Which keys a row sees. -/
def seenT : IVec S8x4096x4096 1 :=
  broadcastInDim S8x4096x4096 ![1, 2] bcast_S4096x4096_S8x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The larger of a row's largest logit and the least number. -/
def overT (M : FVec Ideal S8x4096 .f32) : FVec Ideal S8x4096 .f32 :=
  maximumf (broadcastInDim S8x4096 ![] bcast_S_S8x4096 (constant (F := Ideal) S_ .f32 0xFF800000#32)) M

/-- The gradient of the weights, -/
def dprobT (v d : FVec Ideal S4096x512 .bf16) : FVec Ideal S8x4096x4096 .f32 :=
  extf .f32 (truncf .bf16 (Host.dotGeneral dot_S8x4096x64_S8x4096x64_S8x4096x4096_2_2_1_1_0_0 none (headsV d) (headsV v)) bitsLt_bf16_f32) bitsLt_bf16_f32

/-- a row of sums as a column, -/
def colT (S : FVec Ideal S8x4096 .f32) : FVec Ideal S8x4096x1 .f32 := broadcastInDim S8x4096x1 ![0, 1] bcast_S8x4096_S8x4096x1_0_1 S

/-- the gradient of the sums of exponentials, -/
def dsumT (D E : FVec Ideal S8x4096x4096 .f32) (S : FVec Ideal S8x4096 .f32) : FVec Ideal S8x4096 .f32 :=
  Host.reduceAdd (Host.negf (shapeCast S8x4096x1 (Host.reduceAdd
      (mulf (mulf D (broadcastInDim S8x4096x4096 ![0, 1, 2] bcast_S8x4096x1_S8x4096x4096_0_1_2
        (Host.divf (broadcastInDim S8x4096x1 ![] bcast_S_S8x4096x1 (constant (F := Ideal) S_ .f32 0x3F800000#32)) (mulf (colT S) (colT S))))) E)
      (constant (F := Ideal) S_ .f32 0x00000000#32) reducesTo_S8x4096x4096_S8x4096_d2 h_S_) shapeCasts_S8x4096_S8x4096x1))
    (constant (F := Ideal) S_ .f32 0x00000000#32) reducesTo_S8x4096x1_S8x4096_d2 h_S_

/-- the gradient of the logits before the scale, -/
def dlogitT (D E : FVec Ideal S8x4096x4096 .f32) (S dS : FVec Ideal S8x4096 .f32) : FVec Ideal S8x4096x4096 .f32 :=
  mulf (addf (Host.divf D (broadcastInDim S8x4096x4096 ![0, 1, 2] bcast_S8x4096x1_S8x4096x4096_0_1_2 (colT S)))
    (broadcastInDim S8x4096x4096 ![0, 1] bcast_S8x4096_S8x4096x4096_0_1 dS)) E

/-- and of the products of queries and keys. -/
def dscoreT (D E : FVec Ideal S8x4096x4096 .f32) (S : FVec Ideal S8x4096 .f32) : FVec Ideal S8x4096x4096 .f32 :=
  Host.divf (select seenT (dlogitT D E S (dsumT D E S)) (broadcastInDim S8x4096x4096 ![] bcast_S_S8x4096x4096 (constant (F := Ideal) S_ .f32 0x00000000#32)))
    (broadcastInDim S8x4096x4096 ![] bcast_S_S8x4096x4096 (Host.sqrt (constant (F := Ideal) S_ .f32 0x42C00000#32)))

/-- The gradients of the queries, -/
def gradQ (G : FVec Ideal S8x4096x4096 .f32) (k : FVec Ideal S4096x1024 .bf16) : FVec Ideal S4096x1024 .f32 :=
  shapeCast S4096x1024 (transpose S4096x8x128 [1, 0, 2] (Host.dotGeneral dot_S8x4096x4096_S8x4096x128_S8x4096x128_2_1_1_2_0_0 none G (headsQ k)) transposes_S8x4096x128_S4096x8x128_1_0_2) shapeCasts_S4096x8x128_S4096x1024
/-- of the keys, -/
def gradK (G : FVec Ideal S8x4096x4096 .f32) (q : FVec Ideal S4096x1024 .bf16) : FVec Ideal S4096x1024 .bf16 :=
  truncf .bf16 (shapeCast S4096x1024 (transpose S4096x8x128 [1, 0, 2] (Host.dotGeneral dot_S8x4096x4096_S8x4096x128_S8x4096x128_1_1_2_2_0_0 none G (headsQ q)) transposes_S8x4096x128_S4096x8x128_1_0_2) shapeCasts_S4096x8x128_S4096x1024) bitsLt_bf16_f32
/-- and of the values. -/
def gradV (P : FVec Ideal S8x4096x4096 .f32) (d : FVec Ideal S4096x512 .bf16) : FVec Ideal S4096x512 .bf16 :=
  truncf .bf16 (shapeCast S4096x512 (transpose S4096x8x64 [1, 0, 2] (transpose S8x4096x64 [0, 2, 1]
    (Host.dotGeneral dot_S8x4096x64_S8x4096x4096_S8x64x4096_1_1_2_2_0_0 none (headsV d) (extf .f32 (truncf .bf16 P bitsLt_bf16_f32) bitsLt_bf16_f32))
    transposes_S8x64x4096_S8x4096x64_0_2_1) transposes_S8x4096x64_S4096x8x64_1_0_2) shapeCasts_S4096x8x64_S4096x512) bitsLt_bf16_f32

variable (m : (ℓ : Loc nD τ sig) → Buf (Elt Ideal) ℓ) (c : Dev nD)

/-- The arguments at launch, -/
abbrev argQ : FVec Ideal S4096x1024 .bf16 := m ((c.tc : Thread nD τ).loc main_arg0)
abbrev argK : FVec Ideal S4096x1024 .bf16 := m ((c.tc : Thread nD τ).loc main_arg1)
abbrev argV : FVec Ideal S4096x512 .bf16 := m ((c.tc : Thread nD τ).loc main_arg2)
abbrev argD : FVec Ideal S4096x512 .bf16 := m ((c.tc : Thread nD τ).loc main_arg3)

/-- and the stages of their softmax. -/
abbrev theL : FVec Ideal S8x4096x4096 .f32 := logitsT (argQ m c) (argK m c)
abbrev theE : FVec Ideal S8x4096x4096 .f32 := expT (theL m c) (overT (maxT (theL m c)))
abbrev theS : FVec Ideal S8x4096 .f32 := sumT (theE m c)
abbrev theG : FVec Ideal S8x4096x4096 .f32 := dscoreT (dprobT (argV m c) (argD m c)) (theE m c) (theS m c)

theorem out_v : Value.res_main_v85 m c = gradV (probT (theE m c) (theS m c)) (argD m c) := by
  unfold Value.res_main_v85; rfl
theorem out_k : Value.res_main_v84 m c = gradK (theG m c) (argQ m c) := by
  unfold Value.res_main_v84; rfl
theorem out_q : Value.res_main_v83 m c = gradQ (theG m c) (argK m c) := by
  unfold Value.res_main_v83; rfl

end Cert.ReferenceIdeal.Attention

end
-- ==== Proof.Soft.lean ====
module

public import proofs.«01_k».proof.Proof.RefText

/-! The stages of the softmax and of its gradient on real arrays, as real numbers. -/

@[expose] public section

set_option maxRecDepth 16384

noncomputable section

namespace Cert.Attention

open Idealize.ShloMosaic Idealize.ShloMosaic.TcCoe
open Cert.KernelIdeal (S4096x1024 S4096x512 S8x4096 S8x4096x4096 S8x4096x128 S8x4096x64)
open Cert.KernelIdeal.BwdValue (headsQ headsV logitsT maxT expT sumT probT lseT deltaT)
open Cert.ReferenceIdeal.Attention (overT dprobT dsumT dlogitT dscoreT gradQ gradK gradV)

/-! ### Real numbers among the extended ones -/

theorem coe_sum {ι : Type*} (s : Finset ι) (f : ι → ℝ) : ((∑ i ∈ s, f i : ℝ) : EReal) = ∑ i ∈ s, (f i : EReal) := by
  classical
  refine Finset.induction_on s (by simp) fun i s hi ih => ?_
  rw [Finset.sum_insert hi, Finset.sum_insert hi, EReal.coe_add, ih]

theorem div_coe (x : ℝ) {y : ℝ} (h : y ≠ 0) : Ideal.div (x : EReal) (y : EReal) = ((x / y : ℝ) : EReal) := by
  rw [Ideal.div_coe h, ← EReal.coe_mul, mul_one_div]

/-- The largest of some extended reals, none of them infinite and one of them not less than all reals, is real. -/
theorem fold_real {ι : Type*} (s : Finset ι) (f : ι → EReal) (ht : ∀ i, f i ≠ ⊤) (i : ι) (hi : i ∈ s) (hb : f i ≠ ⊥) :
    ∃ x : ℝ, s.fold max ⊥ f = (x : EReal) := by
  have h1 : s.fold max ⊥ f ≠ ⊤ := ne_of_lt (Finset.fold_max_lt _ |>.mpr ⟨bot_lt_top, fun j _ => lt_top_iff_ne_top.mpr (ht j)⟩)
  have h2 : s.fold max ⊥ f ≠ ⊥ := by
    have : f i ≤ s.fold max ⊥ f := (Finset.le_fold_max _).mpr (Or.inr ⟨i, hi, le_rfl⟩)
    intro h
    rw [h] at this
    exact hb (le_bot_iff.mp this)
  exact ⟨_, (EReal.coe_toReal h1 h2).symm⟩

theorem bits_bot : Ideal.ofBits FTy.f32 4286578688#32 = ⊥ := by simp [Ideal.ofBits, Ideal.ieee]
theorem bits_96 : Ideal.ofBits FTy.f32 1119879168#32 = ((96 : ℝ) : EReal) := by
  simp [Ideal.ofBits, Ideal.ieee, -EReal.coe_mul]; norm_num
theorem bits_2 : Ideal.ofBits FTy.f32 1073741824#32 = ((2 : ℝ) : EReal) := by
  simp [Ideal.ofBits, Ideal.ieee, -EReal.coe_mul]; norm_num

theorem sqrt_96 : Ideal.sqrt (Ideal.ofBits FTy.f32 1119879168#32) = ((Real.sqrt 96 : ℝ) : EReal) := by
  rw [bits_96, Ideal.sqrt_coe, if_neg (by norm_num)]
theorem log_2 : Ideal.log (Ideal.ofBits FTy.f32 1073741824#32) = ((Real.log 2 : ℝ) : EReal) := by
  rw [bits_2, Ideal.log_coe, if_neg (by norm_num)]

theorem sqrt_ne : Real.sqrt 96 ≠ 0 := by positivity
theorem log_ne : Real.log 2 ≠ 0 := (Real.log_pos (by norm_num)).ne'

theorem select_le (r c : Fin 4096) (a b : EReal) :
    Scalar.select (IntOp.cmpi .sle (BitVec.ofNat 32 c.val) (BitVec.ofNat 32 r.val)) a b = if c.val ≤ r.val then a else b := by
  have h : IntOp.cmpi .sle (BitVec.ofNat 32 c.val) (BitVec.ofNat 32 r.val) = if c.val ≤ r.val then 1#1 else 0#1 := by
    rw [WordCmp.cmpi_sle_of_lt (by simp only [BitVec.toNat_ofNat]; omega) (by simp only [BitVec.toNat_ofNat]; omega),
      BitVec.toNat_ofNat, BitVec.toNat_ofNat, Nat.mod_eq_of_lt (by omega), Nat.mod_eq_of_lt (by omega)]
    by_cases hc : c.val ≤ r.val <;> simp [hc]
  rw [h]; split <;> rfl

/-! ### The text of the stages, by entries -/

/-- Column `f` of head `h` of the queries and keys, -/
def atQ (h : Fin 8) (f : Fin 128) : Fin 1024 := ⟨h.val * 128 + f.val, by omega⟩
/-- and column `e` of head `h` of the values. -/
def atV (h : Fin 8) (e : Fin 64) : Fin 512 := ⟨h.val * 64 + e.val, by omega⟩

section text
variable (q k : FVec Ideal S4096x1024 .bf16) (v d : FVec Ideal S4096x512 .bf16) (L E D P G : FVec Ideal S8x4096x4096 .f32)
  (M S : FVec Ideal S8x4096 .f32) (h : Fin 8) (r c : Fin 4096)

theorem headsQ_at (f : Fin 128) : headsQ q (ix3 h r f) = q (ix2 r (atQ h f)) := by
  pointwise [headsQ]; rfl
theorem headsV_at (e : Fin 64) : headsV v (ix3 h r e) = v (ix2 r (atV h e)) := by
  pointwise [headsV]; rfl
theorem logitsT_at : logitsT q k (ix3 h r c)
    = if c.val ≤ r.val then Ideal.div (∑ f, q (ix2 r (atQ h f)) * k (ix2 c (atQ h f))) ((Real.sqrt 96 : ℝ) : EReal) else ⊥ := by
  pointwise [logitsT]
  rw [select_le, sqrt_96, bits_bot]
  simp only [headsQ_at]
theorem maxT_at : maxT L (ix2 h r) = Finset.univ.fold max ⊥ fun c => L (ix3 h r c) := by
  pointwise [maxT]
  rw [bits_bot]
theorem expT_at : expT L M (ix3 h r c) = Ideal.exp (L (ix3 h r c) - M (ix2 h r)) := by
  pointwise [expT]
theorem sumT_at : sumT E (ix2 h r) = ∑ c, E (ix3 h r c) := by
  pointwise [sumT]
theorem probT_at : probT E S (ix3 h r c) = Ideal.div (E (ix3 h r c)) (S (ix2 h r)) := by
  pointwise [probT]
theorem lseT_at : lseT M S (ix2 h r) = Ideal.div (M (ix2 h r) + Ideal.log (S (ix2 h r))) ((Real.log 2 : ℝ) : EReal) := by
  pointwise [lseT]
  rw [log_2]
theorem deltaT_at : deltaT P v d (ix2 h r) = ∑ e, (∑ c, P (ix3 h r c) * v (ix2 c (atV h e))) * d (ix2 r (atV h e)) := by
  pointwise [deltaT]
  simp only [headsV_at]
theorem overT_at : overT M (ix2 h r) = M (ix2 h r) := by
  pointwise [overT]
  rw [bits_bot]
  exact max_eq_right bot_le
theorem dprobT_at : dprobT v d (ix3 h r c) = ∑ e, d (ix2 r (atV h e)) * v (ix2 c (atV h e)) := by
  pointwise [dprobT]
  simp only [headsV_at]
theorem dscoreT_at : dscoreT D E S (ix3 h r c) = Ideal.div (if c.val ≤ r.val then
    (Ideal.div (D (ix3 h r c)) (S (ix2 h r)) + -∑ c', D (ix3 h r c') * Ideal.div 1 (S (ix2 h r) * S (ix2 h r)) * E (ix3 h r c')) * E (ix3 h r c) else 0)
    ((Real.sqrt 96 : ℝ) : EReal) := by
  pointwise [dscoreT, Cert.ReferenceIdeal.Attention.seenT]
  rw [select_le, sqrt_96]
  congr 2
  pointwise [dlogitT, dsumT, Cert.ReferenceIdeal.Attention.colT]
  rw [Fin.sum_univ_one]
theorem gradQ_at (h : Fin 8) (r : Fin 4096) (f : Fin 128) : gradQ G k (ix2 r (atQ h f)) = ∑ c, G (ix3 h r c) * k (ix2 c (atQ h f)) := by
  have h1 : (⟨(atQ h f).val / 128, by omega⟩ : Fin 8) = h := Fin.ext (by simp only [atQ]; omega)
  have h2 : (⟨(atQ h f).val % 128, by omega⟩ : Fin 128) = f := Fin.ext (by simp only [atQ]; omega)
  pointwise [gradQ]
  rw [h1, h2]
  simp only [headsQ_at]
theorem gradK_at (f : Fin 128) : gradK G q (ix2 c (atQ h f)) = ∑ r, G (ix3 h r c) * q (ix2 r (atQ h f)) := by
  have h1 : (⟨(atQ h f).val / 128, by omega⟩ : Fin 8) = h := Fin.ext (by simp only [atQ]; omega)
  have h2 : (⟨(atQ h f).val % 128, by omega⟩ : Fin 128) = f := Fin.ext (by simp only [atQ]; omega)
  pointwise [gradK]
  rw [h1, h2]
  simp only [headsQ_at]
theorem gradV_at (e : Fin 64) : gradV P d (ix2 c (atV h e)) = ∑ r, d (ix2 r (atV h e)) * P (ix3 h r c) := by
  have h1 : (⟨(atV h e).val / 64, by omega⟩ : Fin 8) = h := Fin.ext (by simp only [atV]; omega)
  have h2 : (⟨(atV h e).val % 64, by omega⟩ : Fin 64) = e := Fin.ext (by simp only [atV]; omega)
  pointwise [gradV]
  rw [h1, h2]
  simp only [headsV_at]
end text

/-! ### Their values on real arrays -/

/-- An array of real numbers as one of extended reals. -/
def up {s : Shape} {φ : FTy} (x : s.Idx → ℝ) : FVec Ideal s φ := fun y => ((x y : ℝ) : EReal)

section real
variable (xq xk : S4096x1024.Idx → ℝ) (xv xd : S4096x512.Idx → ℝ) (h : Fin 8) (r c : Fin 4096)

/-- A query times a key, -/
def logit : ℝ := (∑ f, xq (ix2 r (atQ h f)) * xk (ix2 c (atQ h f))) / Real.sqrt 96
/-- the largest logit of a row, -/
def top : ℝ := (maxT (logitsT (up xq) (up xk)) (ix2 h r)).toReal
/-- the exponentials, of the keys not later than the row, -/
def ex : ℝ := if c.val ≤ r.val then Real.exp (logit xq xk h r c - top xq xk h r) else 0
/-- their sum, -/
def total : ℝ := ∑ c, ex xq xk h r c
/-- the weights, -/
def weight : ℝ := ex xq xk h r c / total xq xk h r
/-- the base 2 logarithm of the sum of exponentials, -/
def lse : ℝ := (top xq xk h r + Real.log (total xq xk h r)) / Real.log 2
/-- the weights' gradients, -/
def dweight : ℝ := ∑ e, xd (ix2 r (atV h e)) * xv (ix2 c (atV h e))
/-- their mean by the weights, -/
def delta : ℝ := ∑ c, weight xq xk h r c * dweight xv xd h r c
/-- and the logits' gradients. -/
def dlogit : ℝ := weight xq xk h r c * (dweight xv xd h r c - delta xq xk xv xd h r)

theorem logit_real : logitsT (up xq) (up xk) (ix3 h r c) = if c.val ≤ r.val then ((logit xq xk h r c : ℝ) : EReal) else ⊥ := by
  rw [logitsT_at]
  congr 1
  unfold logit
  rw [← div_coe _ sqrt_ne, coe_sum]
  simp only [up, EReal.coe_mul]

theorem top_real : maxT (logitsT (up xq) (up xk)) (ix2 h r) = ((top xq xk h r : ℝ) : EReal) := by
  obtain ⟨x, hx⟩ := fold_real Finset.univ (fun c => logitsT (up xq) (up xk) (ix3 h r c))
    (fun c => by rw [logit_real]; split <;> simp) r (Finset.mem_univ r) (by rw [logit_real, if_pos le_rfl]; simp)
  unfold top
  rw [maxT_at, hx, EReal.toReal_coe]

theorem ex_real (M : FVec Ideal S8x4096 .f32) (hM : M (ix2 h r) = ((top xq xk h r : ℝ) : EReal)) :
    expT (logitsT (up xq) (up xk)) M (ix3 h r c) = ((ex xq xk h r c : ℝ) : EReal) := by
  rw [expT_at, logit_real, hM]
  unfold ex
  split
  · rw [← EReal.coe_sub, Ideal.exp_coe]
  · rw [EReal.bot_sub]; simp

theorem total_pos : 0 < total xq xk h r := by
  unfold total
  refine Finset.sum_pos' (fun c _ => ?_) ⟨r, Finset.mem_univ r, ?_⟩
  · unfold ex; split
    · exact (Real.exp_pos _).le
    · exact le_rfl
  · unfold ex; rw [if_pos le_rfl]; exact Real.exp_pos _

theorem weight_late (hc : ¬ c.val ≤ r.val) : weight xq xk h r c = 0 := by
  unfold weight ex; rw [if_neg hc, zero_div]
theorem dlogit_late (hc : ¬ c.val ≤ r.val) : dlogit xq xk xv xd h r c = 0 := by
  unfold dlogit; rw [weight_late _ _ _ _ _ hc, zero_mul]

/-- The weight by powers of two. -/
theorem weight_exp2 (hc : c.val ≤ r.val) :
    weight xq xk h r c = Real.rpow 2 (logit xq xk h r c / Real.log 2 - lse xq xk h r) := by
  have hp := total_pos xq xk h r
  have hl := log_ne
  rw [Real.rpow_eq_pow, Real.rpow_def_of_pos (by norm_num), show Real.log 2 * (logit xq xk h r c / Real.log 2 - lse xq xk h r)
      = (logit xq xk h r c - top xq xk h r) - Real.log (total xq xk h r) by unfold lse; field_simp; ring,
    Real.exp_sub, Real.exp_log hp]
  unfold weight ex; rw [if_pos hc]

variable (E : FVec Ideal S8x4096x4096 .f32) (S : FVec Ideal S8x4096 .f32)
  (hE : ∀ h r c, E (ix3 h r c) = ((ex xq xk h r c : ℝ) : EReal)) (hS : ∀ h r, S (ix2 h r) = ((total xq xk h r : ℝ) : EReal))

include hE in
theorem sum_real : sumT E (ix2 h r) = ((total xq xk h r : ℝ) : EReal) := by
  rw [sumT_at]; unfold total; rw [coe_sum]; simp only [hE]

include hE hS in
theorem weight_real : probT E S (ix3 h r c) = ((weight xq xk h r c : ℝ) : EReal) := by
  rw [probT_at, hE, hS, div_coe _ (total_pos xq xk h r).ne']; rfl

include hS in
theorem lse_real (M : FVec Ideal S8x4096 .f32) (hM : M (ix2 h r) = ((top xq xk h r : ℝ) : EReal)) :
    lseT M S (ix2 h r) = ((lse xq xk h r : ℝ) : EReal) := by
  rw [lseT_at, hS, hM, Ideal.log_coe, if_neg (not_le.mpr (total_pos xq xk h r)), ← EReal.coe_add, div_coe _ log_ne]; rfl

theorem dweight_real : dprobT (up xv) (up xd) (ix3 h r c) = ((dweight xv xd h r c : ℝ) : EReal) := by
  rw [dprobT_at]; unfold dweight; rw [coe_sum]; simp only [up, EReal.coe_mul]

include hE hS in
theorem delta_real : deltaT (probT E S) (up xv) (up xd) (ix2 h r) = ((delta xq xk xv xd h r : ℝ) : EReal) := by
  have hr : delta xq xk xv xd h r = ∑ e, (∑ c, weight xq xk h r c * xv (ix2 c (atV h e))) * xd (ix2 r (atV h e)) := by
    unfold delta dweight
    simp only [Finset.mul_sum, Finset.sum_mul]
    rw [Finset.sum_comm]
    exact Finset.sum_congr rfl fun e _ => Finset.sum_congr rfl fun c _ => by ring
  rw [deltaT_at, hr, coe_sum]
  refine Finset.sum_congr rfl fun e _ => ?_
  rw [EReal.coe_mul, coe_sum]
  show _ * ((xd (ix2 r (atV h e)) : ℝ) : EReal) = _
  refine congrArg (· * ((xd (ix2 r (atV h e)) : ℝ) : EReal)) ?_
  refine Finset.sum_congr rfl fun c _ => ?_
  rw [weight_real xq xk h r c E S hE hS, EReal.coe_mul, up]

include hE hS in
theorem dlogit_real : dscoreT (dprobT (up xv) (up xd)) E S (ix3 h r c) = ((dlogit xq xk xv xd h r c / Real.sqrt 96 : ℝ) : EReal) := by
  have hp := (total_pos xq xk h r).ne'
  have hs : ∑ c', dprobT (up xv) (up xd) (ix3 h r c') * Ideal.div 1 (S (ix2 h r) * S (ix2 h r)) * E (ix3 h r c')
      = ((delta xq xk xv xd h r / total xq xk h r : ℝ) : EReal) := by
    unfold delta
    rw [Finset.sum_div, coe_sum]
    refine Finset.sum_congr rfl fun c _ => ?_
    rw [dweight_real, hE, hS, ← EReal.coe_mul, ← EReal.coe_one, div_coe _ (mul_ne_zero hp hp), ← EReal.coe_mul, ← EReal.coe_mul]
    congr 1
    unfold weight
    field_simp
  rw [dscoreT_at, hs, dweight_real, hE, hS, div_coe _ hp, ← EReal.coe_neg, ← EReal.coe_add, ← EReal.coe_mul, ← div_coe _ sqrt_ne]
  congr 1
  split
  · congr 1; unfold dlogit weight; field_simp; ring
  · next hc => rw [dlogit_late _ _ _ _ _ _ _ hc, EReal.coe_zero]
end real

end Cert.Attention

end
-- ==== Proof.Blocks.lean ====
module

public import proofs.«01_k».proof.Proof.Soft

/-! The blocks of the attention backward launch at a point of its grid, as entries of the arguments and of the row
    statistics: point `8 g + j` is the pair of heads `g` and the tile of keys `j`. -/

@[expose] public section

set_option maxRecDepth 16384

noncomputable section

namespace Cert.KernelIdeal.BwdValue

open Cert.KernelIdeal Cert.KernelIdeal.Gen
open Cert.KernelIdeal.Bwd (atT rowN)
open Idealize.ShloMosaic Idealize.ShloMosaic.TcCoe Idealize.ShloMosaic.Tactic
open Idealize.SL.Sem

variable (m : (ℓ : Loc nD τ sig) → Buf (Elt Ideal) ℓ) (c : Dev nD) (t : Fin cfg0.N)

/-- The pair of heads of a point, -/
def pairOf : Fin 4 := ⟨t.val / 8, by have := lt_of_lt_of_eq t.isLt N_0; omega⟩
/-- and its tile of keys. -/
def tileOf : Fin 8 := ⟨t.val % 8, by omega⟩

/-- Column `l` of a pair's 256 queries and keys, -/
def wideQ (g : Fin 4) (l : Fin 256) : Fin 1024 := ⟨g.val * 256 + l.val, by omega⟩
/-- and of its 128 values. -/
def wideV (g : Fin 4) (l : Fin 128) : Fin 512 := ⟨g.val * 128 + l.val, by omega⟩
/-- Key `k` of a tile. -/
def keyAt (j : Fin 8) (k : Fin 512) : Fin 4096 := ⟨j.val * 512 + k.val, by omega⟩

/-- Every window's block at every point. -/
theorem idx : ∀ t : Fin cfg0.N, win0_0.index t = ![0, t.val / 8] ∧ win0_1.index t = ![0, t.val / 8, 0]
    ∧ win0_2.index t = ![t.val % 8, t.val / 8] ∧ win0_3.index t = ![t.val % 8, t.val / 8] ∧ win0_4.index t = ![0, t.val / 8]
    ∧ win0_5.index t = ![0, t.val / 8, 0] ∧ win0_6.index t = ![t.val / 8, 0, 0] ∧ win0_7.index t = ![0, t.val / 8]
    ∧ win0_8.index t = ![t.val % 8, t.val / 8] ∧ win0_9.index t = ![t.val % 8, t.val / 8] :=
  (by decide +kernel : ∀ t : Fin grid0.N, _)

theorem blk_q (r : Fin 4096) (l : Fin 256) : iblk m c 0 t (ix2 r l) = argQ m c (ix2 r (wideQ (pairOf t) l)) := by
  blk_point [iblk, V, idx t, wideQ, pairOf]
theorem blk_k (k : Fin 512) (l : Fin 256) : iblk m c 2 t (ix2 k l) = argK m c (ix2 (keyAt (tileOf t) k) (wideQ (pairOf t) l)) := by
  blk_point [iblk, V, idx t, wideQ, pairOf, keyAt, tileOf]
theorem blk_v (k : Fin 512) (l : Fin 128) : iblk m c 3 t (ix2 k l) = argV m c (ix2 (keyAt (tileOf t) k) (wideV (pairOf t) l)) := by
  blk_point [iblk, V, idx t, wideV, pairOf, keyAt, tileOf]
theorem blk_d (r : Fin 4096) (l : Fin 128) : iblk m c 4 t (ix2 r l) = argD m c (ix2 r (wideV (pairOf t) l)) := by
  blk_point [iblk, V, idx t, wideV, pairOf]
theorem blk_qt (b : Fin 8) (l : Fin 256) (k : Fin 512) : iblk m c 1 t (ix3 b l k) = V m c main_v52 (ix3 b (wideQ (pairOf t) l) k) := by
  blk_point [iblk, idx t, wideQ, pairOf]
theorem blk_dt (b : Fin 8) (l : Fin 128) (k : Fin 512) : iblk m c 5 t (ix3 b l k) = V m c main_v54 (ix3 b (wideV (pairOf t) l) k) := by
  blk_point [iblk, idx t, wideV, pairOf]
theorem blk_s (r : Fin 4096) (l : Fin 128) : iblk m c 6 t (ix3 0 r l) = V m c main_v50 (ix3 (pairOf t) r l) := by
  blk_point [iblk, idx t, pairOf]

end Cert.KernelIdeal.BwdValue

end
-- ==== Proof.Grad.lean ====
module

public import proofs.«01_k».proof.Proof.Blocks

/-! The kernel's terms on real arguments: on every tile of keys its weights are the softmax's weights and its
    gradients of scores are the softmax's. -/

@[expose] public section

set_option maxRecDepth 16384

noncomputable section

namespace Cert.KernelIdeal.BwdValue

open Cert.KernelIdeal Cert.KernelIdeal.Gen Cert.Attention
open Cert.KernelIdeal.Bwd (atT rowN colQ colV laneL laneD score prob dprob dscore termV termK termQ cL cS cN)
open Idealize.ShloMosaic Idealize.ShloMosaic.TcCoe Idealize.ShloMosaic.Tactic
open Idealize.SL.Sem

variable (m : (ℓ : Loc nD τ sig) → Buf (Elt Ideal) ℓ) (c : Dev nD) (t : Fin cfg0.N)

/-- Head `n` of a pair. -/
def headOf (g : Fin 4) (n : Fin 2) : Fin 8 := ⟨2 * g.val + n.val, by omega⟩

theorem wideQ_col (g : Fin 4) (n : Fin 2) (f : Fin 128) : wideQ g (colQ n f) = atQ (headOf g n) f :=
  Fin.ext (by simp only [wideQ, colQ, atQ, headOf]; omega)
theorem wideV_col (g : Fin 4) (n : Fin 2) (e : Fin 64) : wideV g (colV n e) = atV (headOf g n) e :=
  Fin.ext (by simp only [wideV, colV, atV, headOf]; omega)
theorem rowN_val (r : Fin 4096) : rowN r.val = r := Fin.ext (Nat.mod_eq_of_lt r.isLt)

/-! ### The host's arrays by entries -/

theorem entry_qt_at (b : Fin 8) (l : Fin 1024) (k : Fin 512) : V m c main_v52 (ix3 b l k) = argQ m c (ix2 (keyAt b k) l) := by
  rw [entry_qt]
  pointwise
  rfl
theorem entry_dt_at (b : Fin 8) (l : Fin 512) (k : Fin 512) : V m c main_v54 (ix3 b l k) = argD m c (ix2 (keyAt b k) l) := by
  rw [entry_dt]
  pointwise
  rfl
theorem stats_L (a b : FVec Ideal S8x4096 .f32) (g : Fin 4) (r : Fin 4096) (n : Fin 2) :
    statsT a b (ix3 g r (laneL n)) = a (ix2 (headOf g n) r) := by
  pointwise [statsT, evenT, oddT]
  fin_cases n
  · simp [laneL, headOf]
  · simp only [laneL, headOf]
    simp
    exact congrArg (fun i => a (ix2 i r)) (Fin.ext (Nat.add_comm _ _))
theorem stats_D (a b : FVec Ideal S8x4096 .f32) (g : Fin 4) (r : Fin 4096) (n : Fin 2) :
    statsT a b (ix3 g r (laneD n)) = b (ix2 (headOf g n) r) := by
  pointwise [statsT, evenT, oddT]
  fin_cases n
  · simp [laneD, headOf]
  · simp only [laneD, headOf]
    simp
    exact congrArg (fun i => b (ix2 i r)) (Fin.ext (Nat.add_comm _ _))

theorem atT_q (r : Fin 4096) (l : Fin 256) : atT (iblk m c 1 t) r.val l = argQ m c (ix2 r (wideQ (pairOf t) l)) := by
  unfold atT
  rw [blk_qt, entry_qt_at]
  congr 2
  exact Fin.ext (by simp only [keyAt]; omega)
theorem atT_d (r : Fin 4096) (l : Fin 128) : atT (iblk m c 5 t) r.val l = argD m c (ix2 r (wideV (pairOf t) l)) := by
  unfold atT
  rw [blk_dt, entry_dt_at]
  congr 2
  exact Fin.ext (by simp only [keyAt]; omega)

/-- A sum over the 128 columns of a pair of heads that keeps one of them. -/
theorem sum_half (n : Fin 2) (f g : Fin 128 → EReal) :
    ∑ l : Fin 128, (if l.val / 64 = n.val then f l else 0) * g l = ∑ e : Fin 64, f (colV n e) * g (colV n e) := by
  rw [Fin.sum_univ_tiles 2 64 rfl, Fin.sum_univ_two]
  have h (i : Fin 2) (e : Fin 64) : (i.val * 64 + e.val) / 64 = i.val := by omega
  simp only [h]
  fin_cases n
  · simp [colV]
  · simp [colV]

/-! ### The terms on real arguments -/

section real
variable (xq xk : S4096x1024.Idx → ℝ) (xv xd : S4096x512.Idx → ℝ)
  (hq : argQ m c = up xq) (hk : argK m c = up xk) (hv : argV m c = up xv) (hd : argD m c = up xd)

include hq hk in
theorem theM_real (h : Fin 8) (r : Fin 4096) : theM m c (ix2 h r) = ((top xq xk h r : ℝ) : EReal) := by
  unfold theM theL
  rw [hq, hk, top_real]
include hq hk in
theorem theE_real (h : Fin 8) (r k : Fin 4096) : theE m c (ix3 h r k) = ((ex xq xk h r k : ℝ) : EReal) := by
  have hM := theM_real m c xq xk hq hk h r
  unfold theE theL
  rw [hq, hk]
  exact ex_real xq xk h r k _ hM
include hq hk in
theorem theS_real (h : Fin 8) (r : Fin 4096) : theS m c (ix2 h r) = ((total xq xk h r : ℝ) : EReal) := by
  unfold theS
  exact sum_real xq xk h r _ (theE_real m c xq xk hq hk)

include hq hk in
theorem stat_lse (n : Fin 2) (r : Fin 4096) : iblk m c 6 t (ix3 0 r (laneL n)) = ((lse xq xk (headOf (pairOf t) n) r : ℝ) : EReal) := by
  rw [blk_s, entry_stats, stats_L]
  exact lse_real xq xk _ r _ (theS_real m c xq xk hq hk) _ (theM_real m c xq xk hq hk _ r)
include hq hk hv hd in
theorem stat_delta (n : Fin 2) (r : Fin 4096) : iblk m c 6 t (ix3 0 r (laneD n)) = ((delta xq xk xv xd (headOf (pairOf t) n) r : ℝ) : EReal) := by
  rw [blk_s, entry_stats, stats_D, hv, hd]
  exact delta_real xq xk xv xd _ r _ _ (theE_real m c xq xk hq hk) (theS_real m c xq xk hq hk)

include hq hk in
theorem score_real (n : Fin 2) (r : Fin 4096) (k : Fin 512) : score (iblk m c 0 t) (iblk m c 2 t) n r.val k
    = ((logit xq xk (headOf (pairOf t) n) r (keyAt (tileOf t) k) / Real.log 2 : ℝ) : EReal) := by
  have hr : logit xq xk (headOf (pairOf t) n) r (keyAt (tileOf t) k) / Real.log 2
      = ∑ f, xq (ix2 r (atQ (headOf (pairOf t) n) f)) * ((Real.sqrt 96)⁻¹ * (Real.log 2)⁻¹) * xk (ix2 (keyAt (tileOf t) k) (atQ (headOf (pairOf t) n) f)) := by
    unfold logit
    rw [div_eq_mul_inv, div_eq_mul_inv, Finset.sum_mul, Finset.sum_mul]
    exact Finset.sum_congr rfl fun f _ => by ring
  unfold score
  rw [hr, coe_sum]
  refine Finset.sum_congr rfl fun f _ => ?_
  rw [rowN_val, blk_q, blk_k, wideQ_col, hq, hk, EReal.coe_mul, EReal.coe_mul]
  rfl

include hq hk in
theorem prob_real (n : Fin 2) (r : Fin 4096) (k : Fin 512) : prob (iblk m c 0 t) (iblk m c 2 t) (iblk m c 6 t) (t.val % 8) n r.val k
    = ((weight xq xk (headOf (pairOf t) n) r (keyAt (tileOf t) k) : ℝ) : EReal) := by
  have hle : 512 * (t.val % 8) + k.val ≤ r.val ↔ (keyAt (tileOf t) k).val ≤ r.val := by
    simp only [keyAt, tileOf]; omega
  unfold prob
  rw [rowN_val, stat_lse m c t xq xk hq hk, score_real m c t xq xk hq hk]
  by_cases hc : (keyAt (tileOf t) k).val ≤ r.val
  · rw [if_pos (hle.mpr hc), ← EReal.coe_sub, Ideal.exp2_coe, weight_exp2 _ _ _ _ _ hc]
  · rw [if_neg (fun h => hc (hle.mp h)), EReal.bot_sub, Ideal.exp2_bot, weight_late _ _ _ _ _ hc, EReal.coe_zero]

include hv hd in
theorem dprob_real (n : Fin 2) (r : Fin 4096) (k : Fin 512) : dprob (iblk m c 3 t) (iblk m c 4 t) n r.val k
    = ((dweight xv xd (headOf (pairOf t) n) r (keyAt (tileOf t) k) : ℝ) : EReal) := by
  unfold dprob dweight
  rw [sum_half n (fun l => iblk m c 4 t (ix2 (rowN r.val) l)) (fun l => iblk m c 3 t (ix2 k l)), coe_sum]
  refine Finset.sum_congr rfl fun e _ => ?_
  rw [rowN_val, blk_d, blk_v, wideV_col, hv, hd, EReal.coe_mul]
  rfl

include hq hk hv hd in
theorem dscore_real (n : Fin 2) (r : Fin 4096) (k : Fin 512) :
    dscore (iblk m c 0 t) (iblk m c 2 t) (iblk m c 3 t) (iblk m c 4 t) (iblk m c 6 t) (t.val % 8) n r.val k
      = ((dlogit xq xk xv xd (headOf (pairOf t) n) r (keyAt (tileOf t) k) : ℝ) : EReal) := by
  unfold dscore dlogit
  rw [rowN_val, prob_real m c t xq xk hq hk, dprob_real m c t xv xd hv hd, stat_delta m c t xq xk xv xd hq hk hv hd, EReal.coe_mul, EReal.coe_sub]

include hq hk hd in
theorem termV_real (n : Fin 2) (e : Fin 64) (k : Fin 512) (r : Fin 4096) :
    termV (iblk m c 0 t) (iblk m c 2 t) (iblk m c 5 t) (iblk m c 6 t) (t.val % 8) n e k r.val
      = ((xd (ix2 r (atV (headOf (pairOf t) n) e)) * weight xq xk (headOf (pairOf t) n) r (keyAt (tileOf t) k) : ℝ) : EReal) := by
  unfold termV
  rw [atT_d, wideV_col, hd, prob_real m c t xq xk hq hk, EReal.coe_mul]
  rfl

include hq hk hv hd in
theorem termK_real (n : Fin 2) (f : Fin 128) (k : Fin 512) (r : Fin 4096) :
    termK (iblk m c 0 t) (iblk m c 1 t) (iblk m c 2 t) (iblk m c 3 t) (iblk m c 4 t) (iblk m c 6 t) (t.val % 8) n f k r.val
      = ((xq (ix2 r (atQ (headOf (pairOf t) n) f)) * ((Real.sqrt 96)⁻¹ * (Real.log 2)⁻¹)
          * dlogit xq xk xv xd (headOf (pairOf t) n) r (keyAt (tileOf t) k) : ℝ) : EReal) := by
  unfold termK
  rw [atT_q, wideQ_col, dscore_real m c t xq xk xv xd hq hk hv hd, hq, EReal.coe_mul, EReal.coe_mul]
  rfl

include hq hk hv hd in
theorem termQ_real (n : Fin 2) (r : Fin 4096) (f : Fin 128) :
    termQ (iblk m c 0 t) (iblk m c 2 t) (iblk m c 3 t) (iblk m c 4 t) (iblk m c 6 t) (t.val % 8) n r.val f
      = ((∑ k : Fin 512, dlogit xq xk xv xd (headOf (pairOf t) n) r (keyAt (tileOf t) k) / Real.sqrt 96
          * xk (ix2 (keyAt (tileOf t) k) (atQ (headOf (pairOf t) n) f)) : ℝ) : EReal) := by
  have hr : (∑ k : Fin 512, dlogit xq xk xv xd (headOf (pairOf t) n) r (keyAt (tileOf t) k) / Real.sqrt 96
        * xk (ix2 (keyAt (tileOf t) k) (atQ (headOf (pairOf t) n) f)))
      = (∑ k : Fin 512, dlogit xq xk xv xd (headOf (pairOf t) n) r (keyAt (tileOf t) k)
        * xk (ix2 (keyAt (tileOf t) k) (atQ (headOf (pairOf t) n) f))) * (Real.sqrt 96)⁻¹ := by
    rw [Finset.sum_mul]
    exact Finset.sum_congr rfl fun k _ => by ring
  unfold termQ
  rw [hr, EReal.coe_mul, coe_sum]
  refine congrArg (· * ((((Real.sqrt 96)⁻¹ : ℝ) : EReal))) (Finset.sum_congr rfl fun k _ => ?_)
  rw [dscore_real m c t xq xk xv xd hq hk hv hd, blk_k, wideQ_col, hk, EReal.coe_mul]
  rfl
end real

end Cert.KernelIdeal.BwdValue

end
-- ==== Proof.Final.lean ====
module

public import proofs.«01_k».proof.Proof.Grad

/-! The three result arrays of the attention backward launch on real arguments: the gradients of the queries, of the
    keys and of the values, from the softmax's weights and its gradients of the logits. -/

@[expose] public section

set_option maxRecDepth 16384

noncomputable section

namespace Cert.KernelIdeal.BwdValue

open Cert.KernelIdeal Cert.KernelIdeal.Gen Cert.Attention
open Cert.KernelIdeal.Bwd (rowN colQ colV headQ inQ termV termK termQ cN)
open Cert.ReferenceIdeal.Attention (gradQ gradK gradV)
open Idealize.ShloMosaic Idealize.ShloMosaic.TcCoe Idealize.ShloMosaic.Tactic
open Idealize.SL.Sem

variable (m : (ℓ : Loc nD τ sig) → Buf (Elt Ideal) ℓ) (c : Dev nD) (t : Fin cfg0.N)

theorem colQ_split (l : Fin 256) : colQ (headQ l) (inQ l) = l := Fin.ext (by simp only [colQ, headQ, inQ]; omega)
theorem colV_split (l : Fin 128) : colV (headV l) (inV l) = l := Fin.ext (by simp only [colV, headV, inV]; omega)
theorem wideQ_split (g : Fin 4) (l : Fin 256) : wideQ g l = atQ (headOf g (headQ l)) (inQ l) := by
  rw [← wideQ_col, colQ_split]
theorem wideV_split (g : Fin 4) (l : Fin 128) : wideV g l = atV (headOf g (headV l)) (inV l) := by
  rw [← wideV_col, colV_split]

section text
variable (x0 : FVec Ideal S4096x256 .bf16) (x1 : FVec Ideal S8x256x512 .bf16) (x2 : FVec Ideal S512x256 .bf16)
  (x3 : FVec Ideal S512x128 .bf16) (x4 : FVec Ideal S4096x128 .bf16) (x5 : FVec Ideal S8x128x512 .bf16)
  (x6 : FVec Ideal S1x4096x128 .f32) (j : ℕ)

theorem outV_at (k : Fin 512) (l : Fin 128) : outV x0 x2 x5 x6 j (ix2 k l)
    = ∑ r ∈ Finset.Ico (512 * j) 4096, termV x0 x2 x5 x6 j (headV l) (inV l) k r := rfl
theorem outK_at (k : Fin 512) (l : Fin 256) : outK x0 x1 x2 x3 x4 x6 j (ix2 k l)
    = (∑ r ∈ Finset.Ico (512 * j) 4096, termK x0 x1 x2 x3 x4 x6 j (headQ l) (inQ l) k r) * cN := rfl
theorem outQ_at (d : FVec Ideal S4096x256 .f32) (r : Fin 4096) (l : Fin 256) : outQ x0 x2 x3 x4 x6 j d (ix2 r l)
    = (if j = 0 then 0 else d (ix2 r l)) + if 512 * j ≤ r.val then termQ x0 x2 x3 x4 x6 j (headQ l) r.val (inQ l) else 0 := rfl
end text

/-- A sum over the rows from a tile's first on, of terms that are zero on earlier rows, is one over all rows. -/
theorem sum_from (a : ℕ) (f : ℕ → EReal) (g : Fin 4096 → ℝ) (hf : ∀ r : Fin 4096, f r.val = ((g r : ℝ) : EReal))
    (hg : ∀ r : Fin 4096, r.val < a → g r = 0) : ∑ r ∈ Finset.Ico a 4096, f r = ((∑ r, g r : ℝ) : EReal) := by
  have h1 : ∑ r ∈ Finset.Ico a 4096, f r = ∑ r ∈ Finset.range 4096, f r := by
    refine Finset.sum_subset (fun r hr => Finset.mem_range.mpr (Finset.mem_Ico.mp hr).2) fun r hr hn => ?_
    have hr' := Finset.mem_range.mp hr
    have hlt : r < a := by
      by_contra h
      exact hn (Finset.mem_Ico.mpr ⟨not_lt.mp h, hr'⟩)
    rw [hf ⟨r, hr'⟩, hg ⟨r, hr'⟩ hlt, EReal.coe_zero]
  rw [h1, ← Fin.sum_univ_eq_sum_range f 4096, coe_sum]
  exact Finset.sum_congr rfl fun r _ => hf r

section real
variable (xq xk : S4096x1024.Idx → ℝ) (xv xd : S4096x512.Idx → ℝ)
  (hq : argQ m c = up xq) (hk : argK m c = up xk) (hv : argV m c = up xv) (hd : argD m c = up xd)
  (G P : FVec Ideal S8x4096x4096 .f32)
  (hG : ∀ h r k, G (ix3 h r k) = ((dlogit xq xk xv xd h r k / Real.sqrt 96 : ℝ) : EReal))
  (hP : ∀ h r k, P (ix3 h r k) = ((weight xq xk h r k : ℝ) : EReal))

include hq hk hd hP in
theorem outV_real (k : Fin 512) (l : Fin 128) : outV (iblk m c 0 t) (iblk m c 2 t) (iblk m c 5 t) (iblk m c 6 t) (t.val % 8) (ix2 k l)
    = gradV P (argD m c) (ix2 (keyAt (tileOf t) k) (wideV (pairOf t) l)) := by
  rw [wideV_split, gradV_at]
  rw [outV_at, sum_from _ _ (fun r => xd (ix2 r (atV (headOf (pairOf t) (headV l)) (inV l))) * weight xq xk (headOf (pairOf t) (headV l)) r (keyAt (tileOf t) k))
    (fun r => termV_real m c t xq xk xd hq hk hd _ _ _ r)
    (fun r hr => by rw [weight_late _ _ _ _ _ (by simp only [keyAt, tileOf]; omega), mul_zero]), coe_sum]
  refine Finset.sum_congr rfl fun r _ => ?_
  rw [hP, hd, EReal.coe_mul]
  rfl

include hq hk hv hd hG in
theorem outK_real (k : Fin 512) (l : Fin 256) :
    outK (iblk m c 0 t) (iblk m c 1 t) (iblk m c 2 t) (iblk m c 3 t) (iblk m c 4 t) (iblk m c 6 t) (t.val % 8) (ix2 k l)
      = gradK G (argQ m c) (ix2 (keyAt (tileOf t) k) (wideQ (pairOf t) l)) := by
  have hr : (∑ r, xq (ix2 r (atQ (headOf (pairOf t) (headQ l)) (inQ l))) * ((Real.sqrt 96)⁻¹ * (Real.log 2)⁻¹)
        * dlogit xq xk xv xd (headOf (pairOf t) (headQ l)) r (keyAt (tileOf t) k)) * Real.log 2
      = ∑ r, dlogit xq xk xv xd (headOf (pairOf t) (headQ l)) r (keyAt (tileOf t) k) / Real.sqrt 96
          * xq (ix2 r (atQ (headOf (pairOf t) (headQ l)) (inQ l))) := by
    rw [Finset.sum_mul]
    refine Finset.sum_congr rfl fun r _ => ?_
    have := log_ne
    field_simp
  rw [wideQ_split, gradK_at]
  rw [outK_at, sum_from _ _ (fun r => xq (ix2 r (atQ (headOf (pairOf t) (headQ l)) (inQ l))) * ((Real.sqrt 96)⁻¹ * (Real.log 2)⁻¹)
        * dlogit xq xk xv xd (headOf (pairOf t) (headQ l)) r (keyAt (tileOf t) k))
    (fun r => termK_real m c t xq xk xv xd hq hk hv hd _ _ _ r)
    (fun r hr => by rw [dlogit_late _ _ _ _ _ _ _ (by simp only [keyAt, tileOf]; omega), mul_zero])]
  unfold cN
  rw [← EReal.coe_mul, hr, coe_sum]
  refine Finset.sum_congr rfl fun r _ => ?_
  rw [hG, hq, EReal.coe_mul]
  rfl

/-- What tile `j` of keys adds to the gradient of the queries of a pair of heads. -/
def addQ (g : Fin 4) (j : ℕ) (r : Fin 4096) (l : Fin 256) : ℝ :=
  ∑ k : Fin 512, dlogit xq xk xv xd (headOf g (headQ l)) r (rowN (j * 512 + k.val)) / Real.sqrt 96
    * xk (ix2 (rowN (j * 512 + k.val)) (atQ (headOf g (headQ l)) (inQ l)))

theorem keyAt_row (k : Fin 512) : keyAt (tileOf t) k = rowN (t.val % 8 * 512 + k.val) :=
  Fin.ext (by simp only [keyAt, tileOf, rowN]; omega)

include hq hk hv hd in
theorem stepQ_real (d : FVec Ideal S4096x256 .f32) (r : Fin 4096) (l : Fin 256) :
    stepQ m c t.val d (ix2 r l) = (if t.val % 8 = 0 then 0 else d (ix2 r l)) + ((addQ xq xk xv xd (pairOf t) (t.val % 8) r l : ℝ) : EReal) := by
  unfold stepQ
  rw [point_val, outQ_at]
  congr 1
  split
  · unfold addQ
    simp only [← keyAt_row]
    exact termQ_real m c t xq xk xv xd hq hk hv hd _ _ _
  · next hc =>
    unfold addQ
    rw [Finset.sum_eq_zero fun k _ => ?_, EReal.coe_zero]
    rw [← keyAt_row, dlogit_late _ _ _ _ _ _ _ (by simp only [keyAt, tileOf]; omega), zero_div, zero_mul]

include hq hk hv hd in
theorem accQ_real (n : ℕ) (hn : n < 32) (r : Fin 4096) (l : Fin 256) :
    accQ m c n (ix2 r l) = ((∑ j ∈ Finset.range (n % 8 + 1), addQ xq xk xv xd ⟨n / 8, by omega⟩ j r l : ℝ) : EReal) := by
  induction n with
  | zero =>
    have h := stepQ_real m c ⟨0, lt_of_lt_of_eq hn N_0.symm⟩ xq xk xv xd hq hk hv hd (fun _ => 0) r l
    show stepQ m c 0 _ _ = _
    rw [h]
    simp [pairOf]
  | succ n ih =>
    have h := stepQ_real m c ⟨n + 1, lt_of_lt_of_eq hn N_0.symm⟩ xq xk xv xd hq hk hv hd (accQ m c n) r l
    show stepQ m c (n + 1) _ _ = _
    rw [h]
    by_cases h8 : (n + 1) % 8 = 0
    · simp [h8, pairOf]
    · rw [if_neg h8, ih (by omega), ← EReal.coe_add]
      have e1 : (n + 1) % 8 = n % 8 + 1 := by omega
      have e2 : (⟨(n + 1) / 8, by omega⟩ : Fin 4) = ⟨n / 8, by omega⟩ := Fin.ext (by simp only; omega)
      simp only [pairOf, e1, e2]
      rw [Finset.sum_range_succ _ (n % 8 + 1)]

include hq hk hv hd hG in
theorem outQ_real (ht : t.val % 8 = 7) (r : Fin 4096) (l : Fin 256) :
    accQ m c t.val (ix2 r l) = gradQ G (argK m c) (ix2 r (wideQ (pairOf t) l)) := by
  rw [accQ_real m c xq xk xv xd hq hk hv hd t.val (lt_of_lt_of_eq t.isLt N_0), wideQ_split, gradQ_at, ht,
    ← Fin.sum_univ_eq_sum_range (fun j => addQ xq xk xv xd ⟨t.val / 8, _⟩ j r l) 8, Fin.sum_univ_tiles 8 512 rfl, coe_sum]
  refine Finset.sum_congr rfl fun j _ => ?_
  unfold addQ
  rw [coe_sum]
  refine Finset.sum_congr rfl fun k _ => ?_
  rw [hG, hk, show rowN (j.val * 512 + k.val) = ⟨j.val * 512 + k.val, by omega⟩ from Fin.ext (by simp only [rowN]; omega), EReal.coe_mul]
  rfl

include hq hk hv hd hG in
theorem final_q : (dats m 0 c).arrAt 7 (cfgs 0).N = gradQ G (argK m c) := by
  refine (dats m 0 c).arrAt_eq_of_covers 7 _ (by decide +kernel) fun t hf y => ?_
  idx_vars y
  blk_simp
  rw [after_7]; frame_out
  rw [outQ_real m c t xq xk xv xd hq hk hv hd G hG ((flush0_7 t).mp hf)]
  generalize gradQ G (argK m c) = X
  blk_point [idx t, wideQ, pairOf]

include hq hk hv hd hG in
theorem final_k : (dats m 0 c).arrAt 8 (cfgs 0).N = gradK G (argQ m c) := by
  refine (dats m 0 c).arrAt_eq_of_covers 8 _ (by decide +kernel) fun t hf y => ?_
  idx_vars y
  blk_simp
  rw [after_8]; frame_out
  rw [outK_real m c t xq xk xv xd hq hk hv hd G hG]
  generalize gradK G (argQ m c) = X
  blk_point [idx t, wideQ, pairOf, keyAt, tileOf]

include hq hk hd hP in
theorem final_v : (dats m 0 c).arrAt 9 (cfgs 0).N = gradV P (argD m c) := by
  refine (dats m 0 c).arrAt_eq_of_covers 9 _ (by decide +kernel) fun t hf y => ?_
  idx_vars y
  blk_simp
  rw [after_9]; frame_out
  rw [outV_real m c t xq xk xd hq hk hd P hP]
  generalize gradV P (argD m c) = X
  blk_point [idx t, wideV, pairOf, keyAt, tileOf]

end real

end Cert.KernelIdeal.BwdValue

end
-- ==== Proof.AttnBwd.lean ====
module

public import proofs.«01_k».proof.Proof.Final
public import proofs.«01_k».proof.Proof.KernelIdealFrame
public import proofs.«01_k».proof.Proof.Gen.Pre_finite
public import Idealize.ShloMosaic.Lib.Claim
public import Idealize.ShloMosaic.Lib.ReduceAll

/-! The attention backward kernel computes the gradient of softmax attention: on finite arguments its three results
    are the plain text's. -/

@[expose] public section

set_option maxRecDepth 16384

noncomputable section

open Idealize.ShloMosaic Idealize.ShloMosaic.TcCoe Idealize.ShloMosaic.Tactic Idealize.SL.Sem

namespace Cert.Attention

/-! ### Finite arguments are real -/

theorem bits_top : Ideal.ofBits FTy.f32 0x7F800000#32 = ⊤ := by simp [Ideal.ofBits, Ideal.ieee]

/-- An extended real whose size is less than the infinite one is real. -/
theorem real_of_lt (x : EReal) (h : Ideal.cmp .olt (max x (-x)) ⊤ = 1#1) : x = ((x.toReal : ℝ) : EReal) := by
  have hlt : max x (-x) < ⊤ := by
    by_contra hn
    simp only [Ideal.cmp, hn, decide_false] at h
    exact absurd h (by decide)
  have ht : x ≠ ⊤ := (lt_of_le_of_lt (le_max_left _ _) hlt).ne
  have hb : x ≠ ⊥ := by
    rintro rfl
    exact absurd hlt (by simp)
  exact (EReal.coe_toReal ht hb).symm

theorem and_one (a b : BitVec 1) : IntOp.andi a b = 1#1 ↔ a = 1#1 ∧ b = 1#1 := by revert a b; decide

instance : Subsingleton Cert.Pre_finite.S_.Idx := ⟨fun a b => funext fun i => i.elim0⟩

/-- The precondition says that every argument is an array of reals. -/
theorem real_args (q k : FVec Ideal Cert.KernelIdeal.S4096x1024 .bf16) (v d : FVec Ideal Cert.KernelIdeal.S4096x512 .bf16)
    (h : Cert.Pre_finite.fn (F := Ideal) q k v d = fun _ => 1#1) :
    q = up (fun y => (q y).toReal) ∧ k = up (fun y => (k y).toReal) ∧ v = up (fun y => (v y).toReal) ∧ d = up (fun y => (d y).toReal) := by
  have h0 := congrFun h (fun a => a.elim0)
  simp only [Cert.Pre_finite.fn, Cert.Pre_finite.fn_part1, andi, and_one] at h0
  obtain ⟨⟨⟨h1, h2⟩, h3⟩, h4⟩ := h0
  have inf (y : EReal) (hy : Ideal.cmp .olt (max y (-y)) (Ideal.ofBits FTy.f32 0x7F800000#32) = 1#1) : y = ((y.toReal : ℝ) : EReal) :=
    real_of_lt y (by rw [bits_top] at hy; exact hy)
  refine ⟨funext fun y => inf _ ?_, funext fun y => inf _ ?_, funext fun y => inf _ ?_, funext fun y => inf _ ?_⟩
  · exact Host.reduce_andi_all _ _ _ _ _ h1 y
  · exact Host.reduce_andi_all _ _ _ _ _ h2 y
  · exact Host.reduce_andi_all _ _ _ _ _ h3 y
  · exact Host.reduce_andi_all _ _ _ _ _ h4 y

end Cert.Attention

namespace Cert.KernelIdeal.BwdValue

open Cert.KernelIdeal Cert.KernelIdeal.Gen Cert.Attention
open Cert.ReferenceIdeal.Attention (overT dprobT dscoreT gradQ gradK gradV)

variable (m : (ℓ : Loc nD τ sig) → Buf (Elt Ideal) ℓ) (ρ : Dev nD → PrngReg)

/-- The weights and the gradients of the logits, as the plain text computes them from the arguments. -/
abbrev textE (c : Dev nD) : FVec Ideal S8x4096x4096 .f32 := expT (theL m c) (overT (theM m c))
abbrev textP (c : Dev nD) : FVec Ideal S8x4096x4096 .f32 := probT (textE m c) (sumT (textE m c))
abbrev textG (c : Dev nD) : FVec Ideal S8x4096x4096 .f32 := dscoreT (dprobT (argV m c) (argD m c)) (textE m c) (sumT (textE m c))

/-- The arguments of a device are real. -/
def RealArgs (c : Dev nD) : Prop :=
  ∃ (xq xk : S4096x1024.Idx → ℝ) (xv xd : S4096x512.Idx → ℝ), argQ m c = up xq ∧ argK m c = up xk ∧ argV m c = up xv ∧ argD m c = up xd

/-- On real arguments the three result arrays are the plain text's gradients. -/
theorem finals (c : Dev nD) (h : RealArgs m c) : (dats m 0 c).arrAt 7 (cfgs 0).N = gradQ (textG m c) (argK m c)
    ∧ (dats m 0 c).arrAt 8 (cfgs 0).N = gradK (textG m c) (argQ m c)
    ∧ (dats m 0 c).arrAt 9 (cfgs 0).N = gradV (textP m c) (argD m c) := by
  obtain ⟨xq, xk, xv, xd, hq, hk, hv, hd⟩ := h
  have hE (h : Fin 8) (r k : Fin 4096) : textE m c (ix3 h r k) = ((ex xq xk h r k : ℝ) : EReal) := by
    have hM : overT (theM m c) (ix2 h r) = ((top xq xk h r : ℝ) : EReal) := by
      rw [overT_at]; exact theM_real m c xq xk hq hk h r
    unfold textE theL
    rw [hq, hk]
    exact ex_real xq xk h r k _ hM
  have hS (h : Fin 8) (r : Fin 4096) : sumT (textE m c) (ix2 h r) = ((total xq xk h r : ℝ) : EReal) := sum_real xq xk h r _ hE
  have hP (h : Fin 8) (r k : Fin 4096) : textP m c (ix3 h r k) = ((weight xq xk h r k : ℝ) : EReal) := weight_real xq xk h r k _ _ hE hS
  have hG (h : Fin 8) (r k : Fin 4096) : textG m c (ix3 h r k) = ((dlogit xq xk xv xd h r k / Real.sqrt 96 : ℝ) : EReal) := by
    unfold textG
    rw [hv, hd]
    exact dlogit_real xq xk xv xd h r k _ _ hE hS
  exact ⟨final_q m c xq xk xv xd hq hk hv hd _ hG, final_k m c xq xk xv xd hq hk hv hd _ hG, final_v m c xq xk xd hq hk hd _ hP⟩

/-- The run: the results are the launch's arrays and the arguments end as they began. -/
theorem run_values : θ_run defs (onTc (τ := τ) (main (F := Ideal))) ⟨m, fun _ => 0, ρ⟩ (fun r => ∀ c : Dev nD,
      r.2.mem ((c.tc : Thread nD τ).loc main_v55_0) = (dats m 0 c).arrAt 7 (cfgs 0).N
      ∧ r.2.mem ((c.tc : Thread nD τ).loc main_v55_1) = (dats m 0 c).arrAt 8 (cfgs 0).N
      ∧ r.2.mem ((c.tc : Thread nD τ).loc main_v55_2) = (dats m 0 c).arrAt 9 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1.1 c).1 7, (h.1.1 c).1 8, (h.1.1 c).1 9, h.2.1 c⟩)
    (θ_run_and (launched m ρ) (Cert.KernelIdeal.Bwd.frame m ρ))

end Cert.KernelIdeal.BwdValue

/-- The kernel's three results and the plain text's are one function of the arguments. -/
theorem Cert.Proof.attn : Cert.algebraic_KernelIdeal_ReferenceIdeal_pre_finite := by
  intro m g m' g' hpre hag
  have hreal (c : Dev Cert.KernelIdeal.nD) : Cert.KernelIdeal.BwdValue.RealArgs m c :=
    ⟨_, _, _, _, Cert.Attention.real_args _ _ _ _ (hpre c)⟩
  refine ⟨fun c => _, fun c => _, fun c => _, Cert.KernelIdeal.BwdValue.run_values m g, ?_⟩
  refine (θ_run Cert.ReferenceIdeal.defs _ _).mono (fun r h c => ?_) (Cert.ReferenceIdeal.Value.run (F := Ideal) m' g')
  obtain ⟨e1, e2, e3⟩ := Cert.KernelIdeal.BwdValue.finals m c (hreal c)
  obtain ⟨h1, h2, h3, h4⟩ := h c
  obtain ⟨a0, a1, a2, a3⟩ := hag c
  refine ⟨h1.trans ?_, h2.trans ?_, h3.trans ?_, h4⟩
  · refine (Cert.ReferenceIdeal.Attention.out_q m' c).trans (Eq.trans ?_ e1.symm)
    simp only [Cert.ReferenceIdeal.Attention.theG, Cert.ReferenceIdeal.Attention.theS, Cert.ReferenceIdeal.Attention.theE,
      Cert.ReferenceIdeal.Attention.theL, Cert.ReferenceIdeal.Attention.argQ, Cert.ReferenceIdeal.Attention.argK,
      Cert.ReferenceIdeal.Attention.argV, Cert.ReferenceIdeal.Attention.argD, a0, a1, a2, a3]
  · refine (Cert.ReferenceIdeal.Attention.out_k m' c).trans (Eq.trans ?_ e2.symm)
    simp only [Cert.ReferenceIdeal.Attention.theG, Cert.ReferenceIdeal.Attention.theS, Cert.ReferenceIdeal.Attention.theE,
      Cert.ReferenceIdeal.Attention.theL, Cert.ReferenceIdeal.Attention.argQ, Cert.ReferenceIdeal.Attention.argK,
      Cert.ReferenceIdeal.Attention.argV, Cert.ReferenceIdeal.Attention.argD, a0, a1, a2, a3]
  · refine (Cert.ReferenceIdeal.Attention.out_v m' c).trans (Eq.trans ?_ e3.symm)
    simp only [Cert.ReferenceIdeal.Attention.theS, Cert.ReferenceIdeal.Attention.theE,
      Cert.ReferenceIdeal.Attention.theL, Cert.ReferenceIdeal.Attention.argQ, Cert.ReferenceIdeal.Attention.argK,
      Cert.ReferenceIdeal.Attention.argD, a0, a1, a3]

end
-- ==== Proof.FoxIdealFrame.lean ====
module

public import proofs.«01_k».proof.Proof.Gen.Kernel9Ideal.Launch
public import proofs.«01_k».proof.Proof.Gen.Kernel9Ideal.Skeleton
public import proofs.«01_k».proof.Proof.Gen.Kernel9Ideal.Loops
public import proofs.«01_k».proof.Proof.Gen.Kernel9Ideal.Points
public import proofs.«01_k».proof.Proof.Gen.Kernel9Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The frame of the forgetting attention's backward call (`Kernel9Ideal`).  Nothing is said here of what the four outputs
    hold: the body is run with its output blocks at arbitrary contents and gives them back at some contents.
    Three of its inputs are windows on one array, each at its own share of it. -/

@[expose] public section

set_option maxRecDepth 16384

noncomputable section

namespace Cert.Kernel9Ideal.Bwd

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's first test: the tile of keys is the first of its head pair. -/
abbrev FirstTile (i : grid0.Coords) : Prop :=
  (Scalar.cmpi .ne (Scalar.extui (Scalar.cmpi .eq (BitVec.ofNat 32 (i 1).val) 0#32)) 0#32) = 1#1

/-- The body's second test: the point is the first of the whole grid. -/
abbrev FirstPoint (i : grid0.Coords) : Prop :=
  (Scalar.cmpi .ne (Scalar.extui (Scalar.cmpi .eq (Scalar.addi (Scalar.muli (BitVec.ofNat 32 (i 0).val) 8#32) (BitVec.ofNat 32 (i 1).val)) 0#32)) 0#32) = 1#1

/-- What the body holds before and after it ran: the eight inputs at their contents, the four outputs at some. -/
def Held (c : Dev nD) (arg2 : Memref sig .tc .vmem S4096x128 .bf16) (arg3 : Memref sig .tc .vmem S8x128x512 .bf16) (arg4 : Memref sig .tc .vmem S512x128 .bf16) (arg5 : Memref sig .tc .vmem S512x128 .bf16) (arg6 : Memref sig .tc .vmem S4096x128 .bf16) (arg7 : Memref sig .tc .vmem S8x128x512 .bf16) (arg8 : Memref sig .tc .vmem S1x4096x128 .f32) (arg9 : Memref sig .tc .vmem S1x8x512 .f32) (arg10 : Memref sig .tc .vmem S4096x128 .f32) (arg11 : Memref sig .tc .vmem S512x128 .bf16) (arg12 : Memref sig .tc .vmem S512x128 .bf16) (arg13 : Memref sig .tc .vmem S4096x128 .f32)
    (x0 : Vec F S4096x128 .bf16) (x1 : Vec F S8x128x512 .bf16) (x2 : Vec F S512x128 .bf16) (x3 : Vec F S512x128 .bf16) (x4 : Vec F S4096x128 .bf16) (x5 : Vec F S8x128x512 .bf16) (x6 : Vec F S1x4096x128 .f32) (x7 : Vec F S1x8x512 .f32) : sProp 𝕄 :=
  iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d))

set_option maxHeartbeats 8000000 in
/-- The body, on whole staging buffers: it ends, with its inputs as they were.  All outcomes of its two tests are
    run by the same steps. -/
theorem body_held (c : Dev nD) (i : grid0.Coords) (arg2 : Memref sig .tc .vmem S4096x128 .bf16) (harg2 : arg2.IsWhole) (arg3 : Memref sig .tc .vmem S8x128x512 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1x4096x128 .f32) (harg8 : arg8.IsWhole) (arg9 : Memref sig .tc .vmem S1x8x512 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole)
    (x0 : Vec F S4096x128 .bf16) (x1 : Vec F S8x128x512 .bf16) (x2 : Vec F S512x128 .bf16) (x3 : Vec F S512x128 .bf16) (x4 : Vec F S4096x128 .bf16) (x5 : Vec F S8x128x512 .bf16) (x6 : Vec F S1x4096x128 .f32) (x7 : Vec F S1x8x512 .f32) (E : Set ℕ) (K : PUnit → sProp 𝕄) :
    iprop(Held c arg2 arg3 arg4 arg5 arg6 arg7 arg8 arg9 arg10 arg11 arg12 arg13 x0 x1 x2 x3 x4 x5 x6 x7 ∗ (Held c arg2 arg3 arg4 arg5 arg6 arg7 arg8 arg9 arg10 arg11 arg12 arg13 x0 x1 x2 x3 x4 x5 x6 x7 -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13) K := by
  unfold Held
  simp only [cc0_fox_bwd_eq_skeleton]; unfold cc0_fox_bwd_skel
  simp only [k0_part13_eq_skeleton, k0_part14_eq_skeleton, k0_part15_eq_skeleton, k0_part16_eq_skeleton, k0_part17_eq_skeleton, k0_part18_eq_skeleton]
  unfold owns
  by_cases hc : FirstTile i
  all_goals by_cases hd : FirstPoint i
  all_goals
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc | sl_exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

/-- The four outputs are the windows nothing is said of. -/
def outputs : Fin 12 → Bool := fun w => w.val == 8 || w.val == 9 || w.val == 10 || w.val == 11

/-- The launch's data: arrays as the region finds them, each input block left in place, outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d

/-- What the launch hands the body at a point, -/
def given (c : Dev nD) (t : Fin cfg0.N) : sProp 𝕄 :=
  iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare ((dats m 0 c).before 7 t d))
      ∗ (∃ d, owns (c : Thread nD τ) (win0_8.stage (cfg0.slots t 8)) fullShare (d))
      ∗ (∃ d, owns (c : Thread nD τ) (win0_9.stage (cfg0.slots t 9)) fullShare (d))
      ∗ (∃ d, owns (c : Thread nD τ) (win0_10.stage (cfg0.slots t 10)) fullShare (d))
      ∗ (∃ d, owns (c : Thread nD τ) (win0_11.stage (cfg0.slots t 11)) fullShare (d)))

/-- and what it takes back. -/
def returned (c : Dev nD) (t : Fin cfg0.N) : sProp 𝕄 :=
  iprop((dats m 0 c).Φ t.succ ∗ (dats m 0 c).owesAt () t.succ
      ∗ owns (c : Thread nD τ) (win0_0.stage (cfg0.slots t 0)) fullShare ((dats m 0 c).after 0 t)
      ∗ owns (c : Thread nD τ) (win0_1.stage (cfg0.slots t 1)) fullShare ((dats m 0 c).after 1 t)
      ∗ owns (c : Thread nD τ) (win0_2.stage (cfg0.slots t 2)) fullShare ((dats m 0 c).after 2 t)
      ∗ owns (c : Thread nD τ) (win0_3.stage (cfg0.slots t 3)) fullShare ((dats m 0 c).after 3 t)
      ∗ owns (c : Thread nD τ) (win0_4.stage (cfg0.slots t 4)) fullShare ((dats m 0 c).after 4 t)
      ∗ owns (c : Thread nD τ) (win0_5.stage (cfg0.slots t 5)) fullShare ((dats m 0 c).after 5 t)
      ∗ owns (c : Thread nD τ) (win0_6.stage (cfg0.slots t 6)) fullShare ((dats m 0 c).after 6 t)
      ∗ owns (c : Thread nD τ) (win0_7.stage (cfg0.slots t 7)) fullShare ((dats m 0 c).after 7 t)
      ∗ (∃ d, owns (c : Thread nD τ) (win0_8.stage (cfg0.slots t 8)) fullShare (d))
      ∗ (∃ d, owns (c : Thread nD τ) (win0_9.stage (cfg0.slots t 9)) fullShare (d))
      ∗ (∃ d, owns (c : Thread nD τ) (win0_10.stage (cfg0.slots t 10)) fullShare (d))
      ∗ (∃ d, owns (c : Thread nD τ) (win0_11.stage (cfg0.slots t 11)) fullShare (d)))

set_option maxHeartbeats 1600000 in
theorem body_point (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_held c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  unfold Held
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ outputs := fun t => by
  rw [bigSep_W0, bigSep_W0, body_row]
  exact triple_restated (body_point m c t) rfl .rfl fun _ => .rfl

-- the launch theorem's implicit arguments are found by unfolding plain definitions in a type
set_option backward.isDefEq.respectTransparency.types false in
/-- The launch ends with its input arrays unchanged and every counter at zero. -/
theorem launched : θ_run defs (onTc (τ := τ) (main (F := F))) (s₀ m ρ) (fun r =>
    (Pipeline.RDat.FramePost (cfgs 0) (fun c => (dats m 0 c).toRForget outputs) (V m)) r ∧ r.2.sem = fun _ => 0) :=
  Pipeline.θ_run_frame_forget_shared (Q' := _) cfgs (dats m) (0 : Fin 1) launch₀0 defs₀ Variants.none outputs m ρ main
    (hbody := fun c => (obligation m c).loose) (hq := fun _ _ _ => rfl)
    (howed := fun _ _ => rfl) (V := V m) (hmain := hmain m Variants.none) (hA := A_eq m) (hΦ := fun _ _ => rfl)

/-- A run that ends with the input arrays as the region found them ends with the arguments as launched. -/
theorem arguments_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 4 rfl).trans ((hA c 4).trans (V_main_arg2 m c))⟩) h

/-- The frame: the arguments end unchanged and the machine quiet. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and
    (arguments_of m ρ (fun c => (dats m 0 c).toRForget outputs) (A_eq m)
      ((θ_run defs _ _).mono (fun _ h => h.1) (launched m ρ)))
    ((θ_run defs _ _).mono (fun _ h => h.2) (launched m ρ))

end Cert.Kernel9Ideal.Bwd

end
-- ==== Proof.FoxTile.lean ====
module

public import proofs.«01_k».proof.Defs
public import proofs.«01_k».proof.Proof.Gen.Kernel9Ideal.Skeleton
public import Idealize.ShloMosaic.Lib.Pipeline.ValueKit
public import Idealize.ShloMosaic.Lib.Pointwise
public import Idealize.ShloMosaic.Lib.WordCmp

/-! One tile of keys of the backward kernel of the attention with gates, by entries: the terms that a row of queries adds to
    the gradients of the keys, of the values, of the queries and of the gates, and the values of the body's expressions on
    rows it has loaded.  Rows are natural numbers, read modulo the 4096 rows of the arrays. -/

@[expose] public section

set_option maxRecDepth 16384

noncomputable section
open Idealize.ShloMosaic Idealize.ShloMosaic.TcCoe Idealize.SL.Sem
namespace Cert.Kernel9Ideal.Bwd
open Cert.Kernel9Ideal Cert.Kernel9Ideal.Gen

/-- Row `r` of the arrays. -/
def rowN (r : ℕ) : Fin 4096 := ⟨r % 4096, Nat.mod_lt _ (by norm_num)⟩

/-- Row `r` of an array that is laid out as eight transposed blocks of 512 rows. -/
def atT {w : ℕ} (x : FVec Ideal ⟨3, ![8, w, 512]⟩ .bf16) (r : ℕ) (f : Fin w) : EReal :=
  x (ix3 (⟨r / 512 % 8, Nat.mod_lt _ (by norm_num)⟩ : Fin 8) f (⟨r % 512, Nat.mod_lt _ (by norm_num)⟩ : Fin 512))

/-- Column `e` of head `n` of the pair, among the pair's 128 columns. -/
def colV (n : Fin 2) (e : Fin 64) : Fin 128 := ⟨64 * n.val + e.val, by omega⟩
/-- The head of one of the 128 columns. -/
def headV (l : Fin 128) : Fin 2 := ⟨l.val / 64, by omega⟩
/-- The lane of the row statistics that holds head `n`'s log-sum, -/
def laneL (n : Fin 2) : Fin 128 := ⟨n.val, by omega⟩
/-- and the one that holds its sum of products of output and gradient. -/
def laneD (n : Fin 2) : Fin 128 := ⟨2 + n.val, by omega⟩

/-- The constants of the body. -/
def cL : EReal := (((8 * Real.log 2)⁻¹ : ℝ) : EReal)
def cE : EReal := (((Real.log 2)⁻¹ : ℝ) : EReal)
def cS : EReal := Ideal.ofBits .f32 0x3E000000#32
def cN : EReal := ((Real.log 2 : ℝ) : EReal)

variable (x0 : FVec Ideal S4096x128 .bf16) (x1 : FVec Ideal S8x128x512 .bf16) (x2 : FVec Ideal S512x128 .bf16)
  (x3 : FVec Ideal S512x128 .bf16) (x4 : FVec Ideal S4096x128 .bf16) (x5 : FVec Ideal S8x128x512 .bf16)
  (x6 : FVec Ideal S1x4096x128 .f32) (y0 y1 : FVec Ideal S1x512 .f32)

/-- The gates of the tile's keys for one of the two heads. -/
def gate (n : Fin 2) (c : Fin 512) : EReal := if n = 0 then y0 (ix2 0 c) else y1 (ix2 0 c)

/-- The score of row `r` against key `c` of the tile, in powers of two. -/
def score (n : Fin 2) (r : ℕ) (c : Fin 512) : EReal :=
  (∑ l : Fin 128, (if l.val / 64 = n.val then x0 (ix2 (rowN r) l) * cL else 0) * x2 (ix2 c l)) - gate y0 y1 n c

/-- The weight of key `512 * j + c` for row `r`: nothing for a later key. -/
def prob (j : ℕ) (n : Fin 2) (r : ℕ) (c : Fin 512) : EReal :=
  Ideal.exp2 ((if 512 * j + c.val ≤ r then score x0 x2 y0 y1 n r c else ⊥) - x6 (ix3 0 (rowN r) (laneL n)))

/-- The gradient of that weight: head `n`'s half of the incoming gradient times the tile's values. -/
def dprob (n : Fin 2) (r : ℕ) (c : Fin 512) : EReal :=
  ∑ l : Fin 128, (if l.val / 64 = n.val then x4 (ix2 (rowN r) l) else 0) * x3 (ix2 c l)

/-- The gradient of the score. -/
def dscore (j : ℕ) (n : Fin 2) (r : ℕ) (c : Fin 512) : EReal :=
  prob x0 x2 x6 y0 y1 j n r c * (dprob x3 x4 n r c - x6 (ix3 0 (rowN r) (laneD n)))

/-- What row `r` adds to the gradient of the tile's values, -/
def termV (j : ℕ) (n : Fin 2) (e : Fin 64) (c : Fin 512) (r : ℕ) : EReal :=
  atT x5 r (colV n e) * prob x0 x2 x6 y0 y1 j n r c

/-- to the gradient of the tile's keys, -/
def termK (j : ℕ) (n : Fin 2) (f : Fin 64) (c : Fin 512) (r : ℕ) : EReal :=
  atT x1 r (colV n f) * cL * dscore x0 x2 x3 x4 x6 y0 y1 j n r c

/-- what the tile adds to the gradient of row `r` of the queries, -/
def termQ (j : ℕ) (r : ℕ) (l : Fin 128) : EReal :=
  (∑ c : Fin 512, dscore x0 x2 x3 x4 x6 y0 y1 j (headV l) r c * x2 (ix2 c l)) * cS

/-- and to that of its gates, of which the pair `g` holds those of two heads. -/
def termR (g j : ℕ) (r : ℕ) (l : Fin 128) : EReal :=
  if l.val = 2 * g then ∑ c : Fin 512, dscore x0 x2 x3 x4 x6 y0 y1 j 0 r c
  else if l.val = 2 * g + 1 then ∑ c : Fin 512, dscore x0 x2 x3 x4 x6 y0 y1 j 1 r c else 0

/-- A sum over 1024 rows is one over their two halves. -/
theorem two_rows (g : ℕ → EReal) (R : ℕ) :
    ∑ k : Fin 1024, g (R + k.val) = ∑ k : Fin 512, g (R + k.val) + ∑ k : Fin 512, g (R + (512 + k.val)) :=
  Fin.sum_univ_add (a := 512) (b := 512) fun k : Fin (512 + 512) => g (R + k.val)

/-- The comparison of two counters on the diagonal tile is the comparison of key and row. -/
theorem diag_le (j b : ℕ) (k c : Fin 512) (hj : j = b) (x y : EReal) :
    (if 512 * j + c.val ≤ 512 * b + k.val then x else y)
      = Scalar.select (IntOp.cmpi .sle (BitVec.ofNat 32 c.val) (BitVec.ofNat 32 k.val)) x y := by
  have h : IntOp.cmpi .sle (BitVec.ofNat 32 c.val) (BitVec.ofNat 32 k.val) = if c.val ≤ k.val then 1#1 else 0#1 := by
    rw [WordCmp.cmpi_sle_of_lt (by simp only [BitVec.toNat_ofNat]; omega) (by simp only [BitVec.toNat_ofNat]; omega),
      BitVec.toNat_ofNat, BitVec.toNat_ofNat, Nat.mod_eq_of_lt (by omega), Nat.mod_eq_of_lt (by omega)]
    by_cases hc : c.val ≤ k.val <;> simp [hc]
  rw [h]
  by_cases hc : c.val ≤ k.val
  · rw [if_pos hc, if_pos (by omega)]; rfl
  · rw [if_neg hc, if_neg (by omega)]; rfl

theorem colV0 (f : Fin 64) : colV 0 f = ⟨f.val, by omega⟩ := Fin.ext (by simp [colV])
theorem select_slt (l : Fin 128) (a b : EReal) :
    Scalar.select (IntOp.cmpi .slt (BitVec.ofNat 32 l.val) 64#32) a b = if l.val / 64 = (0 : Fin 2).val then a else b := by
  have h : ∀ l : Fin 128, IntOp.cmpi .slt (BitVec.ofNat 32 l.val) 64#32 = if l.val / 64 = (0 : Fin 2).val then 1#1 else 0#1 := by decide +kernel
  rw [h]; split <;> rfl
theorem select_sge (l : Fin 128) (a : EReal) :
    Scalar.select (IntOp.cmpi .sge (BitVec.ofNat 32 l.val) 64#32) a 0 = if l.val / 64 = (1 : Fin 2).val then a else 0 := by
  have h : ∀ l : Fin 128, IntOp.cmpi .sge (BitVec.ofNat 32 l.val) 64#32 = if l.val / 64 = (1 : Fin 2).val then 1#1 else 0#1 := by decide +kernel
  rw [h]; split <;> rfl
/-- The lanes of the pair's two heads, -/
theorem select_even (g : Fin 4) (l : Fin 128) (a b : EReal) :
    Scalar.select (IntOp.cmpi .eq (BitVec.ofNat 32 l.val) (Scalar.muli 2#32 (BitVec.ofNat 32 g.val))) a b = if l.val = 2 * g.val then a else b := by
  have h : ∀ (g : Fin 4) (l : Fin 128), IntOp.cmpi .eq (BitVec.ofNat 32 l.val) (Scalar.muli 2#32 (BitVec.ofNat 32 g.val)) = if l.val = 2 * g.val then 1#1 else 0#1 := by decide +kernel
  rw [h]; split <;> rfl
theorem select_odd (g : Fin 4) (l : Fin 128) (a b : EReal) :
    Scalar.select (IntOp.cmpi .eq (BitVec.ofNat 32 l.val) (Scalar.addi (Scalar.muli 2#32 (BitVec.ofNat 32 g.val)) 1#32)) a b = if l.val = 2 * g.val + 1 then a else b := by
  have h : ∀ (g : Fin 4) (l : Fin 128), IntOp.cmpi .eq (BitVec.ofNat 32 l.val) (Scalar.addi (Scalar.muli 2#32 (BitVec.ofNat 32 g.val)) 1#32) = if l.val = 2 * g.val + 1 then 1#1 else 0#1 := by decide +kernel
  rw [h]; split <;> rfl
/-- and the rows of the gates. -/
theorem select_row0 (g : Fin 4) (l : Fin 8) (a b : EReal) :
    Scalar.select (IntOp.cmpi .eq (BitVec.ofNat 32 l.val) (Scalar.addi (Scalar.muli 2#32 (BitVec.ofNat 32 g.val)) 0#32)) a b = if l.val = 2 * g.val + (0 : Fin 2).val then a else b := by
  have h : ∀ (g : Fin 4) (l : Fin 8), IntOp.cmpi .eq (BitVec.ofNat 32 l.val) (Scalar.addi (Scalar.muli 2#32 (BitVec.ofNat 32 g.val)) 0#32) = if l.val = 2 * g.val + (0 : Fin 2).val then 1#1 else 0#1 := by decide +kernel
  rw [h]; split <;> rfl
theorem select_row1 (g : Fin 4) (l : Fin 8) (a b : EReal) :
    Scalar.select (IntOp.cmpi .eq (BitVec.ofNat 32 l.val) (Scalar.addi (Scalar.muli 2#32 (BitVec.ofNat 32 g.val)) 1#32)) a b = if l.val = 2 * g.val + (1 : Fin 2).val then a else b := by
  have h : ∀ (g : Fin 4) (l : Fin 8), IntOp.cmpi .eq (BitVec.ofNat 32 l.val) (Scalar.addi (Scalar.muli 2#32 (BitVec.ofNat 32 g.val)) 1#32) = if l.val = 2 * g.val + (1 : Fin 2).val then 1#1 else 0#1 := by decide +kernel
  rw [h]; split <;> rfl

theorem diag_S (st : FVec Ideal S1x512x128 .f32) (k : Fin 512) (l : Fin 128) : k0_pay138 (F := Ideal) st (ix2 k l) = st (ix3 0 k l) := by
  pointwise [k0_pay138]
theorem wide_S (st : FVec Ideal S1x1024x128 .f32) (k : Fin 1024) (l : Fin 128) : k0_pay68 (F := Ideal) st (ix2 k l) = st (ix3 0 k l) := by
  pointwise [k0_pay68]

section
variable (j b : ℕ) (g : Fin 4) (q : FVec Ideal S512x128 .bf16) (qt : FVec Ideal S1x128x512 .bf16) (d : FVec Ideal S512x128 .bf16) (dt : FVec Ideal S1x128x512 .bf16) (st : FVec Ideal S1x512x128 .f32)

theorem narrow_p0 (hj : j < b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (k : Fin 512) (c : Fin 512) :
    k0_pay13 (F := Ideal) x2 y0 (k0_pay4 q) st (ix2 k c) = prob x0 x2 x6 y0 y1 j 0 (512 * b + k.val) c := by
  have hm : 512 * j + c.val ≤ 512 * b + k.val := by omega
  pointwise [k0_pay13, k0_pay4, k0_pay3, k0_pay2, k0_pay12]
  simp only [hq, hst]
  simp only [select_slt, select_sge]
  unfold prob score; rw [if_pos hm]
  simp only [ite_mul, zero_mul]
  rfl

theorem narrow_p1 (hj : j < b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (k : Fin 512) (c : Fin 512) :
    k0_pay21 (F := Ideal) x2 y1 (k0_pay5 q) st (ix2 k c) = prob x0 x2 x6 y0 y1 j 1 (512 * b + k.val) c := by
  have hm : 512 * j + c.val ≤ 512 * b + k.val := by omega
  pointwise [k0_pay21, k0_pay5, k0_pay3, k0_pay2, k0_pay12]
  simp only [hq, hst]
  simp only [select_slt, select_sge]
  unfold prob score; rw [if_pos hm]
  simp only [ite_mul, zero_mul]
  rfl

theorem narrow_ds0 (hj : j < b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (k : Fin 512) (c : Fin 512) :
    k0_pay14 (F := Ideal) x2 x3 y0 (k0_pay4 q) (k0_pay9 d) st (ix2 k c) = dscore x0 x2 x3 x4 x6 y0 y1 j 0 (512 * b + k.val) c := by
  pointwise [k0_pay14, k0_pay9, k0_pay7, k0_pay8, k0_pay12]
  simp only [narrow_p0 x0 x2 x6 y0 y1 j b q st hj hq hst, hd, hst]
  simp only [select_slt, select_sge]
  unfold dscore dprob
  simp only [ite_mul, zero_mul]
  rfl

theorem narrow_ds1 (hj : j < b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (k : Fin 512) (c : Fin 512) :
    k0_pay23 (F := Ideal) (k0_pay21 x2 y1 (k0_pay5 q) st) (k0_pay22 x3 (k0_pay10 d) st) (ix2 k c) = dscore x0 x2 x3 x4 x6 y0 y1 j 1 (512 * b + k.val) c := by
  pointwise [k0_pay23, k0_pay22, k0_pay10, k0_pay7, k0_pay8, k0_pay12]
  simp only [narrow_p1 x0 x2 x6 y0 y1 j b q st hj hq hst, hd, hst]
  simp only [select_slt, select_sge]
  unfold dscore dprob
  simp only [ite_mul, zero_mul]
  rfl

theorem narrow_V0 (hj : j < b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hdt : ∀ (e : Fin 128) (k : Fin 512), dt (ix3 0 e k) = atT x5 (512 * b + k.val) e) (a : FVec Ideal S64x512 .f32) (e : Fin 64) (c : Fin 512) :
    k0_pay16 (F := Ideal) x2 y0 a (k0_pay4 q) dt st (ix2 e c) = a (ix2 e c) + ∑ k : Fin 512, termV x0 x2 x5 x6 y0 y1 j 0 e c (512 * b + k.val) := by
  pointwise [k0_pay16, k0_pay11]
  simp only [narrow_p0 x0 x2 x6 y0 y1 j b q st hj hq hst, hdt]
  simp only [termV, colV0]; try rfl

theorem narrow_K0 (hj : j < b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (hqt : ∀ (f : Fin 128) (k : Fin 512), qt (ix3 0 f k) = atT x1 (512 * b + k.val) f) (a : FVec Ideal S64x512 .f32) (f : Fin 64) (c : Fin 512) :
    k0_pay17 (F := Ideal) x2 x3 y0 a (k0_pay4 q) (k0_pay6 qt) (k0_pay9 d) st (ix2 f c) = a (ix2 f c) + ∑ k : Fin 512, termK x0 x1 x2 x3 x4 x6 y0 y1 j 0 f c (512 * b + k.val) := by
  pointwise [k0_pay17, k0_pay6, k0_pay15]
  simp only [narrow_ds0 x0 x2 x3 x4 x6 y0 y1 j b q d st hj hq hst hd, hqt]
  simp only [termK, colV0]; try rfl

theorem narrow_F0 (hj : j < b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (a : FVec Ideal S1x512 .f32) (c : Fin 512) :
    k0_pay19 (F := Ideal) x2 x3 y0 a (k0_pay4 q) (k0_pay9 d) st (ix2 0 c) = a (ix2 0 c) - ∑ k : Fin 512, dscore x0 x2 x3 x4 x6 y0 y1 j 0 (512 * b + k.val) c := by
  pointwise [k0_pay19]
  simp only [narrow_ds0 x0 x2 x3 x4 x6 y0 y1 j b q d st hj hq hst hd]

theorem narrow_V1 (hj : j < b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hdt : ∀ (e : Fin 128) (k : Fin 512), dt (ix3 0 e k) = atT x5 (512 * b + k.val) e) (a : FVec Ideal S64x512 .f32) (e : Fin 64) (c : Fin 512) :
    k0_pay25 (F := Ideal) a (k0_pay11 dt) (k0_pay21 x2 y1 (k0_pay5 q) st) (ix2 e c) = a (ix2 e c) + ∑ k : Fin 512, termV x0 x2 x5 x6 y0 y1 j 1 e c (512 * b + k.val) := by
  pointwise [k0_pay25, k0_pay11]
  simp only [narrow_p1 x0 x2 x6 y0 y1 j b q st hj hq hst, hdt]
  simp only [termV, colV0]; try rfl

theorem narrow_K1 (hj : j < b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (hqt : ∀ (f : Fin 128) (k : Fin 512), qt (ix3 0 f k) = atT x1 (512 * b + k.val) f) (a : FVec Ideal S64x512 .f32) (f : Fin 64) (c : Fin 512) :
    k0_pay26 (F := Ideal) a (k0_pay6 qt) (k0_pay21 x2 y1 (k0_pay5 q) st) (k0_pay22 x3 (k0_pay10 d) st) (ix2 f c) = a (ix2 f c) + ∑ k : Fin 512, termK x0 x1 x2 x3 x4 x6 y0 y1 j 1 f c (512 * b + k.val) := by
  pointwise [k0_pay26, k0_pay6, k0_pay24]
  simp only [narrow_ds1 x0 x2 x3 x4 x6 y0 y1 j b q d st hj hq hst hd, hqt]
  simp only [termK, colV0]; try rfl

theorem narrow_F1 (hj : j < b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (a : FVec Ideal S1x512 .f32) (c : Fin 512) :
    k0_pay27 (F := Ideal) a (k0_pay21 x2 y1 (k0_pay5 q) st) (k0_pay22 x3 (k0_pay10 d) st) (ix2 0 c) = a (ix2 0 c) - ∑ k : Fin 512, dscore x0 x2 x3 x4 x6 y0 y1 j 1 (512 * b + k.val) c := by
  pointwise [k0_pay27]
  simp only [narrow_ds1 x0 x2 x3 x4 x6 y0 y1 j b q d st hj hq hst hd]

theorem narrow_Q (hj : j < b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (a : FVec Ideal S512x128 .f32) (k : Fin 512) (l : Fin 128) :
    k0_pay156 (F := Ideal) (k0_pay28 x2 (k0_pay18 x2 x3 y0 (k0_pay4 q) (k0_pay9 d) st) (k0_pay21 x2 y1 (k0_pay5 q) st) (k0_pay22 x3 (k0_pay10 d) st)) a (ix2 k l) = a (ix2 k l) + termQ x0 x2 x3 x4 x6 y0 y1 j (512 * b + k.val) l := by
  pointwise [k0_pay156, k0_pay28, k0_pay18, k0_pay15, k0_pay24]
  simp only [narrow_ds0 x0 x2 x3 x4 x6 y0 y1 j b q d st hj hq hst hd, narrow_ds1 x0 x2 x3 x4 x6 y0 y1 j b q d st hj hq hst hd]
  rw [select_slt]
  unfold termQ cS
  split_ifs with h
  · rw [show headV l = 0 from Fin.ext h]
  · rw [show headV l = 1 from Fin.ext (by have h0 : (0 : Fin 2).val = 0 := rfl; have h1 : (1 : Fin 2).val = 1 := rfl; simp only [headV]; omega)]

theorem narrow_R (hj : j < b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (a : FVec Ideal S512x128 .f32) (k : Fin 512) (l : Fin 128) :
    k0_pay29 (F := Ideal) (BitVec.ofNat 32 g.val) (k0_pay20 x2 x3 y0 (k0_pay4 q) (k0_pay9 d) st) (k0_pay21 x2 y1 (k0_pay5 q) st) (k0_pay22 x3 (k0_pay10 d) st) a (ix2 k l) = a (ix2 k l) + termR x0 x2 x3 x4 x6 y0 y1 g.val j (512 * b + k.val) l := by
  pointwise [k0_pay29, k0_pay20]
  simp only [narrow_ds0 x0 x2 x3 x4 x6 y0 y1 j b q d st hj hq hst hd, narrow_ds1 x0 x2 x3 x4 x6 y0 y1 j b q d st hj hq hst hd]
  rw [select_even, select_odd]
  rfl
end

section
variable (j b : ℕ) (g : Fin 4) (q : FVec Ideal S512x128 .bf16) (qt : FVec Ideal S1x128x512 .bf16) (d : FVec Ideal S512x128 .bf16) (dt : FVec Ideal S1x128x512 .bf16) (st : FVec Ideal S1x512x128 .f32)

theorem diag_p0 (hj : j = b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (k : Fin 512) (c : Fin 512) :
    k0_pay139 (F := Ideal) x2 y0 (k0_pay131 q) st (ix2 k c) = prob x0 x2 x6 y0 y1 j 0 (512 * b + k.val) c := by
  have hm := diag_le j b k c hj
  pointwise [k0_pay139, k0_pay131, k0_pay129, k0_pay130, k0_pay138]
  simp only [hq, hst]
  unfold prob score; simp only [← hm]
  simp only [select_slt, select_sge, ite_mul, zero_mul]
  rfl

theorem diag_p1 (hj : j = b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (k : Fin 512) (c : Fin 512) :
    k0_pay146 (F := Ideal) x2 y1 (k0_pay132 q) (k0_pay138 st) (ix2 k c) = prob x0 x2 x6 y0 y1 j 1 (512 * b + k.val) c := by
  have hm := diag_le j b k c hj
  pointwise [k0_pay146, k0_pay132, k0_pay129, k0_pay130, k0_pay138]
  simp only [hq, hst]
  unfold prob score; simp only [← hm]
  simp only [select_slt, select_sge, ite_mul, zero_mul]
  rfl

theorem diag_ds0 (hj : j = b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (k : Fin 512) (c : Fin 512) :
    k0_pay140 (F := Ideal) x2 x3 y0 (k0_pay131 q) d st (ix2 k c) = dscore x0 x2 x3 x4 x6 y0 y1 j 0 (512 * b + k.val) c := by
  pointwise [k0_pay140, k0_pay134, k0_pay135, k0_pay138]
  simp only [diag_p0 x0 x2 x6 y0 y1 j b q st hj hq hst, hd, hst]
  simp only [select_slt, select_sge]
  unfold dscore dprob
  simp only [ite_mul, zero_mul]
  rfl

theorem diag_ds1 (hj : j = b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (k : Fin 512) (c : Fin 512) :
    k0_pay147 (F := Ideal) x2 x3 y1 (k0_pay132 q) (k0_pay136 d) (k0_pay138 st) (ix2 k c) = dscore x0 x2 x3 x4 x6 y0 y1 j 1 (512 * b + k.val) c := by
  pointwise [k0_pay147, k0_pay136, k0_pay134, k0_pay135]
  have hS := diag_S st
  simp only [diag_p1 x0 x2 x6 y0 y1 j b q st hj hq hst, hS, hd, hst]
  simp only [select_slt, select_sge]
  unfold dscore dprob
  simp only [ite_mul, zero_mul]
  rfl

theorem diag_V0 (hj : j = b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hdt : ∀ (e : Fin 128) (k : Fin 512), dt (ix3 0 e k) = atT x5 (512 * b + k.val) e) (a : FVec Ideal S64x512 .f32) (e : Fin 64) (c : Fin 512) :
    k0_pay142 (F := Ideal) x2 y0 a (k0_pay131 q) dt st (ix2 e c) = a (ix2 e c) + ∑ k : Fin 512, termV x0 x2 x5 x6 y0 y1 j 0 e c (512 * b + k.val) := by
  pointwise [k0_pay142, k0_pay137]
  simp only [diag_p0 x0 x2 x6 y0 y1 j b q st hj hq hst, hdt]
  simp only [termV, colV0]; try rfl

theorem diag_K0 (hj : j = b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (hqt : ∀ (f : Fin 128) (k : Fin 512), qt (ix3 0 f k) = atT x1 (512 * b + k.val) f) (a : FVec Ideal S64x512 .f32) (f : Fin 64) (c : Fin 512) :
    k0_pay143 (F := Ideal) a (k0_pay133 qt) (k0_pay141 x2 x3 y0 (k0_pay131 q) d st) (ix2 f c) = a (ix2 f c) + ∑ k : Fin 512, termK x0 x1 x2 x3 x4 x6 y0 y1 j 0 f c (512 * b + k.val) := by
  pointwise [k0_pay143, k0_pay133, k0_pay141]
  simp only [diag_ds0 x0 x2 x3 x4 x6 y0 y1 j b q d st hj hq hst hd, hqt]
  simp only [termK, colV0]; try rfl

theorem diag_F0 (hj : j = b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (a : FVec Ideal S1x512 .f32) (c : Fin 512) :
    k0_pay144 (F := Ideal) a (k0_pay140 x2 x3 y0 (k0_pay131 q) d st) (ix2 0 c) = a (ix2 0 c) - ∑ k : Fin 512, dscore x0 x2 x3 x4 x6 y0 y1 j 0 (512 * b + k.val) c := by
  pointwise [k0_pay144]
  simp only [diag_ds0 x0 x2 x3 x4 x6 y0 y1 j b q d st hj hq hst hd]

theorem diag_V1 (hj : j = b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hdt : ∀ (e : Fin 128) (k : Fin 512), dt (ix3 0 e k) = atT x5 (512 * b + k.val) e) (a : FVec Ideal S64x512 .f32) (e : Fin 64) (c : Fin 512) :
    k0_pay149 (F := Ideal) x2 y1 a (k0_pay132 q) (k0_pay137 dt) (k0_pay138 st) (ix2 e c) = a (ix2 e c) + ∑ k : Fin 512, termV x0 x2 x5 x6 y0 y1 j 1 e c (512 * b + k.val) := by
  pointwise [k0_pay149, k0_pay137]
  simp only [diag_p1 x0 x2 x6 y0 y1 j b q st hj hq hst, hdt]
  simp only [termV, colV0]; try rfl

theorem diag_K1 (hj : j = b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (hqt : ∀ (f : Fin 128) (k : Fin 512), qt (ix3 0 f k) = atT x1 (512 * b + k.val) f) (a : FVec Ideal S64x512 .f32) (f : Fin 64) (c : Fin 512) :
    k0_pay150 (F := Ideal) x2 x3 y1 a (k0_pay132 q) (k0_pay133 qt) (k0_pay136 d) (k0_pay138 st) (ix2 f c) = a (ix2 f c) + ∑ k : Fin 512, termK x0 x1 x2 x3 x4 x6 y0 y1 j 1 f c (512 * b + k.val) := by
  pointwise [k0_pay150, k0_pay133, k0_pay148]
  simp only [diag_ds1 x0 x2 x3 x4 x6 y0 y1 j b q d st hj hq hst hd, hqt]
  simp only [termK, colV0]; try rfl

theorem diag_F1 (hj : j = b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (a : FVec Ideal S1x512 .f32) (c : Fin 512) :
    k0_pay151 (F := Ideal) x2 x3 y1 a (k0_pay132 q) (k0_pay136 d) (k0_pay138 st) (ix2 0 c) = a (ix2 0 c) - ∑ k : Fin 512, dscore x0 x2 x3 x4 x6 y0 y1 j 1 (512 * b + k.val) c := by
  pointwise [k0_pay151]
  simp only [diag_ds1 x0 x2 x3 x4 x6 y0 y1 j b q d st hj hq hst hd]

theorem diag_Q (hj : j = b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (a : FVec Ideal S512x128 .f32) (k : Fin 512) (l : Fin 128) :
    k0_pay155 (F := Ideal) (k0_pay153 x2 x3 y1 (k0_pay132 q) (k0_pay136 d) (k0_pay138 st) (k0_pay141 x2 x3 y0 (k0_pay131 q) d st)) (Scalar.ofBits .f32 0x3E000000#32) a (ix2 k l) = a (ix2 k l) + termQ x0 x2 x3 x4 x6 y0 y1 j (512 * b + k.val) l := by
  pointwise [k0_pay155, k0_pay153, k0_pay141, k0_pay148]
  simp only [diag_ds0 x0 x2 x3 x4 x6 y0 y1 j b q d st hj hq hst hd, diag_ds1 x0 x2 x3 x4 x6 y0 y1 j b q d st hj hq hst hd]
  rw [select_slt]
  unfold termQ cS
  split_ifs with h
  · rw [show headV l = 0 from Fin.ext h]
  · rw [show headV l = 1 from Fin.ext (by have h0 : (0 : Fin 2).val = 0 := rfl; have h1 : (1 : Fin 2).val = 1 := rfl; simp only [headV]; omega)]

theorem diag_R (hj : j = b) (hq : ∀ (k : Fin 512) (f : Fin 128), q (ix2 k f) = x0 (ix2 (rowN (512 * b + k.val)) f)) (hst : ∀ (k : Fin 512) (l : Fin 128), st (ix3 0 k l) = x6 (ix3 0 (rowN (512 * b + k.val)) l)) (hd : ∀ (k : Fin 512) (l : Fin 128), d (ix2 k l) = x4 (ix2 (rowN (512 * b + k.val)) l)) (a : FVec Ideal S512x128 .f32) (k : Fin 512) (l : Fin 128) :
    k0_pay154 (F := Ideal) (BitVec.ofNat 32 g.val) (k0_pay145 (k0_pay140 x2 x3 y0 (k0_pay131 q) d st)) (k0_pay152 x2 x3 y1 (k0_pay132 q) (k0_pay136 d) (k0_pay138 st)) a (ix2 k l) = a (ix2 k l) + termR x0 x2 x3 x4 x6 y0 y1 g.val j (512 * b + k.val) l := by
  pointwise [k0_pay154, k0_pay145, k0_pay152]
  simp only [diag_ds0 x0 x2 x3 x4 x6 y0 y1 j b q d st hj hq hst hd, diag_ds1 x0 x2 x3 x4 x6 y0 y1 j b q d st hj hq hst hd]
  rw [select_even, select_odd]
  rfl
end

section
variable (j b : ℕ) (g : Fin 4) (q : FVec Ideal S1024x128 .bf16) (qt qt2 : FVec Ideal S1x128x512 .bf16) (d : FVec Ideal S1024x128 .bf16) (dt dt2 : FVec Ideal S1x128x512 .bf16) (st : FVec Ideal S1x1024x128 .f32)

theorem wide_p0 (hj : j < 2 * b) (hq : ∀ (k : Fin 1024) (f : Fin 128), q (ix2 k f) = x0 (ix2 (rowN (1024 * b + k.val)) f)) (hst : ∀ (k : Fin 1024) (l : Fin 128), st (ix3 0 k l) = x6 (ix3 0 (rowN (1024 * b + k.val)) l)) (k : Fin 1024) (c : Fin 512) :
    k0_pay69 (F := Ideal) x2 y0 (k0_pay60 q) st (ix2 k c) = prob x0 x2 x6 y0 y1 j 0 (1024 * b + k.val) c := by
  have hm : 512 * j + c.val ≤ 1024 * b + k.val := by omega
  pointwise [k0_pay69, k0_pay60, k0_pay58, k0_pay59, k0_pay68]
  simp only [hq, hst]
  simp only [select_slt, select_sge]
  unfold prob score; rw [if_pos hm]
  simp only [ite_mul, zero_mul]
  rfl

theorem wide_p1 (hj : j < 2 * b) (hq : ∀ (k : Fin 1024) (f : Fin 128), q (ix2 k f) = x0 (ix2 (rowN (1024 * b + k.val)) f)) (hst : ∀ (k : Fin 1024) (l : Fin 128), st (ix3 0 k l) = x6 (ix3 0 (rowN (1024 * b + k.val)) l)) (k : Fin 1024) (c : Fin 512) :
    k0_pay78 (F := Ideal) x2 y1 (k0_pay61 q) (k0_pay68 st) (ix2 k c) = prob x0 x2 x6 y0 y1 j 1 (1024 * b + k.val) c := by
  have hm : 512 * j + c.val ≤ 1024 * b + k.val := by omega
  pointwise [k0_pay78, k0_pay61, k0_pay58, k0_pay59, k0_pay68]
  simp only [hq, hst]
  simp only [select_slt, select_sge]
  unfold prob score; rw [if_pos hm]
  simp only [ite_mul, zero_mul]
  rfl

theorem wide_ds0 (hj : j < 2 * b) (hq : ∀ (k : Fin 1024) (f : Fin 128), q (ix2 k f) = x0 (ix2 (rowN (1024 * b + k.val)) f)) (hst : ∀ (k : Fin 1024) (l : Fin 128), st (ix3 0 k l) = x6 (ix3 0 (rowN (1024 * b + k.val)) l)) (hd : ∀ (k : Fin 1024) (l : Fin 128), d (ix2 k l) = x4 (ix2 (rowN (1024 * b + k.val)) l)) (k : Fin 1024) (c : Fin 512) :
    k0_pay70 (F := Ideal) x2 x3 y0 (k0_pay60 q) (k0_pay63 d) (k0_pay64 (F := Ideal)) k0_pay65 st (ix2 k c) = dscore x0 x2 x3 x4 x6 y0 y1 j 0 (1024 * b + k.val) c := by
  pointwise [k0_pay70, k0_pay63, k0_pay64, k0_pay65, k0_pay68]
  simp only [wide_p0 x0 x2 x6 y0 y1 j b q st hj hq hst, hd, hst]
  simp only [select_slt, select_sge]
  unfold dscore dprob
  simp only [ite_mul, zero_mul]
  rfl

theorem wide_ds1 (hj : j < 2 * b) (hq : ∀ (k : Fin 1024) (f : Fin 128), q (ix2 k f) = x0 (ix2 (rowN (1024 * b + k.val)) f)) (hst : ∀ (k : Fin 1024) (l : Fin 128), st (ix3 0 k l) = x6 (ix3 0 (rowN (1024 * b + k.val)) l)) (hd : ∀ (k : Fin 1024) (l : Fin 128), d (ix2 k l) = x4 (ix2 (rowN (1024 * b + k.val)) l)) (k : Fin 1024) (c : Fin 512) :
    k0_pay79 (F := Ideal) x2 x3 y1 (k0_pay61 q) (k0_pay66 (k0_pay63 d) (k0_pay64 (F := Ideal))) (k0_pay68 st) (ix2 k c) = dscore x0 x2 x3 x4 x6 y0 y1 j 1 (1024 * b + k.val) c := by
  pointwise [k0_pay79, k0_pay66, k0_pay63, k0_pay64]
  have hS := wide_S st
  simp only [wide_p1 x0 x2 x6 y0 y1 j b q st hj hq hst, hS, hd, hst]
  simp only [select_slt, select_sge]
  unfold dscore dprob
  simp only [ite_mul, zero_mul]
  rfl

theorem wide_V0 (hj : j < 2 * b) (hq : ∀ (k : Fin 1024) (f : Fin 128), q (ix2 k f) = x0 (ix2 (rowN (1024 * b + k.val)) f)) (hst : ∀ (k : Fin 1024) (l : Fin 128), st (ix3 0 k l) = x6 (ix3 0 (rowN (1024 * b + k.val)) l)) (hdt : ∀ (e : Fin 128) (k : Fin 512), dt (ix3 0 e k) = atT x5 (1024 * b + k.val) e) (hdt2 : ∀ (e : Fin 128) (k : Fin 512), dt2 (ix3 0 e k) = atT x5 (1024 * b + (512 + k.val)) e) (a : FVec Ideal S64x512 .f32) (e : Fin 64) (c : Fin 512) :
    k0_pay72 (F := Ideal) x2 y0 a (k0_pay60 q) dt dt2 st (ix2 e c) = a (ix2 e c) + ∑ k : Fin 1024, termV x0 x2 x5 x6 y0 y1 j 0 e c (1024 * b + k.val) := by
  pointwise [k0_pay72, k0_pay67]
  simp only [wide_p0 x0 x2 x6 y0 y1 j b q st hj hq hst, hdt, hdt2]
  rw [two_rows (fun r => termV x0 x2 x5 x6 y0 y1 j 0 e c r)]
  simp only [termV, colV0]; try rfl

theorem wide_K0 (hj : j < 2 * b) (hq : ∀ (k : Fin 1024) (f : Fin 128), q (ix2 k f) = x0 (ix2 (rowN (1024 * b + k.val)) f)) (hst : ∀ (k : Fin 1024) (l : Fin 128), st (ix3 0 k l) = x6 (ix3 0 (rowN (1024 * b + k.val)) l)) (hd : ∀ (k : Fin 1024) (l : Fin 128), d (ix2 k l) = x4 (ix2 (rowN (1024 * b + k.val)) l)) (hqt : ∀ (f : Fin 128) (k : Fin 512), qt (ix3 0 f k) = atT x1 (1024 * b + k.val) f) (hqt2 : ∀ (f : Fin 128) (k : Fin 512), qt2 (ix3 0 f k) = atT x1 (1024 * b + (512 + k.val)) f) (a : FVec Ideal S64x512 .f32) (f : Fin 64) (c : Fin 512) :
    k0_pay73 (F := Ideal) x2 x3 y0 a (k0_pay60 q) (k0_pay62 qt qt2) (k0_pay63 d) (k0_pay64 (F := Ideal)) k0_pay65 st (ix2 f c) = a (ix2 f c) + ∑ k : Fin 1024, termK x0 x1 x2 x3 x4 x6 y0 y1 j 0 f c (1024 * b + k.val) := by
  pointwise [k0_pay73, k0_pay62, k0_pay71]
  simp only [wide_ds0 x0 x2 x3 x4 x6 y0 y1 j b q d st hj hq hst hd, hqt, hqt2]
  rw [two_rows (fun r => termK x0 x1 x2 x3 x4 x6 y0 y1 j 0 f c r)]
  simp only [termK, colV0]; try rfl

theorem wide_F0 (hj : j < 2 * b) (hq : ∀ (k : Fin 1024) (f : Fin 128), q (ix2 k f) = x0 (ix2 (rowN (1024 * b + k.val)) f)) (hst : ∀ (k : Fin 1024) (l : Fin 128), st (ix3 0 k l) = x6 (ix3 0 (rowN (1024 * b + k.val)) l)) (hd : ∀ (k : Fin 1024) (l : Fin 128), d (ix2 k l) = x4 (ix2 (rowN (1024 * b + k.val)) l)) (a : FVec Ideal S1x512 .f32) (c : Fin 512) :
    k0_pay76 (F := Ideal) a (k0_pay75 x2 x3 y0 (k0_pay60 q) (k0_pay63 d) (k0_pay64 (F := Ideal)) k0_pay65 st) (ix2 0 c) = a (ix2 0 c) - ∑ k : Fin 1024, dscore x0 x2 x3 x4 x6 y0 y1 j 0 (1024 * b + k.val) c := by
  pointwise [k0_pay76, k0_pay75]
  simp only [wide_ds0 x0 x2 x3 x4 x6 y0 y1 j b q d st hj hq hst hd]

theorem wide_V1 (hj : j < 2 * b) (hq : ∀ (k : Fin 1024) (f : Fin 128), q (ix2 k f) = x0 (ix2 (rowN (1024 * b + k.val)) f)) (hst : ∀ (k : Fin 1024) (l : Fin 128), st (ix3 0 k l) = x6 (ix3 0 (rowN (1024 * b + k.val)) l)) (hdt : ∀ (e : Fin 128) (k : Fin 512), dt (ix3 0 e k) = atT x5 (1024 * b + k.val) e) (hdt2 : ∀ (e : Fin 128) (k : Fin 512), dt2 (ix3 0 e k) = atT x5 (1024 * b + (512 + k.val)) e) (a : FVec Ideal S64x512 .f32) (e : Fin 64) (c : Fin 512) :
    k0_pay81 (F := Ideal) x2 y1 a (k0_pay61 q) (k0_pay67 dt dt2) (k0_pay68 st) (ix2 e c) = a (ix2 e c) + ∑ k : Fin 1024, termV x0 x2 x5 x6 y0 y1 j 1 e c (1024 * b + k.val) := by
  pointwise [k0_pay81, k0_pay67]
  simp only [wide_p1 x0 x2 x6 y0 y1 j b q st hj hq hst, hdt, hdt2]
  rw [two_rows (fun r => termV x0 x2 x5 x6 y0 y1 j 1 e c r)]
  simp only [termV, colV0]; try rfl

theorem wide_K1 (hj : j < 2 * b) (hq : ∀ (k : Fin 1024) (f : Fin 128), q (ix2 k f) = x0 (ix2 (rowN (1024 * b + k.val)) f)) (hst : ∀ (k : Fin 1024) (l : Fin 128), st (ix3 0 k l) = x6 (ix3 0 (rowN (1024 * b + k.val)) l)) (hd : ∀ (k : Fin 1024) (l : Fin 128), d (ix2 k l) = x4 (ix2 (rowN (1024 * b + k.val)) l)) (hqt : ∀ (f : Fin 128) (k : Fin 512), qt (ix3 0 f k) = atT x1 (1024 * b + k.val) f) (hqt2 : ∀ (f : Fin 128) (k : Fin 512), qt2 (ix3 0 f k) = atT x1 (1024 * b + (512 + k.val)) f) (a : FVec Ideal S64x512 .f32) (f : Fin 64) (c : Fin 512) :
    k0_pay82 (F := Ideal) x2 x3 y1 a (k0_pay61 q) (k0_pay62 qt qt2) (k0_pay66 (k0_pay63 d) (k0_pay64 (F := Ideal))) (k0_pay68 st) (ix2 f c) = a (ix2 f c) + ∑ k : Fin 1024, termK x0 x1 x2 x3 x4 x6 y0 y1 j 1 f c (1024 * b + k.val) := by
  pointwise [k0_pay82, k0_pay62, k0_pay80]
  simp only [wide_ds1 x0 x2 x3 x4 x6 y0 y1 j b q d st hj hq hst hd, hqt, hqt2]
  rw [two_rows (fun r => termK x0 x1 x2 x3 x4 x6 y0 y1 j 1 f c r)]
  simp only [termK, colV0]; try rfl

theorem wide_F1 (hj : j < 2 * b) (hq : ∀ (k : Fin 1024) (f : Fin 128), q (ix2 k f) = x0 (ix2 (rowN (1024 * b + k.val)) f)) (hst : ∀ (k : Fin 1024) (l : Fin 128), st (ix3 0 k l) = x6 (ix3 0 (rowN (1024 * b + k.val)) l)) (hd : ∀ (k : Fin 1024) (l : Fin 128), d (ix2 k l) = x4 (ix2 (rowN (1024 * b + k.val)) l)) (a : FVec Ideal S1x512 .f32) (c : Fin 512) :
    k0_pay83 (F := Ideal) x2 x3 y1 a (k0_pay61 q) (k0_pay66 (k0_pay63 d) (k0_pay64 (F := Ideal))) (k0_pay68 st) (ix2 0 c) = a (ix2 0 c) - ∑ k : Fin 1024, dscore x0 x2 x3 x4 x6 y0 y1 j 1 (1024 * b + k.val) c := by
  pointwise [k0_pay83]
  simp only [wide_ds1 x0 x2 x3 x4 x6 y0 y1 j b q d st hj hq hst hd]

theorem wide_Q (hj : j < 2 * b) (hq : ∀ (k : Fin 1024) (f : Fin 128), q (ix2 k f) = x0 (ix2 (rowN (1024 * b + k.val)) f)) (hst : ∀ (k : Fin 1024) (l : Fin 128), st (ix3 0 k l) = x6 (ix3 0 (rowN (1024 * b + k.val)) l)) (hd : ∀ (k : Fin 1024) (l : Fin 128), d (ix2 k l) = x4 (ix2 (rowN (1024 * b + k.val)) l)) (a : FVec Ideal S1024x128 .f32) (k : Fin 1024) (l : Fin 128) :
    k0_pay159 (F := Ideal) (k0_pay85 x2 x3 y1 (k0_pay61 q) (k0_pay66 (k0_pay63 d) (k0_pay64 (F := Ideal))) (k0_pay68 st) (k0_pay74 x2 x3 y0 (k0_pay60 q) (k0_pay63 d) (k0_pay64 (F := Ideal)) k0_pay65 st)) a (ix2 k l) = a (ix2 k l) + termQ x0 x2 x3 x4 x6 y0 y1 j (1024 * b + k.val) l := by
  pointwise [k0_pay159, k0_pay85, k0_pay74, k0_pay71, k0_pay80]
  simp only [wide_ds0 x0 x2 x3 x4 x6 y0 y1 j b q d st hj hq hst hd, wide_ds1 x0 x2 x3 x4 x6 y0 y1 j b q d st hj hq hst hd]
  rw [select_slt]
  unfold termQ cS
  split_ifs with h
  · rw [show headV l = 0 from Fin.ext h]
  · rw [show headV l = 1 from Fin.ext (by have h0 : (0 : Fin 2).val = 0 := rfl; have h1 : (1 : Fin 2).val = 1 := rfl; simp only [headV]; omega)]

theorem wide_R (hj : j < 2 * b) (hq : ∀ (k : Fin 1024) (f : Fin 128), q (ix2 k f) = x0 (ix2 (rowN (1024 * b + k.val)) f)) (hst : ∀ (k : Fin 1024) (l : Fin 128), st (ix3 0 k l) = x6 (ix3 0 (rowN (1024 * b + k.val)) l)) (hd : ∀ (k : Fin 1024) (l : Fin 128), d (ix2 k l) = x4 (ix2 (rowN (1024 * b + k.val)) l)) (a : FVec Ideal S1024x128 .f32) (k : Fin 1024) (l : Fin 128) :
    k0_pay158 (F := Ideal) (k0_pay77 (k0_pay70 x2 x3 y0 (k0_pay60 q) (k0_pay63 d) (k0_pay64 (F := Ideal)) k0_pay65 st)) (k0_pay84 x2 x3 y1 (k0_pay61 q) (k0_pay66 (k0_pay63 d) (k0_pay64 (F := Ideal))) (k0_pay68 st)) (k0_pay86 a) (k0_pay87 (BitVec.ofNat 32 g.val)) (iota .tc S1x128 32 [1] iota_S1x128_d1_w32) (Scalar.muli 2#32 (BitVec.ofNat 32 g.val)) (ix2 k l) = a (ix2 k l) + termR x0 x2 x3 x4 x6 y0 y1 g.val j (1024 * b + k.val) l := by
  pointwise [k0_pay158, k0_pay77, k0_pay84, k0_pay86, k0_pay87]
  simp only [wide_ds0 x0 x2 x3 x4 x6 y0 y1 j b q d st hj hq hst hd, wide_ds1 x0 x2 x3 x4 x6 y0 y1 j b q d st hj hq hst hd]
  rw [select_even, select_odd]
  rfl
end

/-! ### The gates, and the ends of the running sums -/

/-- The gates of head `n` of pair `g`, of a block of the gates of all eight. -/
def gates (x7 : FVec Ideal S1x8x512 .f32) (g : ℕ) (n : Fin 2) (c : Fin 512) : EReal :=
  cE * ∑ h : Fin 8, if h.val = 2 * g + n.val then x7 (ix3 0 h c) else 0

theorem gate_0 (i : grid0.Coords) (x7 : FVec Ideal S1x8x512 .f32) (c : Fin 512) :
    k0_pay119 (F := Ideal) i x7 (ix2 0 c) = gates x7 (i 0).val 0 c := by
  pointwise [k0_pay119]
  simp only [select_row0 (i 0)]
  rfl
theorem gate_1 (i : grid0.Coords) (x7 : FVec Ideal S1x8x512 .f32) (c : Fin 512) :
    k0_pay121 (F := Ideal) (k0_pay120 i x7) (ix2 0 c) = gates x7 (i 0).val 1 c := by
  pointwise [k0_pay121, k0_pay120]
  simp only [select_row1 (i 0)]
  rfl

theorem end_K (a b : FVec Ideal S64x512 .f32) (c : Fin 512) (l : Fin 128) :
    k0_pay162 (F := Ideal) a b (ix2 c l) = (if h : l.val < 64 then a (ix2 (⟨l.val, h⟩ : Fin 64) c) else b (ix2 (⟨l.val - 64, by omega⟩ : Fin 64) c)) * cN := by
  pointwise [k0_pay162]
  split_ifs with h h' <;> first | rfl | exact absurd rfl h'
theorem end_V (a b : FVec Ideal S64x512 .f32) (c : Fin 512) (l : Fin 128) :
    k0_pay163 (F := Ideal) a b (ix2 c l) = if h : l.val < 64 then a (ix2 (⟨l.val, h⟩ : Fin 64) c) else b (ix2 (⟨l.val - 64, by omega⟩ : Fin 64) c) := by
  pointwise [k0_pay163]
/-- What the end of a tile adds to the gates of its own rows. -/
def ownF (f0 f1 : FVec Ideal S1x512 .f32) (g : ℕ) (k : Fin 512) (l : Fin 128) : EReal :=
  if l.val = 2 * g then f0 (ix2 0 k) else if l.val = 2 * g + 1 then f1 (ix2 0 k) else 0
theorem end_F (g : Fin 4) (f0 f1 : FVec Ideal S1x512 .f32) (a : FVec Ideal S512x128 .f32) (k : Fin 512) (l : Fin 128) :
    k0_pay1 (F := Ideal) f0 f1 (iota .tc S128x1 32 [0] iota_S128x1_d0_w32) (k0_pay164 (BitVec.ofNat 32 g.val)) (Scalar.muli 2#32 (BitVec.ofNat 32 g.val)) 1#32 a (ix2 k l)
      = a (ix2 k l) + ownF f0 f1 g.val k l := by
  pointwise [k0_pay1, k0_pay164]
  rw [select_even, select_odd]
  rfl

end Cert.Kernel9Ideal.Bwd
end
-- ==== Proof.FoxRows.lean ====
module

public import proofs.«01_k».proof.Proof.FoxTile

/-! Rows of the arrays, loaded and stored, and the running sums over them.  `Adds j R R'` says that a step of the body has added
    to its six accumulators the terms of the rows from `R` to `R'`, and `AddsT T R R'` that it has added to an array of 4096
    rows the term `T` on each of those rows. -/

@[expose] public section

set_option maxRecDepth 16384

noncomputable section
open Idealize.ShloMosaic Idealize.ShloMosaic.TcCoe Idealize.SL.Sem
namespace Cert.Kernel9Ideal.Bwd
open Cert.Kernel9Ideal Cert.Kernel9Ideal.Gen

theorem rowN_of_lt {r : ℕ} (h : r < 4096) : (rowN r).val = r := Nat.mod_eq_of_lt h

/-! ### Loads -/

theorem ld_d (arg : Memref sig .tc .vmem S4096x128 .bf16) (h : arg.IsWhole) (x : FVec Ideal S4096x128 .bf16) (R : ℕ) (off : Fin 2 → ℕ)
    (hoff : off = ![R, 0]) (inb : ∀ a, off a + S512x128.size a ≤ S4096x128.size a) (k : Fin 512) (f : Fin 128) :
    View.readAt (Elt Ideal) arg.view (Rect.unit (s := S4096x128) off S512x128.size inb).toLoadRect (h.unread x) (ix2 k f)
      = x (ix2 (rowN (R + k.val)) f) := by
  subst hoff
  have hR : R + 512 ≤ 4096 := inb 0
  rw [View.readAt_eq_ld, Memref.IsWhole.read_unread]
  pointwise
  refine congrArg x ?_
  ext a
  refine Fin.cases ?_ (fun a => Fin.cases ?_ (fun a => a.elim0) a) a
  · exact (rowN_of_lt (by omega : R + k.val < 4096)).symm
  · rfl

theorem ld_d2 (arg : Memref sig .tc .vmem S4096x128 .bf16) (h : arg.IsWhole) (x : FVec Ideal S4096x128 .bf16) (R : ℕ) (off : Fin 2 → ℕ)
    (hoff : off = ![R, 0]) (inb : ∀ a, off a + S1024x128.size a ≤ S4096x128.size a) (k : Fin 1024) (f : Fin 128) :
    View.readAt (Elt Ideal) arg.view (Rect.unit (s := S4096x128) off S1024x128.size inb).toLoadRect (h.unread x) (ix2 k f)
      = x (ix2 (rowN (R + k.val)) f) := by
  subst hoff
  have hR : R + 1024 ≤ 4096 := inb 0
  rw [View.readAt_eq_ld, Memref.IsWhole.read_unread]
  pointwise
  refine congrArg x ?_
  ext a
  refine Fin.cases ?_ (fun a => Fin.cases ?_ (fun a => a.elim0) a) a
  · exact (rowN_of_lt (by omega : R + k.val < 4096)).symm
  · rfl

theorem ld_dt (arg : Memref sig .tc .vmem S8x128x512 .bf16) (h : arg.IsWhole) (x : FVec Ideal S8x128x512 .bf16) (g : ℕ) (off : Fin 3 → ℕ)
    (hoff : off = ![g, 0, 0]) (inb : ∀ a, off a + S1x128x512.size a ≤ S8x128x512.size a) (f : Fin 128) (k : Fin 512) :
    View.readAt (Elt Ideal) arg.view (Rect.unit (s := S8x128x512) off S1x128x512.size inb).toLoadRect (h.unread x) (ix3 0 f k)
      = atT x (512 * g + k.val) f := by
  subst hoff
  have hg : g + 1 ≤ 8 := inb 0
  rw [View.readAt_eq_ld, Memref.IsWhole.read_unread]
  pointwise
  unfold atT
  refine congrArg x ?_
  ext a
  refine Fin.cases ?_ (fun a => Fin.cases ?_ (fun a => Fin.cases ?_ (fun a => a.elim0) a) a) a
  · show g = (512 * g + k.val) / 512 % 8; omega
  · rfl
  · show k.val = (512 * g + k.val) % 512; omega

theorem ld_st (arg : Memref sig .tc .vmem S1x4096x128 .f32) (h : arg.IsWhole) (x : FVec Ideal S1x4096x128 .f32) (R : ℕ) (off : Fin 3 → ℕ)
    (hoff : off = ![0, R, 0]) (inb : ∀ a, off a + S1x512x128.size a ≤ S1x4096x128.size a) (k : Fin 512) (l : Fin 128) :
    View.readAt (Elt Ideal) arg.view (Rect.unit (s := S1x4096x128) off S1x512x128.size inb).toLoadRect (h.unread x) (ix3 0 k l)
      = x (ix3 0 (rowN (R + k.val)) l) := by
  subst hoff
  have hR : R + 512 ≤ 4096 := inb 1
  rw [View.readAt_eq_ld, Memref.IsWhole.read_unread]
  pointwise
  refine congrArg x ?_
  ext a
  refine Fin.cases ?_ (fun a => Fin.cases ?_ (fun a => Fin.cases ?_ (fun a => a.elim0) a) a) a
  · rfl
  · exact (rowN_of_lt (by omega : R + k.val < 4096)).symm
  · rfl

theorem ld_st2 (arg : Memref sig .tc .vmem S1x4096x128 .f32) (h : arg.IsWhole) (x : FVec Ideal S1x4096x128 .f32) (R : ℕ) (off : Fin 3 → ℕ)
    (hoff : off = ![0, R, 0]) (inb : ∀ a, off a + S1x1024x128.size a ≤ S1x4096x128.size a) (k : Fin 1024) (l : Fin 128) :
    View.readAt (Elt Ideal) arg.view (Rect.unit (s := S1x4096x128) off S1x1024x128.size inb).toLoadRect (h.unread x) (ix3 0 k l)
      = x (ix3 0 (rowN (R + k.val)) l) := by
  subst hoff
  have hR : R + 1024 ≤ 4096 := inb 1
  rw [View.readAt_eq_ld, Memref.IsWhole.read_unread]
  pointwise
  refine congrArg x ?_
  ext a
  refine Fin.cases ?_ (fun a => Fin.cases ?_ (fun a => Fin.cases ?_ (fun a => a.elim0) a) a) a
  · rfl
  · exact (rowN_of_lt (by omega : R + k.val < 4096)).symm
  · rfl

theorem ld_acc512 (arg : Memref sig .tc .vmem S4096x128 .f32) (G : BufTy.Contents (Elt Ideal) arg.view.ty) (R : ℕ) (off : Fin 2 → ℕ)
    (hoff : off = ![R, 0]) (inb : ∀ a, off a + S512x128.size a ≤ S4096x128.size a) (k : Fin 512) (l : Fin 128) :
    View.readAt (Elt Ideal) arg.view (Rect.unit (s := S4096x128) off S512x128.size inb).toLoadRect G (ix2 k l)
      = arg.view.read (Elt Ideal) G (ix2 (rowN (R + k.val)) l) := by
  subst hoff
  have hR : R + 512 ≤ 4096 := inb 0
  rw [View.readAt_eq_ld]
  pointwise
  refine congrArg _ ?_
  ext a
  refine Fin.cases ?_ (fun a => Fin.cases ?_ (fun a => a.elim0) a) a
  · exact (rowN_of_lt (by omega : R + k.val < 4096)).symm
  · rfl

theorem ld_acc1024 (arg : Memref sig .tc .vmem S4096x128 .f32) (G : BufTy.Contents (Elt Ideal) arg.view.ty) (R : ℕ) (off : Fin 2 → ℕ)
    (hoff : off = ![R, 0]) (inb : ∀ a, off a + S1024x128.size a ≤ S4096x128.size a) (k : Fin 1024) (l : Fin 128) :
    View.readAt (Elt Ideal) arg.view (Rect.unit (s := S4096x128) off S1024x128.size inb).toLoadRect G (ix2 k l)
      = arg.view.read (Elt Ideal) G (ix2 (rowN (R + k.val)) l) := by
  subst hoff
  have hR : R + 1024 ≤ 4096 := inb 0
  rw [View.readAt_eq_ld]
  pointwise
  refine congrArg _ ?_
  ext a
  refine Fin.cases ?_ (fun a => Fin.cases ?_ (fun a => a.elim0) a) a
  · exact (rowN_of_lt (by omega : R + k.val < 4096)).symm
  · rfl

/-! ### Running sums -/

theorem sum_rows (g : ℕ → EReal) (R n : ℕ) : ∑ k : Fin n, g (R + k.val) = ∑ r ∈ Finset.Ico R (R + n), g r := by
  rw [Finset.sum_Ico_eq_sum_range, Nat.add_sub_cancel_left, Finset.sum_range]

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Taking away a sum of real numbers is adding the sum of their opposites. -/
theorem sub_sum_real {n : ℕ} (a : EReal) (g : ℕ → EReal) (h : ∀ r, ∃ x : ℝ, g r = x) (R : ℕ) :
    a - ∑ k : Fin n, g (R + k.val) = a + ∑ r ∈ Finset.Ico R (R + n), -g r := by
  choose x hx using h
  rw [sum_rows]
  simp only [hx]
  rw [sub_eq_add_neg]
  congr 1
  simp only [← EReal.coe_neg, coe_sum, Finset.sum_neg_distrib]

variable (x0 : FVec Ideal S4096x128 .bf16) (x1 : FVec Ideal S8x128x512 .bf16) (x2 : FVec Ideal S512x128 .bf16)
  (x3 : FVec Ideal S512x128 .bf16) (x4 : FVec Ideal S4096x128 .bf16) (x5 : FVec Ideal S8x128x512 .bf16)
  (x6 : FVec Ideal S1x4096x128 .f32) (y0 y1 : FVec Ideal S1x512 .f32)

/-- The six accumulators: gradients of keys, of values and of gates, for the first head and for the second. -/
abbrev Accs := FVec Ideal S64x512 .f32 × FVec Ideal S64x512 .f32 × FVec Ideal S1x512 .f32 × FVec Ideal S64x512 .f32 × FVec Ideal S64x512 .f32 × FVec Ideal S1x512 .f32

structure Adds (j R R' : ℕ) (a a' : Accs) : Prop where
  k0 : ∀ f c, a'.1 (ix2 f c) = a.1 (ix2 f c) + ∑ r ∈ Finset.Ico R R', termK x0 x1 x2 x3 x4 x6 y0 y1 j 0 f c r
  v0 : ∀ e c, a'.2.1 (ix2 e c) = a.2.1 (ix2 e c) + ∑ r ∈ Finset.Ico R R', termV x0 x2 x5 x6 y0 y1 j 0 e c r
  f0 : ∀ c, a'.2.2.1 (ix2 0 c) = a.2.2.1 (ix2 0 c) + ∑ r ∈ Finset.Ico R R', -dscore x0 x2 x3 x4 x6 y0 y1 j 0 r c
  k1 : ∀ f c, a'.2.2.2.1 (ix2 f c) = a.2.2.2.1 (ix2 f c) + ∑ r ∈ Finset.Ico R R', termK x0 x1 x2 x3 x4 x6 y0 y1 j 1 f c r
  v1 : ∀ e c, a'.2.2.2.2.1 (ix2 e c) = a.2.2.2.2.1 (ix2 e c) + ∑ r ∈ Finset.Ico R R', termV x0 x2 x5 x6 y0 y1 j 1 e c r
  f1 : ∀ c, a'.2.2.2.2.2 (ix2 0 c) = a.2.2.2.2.2 (ix2 0 c) + ∑ r ∈ Finset.Ico R R', -dscore x0 x2 x3 x4 x6 y0 y1 j 1 r c

theorem Adds.refl (j R : ℕ) (a : Accs) : Adds x0 x1 x2 x3 x4 x5 x6 y0 y1 j R R a a := by
  constructor <;> intros <;> rw [Finset.Ico_self, Finset.sum_empty, add_zero]

theorem Adds.trans {j R R' R'' : ℕ} {a a' a'' : Accs} (h : R ≤ R') (h' : R' ≤ R'')
    (A : Adds x0 x1 x2 x3 x4 x5 x6 y0 y1 j R R' a a') (B : Adds x0 x1 x2 x3 x4 x5 x6 y0 y1 j R' R'' a' a'') : Adds x0 x1 x2 x3 x4 x5 x6 y0 y1 j R R'' a a'' := by
  constructor
  · intro x y; rw [B.k0, A.k0, add_assoc, Finset.sum_Ico_consecutive _ h h']
  · intro x y; rw [B.v0, A.v0, add_assoc, Finset.sum_Ico_consecutive _ h h']
  · intro x; rw [B.f0, A.f0, add_assoc, Finset.sum_Ico_consecutive _ h h']
  · intro x y; rw [B.k1, A.k1, add_assoc, Finset.sum_Ico_consecutive _ h h']
  · intro x y; rw [B.v1, A.v1, add_assoc, Finset.sum_Ico_consecutive _ h h']
  · intro x; rw [B.f1, A.f1, add_assoc, Finset.sum_Ico_consecutive _ h h']

/-- A step adds `T` to the rows from `R` to `R'` of an array. -/
def AddsT (T : ℕ → Fin 128 → EReal) (R R' : ℕ) (g g' : FVec Ideal S4096x128 .f32) : Prop :=
  ∀ (r : Fin 4096) (l : Fin 128), g' (ix2 r l) = g (ix2 r l) + if R ≤ r.val ∧ r.val < R' then T r.val l else 0

theorem AddsT.refl (T : ℕ → Fin 128 → EReal) (R : ℕ) (g : FVec Ideal S4096x128 .f32) : AddsT T R R g g := fun r l => by
  rw [if_neg (by omega), add_zero]

theorem AddsT.trans {T : ℕ → Fin 128 → EReal} {R R' R'' : ℕ} {g g' g'' : FVec Ideal S4096x128 .f32} (h : R ≤ R') (h' : R' ≤ R'')
    (A : AddsT T R R' g g') (B : AddsT T R' R'' g' g'') : AddsT T R R'' g g'' := fun r l => by
  rw [B, A, add_assoc]
  by_cases h1 : R ≤ r.val ∧ r.val < R'
  · rw [if_pos h1, if_neg (by omega), if_pos (by omega), add_zero]
  · rw [if_neg h1, zero_add]
    by_cases h2 : R' ≤ r.val ∧ r.val < R''
    · rw [if_pos h2, if_pos (by omega)]
    · rw [if_neg h2, if_neg (by omega)]

/-! ### Stores -/

theorem store512 (arg : Memref sig .tc .vmem S4096x128 .f32) (G : BufTy.Contents (Elt Ideal) arg.view.ty) (T : ℕ → Fin 128 → EReal) (R : ℕ) (off : Fin 2 → ℕ)
    (hoff : off = ![R, 0]) (inb : ∀ a, off a + S512x128.size a ≤ S4096x128.size a) (w : FVec Ideal S512x128 .f32)
    (hw : ∀ (k : Fin 512) (l : Fin 128), w (ix2 k l) = arg.view.read (Elt Ideal) G (ix2 (rowN (R + k.val)) l) + T (R + k.val) l) :
    AddsT T R (R + 512) (arg.view.read (Elt Ideal) G)
      (arg.view.read (Elt Ideal) (arg.view.writes (Elt Ideal) G [⟨Rect.unit (s := S4096x128) off S512x128.size inb, w⟩])) := fun r l => by
  subst hoff
  have hR : R + 512 ≤ 4096 := inb 0
  by_cases h : R ≤ r.val ∧ r.val < R + 512
  · have hx : ∀ a, (ix2 r l a).val = (Rect.unit (s := S4096x128) ![R, 0] S512x128.size inb).off a
        + (Rect.unit (s := S4096x128) ![R, 0] S512x128.size inb).stride a
          * (ix2 (⟨r.val - R, by omega⟩ : Fin 512) l a).val := by
      intro a
      refine Fin.cases ?_ (fun a => Fin.cases ?_ (fun a => a.elim0) a) a
      · show r.val = R + 1 * (r.val - R); omega
      · show l.val = 0 + 1 * l.val; omega
    rw [if_pos h]
    refine (View.read_writes_cons_hit_of_coords arg.view G (Rect.unit (s := S4096x128) ![R, 0] S512x128.size inb) w []
      (ix2 (⟨r.val - R, by omega⟩ : Fin 512) l) (ix2 r l) hx).trans ?_
    rw [hw]
    have e : R + (r.val - R) = r.val := by omega
    have er : rowN r.val = r := Fin.ext (rowN_of_lt r.isLt)
    simp only [e, er]
  · rw [if_neg h, add_zero, View.read_writes_cons_miss_of_axis _ _ _ _ _ 0 R 512 rfl rfl rfl (by
      show r.val < R ∨ R + 512 ≤ r.val; omega)]
    rfl

theorem store1024 (arg : Memref sig .tc .vmem S4096x128 .f32) (G : BufTy.Contents (Elt Ideal) arg.view.ty) (T : ℕ → Fin 128 → EReal) (R : ℕ) (off : Fin 2 → ℕ)
    (hoff : off = ![R, 0]) (inb : ∀ a, off a + S1024x128.size a ≤ S4096x128.size a) (w : FVec Ideal S1024x128 .f32)
    (hw : ∀ (k : Fin 1024) (l : Fin 128), w (ix2 k l) = arg.view.read (Elt Ideal) G (ix2 (rowN (R + k.val)) l) + T (R + k.val) l) :
    AddsT T R (R + 1024) (arg.view.read (Elt Ideal) G)
      (arg.view.read (Elt Ideal) (arg.view.writes (Elt Ideal) G [⟨Rect.unit (s := S4096x128) off S1024x128.size inb, w⟩])) := fun r l => by
  subst hoff
  have hR : R + 1024 ≤ 4096 := inb 0
  by_cases h : R ≤ r.val ∧ r.val < R + 1024
  · have hx : ∀ a, (ix2 r l a).val = (Rect.unit (s := S4096x128) ![R, 0] S1024x128.size inb).off a
        + (Rect.unit (s := S4096x128) ![R, 0] S1024x128.size inb).stride a
          * (ix2 (⟨r.val - R, by omega⟩ : Fin 1024) l a).val := by
      intro a
      refine Fin.cases ?_ (fun a => Fin.cases ?_ (fun a => a.elim0) a) a
      · show r.val = R + 1 * (r.val - R); omega
      · show l.val = 0 + 1 * l.val; omega
    rw [if_pos h]
    refine (View.read_writes_cons_hit_of_coords arg.view G (Rect.unit (s := S4096x128) ![R, 0] S1024x128.size inb) w []
      (ix2 (⟨r.val - R, by omega⟩ : Fin 1024) l) (ix2 r l) hx).trans ?_
    rw [hw]
    have e : R + (r.val - R) = r.val := by omega
    have er : rowN r.val = r := Fin.ext (rowN_of_lt r.isLt)
    simp only [e, er]
  · rw [if_neg h, add_zero, View.read_writes_cons_miss_of_axis _ _ _ _ _ 0 R 1024 rfl rfl rfl (by
      show r.val < R ∨ R + 1024 ≤ r.val; omega)]
    rfl

end Cert.Kernel9Ideal.Bwd
-- ==== Proof.FoxTrips.lean ====
module

public import proofs.«01_k».proof.Proof.FoxRows
public import proofs.«01_k».proof.Proof.Gen.Kernel9Ideal.Loops

/-! The two loops of the body that run, over the rows of queries after the tile: one block of 512 rows when the tile's
    number is even, then blocks of 1024 rows.  Each trip adds its rows' terms, so the loops together add those of all the
    rows after the tile. -/

@[expose] public section

set_option maxRecDepth 16384

noncomputable section
open Idealize.ShloMosaic Idealize.ShloMosaic.TcCoe Idealize.SL.Sem
namespace Cert.Kernel9Ideal.Bwd
open Cert.Kernel9Ideal Cert.Kernel9Ideal.Gen

variable (x0 : FVec Ideal S4096x128 .bf16) (x1 : FVec Ideal S8x128x512 .bf16) (x2 : FVec Ideal S512x128 .bf16)
  (x3 : FVec Ideal S512x128 .bf16) (x4 : FVec Ideal S4096x128 .bf16) (x5 : FVec Ideal S8x128x512 .bf16)
  (x6 : FVec Ideal S1x4096x128 .f32) (y0 y1 : FVec Ideal S1x512 .f32)

theorem t1_trips (i : grid0.Coords) : (k0_t1_loop i).trips = 1 - (i 1).val % 2 := by
  unfold k0_t1_loop; generalize i 1 = j; revert j; decide +kernel
theorem t2_trips (i : grid0.Coords) : (k0_t2_loop i).trips = 0 := by
  unfold k0_t2_loop; generalize i 1 = j; revert j; decide +kernel
theorem t3_trips (i : grid0.Coords) : (k0_t3_loop i).trips = 3 - (i 1).val / 2 := by
  unfold k0_t3_loop; generalize i 1 = j; revert j; decide +kernel
theorem t4_trips (i : grid0.Coords) : (k0_t4_loop i).trips = 0 := by
  unfold k0_t4_loop; generalize i 1 = j; revert j; decide +kernel

theorem t1_zero {i : grid0.Coords} (k : Fin (k0_t1_loop i).trips) : k.val = 0 := by
  have := lt_of_lt_of_eq k.isLt (t1_trips i); omega
theorem t3_lt {i : grid0.Coords} (k : Fin (k0_t3_loop i).trips) : k.val < 4 := by
  have := lt_of_lt_of_eq k.isLt (t3_trips i); omega

theorem off1 (i : grid0.Coords) : k0_off1 i = ![512 * (i 1).val, 0] := by
  unfold k0_off1; dsimp only; generalize i 1 = j; revert j; decide +kernel
theorem off2 (i : grid0.Coords) : k0_off2 i = ![(i 1).val, 0, 0] := by
  unfold k0_off2; dsimp only; generalize i 1 = j; revert j; decide +kernel
theorem off3 (i : grid0.Coords) : k0_off3 i = ![0, 512 * (i 1).val, 0] := by
  unfold k0_off3; dsimp only; generalize i 1 = j; revert j; decide +kernel
theorem off4 (i : grid0.Coords) (k : Fin (k0_t1_loop i).trips) : k0_off4 i k = ![512 * ((i 1).val + 1), 0] := by
  unfold k0_off4; dsimp only; rw [t1_zero k]; generalize i 1 = j; revert j; decide +kernel
theorem off5 (i : grid0.Coords) (k : Fin (k0_t1_loop i).trips) : k0_off5 i k = ![((i 1).val + 1), 0, 0] := by
  unfold k0_off5; dsimp only; rw [t1_zero k]; generalize i 1 = j; revert j; decide +kernel
theorem off6 (i : grid0.Coords) (k : Fin (k0_t1_loop i).trips) : k0_off6 i k = ![0, 512 * ((i 1).val + 1), 0] := by
  unfold k0_off6; dsimp only; rw [t1_zero k]; generalize i 1 = j; revert j; decide +kernel
theorem off10 (i : grid0.Coords) (k : Fin (k0_t3_loop i).trips) : k0_off10 i k = ![1024 * ((i 1).val / 2 + 1 + k.val), 0] := by
  have hk := t3_lt k
  obtain ⟨k, hk'⟩ := k
  unfold k0_off10; dsimp only at hk ⊢; generalize i 1 = j; clear hk'
  revert k j; decide +kernel
theorem off11_0 (i : grid0.Coords) (k : Fin (k0_t3_loop i).trips) : k0_off11 i k 0#32 = ![2 * ((i 1).val / 2 + 1 + k.val), 0, 0] := by
  have hk := t3_lt k
  obtain ⟨k, hk'⟩ := k
  unfold k0_off11; dsimp only at hk ⊢; generalize i 1 = j; clear hk'
  revert k j; decide +kernel
theorem off11_1 (i : grid0.Coords) (k : Fin (k0_t3_loop i).trips) : k0_off11 i k 1#32 = ![2 * ((i 1).val / 2 + 1 + k.val) + 1, 0, 0] := by
  have hk := t3_lt k
  obtain ⟨k, hk'⟩ := k
  unfold k0_off11; dsimp only at hk ⊢; generalize i 1 = j; clear hk'
  revert k j; decide +kernel
theorem off12 (i : grid0.Coords) (k : Fin (k0_t3_loop i).trips) : k0_off12 i k = ![0, 1024 * ((i 1).val / 2 + 1 + k.val), 0] := by
  have hk := t3_lt k
  obtain ⟨k, hk'⟩ := k
  unfold k0_off12; dsimp only at hk ⊢; generalize i 1 = j; clear hk'
  revert k j; decide +kernel

variable (𝒱 : Variants) (c : Dev nD) (bd : Option 𝒱.V) (i : grid0.Coords)
  (arg2 : Memref sig .tc .vmem S4096x128 .bf16) (harg2 : arg2.IsWhole) (arg3 : Memref sig .tc .vmem S8x128x512 .bf16)
  (harg3 : arg3.IsWhole) (arg4 : Memref sig .tc .vmem S512x128 .bf16) (harg4 : arg4.IsWhole)
  (arg5 : Memref sig .tc .vmem S512x128 .bf16) (harg5 : arg5.IsWhole) (arg6 : Memref sig .tc .vmem S4096x128 .bf16)
  (harg6 : arg6.IsWhole) (arg7 : Memref sig .tc .vmem S8x128x512 .bf16) (harg7 : arg7.IsWhole)
  (arg8 : Memref sig .tc .vmem S1x4096x128 .f32) (harg8 : arg8.IsWhole) (arg9 : Memref sig .tc .vmem S1x8x512 .f32)
  (harg9 : arg9.IsWhole) (arg10 : Memref sig .tc .vmem S4096x128 .f32) (harg10 : arg10.IsWhole)
  (arg11 : Memref sig .tc .vmem S512x128 .bf16) (harg11 : arg11.IsWhole) (arg12 : Memref sig .tc .vmem S512x128 .bf16)
  (harg12 : arg12.IsWhole) (arg13 : Memref sig .tc .vmem S4096x128 .f32) (harg13 : arg13.IsWhole) (a1 : BitVec 32)
  (v121 v124 : FVec Ideal S64x512 .f32) (v128 : FVec Ideal S1x512 .f32) (v152 v155 : FVec Ideal S64x512 .f32)
  (v159 : FVec Ideal S1x512 .f32) (b1 b2 b3 b4 b5 : BitVec 32)

/-- The trip of 512 rows. -/
theorem trip_narrow (hfin : ∀ n r c, ∃ x : ℝ, dscore x0 x2 x3 x4 x6 y0 y1 (i 1).val n r c = x)
    (k : Fin (k0_t1_loop i).trips) (acc : Accs) (G : BufTy.Contents (Elt Ideal) arg10.view.ty) (H : BufTy.Contents (Elt Ideal) arg13.view.ty) :
    Adds x0 x1 x2 x3 x4 x5 x6 y0 y1 (i 1).val (512 * ((i 1).val + 1)) (512 * ((i 1).val + 1) + 512) acc
      (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) k acc G H)
    ∧ AddsT (termQ x0 x2 x3 x4 x6 y0 y1 (i 1).val) (512 * ((i 1).val + 1)) (512 * ((i 1).val + 1) + 512) (arg10.view.read (Elt Ideal) G)
      (arg10.view.read (Elt Ideal) (arg10.view.writes (Elt Ideal) G
        (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) k acc G H).1))
    ∧ AddsT (termR x0 x2 x3 x4 x6 y0 y1 (i 0).val (i 1).val) (512 * ((i 1).val + 1)) (512 * ((i 1).val + 1) + 512) (arg13.view.read (Elt Ideal) H)
      (arg13.view.read (Elt Ideal) (arg13.view.writes (Elt Ideal) H
        (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) k acc G H).2)) := by
  have hj : (i 1).val < (i 1).val + 1 := Nat.lt_succ_self _
  have hq := ld_d arg2 harg2 x0 _ _ (off4 i k) (k0_off4_inb i k)
  have hqt := ld_dt arg3 harg3 x1 _ _ (off5 i k) (k0_off5_inb i k)
  have hd := ld_d arg6 harg6 x4 _ _ (off4 i k) (k0_off4_inb i k)
  have hdt := ld_dt arg7 harg7 x5 _ _ (off5 i k) (k0_off5_inb i k)
  have hst := ld_st arg8 harg8 x6 _ _ (off6 i k) (k0_off6_inb i k)
  have ha := ld_acc512 arg10 G _ _ (off4 i k) (k0_off4_inb i k)
  have hb := ld_acc512 arg13 H _ _ (off4 i k) (k0_off4_inb i k)
  unfold tripR_k0_t1 tripL_k0_t1 trip_k0_t1
  refine ⟨⟨fun f c => ?_, fun e c => ?_, fun c => ?_, fun f c => ?_, fun e c => ?_, fun c => ?_⟩, ?_, ?_⟩
  · have h := narrow_K0 x0 x1 x2 x3 x4 x6 y0 y1 (i 1).val ((i 1).val + 1) _ _ _ _ hj hq hst hd hqt acc.1 f c
    rw [sum_rows] at h; exact h
  · have h := narrow_V0 x0 x2 x5 x6 y0 y1 (i 1).val ((i 1).val + 1) _ _ _ hj hq hst hdt acc.2.1 e c
    rw [sum_rows] at h; exact h
  · have h := narrow_F0 x0 x2 x3 x4 x6 y0 y1 (i 1).val ((i 1).val + 1) _ _ _ hj hq hst hd acc.2.2.1 c
    rw [sub_sum_real _ (fun r => dscore x0 x2 x3 x4 x6 y0 y1 (i 1).val 0 r c) (fun r => hfin 0 r c)] at h; exact h
  · have h := narrow_K1 x0 x1 x2 x3 x4 x6 y0 y1 (i 1).val ((i 1).val + 1) _ _ _ _ hj hq hst hd hqt acc.2.2.2.1 f c
    rw [sum_rows] at h; exact h
  · have h := narrow_V1 x0 x2 x5 x6 y0 y1 (i 1).val ((i 1).val + 1) _ _ _ hj hq hst hdt acc.2.2.2.2.1 e c
    rw [sum_rows] at h; exact h
  · have h := narrow_F1 x0 x2 x3 x4 x6 y0 y1 (i 1).val ((i 1).val + 1) _ _ _ hj hq hst hd acc.2.2.2.2.2 c
    rw [sub_sum_real _ (fun r => dscore x0 x2 x3 x4 x6 y0 y1 (i 1).val 1 r c) (fun r => hfin 1 r c)] at h; exact h
  · exact store512 arg10 G (termQ x0 x2 x3 x4 x6 y0 y1 (i 1).val) _ _ (off4 i k) (k0_off4_inb i k) _ fun k' l =>
      (narrow_Q x0 x2 x3 x4 x6 y0 y1 (i 1).val ((i 1).val + 1) _ _ _ hj hq hst hd _ k' l).trans (by rw [ha])
  · exact store512 arg13 H (termR x0 x2 x3 x4 x6 y0 y1 (i 0).val (i 1).val) _ _ (off4 i k) (k0_off4_inb i k) _ fun k' l =>
      (narrow_R x0 x2 x3 x4 x6 y0 y1 (i 1).val ((i 1).val + 1) (i 0) _ _ _ hj hq hst hd _ k' l).trans (by rw [hb])

/-- A trip of 1024 rows. -/
theorem trip_wide (hfin : ∀ n r c, ∃ x : ℝ, dscore x0 x2 x3 x4 x6 y0 y1 (i 1).val n r c = x)
    (k : Fin (k0_t3_loop i).trips) (acc : Accs) (G : BufTy.Contents (Elt Ideal) arg10.view.ty) (H : BufTy.Contents (Elt Ideal) arg13.view.ty) :
    Adds x0 x1 x2 x3 x4 x5 x6 y0 y1 (i 1).val (1024 * ((i 1).val / 2 + 1 + k.val)) (1024 * ((i 1).val / 2 + 1 + k.val) + 1024) acc
      (tripR_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) k acc G H)
    ∧ AddsT (termQ x0 x2 x3 x4 x6 y0 y1 (i 1).val) (1024 * ((i 1).val / 2 + 1 + k.val)) (1024 * ((i 1).val / 2 + 1 + k.val) + 1024) (arg10.view.read (Elt Ideal) G)
      (arg10.view.read (Elt Ideal) (arg10.view.writes (Elt Ideal) G
        (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) k acc G H).1))
    ∧ AddsT (termR x0 x2 x3 x4 x6 y0 y1 (i 0).val (i 1).val) (1024 * ((i 1).val / 2 + 1 + k.val)) (1024 * ((i 1).val / 2 + 1 + k.val) + 1024) (arg13.view.read (Elt Ideal) H)
      (arg13.view.read (Elt Ideal) (arg13.view.writes (Elt Ideal) H
        (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) k acc G H).2)) := by
  have hj : (i 1).val < 2 * ((i 1).val / 2 + 1 + k.val) := by omega
  have hq := ld_d2 arg2 harg2 x0 _ _ (off10 i k) (k0_off10_inb i k)
  have hqt : ∀ (f : Fin 128) (k' : Fin 512), _ = atT x1 (1024 * ((i 1).val / 2 + 1 + k.val) + k'.val) f := fun f k' =>
    (ld_dt arg3 harg3 x1 _ _ (off11_0 i k) (k0_off11_inb i k 0) f k').trans (congrArg (atT x1 · f) (by omega))
  have hqt2 : ∀ (f : Fin 128) (k' : Fin 512), _ = atT x1 (1024 * ((i 1).val / 2 + 1 + k.val) + (512 + k'.val)) f := fun f k' =>
    (ld_dt arg3 harg3 x1 _ _ (off11_1 i k) (k0_off11_inb i k 1) f k').trans (congrArg (atT x1 · f) (by omega))
  have hd := ld_d2 arg6 harg6 x4 _ _ (off10 i k) (k0_off10_inb i k)
  have hdt : ∀ (f : Fin 128) (k' : Fin 512), _ = atT x5 (1024 * ((i 1).val / 2 + 1 + k.val) + k'.val) f := fun f k' =>
    (ld_dt arg7 harg7 x5 _ _ (off11_0 i k) (k0_off11_inb i k 0) f k').trans (congrArg (atT x5 · f) (by omega))
  have hdt2 : ∀ (f : Fin 128) (k' : Fin 512), _ = atT x5 (1024 * ((i 1).val / 2 + 1 + k.val) + (512 + k'.val)) f := fun f k' =>
    (ld_dt arg7 harg7 x5 _ _ (off11_1 i k) (k0_off11_inb i k 1) f k').trans (congrArg (atT x5 · f) (by omega))
  have hst := ld_st2 arg8 harg8 x6 _ _ (off12 i k) (k0_off12_inb i k)
  have ha := ld_acc1024 arg10 G _ _ (off10 i k) (k0_off10_inb i k)
  have hb := ld_acc1024 arg13 H _ _ (off10 i k) (k0_off10_inb i k)
  unfold tripR_k0_t3 tripL_k0_t3 trip_k0_t3
  refine ⟨⟨fun f c => ?_, fun e c => ?_, fun c => ?_, fun f c => ?_, fun e c => ?_, fun c => ?_⟩, ?_, ?_⟩
  · have h := wide_K0 x0 x1 x2 x3 x4 x6 y0 y1 (i 1).val ((i 1).val / 2 + 1 + k.val) _ _ _ _ _ hj hq hst hd hqt hqt2 acc.1 f c
    rw [sum_rows] at h; exact h
  · have h := wide_V0 x0 x2 x5 x6 y0 y1 (i 1).val ((i 1).val / 2 + 1 + k.val) _ _ _ _ hj hq hst hdt hdt2 acc.2.1 e c
    rw [sum_rows] at h; exact h
  · have h := wide_F0 x0 x2 x3 x4 x6 y0 y1 (i 1).val ((i 1).val / 2 + 1 + k.val) _ _ _ hj hq hst hd acc.2.2.1 c
    rw [sub_sum_real _ (fun r => dscore x0 x2 x3 x4 x6 y0 y1 (i 1).val 0 r c) (fun r => hfin 0 r c)] at h; exact h
  · have h := wide_K1 x0 x1 x2 x3 x4 x6 y0 y1 (i 1).val ((i 1).val / 2 + 1 + k.val) _ _ _ _ _ hj hq hst hd hqt hqt2 acc.2.2.2.1 f c
    rw [sum_rows] at h; exact h
  · have h := wide_V1 x0 x2 x5 x6 y0 y1 (i 1).val ((i 1).val / 2 + 1 + k.val) _ _ _ _ hj hq hst hdt hdt2 acc.2.2.2.2.1 e c
    rw [sum_rows] at h; exact h
  · have h := wide_F1 x0 x2 x3 x4 x6 y0 y1 (i 1).val ((i 1).val / 2 + 1 + k.val) _ _ _ hj hq hst hd acc.2.2.2.2.2 c
    rw [sub_sum_real _ (fun r => dscore x0 x2 x3 x4 x6 y0 y1 (i 1).val 1 r c) (fun r => hfin 1 r c)] at h; exact h
  · exact store1024 arg10 G (termQ x0 x2 x3 x4 x6 y0 y1 (i 1).val) _ _ (off10 i k) (k0_off10_inb i k) _ fun k' l =>
      (wide_Q x0 x2 x3 x4 x6 y0 y1 (i 1).val ((i 1).val / 2 + 1 + k.val) _ _ _ hj hq hst hd _ k' l).trans (by rw [ha])
  · exact store1024 arg13 H (termR x0 x2 x3 x4 x6 y0 y1 (i 0).val (i 1).val) _ _ (off10 i k) (k0_off10_inb i k) _ fun k' l =>
      (wide_R x0 x2 x3 x4 x6 y0 y1 (i 1).val ((i 1).val / 2 + 1 + k.val) (i 0) _ _ _ hj hq hst hd _ k' l).trans (by rw [hb])

/-- The loop of at most one trip of 512 rows, up to a multiple of 1024 rows. -/
theorem loop_narrow (hfin : ∀ n r c, ∃ x : ℝ, dscore x0 x2 x3 x4 x6 y0 y1 (i 1).val n r c = x)
    (G : BufTy.Contents (Elt Ideal) arg10.view.ty) (H : BufTy.Contents (Elt Ideal) arg13.view.ty) (init : Accs) :
    Adds x0 x1 x2 x3 x4 x5 x6 y0 y1 (i 1).val (512 * ((i 1).val + 1)) (1024 * ((i 1).val / 2 + 1)) init
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init (k0_t1_loop i).trips).1
    ∧ AddsT (termQ x0 x2 x3 x4 x6 y0 y1 (i 1).val) (512 * ((i 1).val + 1)) (1024 * ((i 1).val / 2 + 1)) (arg10.view.read (Elt Ideal) G)
      (arg10.view.read (Elt Ideal) (arg10.view.writes (Elt Ideal) G
        (st_k0_t1 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init (k0_t1_loop i).trips).2.1))
    ∧ AddsT (termR x0 x2 x3 x4 x6 y0 y1 (i 0).val (i 1).val) (512 * ((i 1).val + 1)) (1024 * ((i 1).val / 2 + 1)) (arg13.view.read (Elt Ideal) H)
      (arg13.view.read (Elt Ideal) (arg13.view.writes (Elt Ideal) H
        (st_k0_t1 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init (k0_t1_loop i).trips).2.2)) := by
  have hT := t1_trips i
  by_cases hj : (i 1).val % 2 = 0
  · have h0 : 0 < (k0_t1_loop i).trips := by rw [hT]; omega
    have h1 : (k0_t1_loop i).trips = (⟨0, h0⟩ : Fin (k0_t1_loop i).trips).val + 1 := hT.trans (by show _ = 0 + 1; omega)
    have hR : 1024 * ((i 1).val / 2 + 1) = 512 * ((i 1).val + 1) + 512 := by omega
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init ⟨0, h0⟩
    rw [← h1] at e
    have e0 : (st_k0_t1 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init (⟨0, h0⟩ : Fin (k0_t1_loop i).trips).val) = (init, [], []) := rfl
    rw [e0] at e
    rw [e, hR]
    dsimp only
    rw [List.append_nil, List.append_nil]
    exact trip_narrow x0 x1 x2 x3 x4 x5 x6 y0 y1 𝒱 c bd i arg2 harg2 arg3 harg3 arg4 harg4 arg5 harg5 arg6 harg6 arg7 harg7 arg8 harg8 arg9 harg9 arg10 harg10 arg11 harg11 arg12 harg12 arg13 harg13 a1 v121 v124 v128 v152 v155 v159 b1 b2 b3 b4 b5 hfin ⟨0, h0⟩ init G H
  · have h1 : (k0_t1_loop i).trips = 0 := by rw [hT]; omega
    have hR : 1024 * ((i 1).val / 2 + 1) = 512 * ((i 1).val + 1) := by omega
    rw [h1, hR]
    exact ⟨Adds.refl _ _ _ _ _ _ _ _ _ _ _ _ , AddsT.refl _ _ _, AddsT.refl _ _ _⟩

/-- The trips of 1024 rows up to trip `n`. -/
theorem loop_wide_upto (hfin : ∀ n r c, ∃ x : ℝ, dscore x0 x2 x3 x4 x6 y0 y1 (i 1).val n r c = x)
    (G : BufTy.Contents (Elt Ideal) arg10.view.ty) (H : BufTy.Contents (Elt Ideal) arg13.view.ty) (init : Accs) : ∀ n : ℕ, n ≤ (k0_t3_loop i).trips →
    Adds x0 x1 x2 x3 x4 x5 x6 y0 y1 (i 1).val (1024 * ((i 1).val / 2 + 1)) (1024 * ((i 1).val / 2 + 1 + n)) init
      (st_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init n).1
    ∧ AddsT (termQ x0 x2 x3 x4 x6 y0 y1 (i 1).val) (1024 * ((i 1).val / 2 + 1)) (1024 * ((i 1).val / 2 + 1 + n)) (arg10.view.read (Elt Ideal) G)
      (arg10.view.read (Elt Ideal) (arg10.view.writes (Elt Ideal) G
        (st_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init n).2.1))
    ∧ AddsT (termR x0 x2 x3 x4 x6 y0 y1 (i 0).val (i 1).val) (1024 * ((i 1).val / 2 + 1)) (1024 * ((i 1).val / 2 + 1 + n)) (arg13.view.read (Elt Ideal) H)
      (arg13.view.read (Elt Ideal) (arg13.view.writes (Elt Ideal) H
        (st_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init n).2.2))
  | 0, _ => ⟨Adds.refl _ _ _ _ _ _ _ _ _ _ _ _ , AddsT.refl _ _ _, AddsT.refl _ _ _⟩
  | n + 1, hn => by
    obtain ⟨hA, hQ, hF⟩ := loop_wide_upto hfin G H init n (by omega)
    have e := st_k0_t3_succ (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init ⟨n, hn⟩
    have t := trip_wide x0 x1 x2 x3 x4 x5 x6 y0 y1 𝒱 c bd i arg2 harg2 arg3 harg3 arg4 harg4 arg5 harg5 arg6 harg6 arg7 harg7 arg8 harg8 arg9 harg9 arg10 harg10 arg11 harg11 arg12 harg12 arg13 harg13 a1 v121 v124 v128 v152 v155 v159 b1 b2 b3 b4 b5 hfin ⟨n, hn⟩ (st_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init n).1 (arg10.view.writes (Elt Ideal) G (st_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init n).2.1) (arg13.view.writes (Elt Ideal) H (st_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init n).2.2)
    have e' : (st_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init (n + 1)) = _ := e
    rw [e']
    dsimp only
    rw [View.writes_append, View.writes_append]
    have hR : 1024 * ((i 1).val / 2 + 1 + (n + 1)) = 1024 * ((i 1).val / 2 + 1 + n) + 1024 := by omega
    rw [hR]
    exact ⟨hA.trans _ _ _ _ _ _ _ _ _ (by omega) (by omega) t.1, hQ.trans (by omega) (by omega) t.2.1, hF.trans (by omega) (by omega) t.2.2⟩

/-- All the trips of 1024 rows. -/
theorem loop_wide (hfin : ∀ n r c, ∃ x : ℝ, dscore x0 x2 x3 x4 x6 y0 y1 (i 1).val n r c = x)
    (G : BufTy.Contents (Elt Ideal) arg10.view.ty) (H : BufTy.Contents (Elt Ideal) arg13.view.ty) (init : Accs) :
    Adds x0 x1 x2 x3 x4 x5 x6 y0 y1 (i 1).val (1024 * ((i 1).val / 2 + 1)) (4096) init
      (st_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init (k0_t3_loop i).trips).1
    ∧ AddsT (termQ x0 x2 x3 x4 x6 y0 y1 (i 1).val) (1024 * ((i 1).val / 2 + 1)) (4096) (arg10.view.read (Elt Ideal) G)
      (arg10.view.read (Elt Ideal) (arg10.view.writes (Elt Ideal) G
        (st_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init (k0_t3_loop i).trips).2.1))
    ∧ AddsT (termR x0 x2 x3 x4 x6 y0 y1 (i 0).val (i 1).val) (1024 * ((i 1).val / 2 + 1)) (4096) (arg13.view.read (Elt Ideal) H)
      (arg13.view.read (Elt Ideal) (arg13.view.writes (Elt Ideal) H
        (st_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 x2 x3 y0 y1 v121 v124 v128 v152 v155 v159 b1 b2 b3 b4 b5 (harg2.unread x0) (harg3.unread x1) (harg6.unread x4) (harg7.unread x5) (harg8.unread x6) G H init (k0_t3_loop i).trips).2.2)) := by
  have h := loop_wide_upto x0 x1 x2 x3 x4 x5 x6 y0 y1 𝒱 c bd i arg2 harg2 arg3 harg3 arg4 harg4 arg5 harg5 arg6 harg6 arg7 harg7 arg8 harg8 arg9 harg9 arg10 harg10 arg11 harg11 arg12 harg12 arg13 harg13 a1 v121 v124 v128 v152 v155 v159 b1 b2 b3 b4 b5 hfin G H init _ le_rfl
  have hR : 1024 * ((i 1).val / 2 + 1 + (k0_t3_loop i).trips) = 4096 := by
    rw [t3_trips]; have : (i 1).val < 8 := (i 1).isLt; omega
  rw [hR] at h
  exact h

end Cert.Kernel9Ideal.Bwd
-- ==== Proof.FoxSteps.lean ====
module

public import proofs.«01_k».proof.Proof.FoxTrips
public import Idealize.ShloMosaic.Lib.Tactic

/-! The parts of the body of the backward call of the attention with gates, on a tile of keys: what its four output blocks hold
    afterwards, as functions of its input blocks (and, for the gradients of the queries and of the gates, of what the block
    held before). -/

@[expose] public section

set_option maxRecDepth 16384

noncomputable section

namespace Cert.Kernel9Ideal.BwdValue

open Cert.Kernel9Ideal.Gen
open Cert.Kernel9Ideal.Bwd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (x0 : FVec Ideal S4096x128 .bf16) (x1 : FVec Ideal S8x128x512 .bf16) (x2 : FVec Ideal S512x128 .bf16)
  (x3 : FVec Ideal S512x128 .bf16) (x4 : FVec Ideal S4096x128 .bf16) (x5 : FVec Ideal S8x128x512 .bf16)
  (x6 : FVec Ideal S1x4096x128 .f32) (y0 y1 : FVec Ideal S1x512 .f32)

/-- The column within its head of one of the 128 columns. -/
def inV (l : Fin 128) : Fin 64 := ⟨l.val % 64, by omega⟩

/-- The gradient of the queries after tile `j`, from what it was before: the first tile starts from zero. -/
def outQ (j : ℕ) (d : FVec Ideal S4096x128 .f32) : FVec Ideal S4096x128 .f32 := fun y =>
  (if j = 0 then 0 else d y) + if 512 * j ≤ (y 0).val then termQ x0 x2 x3 x4 x6 y0 y1 j (y 0).val (y 1) else 0

/-- The gradient of tile `j`'s keys, -/
def outK (j : ℕ) : FVec Ideal S512x128 .bf16 := fun y =>
  (∑ r ∈ Finset.Ico (512 * j) 4096, termK x0 x1 x2 x3 x4 x6 y0 y1 j (headV (y 1)) (inV (y 1)) (y 0) r) * cN

/-- and of its values. -/
def outV (j : ℕ) : FVec Ideal S512x128 .bf16 := fun y =>
  ∑ r ∈ Finset.Ico (512 * j) 4096, termV x0 x2 x5 x6 y0 y1 j (headV (y 1)) (inV (y 1)) (y 0) r

/-- What the end of tile `j` adds to the gradient of the gates of the tile's own rows, of the heads of pair `g`. -/
def ownT (g j : ℕ) (r : ℕ) (l : Fin 128) : EReal :=
  if l.val = 2 * g then ∑ r' ∈ Finset.Ico (512 * j) 4096, -dscore x0 x2 x3 x4 x6 y0 y1 j 0 r' ⟨r % 512, Nat.mod_lt _ (by norm_num)⟩
  else if l.val = 2 * g + 1 then ∑ r' ∈ Finset.Ico (512 * j) 4096, -dscore x0 x2 x3 x4 x6 y0 y1 j 1 r' ⟨r % 512, Nat.mod_lt _ (by norm_num)⟩
  else 0

/-- The gradient of the gates after tile `j` of pair `g`: the very first tile starts from zero. -/
def outF (g j : ℕ) (d : FVec Ideal S4096x128 .f32) : FVec Ideal S4096x128 .f32 := fun y =>
  ((if g = 0 ∧ j = 0 then 0 else d y) + (if 512 * j ≤ (y 0).val then termR x0 x2 x3 x4 x6 y0 y1 g j (y 0).val (y 1) else 0))
    + if 512 * j ≤ (y 0).val ∧ (y 0).val < 512 * j + 512 then ownT x0 x2 x3 x4 x6 y0 y1 g j (y 0).val (y 1) else 0

theorem first_iff (i : grid0.Coords) : (Scalar.cmpi .ne (Scalar.extui (Scalar.cmpi .eq (BitVec.ofNat 32 (i 1).val) 0#32)) 0#32) = 1#1 ↔ (i 1).val = 0 := by
  generalize i 1 = j; revert j; decide +kernel
theorem firstPoint_iff (i : grid0.Coords) : (Scalar.cmpi .ne (Scalar.extui (Scalar.cmpi .eq (Scalar.addi (Scalar.muli (BitVec.ofNat 32 (i 0).val) 8#32) (BitVec.ofNat 32 (i 1).val)) 0#32)) 0#32) = 1#1
    ↔ (i 0).val = 0 ∧ (i 1).val = 0 := by
  generalize i 0 = g; generalize i 1 = j; revert g j; decide +kernel

/-- The four loops, one after the other: two of them never run, the others cover the rows after the tile. -/
theorem loops (𝒱 : Variants) (c : Dev nD) (bd : Option 𝒱.V) (i : grid0.Coords) (arg2 : Memref sig .tc .vmem S4096x128 .bf16) (harg2 : arg2.IsWhole) (arg3 : Memref sig .tc .vmem S8x128x512 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1x4096x128 .f32) (harg8 : arg8.IsWhole) (arg9 : Memref sig .tc .vmem S1x8x512 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole)
    (hfin : ∀ n r c, ∃ x : ℝ, dscore x0 x2 x3 x4 x6 y0 y1 (i 1).val n r c = x)
    (v5 v6 : FVec Ideal S512x128 .bf16) (v21 v36 : FVec Ideal S1x512 .f32) (g5 : v5 = x2) (g6 : v6 = x3) (g21 : v21 = y0) (g36 : v36 = y1)
    (a1 : BitVec 32) (v121 v124 : FVec Ideal S64x512 .f32) (v128 : FVec Ideal S1x512 .f32) (v152 v155 : FVec Ideal S64x512 .f32) (v159 : FVec Ideal S1x512 .f32) (c1 c2 c3 c4 b2 b3 b4 e1 e2 e3 e4 : BitVec 32)
    (f : BufTy.Contents (Elt Ideal) arg10.view.ty) (f' : BufTy.Contents (Elt Ideal) arg13.view.ty) (L L' : List (View.Piece (Elt Ideal) S4096x128 .f32)) (init : Accs)
    (S1 S2 S3 S4 : Accs × List (View.Piece (Elt Ideal) S4096x128 .f32) × List (View.Piece (Elt Ideal) S4096x128 .f32))
    (h1 : S1 = st_k0_t1 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 v5 v6 v21 v36 v121 v124 v128 v152 v155 v159 c1 b2 b3 b4 e1 (harg2.unread x0) (harg3.unread x1) (harg6.unread x4) (harg7.unread x5) (harg8.unread x6) (arg10.view.writes (Elt Ideal) f L) (arg13.view.writes (Elt Ideal) f' L') init (Scf.trips (k0_t1_loop i).lb (k0_t1_loop i).ub (k0_t1_loop i).st))
    (h2 : S2 = st_k0_t2 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 v5 v6 v21 v36 v121 v124 v128 v152 v155 v159 c2 b2 b3 b4 e2 (harg2.unread x0) (harg3.unread x1) (harg6.unread x4) (harg7.unread x5) (harg8.unread x6) (arg10.view.writes (Elt Ideal) f (S1.2.1 ++ L)) (arg13.view.writes (Elt Ideal) f' (S1.2.2 ++ L')) (S1.1.1, S1.1.2.1, S1.1.2.2.1, S1.1.2.2.2.1, S1.1.2.2.2.2.1, S1.1.2.2.2.2.2) (Scf.trips (k0_t2_loop i).lb (k0_t2_loop i).ub (k0_t2_loop i).st))
    (h3 : S3 = st_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 v5 v6 v21 v36 v121 v124 v128 v152 v155 v159 c3 b2 b3 b4 e3 (harg2.unread x0) (harg3.unread x1) (harg6.unread x4) (harg7.unread x5) (harg8.unread x6) (arg10.view.writes (Elt Ideal) f (S2.2.1 ++ (S1.2.1 ++ L))) (arg13.view.writes (Elt Ideal) f' (S2.2.2 ++ (S1.2.2 ++ L'))) (S2.1.1, S2.1.2.1, S2.1.2.2.1, S2.1.2.2.2.1, S2.1.2.2.2.2.1, S2.1.2.2.2.2.2) (Scf.trips (k0_t3_loop i).lb (k0_t3_loop i).ub (k0_t3_loop i).st))
    (h4 : S4 = st_k0_t4 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 v5 v6 v21 v36 v121 v124 v128 v152 v155 v159 c4 b2 b3 b4 e4 (harg2.unread x0) (harg3.unread x1) (harg6.unread x4) (harg7.unread x5) (harg8.unread x6) (arg10.view.writes (Elt Ideal) f (S3.2.1 ++ (S2.2.1 ++ (S1.2.1 ++ L)))) (arg13.view.writes (Elt Ideal) f' (S3.2.2 ++ (S2.2.2 ++ (S1.2.2 ++ L')))) (S3.1.1, S3.1.2.1, S3.1.2.2.1, S3.1.2.2.2.1, S3.1.2.2.2.2.1, S3.1.2.2.2.2.2) (Scf.trips (k0_t4_loop i).lb (k0_t4_loop i).ub (k0_t4_loop i).st)) :
    Adds x0 x1 x2 x3 x4 x5 x6 y0 y1 (i 1).val (512 * ((i 1).val + 1)) 4096 init S4.1
    ∧ AddsT (termQ x0 x2 x3 x4 x6 y0 y1 (i 1).val) (512 * ((i 1).val + 1)) 4096 (arg10.view.read (Elt Ideal) (arg10.view.writes (Elt Ideal) f L))
      (arg10.view.read (Elt Ideal) (arg10.view.writes (Elt Ideal) f (S4.2.1 ++ (S3.2.1 ++ (S2.2.1 ++ (S1.2.1 ++ L))))))
    ∧ AddsT (termR x0 x2 x3 x4 x6 y0 y1 (i 0).val (i 1).val) (512 * ((i 1).val + 1)) 4096 (arg13.view.read (Elt Ideal) (arg13.view.writes (Elt Ideal) f' L'))
      (arg13.view.read (Elt Ideal) (arg13.view.writes (Elt Ideal) f' (S4.2.2 ++ (S3.2.2 ++ (S2.2.2 ++ (S1.2.2 ++ L')))))) := by
  subst g5 g6 g21 g36
  have t2 := t2_trips i
  have t4 := t4_trips i
  unfold Scf.Loop.trips at t2 t4
  rw [t2] at h2
  rw [t4] at h4
  have h2' : S2 = (S1.1, [], []) := h2
  have h4' : S4 = (S3.1, [], []) := h4
  clear h2 h4
  subst h2' h4'
  have n := loop_narrow x0 x1 v5 v6 x4 x5 x6 v21 v36 𝒱 c bd i arg2 harg2 arg3 harg3 arg4 harg4 arg5 harg5 arg6 harg6 arg7 harg7 arg8 harg8 arg9 harg9 arg10 harg10 arg11 harg11 arg12 harg12 arg13 harg13 a1 v121 v124 v128 v152 v155 v159 c1 b2 b3 b4 e1 hfin (arg10.view.writes (Elt Ideal) f L) (arg13.view.writes (Elt Ideal) f' L') init
  unfold Scf.Loop.trips at n
  rw [← h1] at n
  have w := loop_wide x0 x1 v5 v6 x4 x5 x6 v21 v36 𝒱 c bd i arg2 harg2 arg3 harg3 arg4 harg4 arg5 harg5 arg6 harg6 arg7 harg7 arg8 harg8 arg9 harg9 arg10 harg10 arg11 harg11 arg12 harg12 arg13 harg13 a1 v121 v124 v128 v152 v155 v159 c3 b2 b3 b4 e3 hfin (arg10.view.writes (Elt Ideal) f ([] ++ (S1.2.1 ++ L))) (arg13.view.writes (Elt Ideal) f' ([] ++ (S1.2.2 ++ L'))) S1.1
  have h3' : S3 = st_k0_t3 (F := Ideal) 𝒱 c bd i arg2 harg2 arg3 harg3 arg4 harg4 arg5 harg5 arg6 harg6 arg7 harg7 arg8 harg8 arg9 harg9 arg10 harg10 arg11 harg11 arg12 harg12 arg13 harg13 (BitVec.ofNat 32 (i 0).val) a1 v5 v6 v21 v36 v121 v124 v128 v152 v155 v159 c3 b2 b3 b4 e3 (harg2.unread x0) (harg3.unread x1) (harg6.unread x4) (harg7.unread x5) (harg8.unread x6) (arg10.view.writes (Elt Ideal) f ([] ++ (S1.2.1 ++ L))) (arg13.view.writes (Elt Ideal) f' ([] ++ (S1.2.2 ++ L'))) S1.1 (Scf.trips (k0_t3_loop i).lb (k0_t3_loop i).ub (k0_t3_loop i).st) := h3
  unfold Scf.Loop.trips at w
  rw [← h3'] at w
  simp only [List.nil_append, View.writes_append] at n w ⊢
  have hj : (i 1).val < 8 := (i 1).isLt
  exact ⟨n.1.trans _ _ _ _ _ _ _ _ _ (by omega) (by omega) w.1, n.2.1.trans (by omega) (by omega) w.2.1, n.2.2.trans (by omega) (by omega) w.2.2⟩

/-- The gradient of the queries, once every row from the tile's first has had its term. -/
theorem outQ_of (j : ℕ) (hj : j < 8) (d base t t' : FVec Ideal S4096x128 .f32) (hb : ∀ y, base y = if j = 0 then 0 else d y)
    (hL : AddsT (termQ x0 x2 x3 x4 x6 y0 y1 j) (512 * j) (512 * j + 512) base t) (hS : AddsT (termQ x0 x2 x3 x4 x6 y0 y1 j) (512 * (j + 1)) 4096 t t') :
    t' = outQ x0 x2 x3 x4 x6 y0 y1 j d := by
  have h := hL.trans (by omega) (by omega) hS
  funext y
  idx_vars y
  rw [h, hb]
  unfold outQ
  simp only [Fin.is_lt, and_true]
  rfl

/-- The accumulators before the first step: zeros. -/
def zeros : Accs := (k0_pay123 (F := Ideal), k0_pay124 (F := Ideal), k0_pay125 (F := Ideal), k0_pay126 (F := Ideal), k0_pay127 (F := Ideal), k0_pay128 (F := Ideal))
theorem zeros_k0 (f : Fin 64) (c : Fin 512) : zeros.1 (ix2 f c) = (0 : EReal) := by
  show k0_pay123 (F := Ideal) (ix2 f c) = 0
  pointwise [k0_pay123]
theorem zeros_v0 (f : Fin 64) (c : Fin 512) : zeros.2.1 (ix2 f c) = (0 : EReal) := by
  show k0_pay124 (F := Ideal) (ix2 f c) = 0
  pointwise [k0_pay124]
theorem zeros_f0 (c : Fin 512) : zeros.2.2.1 (ix2 0 c) = (0 : EReal) := by
  show k0_pay125 (F := Ideal) (ix2 0 c) = 0
  pointwise [k0_pay125]
theorem zeros_k1 (f : Fin 64) (c : Fin 512) : zeros.2.2.2.1 (ix2 f c) = (0 : EReal) := by
  show k0_pay126 (F := Ideal) (ix2 f c) = 0
  pointwise [k0_pay126]
theorem zeros_v1 (f : Fin 64) (c : Fin 512) : zeros.2.2.2.2.1 (ix2 f c) = (0 : EReal) := by
  show k0_pay127 (F := Ideal) (ix2 f c) = 0
  pointwise [k0_pay127]
theorem zeros_f1 (c : Fin 512) : zeros.2.2.2.2.2 (ix2 0 c) = (0 : EReal) := by
  show k0_pay128 (F := Ideal) (ix2 0 c) = 0
  pointwise [k0_pay128]

theorem whole_store {s : Shape} {e : EltTy} (arg : Memref sig .tc .vmem s e) (f : BufTy.Contents (Elt Ideal) arg.view.ty)
    (off : Fin s.rank → ℕ) (hoff : ∀ a, off a = 0) (inb : ∀ a, off a + s.size a ≤ s.size a) (w : s.Idx → Elt Ideal e) (L : List (View.Piece (Elt Ideal) s e)) :
    arg.view.read (Elt Ideal) (arg.view.writes (Elt Ideal) f (⟨Rect.unit off s.size inb, w⟩ :: L)) = w :=
  funext fun y => View.read_writes_cons_hit_of_coords arg.view f (Rect.unit off s.size inb) w L y y fun a => by
    show (y a).val = off a + 1 * (y a).val
    rw [hoff]; omega

theorem whole_load {s : Shape} {e : EltTy} (arg : Memref sig .tc .vmem s e) (h : arg.IsWhole) (x : s.Idx → Elt Ideal e)
    (off : Fin s.rank → ℕ) (hoff : ∀ a, off a = 0) (inb : ∀ a, off a + s.size a ≤ s.size a) :
    View.readAt (Elt Ideal) arg.view (Rect.unit off s.size inb).toLoadRect (h.unread x) = x := by
  rw [View.readAt_eq_ld, Memref.IsWhole.read_unread]
  funext y
  refine congrArg x (funext fun a => Fin.ext ?_)
  show off a + 1 * (y a).val = (y a).val
  rw [hoff]; omega

theorem outK_of (j : ℕ) (hj : j < 8) (init a : Accs) (h0 : Adds x0 x1 x2 x3 x4 x5 x6 y0 y1 j (512 * j) (512 * j + 512) zeros init) (hS : Adds x0 x1 x2 x3 x4 x5 x6 y0 y1 j (512 * (j + 1)) 4096 init a) :
    k0_pay162 (F := Ideal) a.1 a.2.2.2.1 = outK x0 x1 x2 x3 x4 x6 y0 y1 j := by
  have h := h0.trans _ _ _ _ _ _ _ _ _ (by omega) (by omega) hS
  have key : ∀ (c : Fin 512) (l : Fin 128), k0_pay162 (F := Ideal) a.1 a.2.2.2.1 (ix2 c l)
      = (∑ r ∈ Finset.Ico (512 * j) 4096, termK x0 x1 x2 x3 x4 x6 y0 y1 j (headV l) (inV l) c r) * cN := by
    intro c l
    rw [end_K]
    refine congrArg (· * cN) ?_
    by_cases hl : l.val < 64
    · have hh : headV l = 0 := Fin.ext (Nat.div_eq_of_lt hl)
      have hi : inV l = ⟨l.val, hl⟩ := Fin.ext (Nat.mod_eq_of_lt hl)
      rw [dif_pos hl, h.k0, hh, hi, zeros_k0, zero_add]
    · have hh : headV l = 1 := Fin.ext (by simp only [headV]; have : (1 : Fin 2).val = 1 := rfl; omega)
      have hi : inV l = ⟨l.val - 64, by omega⟩ := Fin.ext (by simp only [inV]; omega)
      rw [dif_neg hl, h.k1, hh, hi, zeros_k1, zero_add]
  funext y
  idx_vars y
  exact key _ _

theorem outV_of (j : ℕ) (hj : j < 8) (init a : Accs) (h0 : Adds x0 x1 x2 x3 x4 x5 x6 y0 y1 j (512 * j) (512 * j + 512) zeros init) (hS : Adds x0 x1 x2 x3 x4 x5 x6 y0 y1 j (512 * (j + 1)) 4096 init a) :
    k0_pay163 (F := Ideal) a.2.1 a.2.2.2.2.1 = outV x0 x2 x5 x6 y0 y1 j := by
  have h := h0.trans _ _ _ _ _ _ _ _ _ (by omega) (by omega) hS
  have key : ∀ (c : Fin 512) (l : Fin 128), k0_pay163 (F := Ideal) a.2.1 a.2.2.2.2.1 (ix2 c l)
      = (∑ r ∈ Finset.Ico (512 * j) 4096, termV x0 x2 x5 x6 y0 y1 j (headV l) (inV l) c r) := by
    intro c l
    rw [end_V]
    skip
    by_cases hl : l.val < 64
    · have hh : headV l = 0 := Fin.ext (Nat.div_eq_of_lt hl)
      have hi : inV l = ⟨l.val, hl⟩ := Fin.ext (Nat.mod_eq_of_lt hl)
      rw [dif_pos hl, h.v0, hh, hi, zeros_v0, zero_add]
    · have hh : headV l = 1 := Fin.ext (by simp only [headV]; have : (1 : Fin 2).val = 1 := rfl; omega)
      have hi : inV l = ⟨l.val - 64, by omega⟩ := Fin.ext (by simp only [inV]; omega)
      rw [dif_neg hl, h.v1, hh, hi, zeros_v1, zero_add]
  funext y
  idx_vars y
  exact key _ _

/-- The gradient of the gates, once every row from the tile's first has had its term and the tile's own rows theirs. -/
theorem outF_of (g : Fin 4) (j : ℕ) (hj : j < 8) (init a : Accs) (h0 : Adds x0 x1 x2 x3 x4 x5 x6 y0 y1 j (512 * j) (512 * j + 512) zeros init) (hS : Adds x0 x1 x2 x3 x4 x5 x6 y0 y1 j (512 * (j + 1)) 4096 init a)
    (d base t t' : FVec Ideal S4096x128 .f32) (hb : ∀ y, base y = if g.val = 0 ∧ j = 0 then 0 else d y)
    (hL : AddsT (termR x0 x2 x3 x4 x6 y0 y1 g.val j) (512 * j) (512 * j + 512) base t) (hR : AddsT (termR x0 x2 x3 x4 x6 y0 y1 g.val j) (512 * (j + 1)) 4096 t t')
    (arg : Memref sig .tc .vmem S4096x128 .f32) (f : BufTy.Contents (Elt Ideal) arg.view.ty)
    (L : List (View.Piece (Elt Ideal) S4096x128 .f32)) (hf : arg.view.read (Elt Ideal) (arg.view.writes (Elt Ideal) f L) = t') (off : Fin 2 → ℕ)
    (hoff : off = ![512 * j, 0]) (inb : ∀ a, off a + S512x128.size a ≤ S4096x128.size a) :
    arg.view.read (Elt Ideal) (arg.view.writes (Elt Ideal) f (⟨Rect.unit (s := S4096x128) off S512x128.size inb,
      k0_pay1 (F := Ideal) a.2.2.1 a.2.2.2.2.2 (iota .tc S128x1 32 [0] iota_S128x1_d0_w32) (k0_pay164 (BitVec.ofNat 32 g.val)) (Scalar.muli 2#32 (BitVec.ofNat 32 g.val)) 1#32
        (View.readAt (Elt Ideal) arg.view (Rect.unit (s := S4096x128) off S512x128.size inb).toLoadRect (arg.view.writes (Elt Ideal) f L))⟩ :: L))
      = outF x0 x2 x3 x4 x6 y0 y1 g.val j d := by
  have h := h0.trans _ _ _ _ _ _ _ _ _ (by omega) (by omega) hS
  have hT := hL.trans (by omega) (by omega) hR
  have st := store512 arg (arg.view.writes (Elt Ideal) f L) (ownT x0 x2 x3 x4 x6 y0 y1 g.val j) (512 * j) off hoff inb
    (k0_pay1 (F := Ideal) a.2.2.1 a.2.2.2.2.2 (iota .tc S128x1 32 [0] iota_S128x1_d0_w32) (k0_pay164 (BitVec.ofNat 32 g.val)) (Scalar.muli 2#32 (BitVec.ofNat 32 g.val)) 1#32
        (View.readAt (Elt Ideal) arg.view (Rect.unit (s := S4096x128) off S512x128.size inb).toLoadRect (arg.view.writes (Elt Ideal) f L)))
    (fun k l => by
      rw [end_F, ld_acc512 arg _ _ _ hoff inb]
      refine congrArg _ ?_
      have hk : (⟨(512 * j + k.val) % 512, Nat.mod_lt _ (by norm_num)⟩ : Fin 512) = k := Fin.ext (by show (512 * j + k.val) % 512 = k.val; omega)
      unfold ownF ownT
      rw [hk, h.f0, h.f1, zeros_f0, zeros_f1, zero_add, zero_add])
  funext y
  idx_vars y
  refine (st _ _).trans ?_
  rw [hf, hT, hb]
  unfold outF
  simp only [Fin.is_lt, and_true]
  rfl

section
variable (j : ℕ) (v5 v6 : FVec Ideal S512x128 .bf16) (v21 v36 : FVec Ideal S1x512 .f32) (g5 : v5 = x2) (g6 : v6 = x3) (g21 : v21 = y0) (g36 : v36 = y1)
  (q : FVec Ideal S512x128 .bf16) (qt : FVec Ideal S1x128x512 .bf16) (d : FVec Ideal S512x128 .bf16) (dt : FVec Ideal S1x128x512 .bf16) (st : FVec Ideal S1x512x128 .f32)
  (hq : ∀ (k : Fin 512) (f : Fin 128), q (ix2 k f) = x0 (ix2 (rowN (512 * j + k.val)) f))
  (hqt : ∀ (f : Fin 128) (k : Fin 512), qt (ix3 0 f k) = atT x1 (512 * j + k.val) f)
  (hd : ∀ (k : Fin 512) (l : Fin 128), d (ix2 k l) = x4 (ix2 (rowN (512 * j + k.val)) l))
  (hdt : ∀ (e : Fin 128) (k : Fin 512), dt (ix3 0 e k) = atT x5 (512 * j + k.val) e)
  (hst : ∀ (k : Fin 512) (l : Fin 128), st (ix3 0 k l) = x6 (ix3 0 (rowN (512 * j + k.val)) l))

include g5 g6 g21 g36 hq hqt hd hdt hst in
/-- The step on the tile's own rows, from accumulators at zero. -/
theorem diag_adds (hfin : ∀ n r c, ∃ x : ℝ, dscore x0 x2 x3 x4 x6 y0 y1 j n r c = x) : Adds x0 x1 x2 x3 x4 x5 x6 y0 y1 j (512 * j) (512 * j + 512) zeros
    (k0_pay143 k0_pay123 (k0_pay133 qt) (k0_pay141 v5 v6 v21 (k0_pay131 q) d st),
      k0_pay142 v5 v21 k0_pay124 (k0_pay131 q) dt st,
      k0_pay144 k0_pay125 (k0_pay140 v5 v6 v21 (k0_pay131 q) d st),
      k0_pay150 v5 v6 v36 k0_pay126 (k0_pay132 q) (k0_pay133 qt) (k0_pay136 d) (k0_pay138 st),
      k0_pay149 v5 v36 k0_pay127 (k0_pay132 q) (k0_pay137 dt) (k0_pay138 st),
      k0_pay151 v5 v6 v36 k0_pay128 (k0_pay132 q) (k0_pay136 d) (k0_pay138 st)) := by
  subst g5 g6 g21 g36
  refine ⟨fun f c => ?_, fun e c => ?_, fun c => ?_, fun f c => ?_, fun e c => ?_, fun c => ?_⟩
  · have h := diag_K0 x0 x1 v5 v6 x4 x6 v21 v36 j j _ _ _ _ rfl hq hst hd hqt k0_pay123 f c
    rw [sum_rows] at h; exact h
  · have h := diag_V0 x0 v5 x5 x6 v21 v36 j j _ _ _ rfl hq hst hdt k0_pay124 e c
    rw [sum_rows] at h; exact h
  · have h := diag_F0 x0 v5 v6 x4 x6 v21 v36 j j _ _ _ rfl hq hst hd k0_pay125 c
    rw [sub_sum_real _ (fun r => dscore x0 v5 v6 x4 x6 v21 v36 j 0 r c) (fun r => hfin 0 r c)] at h; exact h
  · have h := diag_K1 x0 x1 v5 v6 x4 x6 v21 v36 j j _ _ _ _ rfl hq hst hd hqt k0_pay126 f c
    rw [sum_rows] at h; exact h
  · have h := diag_V1 x0 v5 x5 x6 v21 v36 j j _ _ _ rfl hq hst hdt k0_pay127 e c
    rw [sum_rows] at h; exact h
  · have h := diag_F1 x0 v5 v6 x4 x6 v21 v36 j j _ _ _ rfl hq hst hd k0_pay128 c
    rw [sub_sum_real _ (fun r => dscore x0 v5 v6 x4 x6 v21 v36 j 1 r c) (fun r => hfin 1 r c)] at h; exact h

include g5 g6 g21 g36 hq hd hst in
theorem diag_addsQ (arg : Memref sig .tc .vmem S4096x128 .f32) (f : BufTy.Contents (Elt Ideal) arg.view.ty)
    (L : List (View.Piece (Elt Ideal) S4096x128 .f32)) (off : Fin 2 → ℕ)
    (hoff : off = ![512 * j, 0]) (inb : ∀ a, off a + S512x128.size a ≤ S4096x128.size a) :
    AddsT (termQ x0 x2 x3 x4 x6 y0 y1 j) (512 * j) (512 * j + 512) (arg.view.read (Elt Ideal) (arg.view.writes (Elt Ideal) f L))
      (arg.view.read (Elt Ideal) (arg.view.writes (Elt Ideal) f (⟨Rect.unit (s := S4096x128) off S512x128.size inb,
        k0_pay155 (k0_pay153 v5 v6 v36 (k0_pay132 q) (k0_pay136 d) (k0_pay138 st) (k0_pay141 v5 v6 v21 (k0_pay131 q) d st)) (Scalar.ofBits .f32 0x3E000000#32)
          (View.readAt (Elt Ideal) arg.view (Rect.unit (s := S4096x128) off S512x128.size inb).toLoadRect
            (arg.view.writes (Elt Ideal) f L))⟩ :: L))) := by
  subst g5 g6 g21 g36
  exact store512 arg (arg.view.writes (Elt Ideal) f L) _ _ _ hoff inb _ fun k' l =>
    (diag_Q x0 v5 v6 x4 x6 v21 v36 j j _ _ _ rfl hq hst hd _ k' l).trans (by rw [ld_acc512 arg _ _ _ hoff inb])

include g5 g6 g21 g36 hq hd hst in
theorem diag_addsR (g : Fin 4) (arg : Memref sig .tc .vmem S4096x128 .f32) (f : BufTy.Contents (Elt Ideal) arg.view.ty)
    (L : List (View.Piece (Elt Ideal) S4096x128 .f32)) (off : Fin 2 → ℕ)
    (hoff : off = ![512 * j, 0]) (inb : ∀ a, off a + S512x128.size a ≤ S4096x128.size a) :
    AddsT (termR x0 x2 x3 x4 x6 y0 y1 g.val j) (512 * j) (512 * j + 512) (arg.view.read (Elt Ideal) (arg.view.writes (Elt Ideal) f L))
      (arg.view.read (Elt Ideal) (arg.view.writes (Elt Ideal) f (⟨Rect.unit (s := S4096x128) off S512x128.size inb,
        k0_pay154 (BitVec.ofNat 32 g.val) (k0_pay145 (k0_pay140 v5 v6 v21 (k0_pay131 q) d st)) (k0_pay152 v5 v6 v36 (k0_pay132 q) (k0_pay136 d) (k0_pay138 st))
          (View.readAt (Elt Ideal) arg.view (Rect.unit (s := S4096x128) off S512x128.size inb).toLoadRect
            (arg.view.writes (Elt Ideal) f L))⟩ :: L))) := by
  subst g5 g6 g21 g36
  exact store512 arg (arg.view.writes (Elt Ideal) f L) _ _ _ hoff inb _ fun k' l =>
    (diag_R x0 v5 v6 x4 x6 v21 v36 j j g _ _ _ rfl hq hst hd _ k' l).trans (by rw [ld_acc512 arg _ _ _ hoff inb])
end

end Cert.Kernel9Ideal.BwdValue

end
-- ==== Proof.FoxBodyInit.lean ====
module

public import proofs.«01_k».proof.Proof.FoxSteps
public import proofs.«01_k».proof.Proof.FoxIdealFrame

/-! The initial contents of the blocks that the backward call of the attention with gates adds to. -/

@[expose] public section

set_option maxRecDepth 16384

noncomputable section

namespace Cert.Kernel9Ideal.BwdValue

open Cert.Kernel9Ideal.Gen
open Cert.Kernel9Ideal.Bwd hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (x0 : FVec Ideal S4096x128 .bf16) (x1 : FVec Ideal S8x128x512 .bf16) (x2 : FVec Ideal S512x128 .bf16)
  (x3 : FVec Ideal S512x128 .bf16) (x4 : FVec Ideal S4096x128 .bf16) (x5 : FVec Ideal S8x128x512 .bf16)
  (x6 : FVec Ideal S1x4096x128 .f32) (x7 : FVec Ideal S1x8x512 .f32)

theorem zero2 : ∀ a : Fin 2, (![0, 0] : Fin 2 → ℕ) a = 0 := by decide
theorem zero3 : ∀ a : Fin 3, (![0, 0, 0] : Fin 3 → ℕ) a = 0 := by decide

theorem pay118_entry (y : S4096x128.Idx) : k0_pay118 (F := Ideal) y = (0 : EReal) := by
  idx_vars y
  pointwise [k0_pay118]
theorem pay122_entry (y : S4096x128.Idx) : k0_pay122 (F := Ideal) y = (0 : EReal) := by
  idx_vars y
  pointwise [k0_pay122]

end Cert.Kernel9Ideal.BwdValue

end
-- ==== Proof.FoxBodyA.lean ====
module

public import proofs.«01_k».proof.Proof.FoxBodyInit

/-! The body of the backward call of the attention with gates, run
    on the first tile of the first pair of heads: what its four output blocks hold afterwards. -/

@[expose] public section

set_option maxRecDepth 16384

noncomputable section

namespace Cert.Kernel9Ideal.BwdValue

open Cert.Kernel9Ideal.Gen
open Cert.Kernel9Ideal.Bwd hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (x0 : FVec Ideal S4096x128 .bf16) (x1 : FVec Ideal S8x128x512 .bf16) (x2 : FVec Ideal S512x128 .bf16)
  (x3 : FVec Ideal S512x128 .bf16) (x4 : FVec Ideal S4096x128 .bf16) (x5 : FVec Ideal S8x128x512 .bf16)
  (x6 : FVec Ideal S1x4096x128 .f32) (x7 : FVec Ideal S1x8x512 .f32)

set_option maxHeartbeats 16000000 in
/-- The body on the first tile of the first pair of heads, on whole staging buffers. -/
theorem body_opening (c : Dev nD) (i : grid0.Coords) (hc : FirstTile i) (hp : FirstPoint i) (arg2 : Memref sig .tc .vmem S4096x128 .bf16) (harg2 : arg2.IsWhole) (arg3 : Memref sig .tc .vmem S8x128x512 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1x4096x128 .f32) (harg8 : arg8.IsWhole) (arg9 : Memref sig .tc .vmem S1x8x512 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole)
    (hfin : ∀ n r c, ∃ x : ℝ, dscore x0 x2 x3 x4 x6 (k0_pay119 i x7) (k0_pay121 (k0_pay120 i x7)) (i 1).val n r c = x)
    (d8 d11 : FVec Ideal S4096x128 .f32) (E : Set ℕ) (K : PUnit → sProp 𝕄) :
    iprop((owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare d8
      ∗ (∃ d, owns (c : Thread nD τ) arg11 fullShare d)
      ∗ (∃ d, owns (c : Thread nD τ) arg12 fullShare d)
      ∗ owns (c : Thread nD τ) arg13 fullShare d11)
      ∗ ((owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare (outQ x0 x2 x3 x4 x6 (k0_pay119 i x7) (k0_pay121 (k0_pay120 i x7)) (i 1).val d8)
      ∗ owns (c : Thread nD τ) arg11 fullShare (outK x0 x1 x2 x3 x4 x6 (k0_pay119 i x7) (k0_pay121 (k0_pay120 i x7)) (i 1).val)
      ∗ owns (c : Thread nD τ) arg12 fullShare (outV x0 x2 x5 x6 (k0_pay119 i x7) (k0_pay121 (k0_pay120 i x7)) (i 1).val)
      ∗ owns (c : Thread nD τ) arg13 fullShare (outF x0 x2 x3 x4 x6 (k0_pay119 i x7) (k0_pay121 (k0_pay120 i x7)) (i 0).val (i 1).val d11)) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13) K := by
  have hj : (i 1).val < 8 := (i 1).isLt
  simp only [cc0_fox_bwd_eq_skeleton]; unfold cc0_fox_bwd_skel
  simp only [k0_part13_eq_skeleton, k0_part14_eq_skeleton, k0_part15_eq_skeleton, k0_part16_eq_skeleton, k0_part17_eq_skeleton, k0_part18_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc | sl_exact hp)
  sl_step
  have hq := ld_d arg2 harg2 x0 _ _ (off1 i) (k0_off1_inb i)
  have hqt := ld_dt arg3 harg3 x1 _ _ (off2 i) (k0_off2_inb i)
  have hd := ld_d arg6 harg6 x4 _ _ (off1 i) (k0_off1_inb i)
  have hdt := ld_dt arg7 harg7 x5 _ _ (off2 i) (k0_off2_inb i)
  have hst := ld_st arg8 harg8 x6 _ _ (off3 i) (k0_off3_inb i)
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  on_goal 2 => isplitl [H9]
  on_goal 3 => isplitl [H10]
  on_goal 1 =>
    iexists _; isplitr; swap; · iexact H8
    ipureintro
  on_goal 2 =>
    iexists _; isplitr; swap; · iexact H9
    ipureintro
    refine (whole_store arg11 _ _ zero2 _ _ _).trans ?_
  on_goal 3 =>
    iexists _; isplitr; swap; · iexact H10
    ipureintro
    refine (whole_store arg12 _ _ zero2 _ _ _).trans ?_
  on_goal 4 =>
    iexists _; isplitr; swap; · iexact H11
    ipureintro
    unfold body_opening.sl.r_22 body_opening.sl.r_23 body_opening.sl.v268 body_opening.sl.v246 body_opening.sl.r_24 body_opening.sl.v250
  all_goals
    generalize h4 : st_k0_t4 (F := Ideal) _ _ _ _ _ _ _ _ _ _ _ _ _ _ _ _ _ _ _ _ _ _ _ _ _ _ _ _ _ _ _ _ _ _ _ _ _ _ _ _ _ _ _ _ _ _ _ _ _ _ _ _ _ _ = S4
    generalize h3 : st_k0_t3 (F := Ideal) _ _ _ _ _ _ _ _ _ _ _ _ _ _ _ _ _ _ _ _ _ _ _ _ _ _ _ _ _ _ _ _ _ _ _ _ _ _ _ _ _ _ _ _ _ _ _ _ _ _ _ _ _ _ = S3 at h4 ⊢
    generalize h2 : st_k0_t2 (F := Ideal) _ _ _ _ _ _ _ _ _ _ _ _ _ _ _ _ _ _ _ _ _ _ _ _ _ _ _ _ _ _ _ _ _ _ _ _ _ _ _ _ _ _ _ _ _ _ _ _ _ _ _ _ _ _ = S2 at h3 h4 ⊢
    generalize h1 : st_k0_t1 (F := Ideal) _ _ _ _ _ _ _ _ _ _ _ _ _ _ _ _ _ _ _ _ _ _ _ _ _ _ _ _ _ _ _ _ _ _ _ _ _ _ _ _ _ _ _ _ _ _ _ _ _ _ _ _ _ _ = S1 at h2 h3 h4 ⊢
    have HL := loops x0 x1 x2 x3 x4 x5 x6 (k0_pay119 i x7) (k0_pay121 (k0_pay120 i x7)) _ _ _ i arg2 harg2 arg3 harg3 arg4 harg4 arg5 harg5 arg6 harg6 arg7 harg7 arg8 harg8 arg9 harg9 arg10 harg10 arg11 harg11 arg12 harg12 arg13 harg13 hfin _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ _ _ _ _ _ _ _ _ _ _ _ _ _ _ _ _ _ _ _ _ S1 S2 S3 S4 h1.symm h2.symm h3.symm h4.symm
  · refine outQ_of x0 x2 x3 x4 x6 (k0_pay119 i x7) (k0_pay121 (k0_pay120 i x7)) (i 1).val hj d8 _ _ _ ?_ (diag_addsQ x0 x2 x3 x4 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ hq hd hst arg10 _ _ _ (off1 i) (k0_off1_inb i)) HL.2.1
    intro y
    rw [if_pos ((first_iff i).mp hc)]
    exact (congrFun (whole_store arg10 _ _ zero2 _ _ _) y).trans (pay118_entry y)
  · exact outK_of x0 x1 x2 x3 x4 x5 x6 (k0_pay119 i x7) (k0_pay121 (k0_pay120 i x7)) (i 1).val hj _ _ (diag_adds x0 x1 x2 x3 x4 x5 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ _ _ hq hqt hd hdt hst hfin) HL.1
  · exact outV_of x0 x1 x2 x3 x4 x5 x6 (k0_pay119 i x7) (k0_pay121 (k0_pay120 i x7)) (i 1).val hj _ _ (diag_adds x0 x1 x2 x3 x4 x5 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ _ _ hq hqt hd hdt hst hfin) HL.1
  · refine outF_of x0 x1 x2 x3 x4 x5 x6 (k0_pay119 i x7) (k0_pay121 (k0_pay120 i x7)) (i 0) (i 1).val hj _ _ (diag_adds x0 x1 x2 x3 x4 x5 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ _ _ hq hqt hd hdt hst hfin) HL.1 d11 _ _ _ ?_ (diag_addsR x0 x2 x3 x4 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ hq hd hst (i 0) arg13 _ _ _ (off1 i) (k0_off1_inb i)) HL.2.2 arg13 _ _ rfl _ (off1 i) (k0_off1_inb i)
    intro y
    rw [if_pos ((firstPoint_iff i).mp hp)]
    exact (congrFun (whole_store arg13 _ _ zero2 _ _ _) y).trans (pay122_entry y)

end Cert.Kernel9Ideal.BwdValue

end
-- ==== Proof.FoxBodyB.lean ====
module

public import proofs.«01_k».proof.Proof.FoxBodyInit

/-! The body of the backward call of the attention with gates, run
    on the first tile of a later pair of heads: what its four output blocks hold afterwards. -/

@[expose] public section

set_option maxRecDepth 16384

noncomputable section

namespace Cert.Kernel9Ideal.BwdValue

open Cert.Kernel9Ideal.Gen
open Cert.Kernel9Ideal.Bwd hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (x0 : FVec Ideal S4096x128 .bf16) (x1 : FVec Ideal S8x128x512 .bf16) (x2 : FVec Ideal S512x128 .bf16)
  (x3 : FVec Ideal S512x128 .bf16) (x4 : FVec Ideal S4096x128 .bf16) (x5 : FVec Ideal S8x128x512 .bf16)
  (x6 : FVec Ideal S1x4096x128 .f32) (x7 : FVec Ideal S1x8x512 .f32)

set_option maxHeartbeats 16000000 in
/-- The body on the first tile of a later pair of heads, on whole staging buffers. -/
theorem body_first (c : Dev nD) (i : grid0.Coords) (hc : FirstTile i) (hp : ¬ FirstPoint i) (arg2 : Memref sig .tc .vmem S4096x128 .bf16) (harg2 : arg2.IsWhole) (arg3 : Memref sig .tc .vmem S8x128x512 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1x4096x128 .f32) (harg8 : arg8.IsWhole) (arg9 : Memref sig .tc .vmem S1x8x512 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole)
    (hfin : ∀ n r c, ∃ x : ℝ, dscore x0 x2 x3 x4 x6 (k0_pay119 i x7) (k0_pay121 (k0_pay120 i x7)) (i 1).val n r c = x)
    (d8 d11 : FVec Ideal S4096x128 .f32) (E : Set ℕ) (K : PUnit → sProp 𝕄) :
    iprop((owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare d8
      ∗ (∃ d, owns (c : Thread nD τ) arg11 fullShare d)
      ∗ (∃ d, owns (c : Thread nD τ) arg12 fullShare d)
      ∗ owns (c : Thread nD τ) arg13 fullShare d11)
      ∗ ((owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare (outQ x0 x2 x3 x4 x6 (k0_pay119 i x7) (k0_pay121 (k0_pay120 i x7)) (i 1).val d8)
      ∗ owns (c : Thread nD τ) arg11 fullShare (outK x0 x1 x2 x3 x4 x6 (k0_pay119 i x7) (k0_pay121 (k0_pay120 i x7)) (i 1).val)
      ∗ owns (c : Thread nD τ) arg12 fullShare (outV x0 x2 x5 x6 (k0_pay119 i x7) (k0_pay121 (k0_pay120 i x7)) (i 1).val)
      ∗ owns (c : Thread nD τ) arg13 fullShare (outF x0 x2 x3 x4 x6 (k0_pay119 i x7) (k0_pay121 (k0_pay120 i x7)) (i 0).val (i 1).val d11)) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13) K := by
  have hj : (i 1).val < 8 := (i 1).isLt
  simp only [cc0_fox_bwd_eq_skeleton]; unfold cc0_fox_bwd_skel
  simp only [k0_part13_eq_skeleton, k0_part14_eq_skeleton, k0_part15_eq_skeleton, k0_part16_eq_skeleton, k0_part17_eq_skeleton, k0_part18_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc | sl_exact hp)
  sl_step
  have hq := ld_d arg2 harg2 x0 _ _ (off1 i) (k0_off1_inb i)
  have hqt := ld_dt arg3 harg3 x1 _ _ (off2 i) (k0_off2_inb i)
  have hd := ld_d arg6 harg6 x4 _ _ (off1 i) (k0_off1_inb i)
  have hdt := ld_dt arg7 harg7 x5 _ _ (off2 i) (k0_off2_inb i)
  have hst := ld_st arg8 harg8 x6 _ _ (off3 i) (k0_off3_inb i)
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  on_goal 2 => isplitl [H9]
  on_goal 3 => isplitl [H10]
  on_goal 1 =>
    iexists _; isplitr; swap; · iexact H8
    ipureintro
  on_goal 2 =>
    iexists _; isplitr; swap; · iexact H9
    ipureintro
    refine (whole_store arg11 _ _ zero2 _ _ _).trans ?_
  on_goal 3 =>
    iexists _; isplitr; swap; · iexact H10
    ipureintro
    refine (whole_store arg12 _ _ zero2 _ _ _).trans ?_
  on_goal 4 =>
    iexists _; isplitr; swap; · iexact H11
    ipureintro
    unfold body_first.sl.r_22 body_first.sl.r_23 body_first.sl.v268 body_first.sl.v246 body_first.sl.r_24 body_first.sl.v250
  all_goals
    generalize h4 : st_k0_t4 (F := Ideal) _ _ _ _ _ _ _ _ _ _ _ _ _ _ _ _ _ _ _ _ _ _ _ _ _ _ _ _ _ _ _ _ _ _ _ _ _ _ _ _ _ _ _ _ _ _ _ _ _ _ _ _ _ _ = S4
    generalize h3 : st_k0_t3 (F := Ideal) _ _ _ _ _ _ _ _ _ _ _ _ _ _ _ _ _ _ _ _ _ _ _ _ _ _ _ _ _ _ _ _ _ _ _ _ _ _ _ _ _ _ _ _ _ _ _ _ _ _ _ _ _ _ = S3 at h4 ⊢
    generalize h2 : st_k0_t2 (F := Ideal) _ _ _ _ _ _ _ _ _ _ _ _ _ _ _ _ _ _ _ _ _ _ _ _ _ _ _ _ _ _ _ _ _ _ _ _ _ _ _ _ _ _ _ _ _ _ _ _ _ _ _ _ _ _ = S2 at h3 h4 ⊢
    generalize h1 : st_k0_t1 (F := Ideal) _ _ _ _ _ _ _ _ _ _ _ _ _ _ _ _ _ _ _ _ _ _ _ _ _ _ _ _ _ _ _ _ _ _ _ _ _ _ _ _ _ _ _ _ _ _ _ _ _ _ _ _ _ _ = S1 at h2 h3 h4 ⊢
    have HL := loops x0 x1 x2 x3 x4 x5 x6 (k0_pay119 i x7) (k0_pay121 (k0_pay120 i x7)) _ _ _ i arg2 harg2 arg3 harg3 arg4 harg4 arg5 harg5 arg6 harg6 arg7 harg7 arg8 harg8 arg9 harg9 arg10 harg10 arg11 harg11 arg12 harg12 arg13 harg13 hfin _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ _ _ _ _ _ _ _ _ _ _ _ _ _ _ _ _ _ _ _ _ S1 S2 S3 S4 h1.symm h2.symm h3.symm h4.symm
  · refine outQ_of x0 x2 x3 x4 x6 (k0_pay119 i x7) (k0_pay121 (k0_pay120 i x7)) (i 1).val hj d8 _ _ _ ?_ (diag_addsQ x0 x2 x3 x4 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ hq hd hst arg10 _ _ _ (off1 i) (k0_off1_inb i)) HL.2.1
    intro y
    rw [if_pos ((first_iff i).mp hc)]
    exact (congrFun (whole_store arg10 _ _ zero2 _ _ _) y).trans (pay118_entry y)
  · exact outK_of x0 x1 x2 x3 x4 x5 x6 (k0_pay119 i x7) (k0_pay121 (k0_pay120 i x7)) (i 1).val hj _ _ (diag_adds x0 x1 x2 x3 x4 x5 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ _ _ hq hqt hd hdt hst hfin) HL.1
  · exact outV_of x0 x1 x2 x3 x4 x5 x6 (k0_pay119 i x7) (k0_pay121 (k0_pay120 i x7)) (i 1).val hj _ _ (diag_adds x0 x1 x2 x3 x4 x5 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ _ _ hq hqt hd hdt hst hfin) HL.1
  · refine outF_of x0 x1 x2 x3 x4 x5 x6 (k0_pay119 i x7) (k0_pay121 (k0_pay120 i x7)) (i 0) (i 1).val hj _ _ (diag_adds x0 x1 x2 x3 x4 x5 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ _ _ hq hqt hd hdt hst hfin) HL.1 d11 _ _ _ ?_ (diag_addsR x0 x2 x3 x4 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ hq hd hst (i 0) arg13 _ _ _ (off1 i) (k0_off1_inb i)) HL.2.2 arg13 _ _ rfl _ (off1 i) (k0_off1_inb i)
    intro y
    rw [if_neg (fun h => hp ((firstPoint_iff i).mpr h))]
    exact congrFun hf11 y

end Cert.Kernel9Ideal.BwdValue

end
-- ==== Proof.FoxBodyC.lean ====
module

public import proofs.«01_k».proof.Proof.FoxBodyInit

/-! The body of the backward call of the attention with gates, run
    on a later tile: what its four output blocks hold afterwards. -/

@[expose] public section

set_option maxRecDepth 16384

noncomputable section

namespace Cert.Kernel9Ideal.BwdValue

open Cert.Kernel9Ideal.Gen
open Cert.Kernel9Ideal.Bwd hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (x0 : FVec Ideal S4096x128 .bf16) (x1 : FVec Ideal S8x128x512 .bf16) (x2 : FVec Ideal S512x128 .bf16)
  (x3 : FVec Ideal S512x128 .bf16) (x4 : FVec Ideal S4096x128 .bf16) (x5 : FVec Ideal S8x128x512 .bf16)
  (x6 : FVec Ideal S1x4096x128 .f32) (x7 : FVec Ideal S1x8x512 .f32)

set_option maxHeartbeats 16000000 in
/-- The body on a later tile, on whole staging buffers. -/
theorem body_later (c : Dev nD) (i : grid0.Coords) (hc : ¬ FirstTile i) (hp : ¬ FirstPoint i) (arg2 : Memref sig .tc .vmem S4096x128 .bf16) (harg2 : arg2.IsWhole) (arg3 : Memref sig .tc .vmem S8x128x512 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1x4096x128 .f32) (harg8 : arg8.IsWhole) (arg9 : Memref sig .tc .vmem S1x8x512 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole)
    (hfin : ∀ n r c, ∃ x : ℝ, dscore x0 x2 x3 x4 x6 (k0_pay119 i x7) (k0_pay121 (k0_pay120 i x7)) (i 1).val n r c = x)
    (d8 d11 : FVec Ideal S4096x128 .f32) (E : Set ℕ) (K : PUnit → sProp 𝕄) :
    iprop((owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare d8
      ∗ (∃ d, owns (c : Thread nD τ) arg11 fullShare d)
      ∗ (∃ d, owns (c : Thread nD τ) arg12 fullShare d)
      ∗ owns (c : Thread nD τ) arg13 fullShare d11)
      ∗ ((owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare (outQ x0 x2 x3 x4 x6 (k0_pay119 i x7) (k0_pay121 (k0_pay120 i x7)) (i 1).val d8)
      ∗ owns (c : Thread nD τ) arg11 fullShare (outK x0 x1 x2 x3 x4 x6 (k0_pay119 i x7) (k0_pay121 (k0_pay120 i x7)) (i 1).val)
      ∗ owns (c : Thread nD τ) arg12 fullShare (outV x0 x2 x5 x6 (k0_pay119 i x7) (k0_pay121 (k0_pay120 i x7)) (i 1).val)
      ∗ owns (c : Thread nD τ) arg13 fullShare (outF x0 x2 x3 x4 x6 (k0_pay119 i x7) (k0_pay121 (k0_pay120 i x7)) (i 0).val (i 1).val d11)) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13) K := by
  have hj : (i 1).val < 8 := (i 1).isLt
  simp only [cc0_fox_bwd_eq_skeleton]; unfold cc0_fox_bwd_skel
  simp only [k0_part13_eq_skeleton, k0_part14_eq_skeleton, k0_part15_eq_skeleton, k0_part16_eq_skeleton, k0_part17_eq_skeleton, k0_part18_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc | sl_exact hp)
  sl_step
  have hq := ld_d arg2 harg2 x0 _ _ (off1 i) (k0_off1_inb i)
  have hqt := ld_dt arg3 harg3 x1 _ _ (off2 i) (k0_off2_inb i)
  have hd := ld_d arg6 harg6 x4 _ _ (off1 i) (k0_off1_inb i)
  have hdt := ld_dt arg7 harg7 x5 _ _ (off2 i) (k0_off2_inb i)
  have hst := ld_st arg8 harg8 x6 _ _ (off3 i) (k0_off3_inb i)
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  on_goal 2 => isplitl [H9]
  on_goal 3 => isplitl [H10]
  on_goal 1 =>
    iexists _; isplitr; swap; · iexact H8
    ipureintro
  on_goal 2 =>
    iexists _; isplitr; swap; · iexact H9
    ipureintro
    refine (whole_store arg11 _ _ zero2 _ _ _).trans ?_
  on_goal 3 =>
    iexists _; isplitr; swap; · iexact H10
    ipureintro
    refine (whole_store arg12 _ _ zero2 _ _ _).trans ?_
  on_goal 4 =>
    iexists _; isplitr; swap; · iexact H11
    ipureintro
    unfold body_later.sl.r_22 body_later.sl.r_23 body_later.sl.v268 body_later.sl.v246 body_later.sl.r_24 body_later.sl.v250
  all_goals
    generalize h4 : st_k0_t4 (F := Ideal) _ _ _ _ _ _ _ _ _ _ _ _ _ _ _ _ _ _ _ _ _ _ _ _ _ _ _ _ _ _ _ _ _ _ _ _ _ _ _ _ _ _ _ _ _ _ _ _ _ _ _ _ _ _ = S4
    generalize h3 : st_k0_t3 (F := Ideal) _ _ _ _ _ _ _ _ _ _ _ _ _ _ _ _ _ _ _ _ _ _ _ _ _ _ _ _ _ _ _ _ _ _ _ _ _ _ _ _ _ _ _ _ _ _ _ _ _ _ _ _ _ _ = S3 at h4 ⊢
    generalize h2 : st_k0_t2 (F := Ideal) _ _ _ _ _ _ _ _ _ _ _ _ _ _ _ _ _ _ _ _ _ _ _ _ _ _ _ _ _ _ _ _ _ _ _ _ _ _ _ _ _ _ _ _ _ _ _ _ _ _ _ _ _ _ = S2 at h3 h4 ⊢
    generalize h1 : st_k0_t1 (F := Ideal) _ _ _ _ _ _ _ _ _ _ _ _ _ _ _ _ _ _ _ _ _ _ _ _ _ _ _ _ _ _ _ _ _ _ _ _ _ _ _ _ _ _ _ _ _ _ _ _ _ _ _ _ _ _ = S1 at h2 h3 h4 ⊢
    have HL := loops x0 x1 x2 x3 x4 x5 x6 (k0_pay119 i x7) (k0_pay121 (k0_pay120 i x7)) _ _ _ i arg2 harg2 arg3 harg3 arg4 harg4 arg5 harg5 arg6 harg6 arg7 harg7 arg8 harg8 arg9 harg9 arg10 harg10 arg11 harg11 arg12 harg12 arg13 harg13 hfin _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ _ _ _ _ _ _ _ _ _ _ _ _ _ _ _ _ _ _ _ _ S1 S2 S3 S4 h1.symm h2.symm h3.symm h4.symm
  · refine outQ_of x0 x2 x3 x4 x6 (k0_pay119 i x7) (k0_pay121 (k0_pay120 i x7)) (i 1).val hj d8 _ _ _ ?_ (diag_addsQ x0 x2 x3 x4 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ hq hd hst arg10 _ _ _ (off1 i) (k0_off1_inb i)) HL.2.1
    intro y
    rw [if_neg (fun h => hc ((first_iff i).mpr h))]
    exact congrFun hf8 y
  · exact outK_of x0 x1 x2 x3 x4 x5 x6 (k0_pay119 i x7) (k0_pay121 (k0_pay120 i x7)) (i 1).val hj _ _ (diag_adds x0 x1 x2 x3 x4 x5 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ _ _ hq hqt hd hdt hst hfin) HL.1
  · exact outV_of x0 x1 x2 x3 x4 x5 x6 (k0_pay119 i x7) (k0_pay121 (k0_pay120 i x7)) (i 1).val hj _ _ (diag_adds x0 x1 x2 x3 x4 x5 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ _ _ hq hqt hd hdt hst hfin) HL.1
  · refine outF_of x0 x1 x2 x3 x4 x5 x6 (k0_pay119 i x7) (k0_pay121 (k0_pay120 i x7)) (i 0) (i 1).val hj _ _ (diag_adds x0 x1 x2 x3 x4 x5 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ _ _ hq hqt hd hdt hst hfin) HL.1 d11 _ _ _ ?_ (diag_addsR x0 x2 x3 x4 x6 (k0_pay119 i x7) (k0_pay121 (k0_pay120 i x7)) (i 1).val _ _ _ _ (whole_load arg4 harg4 x2 _ zero2 _) (whole_load arg5 harg5 x3 _ zero2 _) (congrArg (k0_pay119 i) (whole_load arg9 harg9 x7 _ zero3 _)) (congrArg (fun w => k0_pay121 (k0_pay120 i w)) (whole_load arg9 harg9 x7 _ zero3 _)) _ _ _ hq hd hst (i 0) arg13 _ _ _ (off1 i) (k0_off1_inb i)) HL.2.2 arg13 _ _ rfl _ (off1 i) (k0_off1_inb i)
    intro y
    rw [if_neg (fun h => hp ((firstPoint_iff i).mpr h))]
    exact congrFun hf11 y

end Cert.Kernel9Ideal.BwdValue

end
-- ==== Proof.FoxBody.lean ====
module

public import proofs.«01_k».proof.Proof.FoxBodyA
public import proofs.«01_k».proof.Proof.FoxBodyB
public import proofs.«01_k».proof.Proof.FoxBodyC

/-! The body of the backward call of the attention with gates, run on a tile of keys: what its four output blocks hold
    afterwards, as functions of its eight input blocks and of what the blocks that are added to held before. -/

@[expose] public section

set_option maxRecDepth 16384

noncomputable section

namespace Cert.Kernel9Ideal.BwdValue

open Cert.Kernel9Ideal.Gen
open Cert.Kernel9Ideal.Bwd hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (x0 : FVec Ideal S4096x128 .bf16) (x1 : FVec Ideal S8x128x512 .bf16) (x2 : FVec Ideal S512x128 .bf16)
  (x3 : FVec Ideal S512x128 .bf16) (x4 : FVec Ideal S4096x128 .bf16) (x5 : FVec Ideal S8x128x512 .bf16)
  (x6 : FVec Ideal S1x4096x128 .f32) (x7 : FVec Ideal S1x8x512 .f32)

/-- The body, on whole staging buffers. -/
theorem body_value (c : Dev nD) (i : grid0.Coords) (arg2 : Memref sig .tc .vmem S4096x128 .bf16) (harg2 : arg2.IsWhole) (arg3 : Memref sig .tc .vmem S8x128x512 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1x4096x128 .f32) (harg8 : arg8.IsWhole) (arg9 : Memref sig .tc .vmem S1x8x512 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole)
    (hfin : ∀ n r c, ∃ x : ℝ, dscore x0 x2 x3 x4 x6 (k0_pay119 i x7) (k0_pay121 (k0_pay120 i x7)) (i 1).val n r c = x)
    (d8 d11 : FVec Ideal S4096x128 .f32) (E : Set ℕ) (K : PUnit → sProp 𝕄) :
    iprop((owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare d8
      ∗ (∃ d, owns (c : Thread nD τ) arg11 fullShare d)
      ∗ (∃ d, owns (c : Thread nD τ) arg12 fullShare d)
      ∗ owns (c : Thread nD τ) arg13 fullShare d11)
      ∗ ((owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare (outQ x0 x2 x3 x4 x6 (k0_pay119 i x7) (k0_pay121 (k0_pay120 i x7)) (i 1).val d8)
      ∗ owns (c : Thread nD τ) arg11 fullShare (outK x0 x1 x2 x3 x4 x6 (k0_pay119 i x7) (k0_pay121 (k0_pay120 i x7)) (i 1).val)
      ∗ owns (c : Thread nD τ) arg12 fullShare (outV x0 x2 x5 x6 (k0_pay119 i x7) (k0_pay121 (k0_pay120 i x7)) (i 1).val)
      ∗ owns (c : Thread nD τ) arg13 fullShare (outF x0 x2 x3 x4 x6 (k0_pay119 i x7) (k0_pay121 (k0_pay120 i x7)) (i 0).val (i 1).val d11)) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13) K := by
  by_cases hc : FirstTile i
  · by_cases hp : FirstPoint i
    · exact body_opening x0 x1 x2 x3 x4 x5 x6 x7 c i hc hp arg2 harg2 arg3 harg3 arg4 harg4 arg5 harg5 arg6 harg6 arg7 harg7 arg8 harg8 arg9 harg9 arg10 harg10 arg11 harg11 arg12 harg12 arg13 harg13 hfin d8 d11 E K
    · exact body_first x0 x1 x2 x3 x4 x5 x6 x7 c i hc hp arg2 harg2 arg3 harg3 arg4 harg4 arg5 harg5 arg6 harg6 arg7 harg7 arg8 harg8 arg9 harg9 arg10 harg10 arg11 harg11 arg12 harg12 arg13 harg13 hfin d8 d11 E K
  · exact body_later x0 x1 x2 x3 x4 x5 x6 x7 c i hc (fun h => hc ((first_iff i).mpr ((firstPoint_iff i).mp h).2)) arg2 harg2 arg3 harg3 arg4 harg4 arg5 harg5 arg6 harg6 arg7 harg7 arg8 harg8 arg9 harg9 arg10 harg10 arg11 harg11 arg12 harg12 arg13 harg13 hfin d8 d11 E K

end Cert.Kernel9Ideal.BwdValue

end
-- ==== Proof.FoxEntry.lean ====
module

public import proofs.«01_k».proof.Proof.Soft
public import proofs.«01_k».proof.Proof.FoxIdealFrame
public import Idealize.ShloMosaic.Lib.StableHlo.Run

/-! What the host wrote before the launch of the backward call of the attention with gates, as the composition of its
    operations: the row statistics, from the masked and gated logits, the transposed blocks of the queries and of the
    gradients, and the blocks of the gates. -/

@[expose] public section

set_option maxRecDepth 16384

noncomputable section

namespace Cert.Kernel9Ideal.BwdValue

open Cert.Kernel9Ideal Cert.Kernel9Ideal.Gen
open Cert.KernelIdeal.BwdValue (headsV maxT expT sumT probT deltaT evenT oddT statsT)
open Cert.ReferenceIdeal.Attention (seenT)
open Idealize.ShloMosaic Idealize.ShloMosaic.TcCoe Idealize.ShloMosaic.Tactic
open Idealize.SL.Sem

/-- The queries, -/
def partQ (x : FVec Ideal S4096x1536 .bf16) : FVec Ideal S4096x512 .bf16 := extractStridedSlice S4096x512 ![0, 0] x slices_S4096x1536_S4096x512_0_0
/-- the keys -/
def partK (x : FVec Ideal S4096x1536 .bf16) : FVec Ideal S4096x512 .bf16 := extractStridedSlice S4096x512 ![0, 512] x slices_S4096x1536_S4096x512_0_512
/-- and the values among the columns of their array. -/
def partV (x : FVec Ideal S4096x1536 .bf16) : FVec Ideal S4096x512 .bf16 := extractStridedSlice S4096x512 ![0, 1024] x slices_S4096x1536_S4096x512_0_1024

/-- The gates by heads. -/
def gatesT (f : FVec Ideal S4096x8 .f32) : FVec Ideal S8x4096 .f32 := transpose S8x4096 [1, 0] f transposes_S4096x8_S8x4096_1_0

/-- The masked and gated logits. -/
def logitsF (q k : FVec Ideal S4096x512 .bf16) (f : FVec Ideal S4096x8 .f32) : FVec Ideal S8x4096x4096 .f32 :=
  select seenT
    (addf (mulf (Host.dotGeneral dot_S8x4096x64_S8x4096x64_S8x4096x4096_2_2_1_1_0_0 none (headsV q) (headsV k))
        (broadcastInDim S8x4096x4096 ![] bcast_S_S8x4096x4096 (constant (F := Ideal) S_ .f32 0x3E000000#32)))
      (subf (broadcastInDim S8x4096x4096 ![0, 1, 2] bcast_S8x4096x1_S8x4096x4096_0_1_2 (broadcastInDim S8x4096x1 ![0, 1] bcast_S8x4096_S8x4096x1_0_1 (gatesT f)))
        (broadcastInDim S8x4096x4096 ![0, 1, 2] bcast_S8x1x4096_S8x4096x4096_0_1_2 (broadcastInDim S8x1x4096 ![0, 2] bcast_S8x4096_S8x1x4096_0_2 (gatesT f)))))
    (broadcastInDim S8x4096x4096 ![] bcast_S_S8x4096x4096 (constant (F := Ideal) S_ .f32 0xFF800000#32))

/-- The base 2 logarithm of a row's sum of exponentials, less the row's own gate. -/
def lseF (M S : FVec Ideal S8x4096 .f32) (f : FVec Ideal S4096x8 .f32) : FVec Ideal S8x4096 .f32 :=
  Host.divf (subf (shapeCast S8x4096 (addf (broadcastInDim S8x4096x1 ![0, 1] bcast_S8x4096_S8x4096x1_0_1 M) (Host.log (broadcastInDim S8x4096x1 ![0, 1] bcast_S8x4096_S8x4096x1_0_1 S))) shapeCasts_S8x4096x1_S8x4096) (gatesT f))
    (broadcastInDim S8x4096 ![] bcast_S_S8x4096 (Host.log (constant (F := Ideal) S_ .f32 0x40000000#32)))

variable (m : (ℓ : Loc nD τ sig) → Buf (Elt Ideal) ℓ)

/-- The host operations before the four statistics are put side by side, -/
abbrev opsStats : List (HloOp τ sig (Elt Ideal)) := hostOps0 ++ hostOps0_1 ++ hostOps0_2.take 38
/-- and those from there on. -/
abbrev opsRest : List (HloOp τ sig (Elt Ideal)) := hostOps0_2.drop 38 ++ hostOps0_3 ++ hostOps0_4

/-- The buffers before the four statistics are put side by side. -/
def before (c : Dev nD) : Valuation τ sig (Elt Ideal) := StableHlo.after opsStats (fun b => m (c, b))

theorem V_rest (c : Dev nD) (b : Ref sig .tc) : V m c b = StableHlo.after opsRest (before m c) b := by
  unfold before
  rw [← StableHlo.after_append]
  rfl

set_option maxHeartbeats 4000000 in
theorem entry_side (c : Dev nD) : V m c main_v61
    = pad S4x4096x128 ![0, 0, 0] ![0, 0, 124] ![0, 0, 0] (concatenate S4x4096x4 2 [⟨S4x4096x1, before m c main_v56⟩, ⟨S4x4096x1, before m c main_v57⟩, ⟨S4x4096x1, before m c main_v58⟩, ⟨S4x4096x1, before m c main_v59⟩] concatenates_S4x4096x1_S4x4096x1_S4x4096x1_S4x4096x1_S4x4096x4_d2)
       (sitofp (F := Ideal) .f32 (constantI S_ 32 0#32)) pads_S4x4096x4_S4x4096x128_000_000_01240 h_S_ := by
  rw [V_rest]
  generalize before m c = G
  simp only [opsRest, hostOps0_2, hostOps0_3, hostOps0_4, List.drop_succ_cons, List.drop_zero, List.cons_append, List.nil_append, StableHlo.after_cons, StableHlo.after_nil]
  after_results_simp
  rfl

/-- The arguments at launch, -/
abbrev argW (c : Dev nD) : FVec Ideal S4096x1536 .bf16 := m ((c.tc : Thread nD τ).loc main_arg0)
abbrev argF (c : Dev nD) : FVec Ideal S4096x8 .f32 := m ((c.tc : Thread nD τ).loc main_arg1)
abbrev argD (c : Dev nD) : FVec Ideal S4096x512 .bf16 := m ((c.tc : Thread nD τ).loc main_arg2)
abbrev argQ (c : Dev nD) : FVec Ideal S4096x512 .bf16 := partQ (argW m c)
abbrev argK (c : Dev nD) : FVec Ideal S4096x512 .bf16 := partK (argW m c)
abbrev argV (c : Dev nD) : FVec Ideal S4096x512 .bf16 := partV (argW m c)

/-- and the stages of their softmax. -/
abbrev theL (c : Dev nD) : FVec Ideal S8x4096x4096 .f32 := logitsF (argQ m c) (argK m c) (argF m c)
abbrev theM (c : Dev nD) : FVec Ideal S8x4096 .f32 := maxT (theL m c)
abbrev theE (c : Dev nD) : FVec Ideal S8x4096x4096 .f32 := expT (theL m c) (theM m c)
abbrev theS (c : Dev nD) : FVec Ideal S8x4096 .f32 := sumT (theE m c)

set_option maxHeartbeats 4000000 in
theorem before_v56 (c : Dev nD) : before m c main_v56 = evenT (lseF (theM m c) (theS m c) (argF m c)) := by
  unfold before
  simp only [opsStats, hostOps0, hostOps0_1, hostOps0_2, List.take_succ_cons, List.take_zero, List.cons_append, List.nil_append, StableHlo.after_cons, StableHlo.after_nil]
  after_results_simp
  rfl

set_option maxHeartbeats 4000000 in
theorem before_v57 (c : Dev nD) : before m c main_v57 = oddT (lseF (theM m c) (theS m c) (argF m c)) := by
  unfold before
  simp only [opsStats, hostOps0, hostOps0_1, hostOps0_2, List.take_succ_cons, List.take_zero, List.cons_append, List.nil_append, StableHlo.after_cons, StableHlo.after_nil]
  after_results_simp
  rfl

set_option maxHeartbeats 4000000 in
theorem before_v58 (c : Dev nD) : before m c main_v58 = evenT (deltaT (probT (theE m c) (theS m c)) (argV m c) (argD m c)) := by
  unfold before
  simp only [opsStats, hostOps0, hostOps0_1, hostOps0_2, List.take_succ_cons, List.take_zero, List.cons_append, List.nil_append, StableHlo.after_cons, StableHlo.after_nil]
  after_results_simp
  rfl

set_option maxHeartbeats 4000000 in
theorem before_v59 (c : Dev nD) : before m c main_v59 = oddT (deltaT (probT (theE m c) (theS m c)) (argV m c) (argD m c)) := by
  unfold before
  simp only [opsStats, hostOps0, hostOps0_1, hostOps0_2, List.take_succ_cons, List.take_zero, List.cons_append, List.nil_append, StableHlo.after_cons, StableHlo.after_nil]
  after_results_simp
  rfl

/-- The array of row statistics. -/
theorem entry_stats (c : Dev nD) : V m c main_v61
    = statsT (lseF (theM m c) (theS m c) (argF m c)) (deltaT (probT (theE m c) (theS m c)) (argV m c) (argD m c)) := by
  rw [entry_side, before_v56, before_v57, before_v58, before_v59]
  rfl

/-- The transposed blocks of the queries, keys and values, -/
theorem entry_qt (c : Dev nD) : V m c main_v63
    = transpose S8x1536x512 [0, 2, 1] (shapeCast S8x512x1536 (argW m c) shapeCasts_S4096x1536_S8x512x1536) transposes_S8x512x1536_S8x1536x512_0_2_1 := by
  rw [V_rest]
  have h : before m c main_arg0 = argW m c := by
    unfold before
    simp only [opsStats, hostOps0, hostOps0_1, hostOps0_2, List.take_succ_cons, List.take_zero, List.cons_append, List.nil_append, StableHlo.after_cons, StableHlo.after_nil]
    after_results_simp
  generalize before m c = G at h ⊢
  simp only [opsRest, hostOps0_2, hostOps0_3, hostOps0_4, List.drop_succ_cons, List.drop_zero, List.cons_append, List.nil_append, StableHlo.after_cons, StableHlo.after_nil]
  after_results_simp
  rw [h]; rfl
/-- of the gradients, -/
theorem entry_dt (c : Dev nD) : V m c main_v65
    = transpose S8x512x512 [0, 2, 1] (shapeCast S8x512x512 (argD m c) shapeCasts_S4096x512_S8x512x512) transposes_S8x512x512_S8x512x512_0_2_1 := by
  rw [V_rest]
  have h : before m c main_arg2 = argD m c := by
    unfold before
    simp only [opsStats, hostOps0, hostOps0_1, hostOps0_2, List.take_succ_cons, List.take_zero, List.cons_append, List.nil_append, StableHlo.after_cons, StableHlo.after_nil]
    after_results_simp
  generalize before m c = G at h ⊢
  simp only [opsRest, hostOps0_2, hostOps0_3, hostOps0_4, List.drop_succ_cons, List.drop_zero, List.cons_append, List.nil_append, StableHlo.after_cons, StableHlo.after_nil]
  after_results_simp
  rw [h]; rfl
/-- and of the gates. -/
theorem entry_ft (c : Dev nD) : V m c main_v67
    = transpose S8x8x512 [0, 2, 1] (shapeCast S8x512x8 (argF m c) shapeCasts_S4096x8_S8x512x8) transposes_S8x512x8_S8x8x512_0_2_1 := by
  rw [V_rest]
  have h : before m c main_arg1 = argF m c := by
    unfold before
    simp only [opsStats, hostOps0, hostOps0_1, hostOps0_2, List.take_succ_cons, List.take_zero, List.cons_append, List.nil_append, StableHlo.after_cons, StableHlo.after_nil]
    after_results_simp
  generalize before m c = G at h ⊢
  simp only [opsRest, hostOps0_2, hostOps0_3, hostOps0_4, List.drop_succ_cons, List.drop_zero, List.cons_append, List.nil_append, StableHlo.after_cons, StableHlo.after_nil]
  after_results_simp
  rw [h]; rfl

end Cert.Kernel9Ideal.BwdValue

end
-- ==== Proof.FoxRefText.lean ====
module

public import proofs.«01_k».proof.Proof.FoxEntry
public import proofs.«01_k».proof.Proof.Gen.Reference9Ideal.Run

/-! The plain text's results for the attention with gates, as the composition of its operations: the softmax's stages
    and their gradients are those of the attention without gates, on other logits. -/

@[expose] public section

set_option maxRecDepth 16384

noncomputable section

namespace Cert.Reference9Ideal.Attention

open Cert.Reference9Ideal Cert.Reference9Ideal.Gen
open Cert.KernelIdeal.BwdValue (headsV maxT expT sumT probT)
open Cert.ReferenceIdeal.Attention (seenT overT dprobT dsumT dlogitT gradV)
open Cert.Kernel9Ideal.BwdValue (partQ partK partV logitsF)
open Idealize.ShloMosaic Idealize.ShloMosaic.TcCoe

/-- The gradient of the masked logits, -/
def dmaskT (D E : FVec Ideal S8x4096x4096 .f32) (S : FVec Ideal S8x4096 .f32) : FVec Ideal S8x4096x4096 .f32 :=
  select seenT (dlogitT D E S (dsumT D E S)) (broadcastInDim S8x4096x4096 ![] bcast_S_S8x4096x4096 (constant (F := Ideal) S_ .f32 0x00000000#32))

/-- and of the products of queries and keys. -/
def scaledT (G : FVec Ideal S8x4096x4096 .f32) : FVec Ideal S8x4096x4096 .f32 :=
  mulf G (broadcastInDim S8x4096x4096 ![] bcast_S_S8x4096x4096 (constant (F := Ideal) S_ .f32 0x3E000000#32))

/-- The gradients of the queries, -/
def gradQ (G : FVec Ideal S8x4096x4096 .f32) (k : FVec Ideal S4096x512 .bf16) : FVec Ideal S4096x512 .f32 :=
  shapeCast S4096x512 (transpose S4096x8x64 [1, 0, 2] (Host.dotGeneral dot_S8x4096x4096_S8x4096x64_S8x4096x64_2_1_1_2_0_0 none (scaledT G) (headsV k)) transposes_S8x4096x64_S4096x8x64_1_0_2) shapeCasts_S4096x8x64_S4096x512
/-- of the keys, -/
def gradK (G : FVec Ideal S8x4096x4096 .f32) (q : FVec Ideal S4096x512 .bf16) : FVec Ideal S4096x512 .bf16 :=
  truncf .bf16 (shapeCast S4096x512 (transpose S4096x8x64 [1, 0, 2] (Host.dotGeneral dot_S8x4096x4096_S8x4096x64_S8x4096x64_1_1_2_2_0_0 none (scaledT G) (headsV q)) transposes_S8x4096x64_S4096x8x64_1_0_2) shapeCasts_S4096x8x64_S4096x512) bitsLt_bf16_f32

/-- of the gates, as those of keys, -/
def gateKeyT (G : FVec Ideal S8x4096x4096 .f32) : FVec Ideal S8x4096 .f32 :=
  Host.reduceAdd (shapeCast S8x1x4096 (Host.reduceAdd (Host.negf G) (constant (F := Ideal) S_ .f32 0x00000000#32) reducesTo_S8x4096x4096_S8x4096_d1 h_S_) shapeCasts_S8x4096_S8x1x4096)
    (constant (F := Ideal) S_ .f32 0x00000000#32) reducesTo_S8x1x4096_S8x4096_d1 h_S_
/-- and as those of queries, -/
def gateRowT (G : FVec Ideal S8x4096x4096 .f32) : FVec Ideal S8x4096 .f32 :=
  Host.reduceAdd (shapeCast S8x4096x1 (Host.reduceAdd G (constant (F := Ideal) S_ .f32 0x00000000#32) reducesTo_S8x4096x4096_S8x4096_d2 h_S_) shapeCasts_S8x4096_S8x4096x1)
    (constant (F := Ideal) S_ .f32 0x00000000#32) reducesTo_S8x4096x1_S8x4096_d2 h_S_
/-- in the first eight of 128 lanes. -/
def gradF (G : FVec Ideal S8x4096x4096 .f32) : FVec Ideal S4096x128 .f32 :=
  pad S4096x128 ![0, 0] ![0, 120] ![0, 0] (transpose S4096x8 [1, 0] (addf (gateKeyT G) (gateRowT G)) transposes_S8x4096_S4096x8_1_0)
    (sitofp (F := Ideal) .f32 (constantI S_ 32 0#32)) pads_S4096x8_S4096x128_000_01200 h_S_

variable (m : (ℓ : Loc nD τ sig) → Buf (Elt Ideal) ℓ) (c : Dev nD)

/-- The arguments at launch, -/
abbrev argW : FVec Ideal S4096x1536 .bf16 := m ((c.tc : Thread nD τ).loc main_arg0)
abbrev argF : FVec Ideal S4096x8 .f32 := m ((c.tc : Thread nD τ).loc main_arg1)
abbrev argD : FVec Ideal S4096x512 .bf16 := m ((c.tc : Thread nD τ).loc main_arg2)

/-- and the stages of their softmax. -/
abbrev theL : FVec Ideal S8x4096x4096 .f32 := logitsF (partQ (argW m c)) (partK (argW m c)) (argF m c)
abbrev theE : FVec Ideal S8x4096x4096 .f32 := expT (theL m c) (overT (maxT (theL m c)))
abbrev theS : FVec Ideal S8x4096 .f32 := sumT (theE m c)
abbrev theG : FVec Ideal S8x4096x4096 .f32 := dmaskT (dprobT (partV (argW m c)) (argD m c)) (theE m c) (theS m c)

theorem out_q : Value.res_main_v101 m c = gradQ (theG m c) (partK (argW m c)) := by
  unfold Value.res_main_v101; rfl
theorem out_k : Value.res_main_v102 m c = gradK (theG m c) (partQ (argW m c)) := by
  unfold Value.res_main_v102; rfl
theorem out_v : Value.res_main_v103 m c = gradV (probT (theE m c) (theS m c)) (argD m c) := by
  unfold Value.res_main_v103; rfl
theorem out_f : Value.res_main_v104 m c = gradF (theG m c) := by
  unfold Value.res_main_v104; rfl

end Cert.Reference9Ideal.Attention

end
-- ==== Proof.FoxSoft.lean ====
module

public import proofs.«01_k».proof.Proof.FoxRefText

/-! The stages of the softmax of gated logits, and of its gradient, on real arrays, as real numbers. -/

@[expose] public section

set_option maxRecDepth 16384

noncomputable section

namespace Cert.Gated

open Idealize.ShloMosaic Idealize.ShloMosaic.TcCoe
open Cert.Kernel9Ideal (S4096x1536 S4096x512 S4096x8 S4096x128 S8x4096 S8x4096x4096)
open Cert.Kernel9Ideal.BwdValue (partQ partK partV gatesT logitsF lseF)
open Cert.KernelIdeal.BwdValue (headsV maxT expT sumT probT deltaT)
open Cert.ReferenceIdeal.Attention (overT dprobT dsumT dlogitT gradV)
open Cert.Reference9Ideal.Attention (dmaskT scaledT gradQ gradK gateKeyT gateRowT gradF)
open Cert.Attention (atV headsV_at select_le bits_bot log_2 log_ne coe_sum div_coe up fold_real maxT_at expT_at sumT_at probT_at deltaT_at dweight dweight_real)

theorem bits_eighth : Ideal.ofBits FTy.f32 0x3E000000#32 = ((8⁻¹ : ℝ) : EReal) := by
  simp [Ideal.ofBits, Ideal.ieee, -EReal.coe_mul]; norm_num

/-! ### The text of the stages, by entries -/

/-- Column `i` of the queries, of the keys and of the values among the 1536 columns of their array. -/
def wQ (i : Fin 512) : Fin 1536 := ⟨i.val, by omega⟩
def wK (i : Fin 512) : Fin 1536 := ⟨512 + i.val, by omega⟩
def wV (i : Fin 512) : Fin 1536 := ⟨1024 + i.val, by omega⟩

section text
variable (x : FVec Ideal S4096x1536 .bf16) (q k : FVec Ideal S4096x512 .bf16) (f : FVec Ideal S4096x8 .f32)
  (D E G : FVec Ideal S8x4096x4096 .f32) (M S : FVec Ideal S8x4096 .f32) (h : Fin 8) (r c : Fin 4096)

theorem partQ_at (i : Fin 512) : partQ x (ix2 r i) = x (ix2 r (wQ i)) := by
  pointwise [partQ]; rfl
theorem partK_at (i : Fin 512) : partK x (ix2 r i) = x (ix2 r (wK i)) := by
  pointwise [partK]; rfl
theorem partV_at (i : Fin 512) : partV x (ix2 r i) = x (ix2 r (wV i)) := by
  pointwise [partV]; rfl
theorem gatesT_at : gatesT f (ix2 h r) = f (ix2 r h) := by
  pointwise [gatesT]
theorem logitsF_at : logitsF q k f (ix3 h r c)
    = if c.val ≤ r.val then (∑ e, q (ix2 r (atV h e)) * k (ix2 c (atV h e))) * ((8⁻¹ : ℝ) : EReal) + (f (ix2 r h) - f (ix2 c h)) else ⊥ := by
  pointwise [logitsF, Cert.ReferenceIdeal.Attention.seenT]
  rw [select_le, bits_bot, bits_eighth]
  simp only [headsV_at, gatesT_at]
theorem lseF_at : lseF M S f (ix2 h r) = Ideal.div (M (ix2 h r) + Ideal.log (S (ix2 h r)) - f (ix2 r h)) ((Real.log 2 : ℝ) : EReal) := by
  pointwise [lseF]
  rw [log_2, gatesT_at]
theorem dmaskT_at : dmaskT D E S (ix3 h r c) = if c.val ≤ r.val then
    (Ideal.div (D (ix3 h r c)) (S (ix2 h r)) + -∑ c', D (ix3 h r c') * Ideal.div 1 (S (ix2 h r) * S (ix2 h r)) * E (ix3 h r c')) * E (ix3 h r c) else 0 := by
  pointwise [dmaskT, Cert.ReferenceIdeal.Attention.seenT]
  rw [select_le]
  congr 1
  pointwise [dlogitT, dsumT, Cert.ReferenceIdeal.Attention.colT]
  rw [Fin.sum_univ_one]
theorem scaledT_at : scaledT G (ix3 h r c) = G (ix3 h r c) * ((8⁻¹ : ℝ) : EReal) := by
  pointwise [scaledT]
  rw [bits_eighth]
theorem gradQ_at (e : Fin 64) : gradQ G k (ix2 r (atV h e)) = ∑ c, G (ix3 h r c) * ((8⁻¹ : ℝ) : EReal) * k (ix2 c (atV h e)) := by
  have h1 : (⟨(atV h e).val / 64, by omega⟩ : Fin 8) = h := Fin.ext (by simp only [atV]; omega)
  have h2 : (⟨(atV h e).val % 64, by omega⟩ : Fin 64) = e := Fin.ext (by simp only [atV]; omega)
  pointwise [gradQ]
  rw [h1, h2]
  simp only [headsV_at, scaledT_at]
theorem gradK_at (e : Fin 64) : gradK G q (ix2 c (atV h e)) = ∑ r, G (ix3 h r c) * ((8⁻¹ : ℝ) : EReal) * q (ix2 r (atV h e)) := by
  have h1 : (⟨(atV h e).val / 64, by omega⟩ : Fin 8) = h := Fin.ext (by simp only [atV]; omega)
  have h2 : (⟨(atV h e).val % 64, by omega⟩ : Fin 64) = e := Fin.ext (by simp only [atV]; omega)
  pointwise [gradK]
  rw [h1, h2]
  simp only [headsV_at, scaledT_at]
theorem gateKeyT_at : gateKeyT G (ix2 h c) = ∑ r, -G (ix3 h r c) := by
  pointwise [gateKeyT]
  rw [Fin.sum_univ_one]
theorem gateRowT_at : gateRowT G (ix2 h r) = ∑ c, G (ix3 h r c) := by
  pointwise [gateRowT]
  rw [Fin.sum_univ_one]
theorem gradF_at (l : Fin 128) : gradF G (ix2 r l)
    = if hl : l.val < 8 then (∑ r', -G (ix3 ⟨l.val, hl⟩ r' r)) + ∑ c, G (ix3 ⟨l.val, hl⟩ r c) else 0 := by
  pointwise [gradF]
  split
  · rw [gateKeyT_at, gateRowT_at]
  · simp [FloatOps.sitofp]
end text

/-! ### Their values on real arrays -/

section real
variable (xq xk xv xd : S4096x512.Idx → ℝ) (xf : S4096x8.Idx → ℝ) (h : Fin 8) (r c : Fin 4096)

/-- A query times a key, with the gates of both, -/
def logit : ℝ := (∑ e, xq (ix2 r (atV h e)) * xk (ix2 c (atV h e))) / 8 + (xf (ix2 r h) - xf (ix2 c h))
/-- the largest logit of a row, -/
def top : ℝ := (maxT (logitsF (up xq) (up xk) (up xf)) (ix2 h r)).toReal
/-- the exponentials, of the keys not later than the row, -/
def ex : ℝ := if c.val ≤ r.val then Real.exp (logit xq xk xf h r c - top xq xk xf h r) else 0
/-- their sum, -/
def total : ℝ := ∑ c, ex xq xk xf h r c
/-- the weights, -/
def weight : ℝ := ex xq xk xf h r c / total xq xk xf h r
/-- the base 2 logarithm of the sum of exponentials less the row's gate, -/
def lse : ℝ := (top xq xk xf h r + Real.log (total xq xk xf h r) - xf (ix2 r h)) / Real.log 2
/-- the mean by the weights of the weights' gradients, -/
def delta : ℝ := ∑ c, weight xq xk xf h r c * dweight xv xd h r c
/-- and the logits' gradients. -/
def dlogit : ℝ := weight xq xk xf h r c * (dweight xv xd h r c - delta xq xk xv xd xf h r)

theorem logit_real : logitsF (up xq) (up xk) (up xf) (ix3 h r c) = if c.val ≤ r.val then ((logit xq xk xf h r c : ℝ) : EReal) else ⊥ := by
  rw [logitsF_at]
  congr 1

theorem top_real : maxT (logitsF (up xq) (up xk) (up xf)) (ix2 h r) = ((top xq xk xf h r : ℝ) : EReal) := by
  obtain ⟨x, hx⟩ := fold_real Finset.univ (fun c => logitsF (up xq) (up xk) (up xf) (ix3 h r c))
    (fun c => by rw [logit_real]; split <;> simp) r (Finset.mem_univ r) (by rw [logit_real, if_pos le_rfl]; simp)
  unfold top
  rw [maxT_at, hx, EReal.toReal_coe]

theorem ex_real (M : FVec Ideal S8x4096 .f32) (hM : M (ix2 h r) = ((top xq xk xf h r : ℝ) : EReal)) :
    expT (logitsF (up xq) (up xk) (up xf)) M (ix3 h r c) = ((ex xq xk xf h r c : ℝ) : EReal) := by
  rw [expT_at, logit_real, hM]
  unfold ex
  split
  · rw [← EReal.coe_sub, Ideal.exp_coe]
  · rw [EReal.bot_sub]; simp

theorem total_pos : 0 < total xq xk xf h r := by
  unfold total
  refine Finset.sum_pos' (fun c _ => ?_) ⟨r, Finset.mem_univ r, ?_⟩
  · unfold ex; split
    · exact (Real.exp_pos _).le
    · exact le_rfl
  · unfold ex; rw [if_pos le_rfl]; exact Real.exp_pos _

theorem weight_late (hc : ¬ c.val ≤ r.val) : weight xq xk xf h r c = 0 := by
  unfold weight ex; rw [if_neg hc, zero_div]
theorem dlogit_late (hc : ¬ c.val ≤ r.val) : dlogit xq xk xv xd xf h r c = 0 := by
  unfold dlogit; rw [weight_late _ _ _ _ _ _ hc, zero_mul]

/-- The weight by powers of two. -/
theorem weight_exp2 (hc : c.val ≤ r.val) :
    weight xq xk xf h r c = Real.rpow 2 ((logit xq xk xf h r c - xf (ix2 r h)) / Real.log 2 - lse xq xk xf h r) := by
  have hp := total_pos xq xk xf h r
  have hl := log_ne
  rw [Real.rpow_eq_pow, Real.rpow_def_of_pos (by norm_num), show Real.log 2 * ((logit xq xk xf h r c - xf (ix2 r h)) / Real.log 2 - lse xq xk xf h r)
      = (logit xq xk xf h r c - top xq xk xf h r) - Real.log (total xq xk xf h r) by unfold lse; field_simp; ring,
    Real.exp_sub, Real.exp_log hp]
  unfold weight ex; rw [if_pos hc]

variable (E : FVec Ideal S8x4096x4096 .f32) (S : FVec Ideal S8x4096 .f32)
  (hE : ∀ h r c, E (ix3 h r c) = ((ex xq xk xf h r c : ℝ) : EReal)) (hS : ∀ h r, S (ix2 h r) = ((total xq xk xf h r : ℝ) : EReal))

include hE in
theorem sum_real : sumT E (ix2 h r) = ((total xq xk xf h r : ℝ) : EReal) := by
  rw [sumT_at]; unfold total; rw [coe_sum]; simp only [hE]

include hE hS in
theorem weight_real : probT E S (ix3 h r c) = ((weight xq xk xf h r c : ℝ) : EReal) := by
  rw [probT_at, hE, hS, div_coe _ (total_pos xq xk xf h r).ne']; rfl

include hS in
theorem lse_real (M : FVec Ideal S8x4096 .f32) (hM : M (ix2 h r) = ((top xq xk xf h r : ℝ) : EReal)) :
    lseF M S (up xf) (ix2 h r) = ((lse xq xk xf h r : ℝ) : EReal) := by
  rw [lseF_at, hS, hM, Ideal.log_coe, if_neg (not_le.mpr (total_pos xq xk xf h r)), ← EReal.coe_add]
  unfold up lse
  rw [← EReal.coe_sub, div_coe _ log_ne]

include hE hS in
theorem delta_real : deltaT (probT E S) (up xv) (up xd) (ix2 h r) = ((delta xq xk xv xd xf h r : ℝ) : EReal) := by
  have hr : delta xq xk xv xd xf h r = ∑ e, (∑ c, weight xq xk xf h r c * xv (ix2 c (atV h e))) * xd (ix2 r (atV h e)) := by
    unfold delta dweight
    simp only [Finset.mul_sum, Finset.sum_mul]
    rw [Finset.sum_comm]
    exact Finset.sum_congr rfl fun e _ => Finset.sum_congr rfl fun c _ => by ring
  rw [deltaT_at, hr, coe_sum]
  refine Finset.sum_congr rfl fun e _ => ?_
  rw [EReal.coe_mul, coe_sum]
  show _ * ((xd (ix2 r (atV h e)) : ℝ) : EReal) = _
  refine congrArg (· * ((xd (ix2 r (atV h e)) : ℝ) : EReal)) ?_
  refine Finset.sum_congr rfl fun c _ => ?_
  rw [weight_real xq xk xf h r c E S hE hS, EReal.coe_mul, up]

include hE hS in
theorem dlogit_real : dmaskT (dprobT (up xv) (up xd)) E S (ix3 h r c) = ((dlogit xq xk xv xd xf h r c : ℝ) : EReal) := by
  have hp := (total_pos xq xk xf h r).ne'
  have hs : ∑ c', dprobT (up xv) (up xd) (ix3 h r c') * Ideal.div 1 (S (ix2 h r) * S (ix2 h r)) * E (ix3 h r c')
      = ((delta xq xk xv xd xf h r / total xq xk xf h r : ℝ) : EReal) := by
    unfold delta
    rw [Finset.sum_div, coe_sum]
    refine Finset.sum_congr rfl fun c _ => ?_
    rw [dweight_real, hE, hS, ← EReal.coe_mul, ← EReal.coe_one, div_coe _ (mul_ne_zero hp hp), ← EReal.coe_mul, ← EReal.coe_mul]
    congr 1
    unfold weight
    field_simp
  rw [dmaskT_at, hs, dweight_real, hE, hS, div_coe _ hp, ← EReal.coe_neg, ← EReal.coe_add, ← EReal.coe_mul]
  split
  · congr 1; unfold dlogit weight; field_simp; ring
  · next hc => rw [dlogit_late _ _ _ _ _ _ _ _ hc, EReal.coe_zero]
end real

end Cert.Gated

end
-- ==== Proof.FoxBlocks.lean ====
module

public import proofs.«01_k».proof.Proof.Grad
public import proofs.«01_k».proof.Proof.FoxSoft
public import proofs.«01_k».proof.Proof.FoxTile

/-! The blocks of the backward launch of the attention with gates at a point of its grid, as entries of the arguments
    and of the row statistics: point `8 g + j` is the pair of heads `g` and the tile of keys `j`. -/

@[expose] public section

set_option maxRecDepth 16384

noncomputable section

namespace Cert.Kernel9Ideal.BwdValue

open Cert.Kernel9Ideal Cert.Kernel9Ideal.Gen Cert.Gated
open Cert.Kernel9Ideal.Bwd (atT rowN colV laneL laneD gate gates gate_0 gate_1 cE)
open Cert.Attention (atV)
open Cert.KernelIdeal.BwdValue (wideV keyAt headOf statsT)
open Idealize.ShloMosaic Idealize.ShloMosaic.TcCoe Idealize.ShloMosaic.Tactic
open Idealize.SL.Sem

variable (m : (ℓ : Loc nD τ sig) → Buf (Elt Ideal) ℓ) (c : Dev nD) (t : Fin cfg0.N)

/-- The pair of heads of a point, -/
def pairOf : Fin 4 := ⟨t.val / 8, by have := lt_of_lt_of_eq t.isLt N_0; omega⟩
/-- and its tile of keys. -/
def tileOf : Fin 8 := ⟨t.val % 8, by omega⟩

/-- The second coordinate of a point is its tile of keys, -/
theorem tile_of : ∀ t : Fin cfg0.N, (grid0.coords t 1).val = t.val % 8 :=
  (by decide +kernel : ∀ t : Fin grid0.N, (grid0.coords t 1).val = t.val % 8)
/-- and the first its pair of heads. -/
theorem pair_of : ∀ t : Fin cfg0.N, (grid0.coords t 0).val = t.val / 8 :=
  (by decide +kernel : ∀ t : Fin grid0.N, (grid0.coords t 0).val = t.val / 8)

/-- The gates of a tile's keys, of the first head of the point's pair -/
def gateA : FVec Ideal S1x512 .f32 := k0_pay119 (grid0.coords t) (iblk m c 7 t)
/-- and of the second. -/
def gateB : FVec Ideal S1x512 .f32 := k0_pay121 (k0_pay120 (grid0.coords t) (iblk m c 7 t))

/-- Every window's block at every point. -/
theorem idx : ∀ t : Fin cfg0.N, win0_0.index t = ![0, t.val / 8] ∧ win0_1.index t = ![0, t.val / 8, 0]
    ∧ win0_2.index t = ![t.val % 8, 4 + t.val / 8] ∧ win0_3.index t = ![t.val % 8, 8 + t.val / 8] ∧ win0_4.index t = ![0, t.val / 8]
    ∧ win0_5.index t = ![0, t.val / 8, 0] ∧ win0_6.index t = ![t.val / 8, 0, 0] ∧ win0_7.index t = ![t.val % 8, 0, 0]
    ∧ win0_8.index t = ![0, t.val / 8] ∧ win0_9.index t = ![t.val % 8, t.val / 8] ∧ win0_10.index t = ![t.val % 8, t.val / 8]
    ∧ win0_11.index t = ![0, 0] :=
  (by decide +kernel : ∀ t : Fin grid0.N, _)

theorem blk_q (r : Fin 4096) (l : Fin 128) : iblk m c 0 t (ix2 r l) = argQ m c (ix2 r (wideV (pairOf t) l)) := by
  unfold argQ; rw [partQ_at]
  blk_point [iblk, V, idx t, wideV, pairOf, wQ]
theorem blk_k (k : Fin 512) (l : Fin 128) : iblk m c 2 t (ix2 k l) = argK m c (ix2 (keyAt (tileOf t) k) (wideV (pairOf t) l)) := by
  unfold argK; rw [partK_at]
  blk_point [iblk, V, idx t, wideV, pairOf, keyAt, tileOf, wK]
theorem blk_v (k : Fin 512) (l : Fin 128) : iblk m c 3 t (ix2 k l) = argV m c (ix2 (keyAt (tileOf t) k) (wideV (pairOf t) l)) := by
  unfold argV; rw [partV_at]
  blk_point [iblk, V, idx t, wideV, pairOf, keyAt, tileOf, wV]
theorem blk_d (r : Fin 4096) (l : Fin 128) : iblk m c 4 t (ix2 r l) = argD m c (ix2 r (wideV (pairOf t) l)) := by
  blk_point [iblk, V, idx t, wideV, pairOf]
theorem blk_qt (b : Fin 8) (l : Fin 128) (k : Fin 512) : iblk m c 1 t (ix3 b l k) = V m c main_v63 (ix3 b (wQ (wideV (pairOf t) l)) k) := by
  blk_point [iblk, idx t, wideV, pairOf, wQ]
theorem blk_dt (b : Fin 8) (l : Fin 128) (k : Fin 512) : iblk m c 5 t (ix3 b l k) = V m c main_v65 (ix3 b (wideV (pairOf t) l) k) := by
  blk_point [iblk, idx t, wideV, pairOf]
theorem blk_s (r : Fin 4096) (l : Fin 128) : iblk m c 6 t (ix3 0 r l) = V m c main_v61 (ix3 (pairOf t) r l) := by
  blk_point [iblk, idx t, pairOf]
theorem blk_f (h : Fin 8) (k : Fin 512) : iblk m c 7 t (ix3 0 h k) = V m c main_v67 (ix3 (tileOf t) h k) := by
  blk_point [iblk, idx t, tileOf]

/-! ### The host's arrays by entries -/

theorem wideV_col (g : Fin 4) (n : Fin 2) (e : Fin 64) : wideV g (colV n e) = atV (headOf g n) e :=
  Fin.ext (by simp only [wideV, colV, atV, headOf]; omega)
theorem rowN_val (r : Fin 4096) : rowN r.val = r := Fin.ext (Nat.mod_eq_of_lt r.isLt)

theorem entry_qt_at (b : Fin 8) (l : Fin 1536) (k : Fin 512) : V m c main_v63 (ix3 b l k) = argW m c (ix2 (keyAt b k) l) := by
  rw [entry_qt]
  pointwise
  rfl
theorem entry_dt_at (b : Fin 8) (l : Fin 512) (k : Fin 512) : V m c main_v65 (ix3 b l k) = argD m c (ix2 (keyAt b k) l) := by
  rw [entry_dt]
  pointwise
  rfl
theorem entry_ft_at (b : Fin 8) (l : Fin 8) (k : Fin 512) : V m c main_v67 (ix3 b l k) = argF m c (ix2 (keyAt b k) l) := by
  rw [entry_ft]
  pointwise
  rfl
theorem stats_L (a b : FVec Ideal S8x4096 .f32) (g : Fin 4) (r : Fin 4096) (n : Fin 2) :
    statsT a b (ix3 g r (laneL n)) = a (ix2 (headOf g n) r) := Cert.KernelIdeal.BwdValue.stats_L a b g r n
theorem stats_D (a b : FVec Ideal S8x4096 .f32) (g : Fin 4) (r : Fin 4096) (n : Fin 2) :
    statsT a b (ix3 g r (laneD n)) = b (ix2 (headOf g n) r) := Cert.KernelIdeal.BwdValue.stats_D a b g r n

theorem atT_q (r : Fin 4096) (l : Fin 128) : atT (iblk m c 1 t) r.val l = argQ m c (ix2 r (wideV (pairOf t) l)) := by
  unfold atT argQ
  rw [blk_qt, entry_qt_at, partQ_at]
  refine congrArg (fun x => argW m c (ix2 x _)) ?_
  exact Fin.ext (by simp only [keyAt]; omega)
theorem atT_d (r : Fin 4096) (l : Fin 128) : atT (iblk m c 5 t) r.val l = argD m c (ix2 r (wideV (pairOf t) l)) := by
  unfold atT
  rw [blk_dt, entry_dt_at]
  refine congrArg (fun x => argD m c (ix2 x _)) ?_
  exact Fin.ext (by simp only [keyAt]; omega)

/-- A sum over the 128 columns of a pair of heads that keeps one of them. -/
theorem sum_half (n : Fin 2) (f g : Fin 128 → EReal) :
    ∑ l : Fin 128, (if l.val / 64 = n.val then f l else 0) * g l = ∑ e : Fin 64, f (colV n e) * g (colV n e) :=
  Cert.KernelIdeal.BwdValue.sum_half n f g

/-- The gates of a tile's keys, in powers of two. -/
theorem gate_at (n : Fin 2) (k : Fin 512) : gate (gateA m c t) (gateB m c t) n k
    = cE * argF m c (ix2 (keyAt (tileOf t) k) (headOf (pairOf t) n)) := by
  have hg : gates (iblk m c 7 t) (t.val / 8) n k = cE * argF m c (ix2 (keyAt (tileOf t) k) (headOf (pairOf t) n)) := by
    unfold gates
    refine congrArg (cE * ·) ?_
    rw [Finset.sum_eq_single (headOf (pairOf t) n)]
    · rw [if_pos (by simp only [headOf, pairOf]), blk_f, entry_ft_at]
    · intro h _ hn
      exact if_neg fun he => hn (Fin.ext (by simp only [headOf, pairOf]; exact he))
    · exact fun h => absurd (Finset.mem_univ _) h
  rw [← hg, ← pair_of t]
  unfold gate gateA gateB
  match n with
  | 0 => rw [if_pos rfl, gate_0]
  | 1 => rw [if_neg (by decide), gate_1]

end Cert.Kernel9Ideal.BwdValue

end
-- ==== Proof.FoxGrad.lean ====
module

public import proofs.«01_k».proof.Proof.FoxBlocks

/-! The kernel's terms on real arguments: on every tile of keys its weights are those of the softmax of the gated
    logits, and its gradients of scores are that softmax's. -/

@[expose] public section

set_option maxRecDepth 16384

noncomputable section

namespace Cert.Kernel9Ideal.BwdValue

open Cert.Kernel9Ideal Cert.Kernel9Ideal.Gen Cert.Gated
open Cert.Kernel9Ideal.Bwd (atT rowN colV headV laneL laneD gate score prob dprob dscore termV termK termQ termR cL cE cS cN)
open Cert.Attention (atV up coe_sum log_ne dweight)
open Cert.KernelIdeal.BwdValue (wideV keyAt headOf)
open Idealize.ShloMosaic Idealize.ShloMosaic.TcCoe Idealize.ShloMosaic.Tactic
open Idealize.SL.Sem

variable (m : (ℓ : Loc nD τ sig) → Buf (Elt Ideal) ℓ) (c : Dev nD) (t : Fin cfg0.N)

section real
variable (xq xk xv xd : S4096x512.Idx → ℝ) (xf : S4096x8.Idx → ℝ)
  (hq : argQ m c = up xq) (hk : argK m c = up xk) (hv : argV m c = up xv) (hd : argD m c = up xd) (hf : argF m c = up xf)

include hq hk hf in
theorem theM_real (h : Fin 8) (r : Fin 4096) : theM m c (ix2 h r) = ((top xq xk xf h r : ℝ) : EReal) := by
  unfold theM theL
  rw [hq, hk, hf, top_real]
include hq hk hf in
theorem theE_real (h : Fin 8) (r k : Fin 4096) : theE m c (ix3 h r k) = ((ex xq xk xf h r k : ℝ) : EReal) := by
  have hM := theM_real m c xq xk xf hq hk hf h r
  unfold theE theL
  rw [hq, hk, hf]
  exact ex_real xq xk xf h r k _ hM
include hq hk hf in
theorem theS_real (h : Fin 8) (r : Fin 4096) : theS m c (ix2 h r) = ((total xq xk xf h r : ℝ) : EReal) := by
  unfold theS
  exact sum_real xq xk xf h r _ (theE_real m c xq xk xf hq hk hf)

include hq hk hf in
theorem stat_lse (n : Fin 2) (r : Fin 4096) : iblk m c 6 t (ix3 0 r (laneL n)) = ((lse xq xk xf (headOf (pairOf t) n) r : ℝ) : EReal) := by
  rw [blk_s, entry_stats, stats_L, hf]
  exact lse_real xq xk xf _ r _ (theS_real m c xq xk xf hq hk hf) _ (theM_real m c xq xk xf hq hk hf _ r)
include hq hk hv hd hf in
theorem stat_delta (n : Fin 2) (r : Fin 4096) : iblk m c 6 t (ix3 0 r (laneD n)) = ((delta xq xk xv xd xf (headOf (pairOf t) n) r : ℝ) : EReal) := by
  rw [blk_s, entry_stats, stats_D, hv, hd]
  exact delta_real xq xk xv xd xf _ r _ _ (theE_real m c xq xk xf hq hk hf) (theS_real m c xq xk xf hq hk hf)

include hq hk hf in
theorem score_real (n : Fin 2) (r : ℕ) (k : Fin 512) : score (iblk m c 0 t) (iblk m c 2 t) (gateA m c t) (gateB m c t) n r k
    = (((logit xq xk xf (headOf (pairOf t) n) (rowN r) (keyAt (tileOf t) k) - xf (ix2 (rowN r) (headOf (pairOf t) n))) / Real.log 2 : ℝ) : EReal) := by
  have hr : (logit xq xk xf (headOf (pairOf t) n) (rowN r) (keyAt (tileOf t) k) - xf (ix2 (rowN r) (headOf (pairOf t) n))) / Real.log 2
      = (∑ e, xq (ix2 (rowN r) (atV (headOf (pairOf t) n) e)) * (8 * Real.log 2)⁻¹ * xk (ix2 (keyAt (tileOf t) k) (atV (headOf (pairOf t) n) e)))
        - (Real.log 2)⁻¹ * xf (ix2 (keyAt (tileOf t) k) (headOf (pairOf t) n)) := by
    have hs : ∑ e, xq (ix2 (rowN r) (atV (headOf (pairOf t) n) e)) * (8 * Real.log 2)⁻¹ * xk (ix2 (keyAt (tileOf t) k) (atV (headOf (pairOf t) n) e))
        = (∑ e, xq (ix2 (rowN r) (atV (headOf (pairOf t) n) e)) * xk (ix2 (keyAt (tileOf t) k) (atV (headOf (pairOf t) n) e))) * (8 * Real.log 2)⁻¹ := by
      rw [Finset.sum_mul]
      exact Finset.sum_congr rfl fun e _ => by ring
    have := log_ne
    rw [hs]
    unfold logit
    field_simp
    ring
  unfold score
  rw [hr, gate_at, hf, EReal.coe_sub, coe_sum]
  refine congrArg₂ (fun a b : EReal => a - b) ((sum_half n (fun l => (show EReal from iblk m c 0 t (ix2 (rowN r) l)) * cL) (fun l => iblk m c 2 t (ix2 k l))).trans
    (Finset.sum_congr rfl fun e _ => ?_)) ?_
  · rw [blk_q, blk_k, wideV_col, hq, hk, EReal.coe_mul, EReal.coe_mul]
    rfl
  · rw [EReal.coe_mul]
    rfl

include hq hk hf in
theorem prob_real (n : Fin 2) (r : Fin 4096) (k : Fin 512) : prob (iblk m c 0 t) (iblk m c 2 t) (iblk m c 6 t) (gateA m c t) (gateB m c t) (t.val % 8) n r.val k
    = ((weight xq xk xf (headOf (pairOf t) n) r (keyAt (tileOf t) k) : ℝ) : EReal) := by
  have hle : 512 * (t.val % 8) + k.val ≤ r.val ↔ (keyAt (tileOf t) k).val ≤ r.val := by
    simp only [keyAt, tileOf]; omega
  unfold prob
  rw [score_real m c t xq xk xf hq hk hf, rowN_val, stat_lse m c t xq xk xf hq hk hf]
  by_cases hc : (keyAt (tileOf t) k).val ≤ r.val
  · rw [if_pos (hle.mpr hc), ← EReal.coe_sub, Ideal.exp2_coe, weight_exp2 _ _ _ _ _ _ hc]
  · rw [if_neg (fun h => hc (hle.mp h)), EReal.bot_sub, Ideal.exp2_bot, weight_late _ _ _ _ _ _ hc, EReal.coe_zero]

include hv hd in
theorem dprob_real (n : Fin 2) (r : ℕ) (k : Fin 512) : dprob (iblk m c 3 t) (iblk m c 4 t) n r k
    = ((dweight xv xd (headOf (pairOf t) n) (rowN r) (keyAt (tileOf t) k) : ℝ) : EReal) := by
  unfold dprob dweight
  rw [sum_half n (fun l => iblk m c 4 t (ix2 (rowN r) l)) (fun l => iblk m c 3 t (ix2 k l)), coe_sum]
  refine Finset.sum_congr rfl fun e _ => ?_
  rw [blk_d, blk_v, wideV_col, hv, hd, EReal.coe_mul]
  rfl

include hq hk hv hd hf in
theorem dscore_real (n : Fin 2) (r : Fin 4096) (k : Fin 512) :
    dscore (iblk m c 0 t) (iblk m c 2 t) (iblk m c 3 t) (iblk m c 4 t) (iblk m c 6 t) (gateA m c t) (gateB m c t) (t.val % 8) n r.val k
      = ((dlogit xq xk xv xd xf (headOf (pairOf t) n) r (keyAt (tileOf t) k) : ℝ) : EReal) := by
  unfold dscore dlogit
  rw [prob_real m c t xq xk xf hq hk hf, dprob_real m c t xv xd hv hd, rowN_val, stat_delta m c t xq xk xv xd xf hq hk hv hd hf, EReal.coe_mul, EReal.coe_sub]

/-- The gradients of the scores are real numbers at every point. -/
def RealScores (c : Dev nD) : Prop := ∀ (t : Fin cfg0.N) (n : Fin 2) (r : ℕ) (k : Fin 512), ∃ x : ℝ,
  dscore (iblk m c 0 t) (iblk m c 2 t) (iblk m c 3 t) (iblk m c 4 t) (iblk m c 6 t) (gateA m c t) (gateB m c t) (t.val % 8) n r k = x

include hq hk hv hd hf in
theorem real_scores : RealScores m c := by
  intro t n r k
  have hp : ∃ x : ℝ, prob (iblk m c 0 t) (iblk m c 2 t) (iblk m c 6 t) (gateA m c t) (gateB m c t) (t.val % 8) n r k = x := by
    unfold prob
    rw [score_real m c t xq xk xf hq hk hf, stat_lse m c t xq xk xf hq hk hf]
    split
    · rw [← EReal.coe_sub, Ideal.exp2_coe]
      exact ⟨_, rfl⟩
    · rw [EReal.bot_sub, Ideal.exp2_bot]
      exact ⟨0, EReal.coe_zero.symm⟩
  obtain ⟨p, hp⟩ := hp
  unfold dscore
  rw [hp, dprob_real m c t xv xd hv hd, stat_delta m c t xq xk xv xd xf hq hk hv hd hf, ← EReal.coe_sub, ← EReal.coe_mul]
  exact ⟨_, rfl⟩

include hq hk hd hf in
theorem termV_real (n : Fin 2) (e : Fin 64) (k : Fin 512) (r : Fin 4096) :
    termV (iblk m c 0 t) (iblk m c 2 t) (iblk m c 5 t) (iblk m c 6 t) (gateA m c t) (gateB m c t) (t.val % 8) n e k r.val
      = ((xd (ix2 r (atV (headOf (pairOf t) n) e)) * weight xq xk xf (headOf (pairOf t) n) r (keyAt (tileOf t) k) : ℝ) : EReal) := by
  unfold termV
  rw [atT_d, wideV_col, hd, prob_real m c t xq xk xf hq hk hf, EReal.coe_mul]
  rfl

include hq hk hv hd hf in
theorem termK_real (n : Fin 2) (f : Fin 64) (k : Fin 512) (r : Fin 4096) :
    termK (iblk m c 0 t) (iblk m c 1 t) (iblk m c 2 t) (iblk m c 3 t) (iblk m c 4 t) (iblk m c 6 t) (gateA m c t) (gateB m c t) (t.val % 8) n f k r.val
      = ((xq (ix2 r (atV (headOf (pairOf t) n) f)) * (8 * Real.log 2)⁻¹
          * dlogit xq xk xv xd xf (headOf (pairOf t) n) r (keyAt (tileOf t) k) : ℝ) : EReal) := by
  unfold termK
  rw [atT_q, wideV_col, dscore_real m c t xq xk xv xd xf hq hk hv hd hf, hq, EReal.coe_mul, EReal.coe_mul]
  rfl

theorem col_split (l : Fin 128) : colV (headV l) (⟨l.val % 64, by omega⟩ : Fin 64) = l := Fin.ext (by simp only [colV, headV]; omega)

include hq hk hv hd hf in
theorem termQ_real (r : Fin 4096) (l : Fin 128) :
    termQ (iblk m c 0 t) (iblk m c 2 t) (iblk m c 3 t) (iblk m c 4 t) (iblk m c 6 t) (gateA m c t) (gateB m c t) (t.val % 8) r.val l
      = ((∑ k : Fin 512, dlogit xq xk xv xd xf (headOf (pairOf t) (headV l)) r (keyAt (tileOf t) k) * 8⁻¹
          * xk (ix2 (keyAt (tileOf t) k) (wideV (pairOf t) l)) : ℝ) : EReal) := by
  have hr : (∑ k : Fin 512, dlogit xq xk xv xd xf (headOf (pairOf t) (headV l)) r (keyAt (tileOf t) k) * 8⁻¹
        * xk (ix2 (keyAt (tileOf t) k) (wideV (pairOf t) l)))
      = (∑ k : Fin 512, dlogit xq xk xv xd xf (headOf (pairOf t) (headV l)) r (keyAt (tileOf t) k)
        * xk (ix2 (keyAt (tileOf t) k) (wideV (pairOf t) l))) * 8⁻¹ := by
    rw [Finset.sum_mul]
    exact Finset.sum_congr rfl fun k _ => by ring
  unfold termQ cS
  rw [hr, EReal.coe_mul, coe_sum, bits_eighth]
  refine congrArg (· * ((8⁻¹ : ℝ) : EReal)) (Finset.sum_congr rfl fun k _ => ?_)
  rw [dscore_real m c t xq xk xv xd xf hq hk hv hd hf, blk_k, hk, EReal.coe_mul]
  rfl

include hq hk hv hd hf in
theorem rowSum_real (n : Fin 2) (r : Fin 4096) :
    ∑ k : Fin 512, dscore (iblk m c 0 t) (iblk m c 2 t) (iblk m c 3 t) (iblk m c 4 t) (iblk m c 6 t) (gateA m c t) (gateB m c t) (t.val % 8) n r.val k
      = ((∑ k : Fin 512, dlogit xq xk xv xd xf (headOf (pairOf t) n) r (keyAt (tileOf t) k) : ℝ) : EReal) := by
  rw [coe_sum]
  exact Finset.sum_congr rfl fun k _ => dscore_real m c t xq xk xv xd xf hq hk hv hd hf n r k
end real

end Cert.Kernel9Ideal.BwdValue

end
-- ==== Proof.FoxData.lean ====
module

public import proofs.«01_k».proof.Proof.FoxSteps
public import proofs.«01_k».proof.Proof.FoxGrad

/-! What the backward launch of the attention with gates holds, block by block of the grid: the four output blocks
    after each point, and the launch's data. -/

@[expose] public section

set_option maxRecDepth 16384

noncomputable section

namespace Cert.Kernel9Ideal.BwdValue

open Cert.Kernel9Ideal.Gen
open Cert.Kernel9Ideal.Bwd (dscore)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Point `n` of the grid's 32. -/
def point (n : ℕ) : Fin cfg0.N := ⟨n % 32, lt_of_lt_of_eq (Nat.mod_lt _ (by norm_num)) N_0.symm⟩

theorem point_val (t : Fin cfg0.N) : point t.val = t :=
  Fin.ext (Nat.mod_eq_of_lt (lt_of_lt_of_eq t.isLt N_0))

/-- The gradient of the queries after point `n`, from what its block held before it, -/
def stepQ (c : Dev nD) (n : ℕ) (d : FVec Ideal S4096x128 .f32) : FVec Ideal S4096x128 .f32 := outQ (iblk m c 0 (point n)) (iblk m c 2 (point n)) (iblk m c 3 (point n)) (iblk m c 4 (point n)) (iblk m c 6 (point n)) (gateA m c (point n)) (gateB m c (point n)) (n % 8) d
/-- and from the start of the grid; -/
def accQ (c : Dev nD) : ℕ → FVec Ideal S4096x128 .f32
  | 0 => stepQ m c 0 fun _ => (0 : EReal)
  | n + 1 => stepQ m c (n + 1) (accQ c n)
/-- and likewise that of the gates. -/
def stepF (c : Dev nD) (n : ℕ) (d : FVec Ideal S4096x128 .f32) : FVec Ideal S4096x128 .f32 := outF (iblk m c 0 (point n)) (iblk m c 2 (point n)) (iblk m c 3 (point n)) (iblk m c 4 (point n)) (iblk m c 6 (point n)) (gateA m c (point n)) (gateB m c (point n)) (n / 8) (n % 8) d
def accF (c : Dev nD) : ℕ → FVec Ideal S4096x128 .f32
  | 0 => stepF m c 0 fun _ => (0 : EReal)
  | n + 1 => stepF m c (n + 1) (accF c n)

/-- On the first tile nothing of the block's contents is kept, -/
theorem stepQ_first (c : Dev nD) (n : ℕ) (hn : n % 8 = 0) (d d' : FVec Ideal S4096x128 .f32) : stepQ m c n d = stepQ m c n d' := by
  unfold stepQ outQ; rw [hn]; funext y; simp only [if_pos]
/-- and of the gates' block on the very first. -/
theorem stepF_first (c : Dev nD) (d d' : FVec Ideal S4096x128 .f32) : stepF m c 0 d = stepF m c 0 d' := by
  have h : (0 / 8 = 0 ∧ 0 % 8 = 0) := by decide
  unfold stepF outF; funext y; simp only [if_pos h, and_self, if_true]

/-- The launch's data: arrays as the region finds them, inputs left in place, the outputs by the body. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => accQ m c t.val
    | ⟨9, _⟩ => outK (iblk m c 0 t) (iblk m c 1 t) (iblk m c 2 t) (iblk m c 3 t) (iblk m c 4 t) (iblk m c 6 t) (gateA m c t) (gateB m c t) (t.val % 8)
    | ⟨10, _⟩ => outV (iblk m c 0 t) (iblk m c 2 t) (iblk m c 5 t) (iblk m c 6 t) (gateA m c t) (gateB m c t) (t.val % 8)
    | ⟨11, _⟩ => accF m c t.val
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = accQ m c t.val := by dsimp only [dats]
theorem after_9 (c : Dev nD) (t : Fin cfg0.N) : (dats m 0 c).after 9 t = outK (iblk m c 0 t) (iblk m c 1 t) (iblk m c 2 t) (iblk m c 3 t) (iblk m c 4 t) (iblk m c 6 t) (gateA m c t) (gateB m c t) (t.val % 8) := by dsimp only [dats]
theorem after_10 (c : Dev nD) (t : Fin cfg0.N) : (dats m 0 c).after 10 t = outV (iblk m c 0 t) (iblk m c 2 t) (iblk m c 5 t) (iblk m c 6 t) (gateA m c t) (gateB m c t) (t.val % 8) := by dsimp only [dats]
theorem after_11 (c : Dev nD) (t : Fin cfg0.N) : (dats m 0 c).after 11 t = accF m c t.val := by dsimp only [dats]

theorem fetch_8 (t : Fin cfg0.N) : (cfg0.win 8).fetch t = false := rfl
theorem fetch_11 (t : Fin cfg0.N) : (cfg0.win 11).fetch t = false := rfl

/-- What the body leaves in the block of the gradient of the queries, -/
theorem stepQ_of (c : Dev nD) (t : Fin cfg0.N) (d : FVec Ideal S4096x128 .f32) :
    outQ (iblk m c 0 t) (iblk m c 2 t) (iblk m c 3 t) (iblk m c 4 t) (iblk m c 6 t) (gateA m c t) (gateB m c t) (t.val % 8) ((dats m 0 c).before 8 t d) = accQ m c t.val := by
  have hs : ∀ d, outQ (iblk m c 0 t) (iblk m c 2 t) (iblk m c 3 t) (iblk m c 4 t) (iblk m c 6 t) (gateA m c t) (gateB m c t) (t.val % 8) d = stepQ m c t.val d := fun d => by
    unfold stepQ; rw [point_val]
  rw [hs]
  by_cases h8 : t.val % 8 = 0
  · generalize t.val = n at h8
    cases n with
    | zero => exact stepQ_first m c 0 rfl _ _
    | succ n => exact stepQ_first m c (n + 1) h8 _ _
  · have h0 : t.val ≠ 0 := fun h => h8 (by rw [h])
    have hb : (dats m 0 c).before 8 t d = accQ m c (t.val - 1) := by
      rw [(dats m 0 c).before_of_pos 8 t h0 (fetch_8 t) d, if_neg (fun hf => by have := (flush0_8 _).mp hf; dsimp only at this; omega)]
      exact after_8 m c _
    rw [hb]
    obtain ⟨n, hn⟩ := Nat.exists_eq_succ_of_ne_zero h0
    rw [hn]; rfl

/-- and in that of the gates. -/
theorem stepF_of (c : Dev nD) (t : Fin cfg0.N) (d : FVec Ideal S4096x128 .f32) :
    outF (iblk m c 0 t) (iblk m c 2 t) (iblk m c 3 t) (iblk m c 4 t) (iblk m c 6 t) (gateA m c t) (gateB m c t) (t.val / 8) (t.val % 8) ((dats m 0 c).before 11 t d) = accF m c t.val := by
  have hs : ∀ d, outF (iblk m c 0 t) (iblk m c 2 t) (iblk m c 3 t) (iblk m c 4 t) (iblk m c 6 t) (gateA m c t) (gateB m c t) (t.val / 8) (t.val % 8) d = stepF m c t.val d := fun d => by
    unfold stepF; rw [point_val]
  rw [hs]
  by_cases h0 : t.val = 0
  · rw [h0]; exact stepF_first m c _ _
  · have hb : (dats m 0 c).before 11 t d = accF m c (t.val - 1) := by
      rw [(dats m 0 c).before_of_pos 11 t h0 (fetch_11 t) d,
        if_neg (fun hf => by have := (flush0_11 _).mp hf; dsimp only at this; have := lt_of_lt_of_eq t.isLt N_0; omega)]
      exact after_11 m c _
    rw [hb]
    obtain ⟨n, hn⟩ := Nat.exists_eq_succ_of_ne_zero h0
    rw [hn]; rfl

end Cert.Kernel9Ideal.BwdValue

end
-- ==== Proof.FoxRun.lean ====
module

public import proofs.«01_k».proof.Proof.FoxBody
public import proofs.«01_k».proof.Proof.FoxData

/-! The value run of the backward call of the attention with gates: the body meets the launch's data at
    every point. -/

@[expose] public section

set_option maxRecDepth 16384

noncomputable section

namespace Cert.Kernel9Ideal.BwdValue

open Cert.Kernel9Ideal.Gen
open Cert.Kernel9Ideal.Bwd (dscore)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the launch hands the body at a point, -/
def given (c : Dev nD) (t : Fin cfg0.N) : sProp 𝕄 :=
  iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare ((dats m 0 c).before 7 t d))
      ∗ (∃ d, owns (c : Thread nD τ) (win0_8.stage (cfg0.slots t 8)) fullShare ((dats m 0 c).before 8 t d))
      ∗ (∃ d, owns (c : Thread nD τ) (win0_9.stage (cfg0.slots t 9)) fullShare ((dats m 0 c).before 9 t d))
      ∗ (∃ d, owns (c : Thread nD τ) (win0_10.stage (cfg0.slots t 10)) fullShare ((dats m 0 c).before 10 t d))
      ∗ (∃ d, owns (c : Thread nD τ) (win0_11.stage (cfg0.slots t 11)) fullShare ((dats m 0 c).before 11 t d)))

/-- and what it takes back. -/
def returned (c : Dev nD) (t : Fin cfg0.N) : sProp 𝕄 :=
  iprop((dats m 0 c).Φ t.succ ∗ (dats m 0 c).owesAt () t.succ
      ∗ owns (c : Thread nD τ) (win0_0.stage (cfg0.slots t 0)) fullShare ((dats m 0 c).after 0 t)
      ∗ owns (c : Thread nD τ) (win0_1.stage (cfg0.slots t 1)) fullShare ((dats m 0 c).after 1 t)
      ∗ owns (c : Thread nD τ) (win0_2.stage (cfg0.slots t 2)) fullShare ((dats m 0 c).after 2 t)
      ∗ owns (c : Thread nD τ) (win0_3.stage (cfg0.slots t 3)) fullShare ((dats m 0 c).after 3 t)
      ∗ owns (c : Thread nD τ) (win0_4.stage (cfg0.slots t 4)) fullShare ((dats m 0 c).after 4 t)
      ∗ owns (c : Thread nD τ) (win0_5.stage (cfg0.slots t 5)) fullShare ((dats m 0 c).after 5 t)
      ∗ owns (c : Thread nD τ) (win0_6.stage (cfg0.slots t 6)) fullShare ((dats m 0 c).after 6 t)
      ∗ owns (c : Thread nD τ) (win0_7.stage (cfg0.slots t 7)) fullShare ((dats m 0 c).after 7 t)
      ∗ owns (c : Thread nD τ) (win0_8.stage (cfg0.slots t 8)) fullShare ((dats m 0 c).after 8 t)
      ∗ owns (c : Thread nD τ) (win0_9.stage (cfg0.slots t 9)) fullShare ((dats m 0 c).after 9 t)
      ∗ owns (c : Thread nD τ) (win0_10.stage (cfg0.slots t 10)) fullShare ((dats m 0 c).after 10 t)
      ∗ owns (c : Thread nD τ) (win0_11.stage (cfg0.slots t 11)) fullShare ((dats m 0 c).after 11 t))

set_option maxHeartbeats 1600000 in
theorem body_point (c : Dev nD) (hfin : RealScores m c) (t : Fin cfg0.N) :
    given m c t ⊢ wp frame (wpE (defs₀ (F := Ideal)) Variants.none c none) Set.univ (bodyAt0 t) (fun _ => returned m c t) := by
  unfold given returned bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [after_8, ← stepQ_of m c t d8, after_11, ← stepF_of m c t d11]
  have hf := hfin t
  rw [← tile_of t] at hf
  rw [← tile_of t, ← pair_of t]
  iapply (body_value (iblk m c 0 t) (iblk m c 1 t) (iblk m c 2 t) (iblk m c 3 t) (iblk m c 4 t) (iblk m c 5 t) (iblk m c 6 t) (iblk m c 7 t) c (grid0.coords t) _ _ _ _ _ _ _ _ _ _ _ _ _ _ _ _ _ _ _ _ _ _ _ _ hf ((dats m 0 c).before 8 t d8) ((dats m 0 c).before 11 t d11) Set.univ _)
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem obligation (c : Dev nD) (hfin : RealScores m c) : BodyObligation (dats m 0 c) (defs₀ (F := Ideal)) Variants.none () Set.univ := fun t => by
  rw [bigSep_W0, bigSep_W0, Cert.Kernel9Ideal.Bwd.body_row]
  exact triple_restated (body_point m c hfin t) rfl .rfl fun _ => .rfl

-- the launch theorem's implicit arguments are found by unfolding plain definitions in a type
set_option backward.isDefEq.respectTransparency.types false in
/-- The launch ends with every array as the data say and every counter at zero. -/
theorem launched (hfin : ∀ c, RealScores m c) : θ_run defs (onTc (τ := τ) (main (F := Ideal))) (s₀ m ρ) (fun r =>
    Pipeline.FramePost cfgs (dats m) (0 : Fin 1) (V m) r ∧ r.2.sem = fun _ => 0) :=
  Pipeline.θ_run_frame_shared cfgs (dats m) (0 : Fin 1) launch₀0 defs₀ Variants.none m ρ main
    (hbody := fun c => (obligation m c (hfin c)).loose) (hq := fun _ _ _ => rfl)
    (howed := fun _ _ => rfl) (V := V m) (hmain := hmain m Variants.none) (hA := A_eq m) (hΦ := fun _ _ => rfl)
    (Q' := fun r => Pipeline.FramePost cfgs (dats m) (0 : Fin 1) (V m) r ∧ r.2.sem = fun _ => 0) (hQ' := fun _ h => h)

end Cert.Kernel9Ideal.BwdValue

end
-- ==== Proof.FoxFinal.lean ====
module

public import proofs.«01_k».proof.Proof.FoxData
public import proofs.«01_k».proof.Proof.Final

/-! The four result arrays of the backward launch of the attention with gates on real arguments: the gradients of the
    queries, of the keys, of the values and of the gates, from the softmax's weights and its gradients of the logits. -/

@[expose] public section

set_option maxRecDepth 16384

noncomputable section

namespace Cert.Kernel9Ideal.BwdValue

open Cert.Kernel9Ideal Cert.Kernel9Ideal.Gen Cert.Gated
open Cert.Kernel9Ideal.Bwd (rowN colV headV dscore termV termK termQ termR cN)
open Cert.Attention (atV up log_ne dweight)
open Cert.KernelIdeal.BwdValue (wideV keyAt headOf sum_from)
open Cert.ReferenceIdeal.Attention (gradV)
open Cert.Attention (gradV_at)
open Cert.Reference9Ideal.Attention (gradQ gradK gradF)
open Idealize.ShloMosaic Idealize.ShloMosaic.TcCoe Idealize.ShloMosaic.Tactic
open Idealize.SL.Sem

variable (m : (ℓ : Loc nD τ sig) → Buf (Elt Ideal) ℓ) (c : Dev nD) (t : Fin cfg0.N)

theorem wideV_split (g : Fin 4) (l : Fin 128) : wideV g l = atV (headOf g (headV l)) (inV l) := by
  rw [← wideV_col]
  exact congrArg (wideV g) (Fin.ext (by simp only [colV, headV, inV]; omega))

section text
variable (x0 : FVec Ideal S4096x128 .bf16) (x1 : FVec Ideal S8x128x512 .bf16) (x2 : FVec Ideal S512x128 .bf16)
  (x3 : FVec Ideal S512x128 .bf16) (x4 : FVec Ideal S4096x128 .bf16) (x5 : FVec Ideal S8x128x512 .bf16)
  (x6 : FVec Ideal S1x4096x128 .f32) (a b : FVec Ideal S1x512 .f32) (g j : ℕ)

theorem outV_at (k : Fin 512) (l : Fin 128) : outV x0 x2 x5 x6 a b j (ix2 k l)
    = ∑ r ∈ Finset.Ico (512 * j) 4096, termV x0 x2 x5 x6 a b j (headV l) (inV l) k r := rfl
theorem outK_at (k : Fin 512) (l : Fin 128) : outK x0 x1 x2 x3 x4 x6 a b j (ix2 k l)
    = (∑ r ∈ Finset.Ico (512 * j) 4096, termK x0 x1 x2 x3 x4 x6 a b j (headV l) (inV l) k r) * cN := rfl
theorem outQ_at (d : FVec Ideal S4096x128 .f32) (r : Fin 4096) (l : Fin 128) : outQ x0 x2 x3 x4 x6 a b j d (ix2 r l)
    = (if j = 0 then 0 else d (ix2 r l)) + if 512 * j ≤ r.val then termQ x0 x2 x3 x4 x6 a b j r.val l else 0 := rfl
theorem outF_at (d : FVec Ideal S4096x128 .f32) (r : Fin 4096) (l : Fin 128) : outF x0 x2 x3 x4 x6 a b g j d (ix2 r l)
    = ((if g = 0 ∧ j = 0 then 0 else d (ix2 r l)) + if 512 * j ≤ r.val then termR x0 x2 x3 x4 x6 a b g j r.val l else 0)
      + if 512 * j ≤ r.val ∧ r.val < 512 * j + 512 then ownT x0 x2 x3 x4 x6 a b g j r.val l else 0 := rfl
end text

section real
variable (xq xk xv xd : S4096x512.Idx → ℝ) (xf : S4096x8.Idx → ℝ)
  (hq : argQ m c = up xq) (hk : argK m c = up xk) (hv : argV m c = up xv) (hd : argD m c = up xd) (hf : argF m c = up xf)
  (G P : FVec Ideal S8x4096x4096 .f32)
  (hG : ∀ h r k, G (ix3 h r k) = ((dlogit xq xk xv xd xf h r k : ℝ) : EReal))
  (hP : ∀ h r k, P (ix3 h r k) = ((weight xq xk xf h r k : ℝ) : EReal))

include hq hk hd hf hP in
theorem outV_real (k : Fin 512) (l : Fin 128) : outV (iblk m c 0 t) (iblk m c 2 t) (iblk m c 5 t) (iblk m c 6 t) (gateA m c t) (gateB m c t) (t.val % 8) (ix2 k l)
    = gradV P (argD m c) (ix2 (keyAt (tileOf t) k) (wideV (pairOf t) l)) := by
  rw [wideV_split, gradV_at]
  rw [outV_at, sum_from _ _ (fun r => xd (ix2 r (atV (headOf (pairOf t) (headV l)) (inV l))) * weight xq xk xf (headOf (pairOf t) (headV l)) r (keyAt (tileOf t) k))
    (fun r => termV_real m c t xq xk xd xf hq hk hd hf _ _ _ r)
    (fun r hr => by rw [weight_late _ _ _ _ _ _ (by simp only [keyAt, tileOf]; omega), mul_zero]), Cert.Attention.coe_sum]
  refine Finset.sum_congr rfl fun r _ => ?_
  rw [hP, hd, EReal.coe_mul]
  rfl

include hq hk hv hd hf hG in
theorem outK_real (k : Fin 512) (l : Fin 128) :
    outK (iblk m c 0 t) (iblk m c 1 t) (iblk m c 2 t) (iblk m c 3 t) (iblk m c 4 t) (iblk m c 6 t) (gateA m c t) (gateB m c t) (t.val % 8) (ix2 k l)
      = gradK G (argQ m c) (ix2 (keyAt (tileOf t) k) (wideV (pairOf t) l)) := by
  have hr : (∑ r, xq (ix2 r (atV (headOf (pairOf t) (headV l)) (inV l))) * (8 * Real.log 2)⁻¹
        * dlogit xq xk xv xd xf (headOf (pairOf t) (headV l)) r (keyAt (tileOf t) k)) * Real.log 2
      = ∑ r, dlogit xq xk xv xd xf (headOf (pairOf t) (headV l)) r (keyAt (tileOf t) k) * 8⁻¹
          * xq (ix2 r (atV (headOf (pairOf t) (headV l)) (inV l))) := by
    rw [Finset.sum_mul]
    refine Finset.sum_congr rfl fun r _ => ?_
    have := log_ne
    field_simp
  rw [wideV_split, gradK_at]
  rw [outK_at, sum_from _ _ (fun r => xq (ix2 r (atV (headOf (pairOf t) (headV l)) (inV l))) * (8 * Real.log 2)⁻¹
        * dlogit xq xk xv xd xf (headOf (pairOf t) (headV l)) r (keyAt (tileOf t) k))
    (fun r => termK_real m c t xq xk xv xd xf hq hk hv hd hf _ _ _ r)
    (fun r hr => by rw [dlogit_late _ _ _ _ _ _ _ _ (by simp only [keyAt, tileOf]; omega), mul_zero])]
  unfold cN
  rw [← EReal.coe_mul, hr, Cert.Attention.coe_sum]
  refine Finset.sum_congr rfl fun r _ => ?_
  rw [hG, hq, EReal.coe_mul, EReal.coe_mul]
  rfl

theorem keyAt_row (k : Fin 512) : keyAt (tileOf t) k = rowN (t.val % 8 * 512 + k.val) :=
  Fin.ext (by simp only [keyAt, tileOf, rowN]; omega)

/-! ### The gradient of the queries -/

/-- What tile `j` of keys adds to the gradient of the queries of a pair of heads. -/
def addQ (g : Fin 4) (j : ℕ) (r : Fin 4096) (l : Fin 128) : ℝ :=
  ∑ k : Fin 512, dlogit xq xk xv xd xf (headOf g (headV l)) r (rowN (j * 512 + k.val)) * 8⁻¹
    * xk (ix2 (rowN (j * 512 + k.val)) (wideV g l))

include hq hk hv hd hf in
theorem stepQ_real (d : FVec Ideal S4096x128 .f32) (r : Fin 4096) (l : Fin 128) :
    stepQ m c t.val d (ix2 r l) = (if t.val % 8 = 0 then 0 else d (ix2 r l)) + ((addQ xq xk xv xd xf (pairOf t) (t.val % 8) r l : ℝ) : EReal) := by
  unfold stepQ
  rw [point_val, outQ_at]
  congr 1
  split
  · unfold addQ
    simp only [← keyAt_row]
    exact termQ_real m c t xq xk xv xd xf hq hk hv hd hf _ _
  · next hc =>
    unfold addQ
    rw [Finset.sum_eq_zero fun k _ => ?_, EReal.coe_zero]
    rw [← keyAt_row, dlogit_late _ _ _ _ _ _ _ _ (by simp only [keyAt, tileOf]; omega), zero_mul, zero_mul]

include hq hk hv hd hf in
theorem accQ_real (n : ℕ) (hn : n < 32) (r : Fin 4096) (l : Fin 128) :
    accQ m c n (ix2 r l) = ((∑ j ∈ Finset.range (n % 8 + 1), addQ xq xk xv xd xf ⟨n / 8, by omega⟩ j r l : ℝ) : EReal) := by
  induction n with
  | zero =>
    have h := stepQ_real m c ⟨0, lt_of_lt_of_eq hn N_0.symm⟩ xq xk xv xd xf hq hk hv hd hf (fun _ => 0) r l
    show stepQ m c 0 _ _ = _
    rw [h]
    simp [pairOf]
  | succ n ih =>
    have h := stepQ_real m c ⟨n + 1, lt_of_lt_of_eq hn N_0.symm⟩ xq xk xv xd xf hq hk hv hd hf (accQ m c n) r l
    show stepQ m c (n + 1) _ _ = _
    rw [h]
    by_cases h8 : (n + 1) % 8 = 0
    · simp [h8, pairOf]
    · rw [if_neg h8, ih (by omega), ← EReal.coe_add]
      have e1 : (n + 1) % 8 = n % 8 + 1 := by omega
      have e2 : (⟨(n + 1) / 8, by omega⟩ : Fin 4) = ⟨n / 8, by omega⟩ := Fin.ext (by simp only; omega)
      simp only [pairOf, e1, e2]
      rw [Finset.sum_range_succ _ (n % 8 + 1)]

include hq hk hv hd hf hG in
theorem outQ_real (ht : t.val % 8 = 7) (r : Fin 4096) (l : Fin 128) :
    accQ m c t.val (ix2 r l) = gradQ G (argK m c) (ix2 r (wideV (pairOf t) l)) := by
  rw [accQ_real m c xq xk xv xd xf hq hk hv hd hf t.val (lt_of_lt_of_eq t.isLt N_0), wideV_split, gradQ_at, ht,
    ← Fin.sum_univ_eq_sum_range (fun j => addQ xq xk xv xd xf ⟨t.val / 8, _⟩ j r l) 8, Fin.sum_univ_tiles 8 512 rfl, Cert.Attention.coe_sum]
  refine Finset.sum_congr rfl fun j _ => ?_
  unfold addQ
  rw [Cert.Attention.coe_sum]
  refine Finset.sum_congr rfl fun k _ => ?_
  rw [hG, hk, show rowN (j.val * 512 + k.val) = ⟨j.val * 512 + k.val, by omega⟩ from Fin.ext (by simp only [rowN]; omega), EReal.coe_mul, EReal.coe_mul, wideV_split]
  rfl

/-! ### The gradient of the gates -/

/-- The head of a lane. -/
def laneHead (l : Fin 128) : Fin 8 := ⟨l.val % 8, by omega⟩

/-- What tile `j` of pair `g` adds to the gradient of the gates: the gates of a query's own row, and those of the keys
    of the tile, only in the lanes of the pair's two heads. -/
def addF (g j : ℕ) (r : Fin 4096) (l : Fin 128) : ℝ :=
  if l.val / 2 = g then (∑ k : Fin 512, dlogit xq xk xv xd xf (laneHead l) r (rowN (j * 512 + k.val)))
    + (if r.val / 512 = j then ∑ r', -dlogit xq xk xv xd xf (laneHead l) r' r else 0) else 0

include hq hk hv hd hf in
theorem rows_real (n : Fin 2) (r : Fin 4096) : (if 512 * (t.val % 8) ≤ r.val then
      ∑ k : Fin 512, dscore (iblk m c 0 t) (iblk m c 2 t) (iblk m c 3 t) (iblk m c 4 t) (iblk m c 6 t) (gateA m c t) (gateB m c t) (t.val % 8) n r.val k else 0)
    = ((∑ k : Fin 512, dlogit xq xk xv xd xf (headOf (pairOf t) n) r (rowN (t.val % 8 * 512 + k.val)) : ℝ) : EReal) := by
  simp only [← keyAt_row]
  split
  · exact rowSum_real m c t xq xk xv xd xf hq hk hv hd hf n r
  · next hc =>
    rw [Finset.sum_eq_zero fun k _ => ?_, EReal.coe_zero]
    rw [dlogit_late _ _ _ _ _ _ _ _ (by simp only [keyAt, tileOf]; omega)]

include hq hk hv hd hf in
theorem own_real (n : Fin 2) (r : Fin 4096) (hr : r.val / 512 = t.val % 8) :
    ∑ r' ∈ Finset.Ico (512 * (t.val % 8)) 4096, -dscore (iblk m c 0 t) (iblk m c 2 t) (iblk m c 3 t) (iblk m c 4 t) (iblk m c 6 t) (gateA m c t) (gateB m c t) (t.val % 8) n r'
        ⟨r.val % 512, Nat.mod_lt _ (by norm_num)⟩
    = ((∑ r', -dlogit xq xk xv xd xf (headOf (pairOf t) n) r' r : ℝ) : EReal) := by
  have hk' : keyAt (tileOf t) ⟨r.val % 512, Nat.mod_lt _ (by norm_num)⟩ = r := Fin.ext (by simp only [keyAt, tileOf]; omega)
  refine sum_from _ _ (fun r' => -dlogit xq xk xv xd xf (headOf (pairOf t) n) r' r) (fun r' => ?_) (fun r' h => ?_)
  · rw [dscore_real m c t xq xk xv xd xf hq hk hv hd hf, hk', EReal.coe_neg]
  · rw [dlogit_late _ _ _ _ _ _ _ _ (by omega), neg_zero]

include hq hk hv hd hf in
theorem stepF_real (d : FVec Ideal S4096x128 .f32) (r : Fin 4096) (l : Fin 128) :
    stepF m c t.val d (ix2 r l) = (if t.val = 0 then 0 else d (ix2 r l)) + ((addF xq xk xv xd xf (t.val / 8) (t.val % 8) r l : ℝ) : EReal) := by
  have ht := lt_of_lt_of_eq t.isLt N_0
  have h0 : (t.val / 8 = 0 ∧ t.val % 8 = 0) ↔ t.val = 0 := by omega
  have hj : (512 * (t.val % 8) ≤ r.val ∧ r.val < 512 * (t.val % 8) + 512) ↔ r.val / 512 = t.val % 8 := by omega
  unfold stepF
  rw [point_val, outF_at, add_assoc]
  simp only [h0, hj]
  refine congrArg (fun e : EReal => (if t.val = 0 then 0 else d (ix2 r l)) + e) ?_
  unfold termR ownT
  have both (n : Fin 2) (hn : l.val = 2 * (t.val / 8) + n.val) : (if 512 * (t.val % 8) ≤ r.val then
        ∑ k : Fin 512, dscore (iblk m c 0 t) (iblk m c 2 t) (iblk m c 3 t) (iblk m c 4 t) (iblk m c 6 t) (gateA m c t) (gateB m c t) (t.val % 8) n r.val k else 0)
      + (if r.val / 512 = t.val % 8 then ∑ r' ∈ Finset.Ico (512 * (t.val % 8)) 4096, -dscore (iblk m c 0 t) (iblk m c 2 t) (iblk m c 3 t) (iblk m c 4 t) (iblk m c 6 t) (gateA m c t) (gateB m c t) (t.val % 8) n r'
        ⟨r.val % 512, Nat.mod_lt _ (by norm_num)⟩ else 0)
      = ((addF xq xk xv xd xf (t.val / 8) (t.val % 8) r l : ℝ) : EReal) := by
    have hh : laneHead l = headOf (pairOf t) n := Fin.ext (by simp only [laneHead, headOf, pairOf]; omega)
    unfold addF
    have e2 : l.val / 2 = t.val / 8 := by omega
    rw [if_pos e2, hh, EReal.coe_add, rows_real m c t xq xk xv xd xf hq hk hv hd hf n r]
    refine congrArg₂ (fun a b : EReal => a + b) rfl ?_
    split
    · next hr => exact own_real m c t xq xk xv xd xf hq hk hv hd hf n r hr
    · exact EReal.coe_zero.symm
  by_cases e0 : l.val = 2 * (t.val / 8)
  · simp only [if_pos e0]
    exact both 0 (by simpa using e0)
  · by_cases e1 : l.val = 2 * (t.val / 8) + 1
    · simp only [if_neg e0, if_pos e1]
      exact both 1 (by simpa using e1)
    · simp only [if_neg e0, if_neg e1]
      unfold addF
      have e2 : ¬l.val / 2 = t.val / 8 := by omega
      simp [e2]

include hq hk hv hd hf in
theorem accF_real (n : ℕ) (hn : n < 32) (r : Fin 4096) (l : Fin 128) :
    accF m c n (ix2 r l) = ((∑ s ∈ Finset.range (n + 1), addF xq xk xv xd xf (s / 8) (s % 8) r l : ℝ) : EReal) := by
  induction n with
  | zero =>
    have h := stepF_real m c ⟨0, lt_of_lt_of_eq hn N_0.symm⟩ xq xk xv xd xf hq hk hv hd hf (fun _ => 0) r l
    show stepF m c 0 _ _ = _
    rw [h]
    simp
  | succ n ih =>
    have h := stepF_real m c ⟨n + 1, lt_of_lt_of_eq hn N_0.symm⟩ xq xk xv xd xf hq hk hv hd hf (accF m c n) r l
    show stepF m c (n + 1) _ _ = _
    rw [h]
    rw [if_neg (Nat.succ_ne_zero n), ih (by omega), ← EReal.coe_add, Finset.sum_range_succ _ (n + 1)]

/-- All that the points add to a lane. -/
theorem sum_addF (r : Fin 4096) (l : Fin 128) : ∑ s ∈ Finset.range 32, addF xq xk xv xd xf (s / 8) (s % 8) r l
    = if l.val < 8 then (∑ r', -dlogit xq xk xv xd xf (laneHead l) r' r) + ∑ k, dlogit xq xk xv xd xf (laneHead l) r k else 0 := by
  rw [← Fin.sum_univ_eq_sum_range (fun s => addF xq xk xv xd xf (s / 8) (s % 8) r l) 32, Fin.sum_univ_tiles 4 8 rfl]
  have hs (g : Fin 4) (j : Fin 8) : addF xq xk xv xd xf ((g.val * 8 + j.val) / 8) ((g.val * 8 + j.val) % 8) r l = addF xq xk xv xd xf g.val j.val r l := by
    rw [show (g.val * 8 + j.val) / 8 = g.val by omega, show (g.val * 8 + j.val) % 8 = j.val by omega]
  simp only [hs]
  by_cases hl : l.val < 8
  · rw [if_pos hl, Finset.sum_eq_single (⟨l.val / 2, by omega⟩ : Fin 4)]
    · unfold addF
      simp only [if_true]
      rw [Finset.sum_add_distrib, add_comm]
      refine congrArg₂ (· + ·) ?_ ?_
      · rw [Finset.sum_eq_single (⟨r.val / 512, by omega⟩ : Fin 8)]
        · rw [if_pos rfl]
        · exact fun j _ hj => if_neg fun h => hj (Fin.ext h.symm)
        · exact fun h => absurd (Finset.mem_univ _) h
      · rw [Fin.sum_univ_tiles 8 512 rfl (f := fun k => dlogit xq xk xv xd xf (laneHead l) r k)]
        refine Finset.sum_congr rfl fun j _ => Finset.sum_congr rfl fun k _ => ?_
        exact congrArg _ (Fin.ext (by simp only [rowN]; omega))
    · intro g _ hg
      refine Finset.sum_eq_zero fun j _ => ?_
      unfold addF
      exact if_neg fun h => hg (Fin.ext h.symm)
    · exact fun h => absurd (Finset.mem_univ _) h
  · rw [if_neg hl]
    refine Finset.sum_eq_zero fun g _ => Finset.sum_eq_zero fun j _ => ?_
    unfold addF
    exact if_neg (by omega)

include hq hk hv hd hf hG in
theorem outF_real (ht : t.val % 32 = 31) (r : Fin 4096) (l : Fin 128) : accF m c t.val (ix2 r l) = gradF G (ix2 r l) := by
  have hN := lt_of_lt_of_eq t.isLt N_0
  rw [accF_real m c xq xk xv xd xf hq hk hv hd hf t.val hN, show t.val + 1 = 32 by omega, sum_addF, gradF_at]
  by_cases hl : l.val < 8
  · have hh : laneHead l = ⟨l.val, hl⟩ := Fin.ext (Nat.mod_eq_of_lt hl)
    rw [if_pos hl, dif_pos hl, EReal.coe_add, Cert.Attention.coe_sum, Cert.Attention.coe_sum, hh]
    refine congrArg₂ (fun a b : EReal => a + b) (Finset.sum_congr rfl fun r' _ => ?_) (Finset.sum_congr rfl fun k _ => ?_)
    · rw [hG, EReal.coe_neg]
    · rw [hG]
  · rw [if_neg hl, dif_neg hl, EReal.coe_zero]

/-! ### The result arrays -/

include hq hk hv hd hf hG in
theorem final_q : (dats m 0 c).arrAt 8 (cfgs 0).N = gradQ G (argK m c) := by
  refine (dats m 0 c).arrAt_eq_of_covers 8 _ (by decide +kernel) fun t hf' y => ?_
  idx_vars y
  blk_simp
  rw [after_8]; frame_out
  rw [outQ_real m c t xq xk xv xd xf hq hk hv hd hf G hG ((flush0_8 t).mp hf')]
  generalize gradQ G (argK m c) = X
  blk_point [idx t, wideV, pairOf]

include hq hk hv hd hf hG in
theorem final_k : (dats m 0 c).arrAt 9 (cfgs 0).N = gradK G (argQ m c) := by
  refine (dats m 0 c).arrAt_eq_of_covers 9 _ (by decide +kernel) fun t hf' y => ?_
  idx_vars y
  blk_simp
  rw [after_9]; frame_out
  rw [outK_real m c t xq xk xv xd xf hq hk hv hd hf G hG]
  generalize gradK G (argQ m c) = X
  blk_point [idx t, wideV, pairOf, keyAt, tileOf]

include hq hk hd hf hP in
theorem final_v : (dats m 0 c).arrAt 10 (cfgs 0).N = gradV P (argD m c) := by
  refine (dats m 0 c).arrAt_eq_of_covers 10 _ (by decide +kernel) fun t hf' y => ?_
  idx_vars y
  blk_simp
  rw [after_10]; frame_out
  rw [outV_real m c t xq xk xd xf hq hk hd hf P hP]
  generalize gradV P (argD m c) = X
  blk_point [idx t, wideV, pairOf, keyAt, tileOf]

include hq hk hv hd hf hG in
theorem final_f : (dats m 0 c).arrAt 11 (cfgs 0).N = gradF G := by
  refine (dats m 0 c).arrAt_eq_of_covers 11 _ (by decide +kernel) fun t hf' y => ?_
  idx_vars y
  blk_simp
  rw [after_11]; frame_out
  rw [outF_real m c t xq xk xv xd xf hq hk hv hd hf G hG ((flush0_11 t).mp hf')]
  generalize gradF G = X
  blk_point [idx t]

end real

end Cert.Kernel9Ideal.BwdValue

end
-- ==== Proof.FoxBwd.lean ====
module

public import proofs.«01_k».proof.Proof.FoxRun
public import proofs.«01_k».proof.Proof.FoxFinal
public import proofs.«01_k».proof.Proof.AttnBwd
public import proofs.«01_k».proof.Proof.FoxRefText
public import proofs.«01_k».proof.Proof.Gen.Pre_finite9

/-! The backward kernel of the attention with gates computes the gradient of its softmax attention: on finite arguments
    its four results are the plain text's. -/

@[expose] public section

set_option maxRecDepth 16384

noncomputable section

open Idealize.ShloMosaic Idealize.ShloMosaic.TcCoe Idealize.ShloMosaic.Tactic Idealize.SL.Sem

namespace Cert.Gated

open Cert.Attention (up real_of_lt bits_top and_one)
open Cert.Kernel9Ideal

instance : Subsingleton Cert.Pre_finite9.S_.Idx := ⟨fun a b => funext fun i => i.elim0⟩

/-- The precondition says that every argument is an array of reals. -/
theorem real_args (x : FVec Ideal S4096x1536 .bf16) (f : FVec Ideal S4096x8 .f32) (d : FVec Ideal S4096x512 .bf16)
    (h : Cert.Pre_finite9.fn (F := Ideal) x f d = fun _ => 1#1) :
    x = up (fun y => (x y).toReal) ∧ f = up (fun y => (f y).toReal) ∧ d = up (fun y => (d y).toReal) := by
  have h0 := congrFun h (fun a => a.elim0)
  simp only [Cert.Pre_finite9.fn, andi, and_one] at h0
  obtain ⟨⟨h1, h2⟩, h3⟩ := h0
  have inf (y : EReal) (hy : Ideal.cmp .olt (max y (-y)) (Ideal.ofBits FTy.f32 0x7F800000#32) = 1#1) : y = ((y.toReal : ℝ) : EReal) :=
    real_of_lt y (by rw [bits_top] at hy; exact hy)
  refine ⟨funext fun y => inf _ ?_, funext fun y => inf _ ?_, funext fun y => inf _ ?_⟩
  · exact Host.reduce_andi_all _ _ _ _ _ h1 y
  · exact Host.reduce_andi_all _ _ _ _ _ h2 y
  · exact Host.reduce_andi_all _ _ _ _ _ h3 y

end Cert.Gated

namespace Cert.Kernel9Ideal.BwdValue

open Cert.Kernel9Ideal Cert.Kernel9Ideal.Gen Cert.Gated
open Cert.Attention (up overT_at)
open Cert.KernelIdeal.BwdValue (maxT expT sumT probT)
open Cert.ReferenceIdeal.Attention (overT dprobT gradV)
open Cert.Reference9Ideal.Attention (dmaskT gradQ gradK gradF)

variable (m : (ℓ : Loc nD τ sig) → Buf (Elt Ideal) ℓ) (ρ : Dev nD → PrngReg)

/-- The weights and the gradients of the logits, as the plain text computes them from the arguments. -/
abbrev textE (c : Dev nD) : FVec Ideal S8x4096x4096 .f32 := expT (theL m c) (overT (theM m c))
abbrev textP (c : Dev nD) : FVec Ideal S8x4096x4096 .f32 := probT (textE m c) (sumT (textE m c))
abbrev textG (c : Dev nD) : FVec Ideal S8x4096x4096 .f32 := dmaskT (dprobT (argV m c) (argD m c)) (textE m c) (sumT (textE m c))

/-- The arguments of a device are real. -/
def RealArgs (c : Dev nD) : Prop :=
  ∃ (xq xk xv xd : S4096x512.Idx → ℝ) (xf : S4096x8.Idx → ℝ), argQ m c = up xq ∧ argK m c = up xk ∧ argV m c = up xv ∧ argD m c = up xd ∧ argF m c = up xf

theorem realArgs (c : Dev nD) (hpre : Cert.Pre_finite9.fn (F := Ideal) (argW m c) (argF m c) (argD m c) = fun _ => 1#1) : RealArgs m c := by
  obtain ⟨h1, h2, h3⟩ := real_args _ _ _ hpre
  refine ⟨fun y => (argW m c (ix2 (y 0) (wQ (y 1)))).toReal, fun y => (argW m c (ix2 (y 0) (wK (y 1)))).toReal,
    fun y => (argW m c (ix2 (y 0) (wV (y 1)))).toReal, _, _, ?_, ?_, ?_, h3, h2⟩
  all_goals
    funext y
    idx_vars y
  · unfold argQ; rw [partQ_at]; exact congrFun h1 _
  · unfold argK; rw [partK_at]; exact congrFun h1 _
  · unfold argV; rw [partV_at]; exact congrFun h1 _

theorem scores_of (c : Dev nD) (h : RealArgs m c) : RealScores m c := by
  obtain ⟨xq, xk, xv, xd, xf, hq, hk, hv, hd, hf⟩ := h
  exact real_scores m c xq xk xv xd xf hq hk hv hd hf

/-- On real arguments the four result arrays are the plain text's gradients. -/
theorem finals (c : Dev nD) (h : RealArgs m c) : (dats m 0 c).arrAt 8 (cfgs 0).N = gradQ (textG m c) (argK m c)
    ∧ (dats m 0 c).arrAt 9 (cfgs 0).N = gradK (textG m c) (argQ m c)
    ∧ (dats m 0 c).arrAt 10 (cfgs 0).N = gradV (textP m c) (argD m c)
    ∧ (dats m 0 c).arrAt 11 (cfgs 0).N = gradF (textG m c) := by
  obtain ⟨xq, xk, xv, xd, xf, hq, hk, hv, hd, hf⟩ := h
  have hE (h : Fin 8) (r k : Fin 4096) : textE m c (ix3 h r k) = ((ex xq xk xf h r k : ℝ) : EReal) := by
    have hM : overT (theM m c) (ix2 h r) = ((top xq xk xf h r : ℝ) : EReal) := by
      rw [overT_at]; exact theM_real m c xq xk xf hq hk hf h r
    unfold textE theL
    rw [hq, hk, hf]
    exact ex_real xq xk xf h r k _ hM
  have hS (h : Fin 8) (r : Fin 4096) : sumT (textE m c) (ix2 h r) = ((total xq xk xf h r : ℝ) : EReal) := sum_real xq xk xf h r _ hE
  have hP (h : Fin 8) (r k : Fin 4096) : textP m c (ix3 h r k) = ((weight xq xk xf h r k : ℝ) : EReal) := weight_real xq xk xf h r k _ _ hE hS
  have hG (h : Fin 8) (r k : Fin 4096) : textG m c (ix3 h r k) = ((dlogit xq xk xv xd xf h r k : ℝ) : EReal) := by
    unfold textG
    rw [hv, hd]
    exact dlogit_real xq xk xv xd xf h r k _ _ hE hS
  exact ⟨final_q m c xq xk xv xd xf hq hk hv hd hf _ hG, final_k m c xq xk xv xd xf hq hk hv hd hf _ hG,
    final_v m c xq xk xd xf hq hk hd hf _ hP, final_f m c xq xk xv xd xf hq hk hv hd hf _ hG⟩

/-- The run: the results are the launch's arrays and the arguments end as they began. -/
theorem run_values (hfin : ∀ c, RealScores m c) : θ_run defs (onTc (τ := τ) (main (F := Ideal))) ⟨m, fun _ => 0, ρ⟩ (fun r => ∀ c : Dev nD,
      r.2.mem ((c.tc : Thread nD τ).loc main_v68_0) = (dats m 0 c).arrAt 8 (cfgs 0).N
      ∧ r.2.mem ((c.tc : Thread nD τ).loc main_v68_1) = (dats m 0 c).arrAt 9 (cfgs 0).N
      ∧ r.2.mem ((c.tc : Thread nD τ).loc main_v68_2) = (dats m 0 c).arrAt 10 (cfgs 0).N
      ∧ r.2.mem ((c.tc : Thread nD τ).loc main_v68_3) = (dats m 0 c).arrAt 11 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1.1 c).1 8, (h.1.1 c).1 9, (h.1.1 c).1 10, (h.1.1 c).1 11, h.2.1 c⟩)
    (θ_run_and (launched m ρ hfin) (Cert.Kernel9Ideal.Bwd.frame m ρ))

end Cert.Kernel9Ideal.BwdValue

open Cert.Reference9Ideal.Attention in
/-- The kernel's four results and the plain text's are one function of the arguments. -/
theorem Cert.Proof.fox : Cert.algebraic_Kernel9Ideal_Reference9Ideal_pre_finite9 := by
  intro m g m' g' hpre hag
  have hreal (c : Dev Cert.Kernel9Ideal.nD) : Cert.Kernel9Ideal.BwdValue.RealArgs m c := Cert.Kernel9Ideal.BwdValue.realArgs m c (hpre c)
  refine ⟨fun c => _, fun c => _, fun c => _, fun c => _,
    Cert.Kernel9Ideal.BwdValue.run_values m g fun c => Cert.Kernel9Ideal.BwdValue.scores_of m c (hreal c), ?_⟩
  refine (θ_run Cert.Reference9Ideal.defs _ _).mono (fun r h c => ?_) (Cert.Reference9Ideal.Value.run (F := Ideal) m' g')
  obtain ⟨e1, e2, e3, e4⟩ := Cert.Kernel9Ideal.BwdValue.finals m c (hreal c)
  obtain ⟨h1, h2, h3, h4, h5⟩ := h c
  obtain ⟨a0, a1, a2⟩ := hag c
  refine ⟨h1.trans ?_, h2.trans ?_, h3.trans ?_, h4.trans ?_, h5⟩
  · refine (out_q m' c).trans (Eq.trans ?_ e1.symm)
    simp only [theG, theS, theE, theL, argW, argF, argD, a0, a1, a2]
  · refine (out_k m' c).trans (Eq.trans ?_ e2.symm)
    simp only [theG, theS, theE, theL, argW, argF, argD, a0, a1, a2]
  · refine (out_v m' c).trans (Eq.trans ?_ e3.symm)
    simp only [theS, theE, theL, argW, argF, argD, a0, a1, a2]
  · refine (out_f m' c).trans (Eq.trans ?_ e4.symm)
    simp only [theG, theS, theE, theL, argW, argF, argD, a0, a1, a2]

end
-- ==== Proof.NormBack.lean ====
/-
  The derivative of a row divided by the root of its mean square, on the extended reals: the closed form a kernel uses and
  the form that differentiating the plain text yields are one number, whatever the row holds. A row with an infinity has
  root zero in the inverse and both forms vanish; in any other row the entries are numbers and the forms differ by a factor
  that is moved across an extended real.
-/
module

public import proofs.«01_k».proof.Defs
public import Idealize.ShloMosaic.Lib.Pointwise

@[expose] public section

noncomputable section

open Idealize.ShloMosaic

namespace Cert.Proof.NormBack

theorem bits_1024 : Ideal.ofBits FTy.f32 1149239296#32 = ((1024 : ℝ) : EReal) := by
  simp [Ideal.ofBits, Ideal.ieee, -EReal.coe_mul]; norm_num

theorem bits_neg_half : Ideal.ofBits FTy.f32 3204448256#32 = ((-(1 / 2) : ℝ) : EReal) := by
  simp [Ideal.ofBits, Ideal.ieee, -EReal.coe_mul]; norm_num

theorem bits_eps : ∃ e : ℝ, 0 < e ∧ Ideal.ofBits FTy.f32 897988541#32 = (e : EReal) := by
  refine ⟨_, ?_, by simp [Ideal.ofBits, Ideal.ieee, -EReal.coe_mul]; rfl⟩
  norm_num

theorem bits_512 : Ideal.ofBits FTy.f32 1140850688#32 = ((512 : ℝ) : EReal) := by
  simp [Ideal.ofBits, Ideal.ieee, -EReal.coe_mul]; norm_num

variable {n : ℕ}

/-- The mean square of a row and the small constant; `B` is the row's length as the text writes it. -/
def ms (X : Fin n → EReal) (B : BitVec 32 := 1149239296#32) : EReal :=
  Ideal.div (∑ x, X x * X x) (Ideal.ofBits FTy.f32 B) + Ideal.ofBits FTy.f32 897988541#32

theorem mul_self_nonneg (x : EReal) : 0 ≤ x * x := by
  rcases le_total 0 x with h | h
  · exact mul_nonneg h h
  · exact EReal.mul_nonneg_iff.mpr (Or.inr ⟨h, h⟩)

/-- The mean square is infinite, or it is a positive number and the row holds numbers. -/
theorem ms_cases {B : BitVec 32} {ν : ℝ} (hν : 0 < ν) (hB : Ideal.ofBits FTy.f32 B = (ν : EReal)) (X : Fin n → EReal) :
    ms X B = ⊤ ∨ ∃ u : ℝ, 0 < u ∧ ms X B = (u : EReal) ∧ ∀ j, ∃ ξ : ℝ, X j = (ξ : EReal) := by
  obtain ⟨e, he, hb⟩ := bits_eps
  have h0 : 0 ≤ ∑ x, X x * X x := Finset.sum_nonneg fun x _ => mul_self_nonneg (X x)
  have hd : ms X B = (∑ x, X x * X x) * ((1 / ν : ℝ) : EReal) + (e : EReal) := by
    unfold ms; rw [hB, hb, Ideal.div_coe hν.ne']
  rw [hd]
  by_cases ht : ∑ x, X x * X x = ⊤
  · left
    rw [ht, EReal.top_mul_coe_of_pos (by positivity), EReal.top_add_coe]
  · right
    have hbot : ∑ x, X x * X x ≠ ⊥ := fun h => by rw [h] at h0; exact absurd h0 (by simp)
    refine ⟨(∑ x, X x * X x).toReal * (1 / ν) + e, ?_, ?_, fun j => ?_⟩
    · have := EReal.toReal_nonneg h0
      positivity
    · conv_lhs => rw [← EReal.coe_toReal ht hbot]
      rw [EReal.coe_add, EReal.coe_mul]
    · have hj : X j * X j ≤ ∑ x, X x * X x := Finset.single_le_sum (fun x _ => mul_self_nonneg (X x)) (Finset.mem_univ j)
      have hj' : X j * X j ≠ ⊤ := fun h => ht (top_le_iff.mp (h ▸ hj))
      refine ⟨(X j).toReal, (EReal.coe_toReal (fun h => hj' ?_) (fun h => hj' ?_)).symm⟩
      · rw [h]; rfl
      · rw [h]; rfl

/-- A number times an extended real, twice. -/
theorem twice (y : ℝ) (D : EReal) : (y : EReal) * D + (y : EReal) * D = ((2 * y : ℝ) : EReal) * D := by
  induction D using EReal.rec with
  | coe d => rw [← EReal.coe_mul, ← EReal.coe_add, ← EReal.coe_mul]; congr 1; ring
  | top =>
    rcases lt_trichotomy y 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy y 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

/-- The inverse root of an infinite mean square. -/
theorem at_top {B : BitVec 32} {ν : ℝ} (hν : 0 < ν) (hB : Ideal.ofBits FTy.f32 B = (ν : EReal)) (h : EReal) (D : EReal) :
    Ideal.div (D * (h * Ideal.div (Ideal.rsqrt ⊤) ⊤)) (Ideal.ofBits FTy.f32 B) = 0 := by
  rw [hB, Ideal.div_coe hν.ne']
  simp [Ideal.div]

/-- The part of the derivative that comes through the mean square. -/
theorem back {B : BitVec 32} {ν : ℝ} (hν : 0 < ν) (hB : Ideal.ofBits FTy.f32 B = (ν : EReal)) (X A : Fin n → EReal) (j : Fin n) :
    -(X j * (Ideal.rsqrt (ms X B) * Ideal.rsqrt (ms X B) * Ideal.rsqrt (ms X B)
        * Ideal.div (∑ x, A x * X x) (Ideal.ofBits FTy.f32 B)))
      = X j * Ideal.div ((∑ x, X x * A x) * (Ideal.ofBits FTy.f32 3204448256#32 * Ideal.div (Ideal.rsqrt (ms X B)) (ms X B)))
            (Ideal.ofBits FTy.f32 B)
        + Ideal.div ((∑ x, X x * A x) * (Ideal.ofBits FTy.f32 3204448256#32 * Ideal.div (Ideal.rsqrt (ms X B)) (ms X B)))
            (Ideal.ofBits FTy.f32 B) * X j := by
  rw [Finset.sum_congr rfl fun x _ => mul_comm (A x) (X x)]
  generalize (∑ x, X x * A x) = D
  rcases ms_cases hν hB X with h | ⟨u, hu, h, hx⟩
  · rw [h, at_top hν hB]; simp
  · obtain ⟨ξ, hξ⟩ := hx j
    have hr : Ideal.rsqrt ((u : ℝ) : EReal) = (((Real.sqrt u)⁻¹ : ℝ) : EReal) := by
      rw [Ideal.rsqrt_coe, if_neg (not_lt.mpr hu.le), if_neg hu.ne']
    have hs : Real.sqrt u * Real.sqrt u = u := Real.mul_self_sqrt hu.le
    have hs0 : Real.sqrt u ≠ 0 := (Real.sqrt_pos.mpr hu).ne'
    rw [h, hξ, hr, hB, bits_neg_half, Ideal.div_coe hν.ne', Ideal.div_coe hν.ne', Ideal.div_coe hu.ne']
    have e1 : (ξ : EReal) * ((((Real.sqrt u)⁻¹ : ℝ) : EReal) * (((Real.sqrt u)⁻¹ : ℝ) : EReal) * (((Real.sqrt u)⁻¹ : ℝ) : EReal)
        * (D * ((1 / ν : ℝ) : EReal)))
        = ((ξ * ((Real.sqrt u)⁻¹ * (Real.sqrt u)⁻¹ * (Real.sqrt u)⁻¹ * (1 / ν)) : ℝ) : EReal) * D := by
      simp only [EReal.coe_mul]
      ac_rfl
    have e2 : (ξ : EReal) * (D * (((-(1 / 2) : ℝ) : EReal) * ((((Real.sqrt u)⁻¹ : ℝ) : EReal) * ((1 / u : ℝ) : EReal))) * ((1 / ν : ℝ) : EReal))
        = ((ξ * (-(1 / 2) * ((Real.sqrt u)⁻¹ * (1 / u)) * (1 / ν)) : ℝ) : EReal) * D := by
      simp only [EReal.coe_mul]
      ac_rfl
    rw [mul_comm _ (ξ : EReal), e1, e2, twice, ← EReal.neg_mul, ← EReal.coe_neg]
    congr 2
    have hi : 1 / u = (Real.sqrt u)⁻¹ * (Real.sqrt u)⁻¹ := by rw [← mul_inv, hs, one_div]
    rw [hi]
    ring

/-- The whole derivative at an entry: through the row itself, through the mean square, and what is added. -/
theorem back_add (X A : Fin 1024 → EReal) (j : Fin 1024) (t : EReal) :
    t + A j * Ideal.rsqrt (ms X)
        + X j * Ideal.div ((∑ x, X x * A x) * (Ideal.ofBits FTy.f32 3204448256#32 * Ideal.div (Ideal.rsqrt (ms X)) (ms X)))
            (Ideal.ofBits FTy.f32 1149239296#32)
        + Ideal.div ((∑ x, X x * A x) * (Ideal.ofBits FTy.f32 3204448256#32 * Ideal.div (Ideal.rsqrt (ms X)) (ms X)))
            (Ideal.ofBits FTy.f32 1149239296#32) * X j
      = Ideal.rsqrt (ms X) * A j - X j * (Ideal.rsqrt (ms X) * Ideal.rsqrt (ms X) * Ideal.rsqrt (ms X)
        * Ideal.div (∑ x, A x * X x) (Ideal.ofBits FTy.f32 1149239296#32)) + t := by
  rw [sub_eq_add_neg, back (by norm_num) bits_1024 X A j, mul_comm (A j)]
  abel

/-- The same with nothing added. -/
theorem back_plain (X A : Fin 1024 → EReal) (j : Fin 1024) :
    A j * Ideal.rsqrt (ms X)
        + X j * Ideal.div ((∑ x, X x * A x) * (Ideal.ofBits FTy.f32 3204448256#32 * Ideal.div (Ideal.rsqrt (ms X)) (ms X)))
            (Ideal.ofBits FTy.f32 1149239296#32)
        + Ideal.div ((∑ x, X x * A x) * (Ideal.ofBits FTy.f32 3204448256#32 * Ideal.div (Ideal.rsqrt (ms X)) (ms X)))
            (Ideal.ofBits FTy.f32 1149239296#32) * X j
      = Ideal.rsqrt (ms X) * A j - X j * (Ideal.rsqrt (ms X) * Ideal.rsqrt (ms X) * Ideal.rsqrt (ms X)
        * Ideal.div (∑ x, A x * X x) (Ideal.ofBits FTy.f32 1149239296#32)) := by
  rw [sub_eq_add_neg, back (by norm_num) bits_1024 X A j, mul_comm (A j)]
  abel

/-- The same for a row of 512. -/
theorem back_512 (X A : Fin 512 → EReal) (j : Fin 512) :
    A j * Ideal.rsqrt (ms X 1140850688#32)
        + X j * Ideal.div ((∑ x, X x * A x) * (Ideal.ofBits FTy.f32 3204448256#32 * Ideal.div (Ideal.rsqrt (ms X 1140850688#32)) (ms X 1140850688#32)))
            (Ideal.ofBits FTy.f32 1140850688#32)
        + Ideal.div ((∑ x, X x * A x) * (Ideal.ofBits FTy.f32 3204448256#32 * Ideal.div (Ideal.rsqrt (ms X 1140850688#32)) (ms X 1140850688#32)))
            (Ideal.ofBits FTy.f32 1140850688#32) * X j
      = Ideal.rsqrt (ms X 1140850688#32) * A j - X j * (Ideal.rsqrt (ms X 1140850688#32) * Ideal.rsqrt (ms X 1140850688#32) * Ideal.rsqrt (ms X 1140850688#32)
        * Ideal.div (∑ x, A x * X x) (Ideal.ofBits FTy.f32 1140850688#32)) := by
  rw [sub_eq_add_neg, back (by norm_num) bits_512 X A j, mul_comm (A j)]
  abel

end Cert.Proof.NormBack

end
-- ==== Proof.UpBwd.lean ====
/-
  The gradient through the up projection and the norm before it, and the gradient of the gain of that norm: what the
  tiled kernel leaves in its three result arrays is the transposed derivative of the plain text, index by index.
-/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Claim
public import proofs.«01_k».proof.Proof.NormBack

@[expose] public section

set_option maxRecDepth 16384

noncomputable section

open Idealize.ShloMosaic Idealize.ShloMosaic.TcCoe Idealize.SL.Sem
open Idealize.ShloMosaic.Pipeline (Dat)

namespace Cert.Kernel10Ideal.UpBwd

open Cert.Kernel10Ideal Cert.Kernel10Ideal.Gen

variable (m : (ℓ : Loc nD τ sig) → Buf (Elt Ideal) ℓ)

/-- The incoming gradient of the normed rows. -/
def dh (D : FVec Ideal S4096x4096 .bf16) (W : FVec Ideal S1024x4096 .bf16) (s : Fin 4096) (j : Fin 1024) : EReal :=
  ∑ f : Fin 4096, D (ix2 s f) * W (ix2 j f)

/-- The inverse root of a row's mean square. -/
def rootInv (X : FVec Ideal S4096x1024 .f32) (s : Fin 4096) : EReal :=
  Ideal.rsqrt (Ideal.div (∑ k : Fin 1024, X (ix2 s k) * X (ix2 s k)) (Ideal.ofBits .f32 0x44800000#32) + Ideal.ofBits .f32 0x358637BD#32)

/-- The gradient of the rows, in the closed form, and what the residual branch adds. -/
def dxAt (D : FVec Ideal S4096x4096 .bf16) (W : FVec Ideal S1024x4096 .bf16) (X T : FVec Ideal S4096x1024 .f32) (G : FVec Ideal S1x1024 .f32)
    (j : S4096x1024.Idx) : EReal :=
  rootInv X (j 0) * (dh D W (j 0) (j 1) * G (ix2 0 (j 1)))
    - X (ix2 (j 0) (j 1)) * (rootInv X (j 0) * rootInv X (j 0) * rootInv X (j 0)
        * Ideal.div (∑ k : Fin 1024, dh D W (j 0) k * G (ix2 0 k) * X (ix2 (j 0) k)) (Ideal.ofBits .f32 0x44800000#32))
    + T (ix2 (j 0) (j 1))

/-- The gradient of the gain. -/
def dgAt (D : FVec Ideal S4096x4096 .bf16) (W : FVec Ideal S1024x4096 .bf16) (X : FVec Ideal S4096x1024 .f32) (j : S1x1024.Idx) : EReal :=
  ∑ s : Fin 4096, dh D W s (j 1) * (X (ix2 s (j 1)) * rootInv X s)

/-- Every window's block index at every point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] :=
  (by decide +kernel : ∀ t : Fin grid0.N, _)

/-- What a point stores at an index of its block of rows is the closed form at the index's place in the array. -/
theorem point (c : Dev nD) (t : Fin cfg0.N) (y : S512x1024.Idx) :
    k0_pay5 (F := Ideal) (iblk m c 0 t) (iblk m c 1 t) (iblk m c 2 t) (iblk m c 3 t) (iblk m c 4 t) y
      = dxAt (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay5, k0_pay4, k0_pay3, dxAt, dh, rootInv]
  blk_point [iblk, V, idx t]

/-- The two first result arrays after the run: the second is the first in a narrower format. -/
theorem final_dx (c : Dev nD) : (dats m 0 c).arrAt 5 (cfgs 0).N = fun j => dxAt (m ((c : Thread nD τ).loc main_arg0)) (m ((c : Thread nD τ).loc main_arg1)) (m ((c : Thread nD τ).loc main_arg2)) (m ((c : Thread nD τ).loc main_arg3)) (m ((c : Thread nD τ).loc main_arg4)) j := by
  refine (dats m 0 c).arrAt_eq_of_covers 5 _ (by decide +kernel) fun t _ y => ?_
  blk_simp
  rw [after0_5]
  by_cases h : t.val % 8 = 0
  · rw [outsAt0_A m c t h]; frame_out
    exact point m c t y
  · rw [outsAt0_B m c t h]; frame_out
    exact point m c t y

theorem final_copy (c : Dev nD) : (dats m 0 c).arrAt 6 (cfgs 0).N = fun j => dxAt (m ((c : Thread nD τ).loc main_arg0)) (m ((c : Thread nD τ).loc main_arg1)) (m ((c : Thread nD τ).loc main_arg2)) (m ((c : Thread nD τ).loc main_arg3)) (m ((c : Thread nD τ).loc main_arg4)) j := by
  refine (dats m 0 c).arrAt_eq_of_covers 6 _ (by decide +kernel) fun t _ y => ?_
  blk_simp
  rw [after0_6]
  by_cases h : t.val % 8 = 0
  · rw [outsAt0_A m c t h]; frame_out
    exact point m c t y
  · rw [outsAt0_B m c t h]; frame_out
    exact point m c t y

theorem hzero (j) : k0_pay1 (F := Ideal) j = 0 := by pointwise [k0_pay1]

/-- A point adds its own rows' share of the gain's gradient. -/
theorem hpay (v0 : FVec Ideal S512x4096 .bf16) (v1 : FVec Ideal S1024x4096 .bf16) (v3 : FVec Ideal S512x1024 .f32) (a : FVec Ideal S1x1024 .f32)
    (j : S1x1024.Idx) : k0_pay2 (F := Ideal) (k0_pay6 v0 v1 v3) a j
      = a j + ∑ k : Fin 512, (∑ f : Fin 4096, v0 (ix2 k f) * v1 (ix2 (j 1) f)) * (v3 (ix2 k (j 1))
        * Ideal.rsqrt (Ideal.div (∑ x : Fin 1024, v3 (ix2 k x) * v3 (ix2 k x)) (Ideal.ofBits .f32 0x44800000#32) + Ideal.ofBits .f32 0x358637BD#32)) := by
  idx_vars j
  pointwise [k0_pay2, k0_pay6, k0_pay4, k0_pay3]

/-- The sum after the last point is the sum over all rows. -/
theorem total (c : Dev nD) (t : Fin cfg0.N) (ht : t.val % 8 = 7) (y : S1x1024.Idx) :
    (outsAt0 m c t.val t.isLt).2.2 y = dgAt (m ((c : Thread nD τ).loc main_arg0)) (m ((c : Thread nD τ).loc main_arg1)) (m ((c : Thread nD τ).loc main_arg2)) (((cfg0.win 7).blk t).view.emb y) := by
  rw [Pipeline.eq_sum_fin_of_reset_step_apply_of_flush (fun n h => (outsAt0 m c n h).2.2) 8 (fun _ => 0) _
    (fun t h j => by rw [outsAt0_A m c t h]; frame_out; rw [hpay, hzero])
    (fun t h j => by rw [outsAt0_B m c t h]; frame_out; rw [hpay]) t ht y, zero_add]
  unfold dgAt dh rootInv
  refine Fin.sum_mul_add_congr fun s k hl => ?_
  idx_vars y
  blk_point [iblk, V, idx t, idx ⟨_, Pipeline.run_point_lt_of_flush t ht s⟩]

/-- The gain's gradient after the run. -/
theorem final_dg (c : Dev nD) : (dats m 0 c).arrAt 7 (cfgs 0).N = fun j => dgAt (m ((c : Thread nD τ).loc main_arg0)) (m ((c : Thread nD τ).loc main_arg1)) (m ((c : Thread nD τ).loc main_arg2)) j := by
  refine (dats m 0 c).arrAt_eq_of_covers 7 _ (by decide +kernel) fun t hf y => ?_
  blk_simp
  rw [after0_7]
  exact total m c t ((flush0_7 t).mp hf) y

end Cert.Kernel10Ideal.UpBwd

namespace Cert.Reference10Ideal.UpBwd

open Cert.Reference10Ideal Cert.Reference10Ideal.Gen Cert.Reference10Ideal.Value
open Cert.Kernel10Ideal.UpBwd (dh rootInv dxAt dgAt)

variable (m : (ℓ : Loc nD τ sig) → Buf (Elt Ideal) ℓ)

/-- The plain text's gradient of the rows is the closed form. -/
theorem dx_eq (c : Dev nD) (y : S4096x1024.Idx) :
    (res_main_v38 (F := Ideal) m c : FVec Ideal S4096x1024 .f32) y = dxAt (m ((c : Thread nD τ).loc main_arg0)) (m ((c : Thread nD τ).loc main_arg1)) (m ((c : Thread nD τ).loc main_arg2)) (m ((c : Thread nD τ).loc main_arg3)) (m ((c : Thread nD τ).loc main_arg4)) y := by
  idx_vars y
  pointwise [res_main_v38, dxAt, dh, rootInv]
  simp only [Fin.sum_univ_one]
  exact Cert.Proof.NormBack.back_add (fun k => (m ((c : Thread nD τ).loc main_arg2)) (ix2 y0 k))
    (fun k => (∑ f : Fin 4096, (show EReal from (m ((c : Thread nD τ).loc main_arg0)) (ix2 y0 f)) * (show EReal from (m ((c : Thread nD τ).loc main_arg1)) (ix2 k f))) * (show EReal from (m ((c : Thread nD τ).loc main_arg4)) (ix2 0 k))) y1 ((m ((c : Thread nD τ).loc main_arg3)) (ix2 y0 y1))

theorem copy_eq (c : Dev nD) (y : S4096x1024.Idx) :
    (res_main_v39 (F := Ideal) m c : FVec Ideal S4096x1024 .bf16) y = dxAt (m ((c : Thread nD τ).loc main_arg0)) (m ((c : Thread nD τ).loc main_arg1)) (m ((c : Thread nD τ).loc main_arg2)) (m ((c : Thread nD τ).loc main_arg3)) (m ((c : Thread nD τ).loc main_arg4)) y := by
  refine Eq.trans ?_ (dx_eq m c y)
  rfl

/-- The gain's gradient as the plain text composes it. -/
def dg (D : FVec Ideal S4096x4096 .bf16) (W : FVec Ideal S1024x4096 .bf16) (X : FVec Ideal S4096x1024 .f32) : FVec Ideal S1x1024 .f32 :=
  shapeCast _ (Host.reduceAdd (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x4096_S1024x4096_S4096x1024_1_1_0_0_n_n none (extf .f32 D bitsLt_bf16_f32) (extf .f32 W bitsLt_bf16_f32))) (constant S_ .f32 0x00000000#32) reducesTo_S4096x1024_S1024_d0 h_S_) shapeCasts_S1024_S1x1024

theorem dg_eq (D : FVec Ideal S4096x4096 .bf16) (W : FVec Ideal S1024x4096 .bf16) (X : FVec Ideal S4096x1024 .f32) :
    dg D W X = fun j => dgAt D W X j := by
  funext y
  idx_vars y
  pointwise [dg, dgAt, dh, rootInv]
  exact Finset.sum_congr rfl fun s _ => mul_comm _ _

end Cert.Reference10Ideal.UpBwd

/-- The kernel's results and the plain text's are the same functions of the arguments. -/
theorem Cert.Proof.up_bwd : Cert.algebraic_Kernel10Ideal_Reference10Ideal := by
  intro m g m' g' hpre hag
  refine ⟨fun c => (Cert.Kernel10Ideal.Gen.dats m 0 c).arrAt 5 (Cert.Kernel10Ideal.cfgs 0).N,
    fun c => (Cert.Kernel10Ideal.Gen.dats m 0 c).arrAt 6 (Cert.Kernel10Ideal.cfgs 0).N,
    fun c => (Cert.Kernel10Ideal.Gen.dats m 0 c).arrAt 7 (Cert.Kernel10Ideal.cfgs 0).N, ?_, ?_⟩
  · run_from Cert.Kernel10Ideal.Gen.run_main m g
  · refine (θ_run Cert.Reference10Ideal.defs _ _).mono (fun r h c => ?_) (Cert.Reference10Ideal.Value.run (F := Ideal) m' g')
    obtain ⟨h1, h2, h3, h4⟩ := h c
    obtain ⟨a0, a1, a2, a3, a4⟩ := hag c
    refine ⟨h1.trans ?_, h2.trans ?_, h3.trans ?_, h4⟩
    · refine (funext fun y => Cert.Reference10Ideal.UpBwd.dx_eq m' c y : _ = _).trans
        (Eq.trans ?_ (Cert.Kernel10Ideal.UpBwd.final_dx m c).symm)
      simp only [a0, a1, a2, a3, a4]
    · refine (funext fun y => Cert.Reference10Ideal.UpBwd.copy_eq m' c y : _ = _).trans
        (Eq.trans ?_ (Cert.Kernel10Ideal.UpBwd.final_copy m c).symm)
      simp only [a0, a1, a2, a3, a4]
    · refine (Cert.Reference10Ideal.UpBwd.dg_eq _ _ _).trans (Eq.trans ?_ (Cert.Kernel10Ideal.UpBwd.final_dg m c).symm)
      simp only [a0, a1, a2]

end
-- ==== Proof.Loss.lean ====
/-
  The down projection, the residual, the last norm and the loss with its gradient: what the tiled kernel leaves in its
  four result arrays is what the plain text and its derivative give, index by index.
-/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.Claim
public import proofs.«01_k».proof.Proof.NormBack

@[expose] public section

set_option maxRecDepth 16384

noncomputable section

open Idealize.ShloMosaic Idealize.ShloMosaic.TcCoe Idealize.SL.Sem
open Idealize.ShloMosaic.Pipeline (Dat)

namespace Cert.Kernel11Ideal.Loss

open Cert.Kernel11Ideal Cert.Kernel11Ideal.Gen

variable (m : (ℓ : Loc nD τ sig) → Buf (Elt Ideal) ℓ)

/-- The last residual stream: the rows and the squared positive part of the hidden values times the weight. -/
def x2 (U : FVec Ideal S4096x4096 .bf16) (W : FVec Ideal S4096x1024 .bf16) (X : FVec Ideal S4096x1024 .f32) (s : Fin 4096) (k : Fin 1024) : EReal :=
  X (ix2 s k) + ∑ f : Fin 4096, max (U (ix2 s f)) 0 * max (U (ix2 s f)) 0 * W (ix2 f k)

/-- The inverse root of a row's mean square. -/
def rootInv (U : FVec Ideal S4096x4096 .bf16) (W : FVec Ideal S4096x1024 .bf16) (X : FVec Ideal S4096x1024 .f32) (s : Fin 4096) : EReal :=
  Ideal.rsqrt (Ideal.div (∑ k : Fin 1024, x2 U W X s k * x2 U W X s k) (Ideal.ofBits .f32 0x44800000#32) + Ideal.ofBits .f32 0x358637BD#32)

/-- How far the normed row is from the target. -/
def err (U : FVec Ideal S4096x4096 .bf16) (W : FVec Ideal S4096x1024 .bf16) (X T : FVec Ideal S4096x1024 .f32) (G : FVec Ideal S1x1024 .f32) (s : Fin 4096) (k : Fin 1024) : EReal :=
  x2 U W X s k * rootInv U W X s * G (ix2 0 k) - T (ix2 s k)

/-- The gradient of the residual stream, in the closed form. -/
def dxAt (U : FVec Ideal S4096x4096 .bf16) (W : FVec Ideal S4096x1024 .bf16) (X T : FVec Ideal S4096x1024 .f32) (G : FVec Ideal S1x1024 .f32) (j : S4096x1024.Idx) : EReal :=
  rootInv U W X (j 0) * (err U W X T G (j 0) (j 1) * Ideal.ofBits .f32 0x3A800000#32 * G (ix2 0 (j 1)))
    - x2 U W X (j 0) (j 1) * (rootInv U W X (j 0) * rootInv U W X (j 0) * rootInv U W X (j 0)
        * Ideal.div (∑ k : Fin 1024, err U W X T G (j 0) k * Ideal.ofBits .f32 0x3A800000#32 * G (ix2 0 k) * x2 U W X (j 0) k)
            (Ideal.ofBits .f32 0x44800000#32))

/-- The gradient of the gain. -/
def dgAt (U : FVec Ideal S4096x4096 .bf16) (W : FVec Ideal S4096x1024 .bf16) (X T : FVec Ideal S4096x1024 .f32) (G : FVec Ideal S1x1024 .f32) (j : S1x1024.Idx) : EReal :=
  ∑ s : Fin 4096, err U W X T G s (j 1) * Ideal.ofBits .f32 0x3A800000#32 * (x2 U W X s (j 1) * rootInv U W X s)

/-- The loss. -/
def lossAt (U : FVec Ideal S4096x4096 .bf16) (W : FVec Ideal S4096x1024 .bf16) (X T : FVec Ideal S4096x1024 .f32) (G : FVec Ideal S1x1024 .f32) : EReal :=
  ∑ s : Fin 4096, Ideal.ofBits .f32 0x3F000000#32
    * Ideal.div (∑ k : Fin 1024, err U W X T G s k * err U W X T G s k) (Ideal.ofBits .f32 0x44800000#32)

theorem bits_half : Ideal.ofBits FTy.f32 0x3F000000#32 = ((1 / 2 : ℝ) : EReal) := by
  simp [Ideal.ofBits, Ideal.ieee, -EReal.coe_mul]; norm_num

/-- One half of a sum is the sum of the halves, also where the sum is infinite. -/
theorem half_sum {n : ℕ} (f : Fin n → EReal) :
    Ideal.ofBits FTy.f32 0x3F000000#32 * ∑ s, f s = ∑ s, Ideal.ofBits FTy.f32 0x3F000000#32 * f s := by
  rw [bits_half]
  generalize (Finset.univ : Finset (Fin n)) = S
  induction S using Finset.cons_induction with
  | empty => simp
  | cons a S ha ih =>
    rw [Finset.sum_cons, Finset.sum_cons, ← ih]
    exact EReal.left_distrib_of_nonneg_of_ne_top (EReal.coe_nonneg.mpr (by norm_num)) (EReal.coe_ne_top _) _ _

/-- Every window's block index at every point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- A tile of the residual stream. -/
theorem stream (v0 : FVec Ideal S512x4096 .bf16) (v6 : FVec Ideal S4096x1024 .bf16) (v8 : FVec Ideal S512x1024 .f32) (a : Fin 512) (b : Fin 1024) :
    k0_pay7 (F := Ideal) v0 v6 v8 (ix2 a b)
      = v8 (ix2 a b) + ∑ f : Fin 4096, max (v0 (ix2 a f)) 0 * max (v0 (ix2 a f)) 0 * v6 (ix2 f b) := by
  rw [add_comm]
  pointwise [k0_pay7]

/-- What a point stores at an index of its block of rows is the closed form at the index's place in the array. -/
theorem point (c : Dev nD) (t : Fin cfg0.N) (y : S512x1024.Idx) :
    k0_pay1 (F := Ideal) (k0_pay7 (iblk m c 0 t) (iblk m c 1 t) (iblk m c 2 t)) (k0_pay8 (iblk m c 0 t) (iblk m c 1 t) (iblk m c 2 t))
        (k0_pay13 (iblk m c 0 t) (iblk m c 1 t) (iblk m c 2 t) (iblk m c 3 t) (iblk m c 4 t)) y
      = dxAt (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  idx_vars y
  pointwise [k0_pay1, k0_pay8, k0_pay13, k0_pay12, k0_pay10, k0_pay9, dxAt, err, rootInv, x2]
  simp only [stream]
  blk_point [iblk, V, idx t]

/-- The two first result arrays after the run: the second is the first in a narrower format. -/
theorem final_dx (c : Dev nD) : (dats m 0 c).arrAt 5 (cfgs 0).N = fun j => dxAt (m ((c : Thread nD τ).loc main_arg0)) (m ((c : Thread nD τ).loc main_arg1)) (m ((c : Thread nD τ).loc main_arg2)) (m ((c : Thread nD τ).loc main_arg3)) (m ((c : Thread nD τ).loc main_arg4)) j := by
  refine (dats m 0 c).arrAt_eq_of_covers 5 _ (by decide +kernel) fun t _ y => ?_
  blk_simp
  rw [after0_5]
  by_cases h : t.val % 8 = 0
  · rw [outsAt0_A m c t h]; frame_out
    exact point m c t y
  · rw [outsAt0_B m c t h]; frame_out
    exact point m c t y

theorem final_copy (c : Dev nD) : (dats m 0 c).arrAt 6 (cfgs 0).N = fun j => dxAt (m ((c : Thread nD τ).loc main_arg0)) (m ((c : Thread nD τ).loc main_arg1)) (m ((c : Thread nD τ).loc main_arg2)) (m ((c : Thread nD τ).loc main_arg3)) (m ((c : Thread nD τ).loc main_arg4)) j := by
  refine (dats m 0 c).arrAt_eq_of_covers 6 _ (by decide +kernel) fun t _ y => ?_
  blk_simp
  rw [after0_6]
  by_cases h : t.val % 8 = 0
  · rw [outsAt0_A m c t h]; frame_out
    exact point m c t y
  · rw [outsAt0_B m c t h]; frame_out
    exact point m c t y

theorem hzero (j) : k0_pay3 (F := Ideal) j = 0 := by pointwise [k0_pay3]

theorem hzero' (j) : k0_pay4 (F := Ideal) j = 0 := by pointwise [k0_pay4]

/-- A row's inverse root, in a tile. -/
def tileRoot (v0 : FVec Ideal S512x4096 .bf16) (v6 : FVec Ideal S4096x1024 .bf16) (v8 : FVec Ideal S512x1024 .f32) (a : Fin 512) : EReal :=
  Ideal.rsqrt (Ideal.div (∑ k : Fin 1024,
      (v8 (ix2 a k) + ∑ f : Fin 4096, max (v0 (ix2 a f)) 0 * max (v0 (ix2 a f)) 0 * v6 (ix2 f k))
        * (v8 (ix2 a k) + ∑ f : Fin 4096, max (v0 (ix2 a f)) 0 * max (v0 (ix2 a f)) 0 * v6 (ix2 f k)))
      (Ideal.ofBits .f32 0x44800000#32) + Ideal.ofBits .f32 0x358637BD#32)

/-- How far a tile's normed row is from its target. -/
def tileErr (v0 : FVec Ideal S512x4096 .bf16) (v6 : FVec Ideal S4096x1024 .bf16) (v8 v9 : FVec Ideal S512x1024 .f32) (v10 : FVec Ideal S1x1024 .f32) (a : Fin 512) (b : Fin 1024) : EReal :=
  (v8 (ix2 a b) + ∑ f : Fin 4096, max (v0 (ix2 a f)) 0 * max (v0 (ix2 a f)) 0 * v6 (ix2 f b)) * tileRoot v0 v6 v8 a * v10 (ix2 0 b) - v9 (ix2 a b)

/-- A point adds its own rows' share of the gain's gradient. -/
theorem hpay (v0 : FVec Ideal S512x4096 .bf16) (v6 : FVec Ideal S4096x1024 .bf16) (v8 v9 : FVec Ideal S512x1024 .f32) (v10 : FVec Ideal S1x1024 .f32) (a : FVec Ideal S1x1024 .f32) (j : S1x1024.Idx) :
    k0_pay5 (F := Ideal) (k0_pay9 v0 v6 v8) (k0_pay12 v0 v6 v8 v9 v10) a j
      = a j + ∑ k : Fin 512, tileErr v0 v6 v8 v9 v10 k (j 1) * Ideal.ofBits .f32 0x3A800000#32
        * ((v8 (ix2 k (j 1)) + ∑ f : Fin 4096, max (v0 (ix2 k f)) 0 * max (v0 (ix2 k f)) 0 * v6 (ix2 f (j 1))) * tileRoot v0 v6 v8 k) := by
  idx_vars j
  pointwise [k0_pay5, k0_pay8, k0_pay12, k0_pay10, k0_pay9, tileErr, tileRoot]
  simp only [stream]

/-- A point adds its own rows' share of the loss, in every column alike. -/
theorem hloss (v0 : FVec Ideal S512x4096 .bf16) (v6 : FVec Ideal S4096x1024 .bf16) (v8 v9 : FVec Ideal S512x1024 .f32) (v10 : FVec Ideal S1x1024 .f32) (a : FVec Ideal S1x1024 .f32) (j : S1x1024.Idx) :
    k0_pay6 (F := Ideal) (k0_pay11 v0 v6 v8 v9 v10) a j
      = a j + ∑ k : Fin 512, Ideal.ofBits .f32 0x3F000000#32
        * Ideal.div (∑ b : Fin 1024, tileErr v0 v6 v8 v9 v10 k b * tileErr v0 v6 v8 v9 v10 k b) (Ideal.ofBits .f32 0x44800000#32) := by
  rw [← half_sum]
  idx_vars j
  pointwise [k0_pay6, k0_pay11, k0_pay8, k0_pay10, k0_pay9, tileErr, tileRoot]
  simp only [stream]

/-- The sum after the last point is the sum over all rows. -/
theorem total (c : Dev nD) (t : Fin cfg0.N) (ht : t.val % 8 = 7) (y : S1x1024.Idx) :
    (outsAt0 m c t.val t.isLt).2.2.1 y = dgAt (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  rw [Pipeline.eq_sum_fin_of_reset_step_apply_of_flush (fun n h => (outsAt0 m c n h).2.2.1) 8 (fun _ => 0) _
    (fun t h j => by rw [outsAt0_A m c t h]; frame_out; rw [hpay, hzero])
    (fun t h j => by rw [outsAt0_B m c t h]; frame_out; rw [hpay]) t ht y, zero_add]
  unfold dgAt err rootInv x2 tileErr tileRoot
  refine Fin.sum_mul_add_congr fun s k hl => ?_
  idx_vars y
  blk_point [iblk, V, idx t, idx ⟨_, Pipeline.run_point_lt_of_flush t ht s⟩]

theorem total_loss (c : Dev nD) (t : Fin cfg0.N) (ht : t.val % 8 = 7) (y : S1x1024.Idx) :
    (outsAt0 m c t.val t.isLt).2.2.2 y = lossAt (m ((c : Thread nD τ).loc main_arg0)) (m ((c : Thread nD τ).loc main_arg1)) (m ((c : Thread nD τ).loc main_arg2)) (m ((c : Thread nD τ).loc main_arg3)) (m ((c : Thread nD τ).loc main_arg4)) := by
  rw [Pipeline.eq_sum_fin_of_reset_step_apply_of_flush (fun n h => (outsAt0 m c n h).2.2.2) 8 (fun _ => 0) _
    (fun t h j => by rw [outsAt0_A m c t h]; frame_out; rw [hloss, hzero'])
    (fun t h j => by rw [outsAt0_B m c t h]; frame_out; rw [hloss]) t ht y, zero_add]
  unfold lossAt err rootInv x2 tileErr tileRoot
  refine Fin.sum_mul_add_congr fun s k hl => ?_
  idx_vars y
  blk_point [iblk, V, idx t, idx ⟨_, Pipeline.run_point_lt_of_flush t ht s⟩]

/-- The gain's gradient after the run. -/
theorem final_dg (c : Dev nD) : (dats m 0 c).arrAt 7 (cfgs 0).N = fun j => dgAt (m ((c : Thread nD τ).loc main_arg0)) (m ((c : Thread nD τ).loc main_arg1)) (m ((c : Thread nD τ).loc main_arg2)) (m ((c : Thread nD τ).loc main_arg3)) (m ((c : Thread nD τ).loc main_arg4)) j := by
  refine (dats m 0 c).arrAt_eq_of_covers 7 _ (by decide +kernel) fun t hf y => ?_
  blk_simp
  rw [after0_7]
  exact total m c t ((flush0_7 t).mp hf) y

/-- The loss after the run. -/
theorem final_loss (c : Dev nD) : (dats m 0 c).arrAt 8 (cfgs 0).N = fun _ => lossAt (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  exact total_loss m c t ((flush0_8 t).mp hf) y

end Cert.Kernel11Ideal.Loss

namespace Cert.Reference11Ideal.Loss

open Cert.Reference11Ideal Cert.Reference11Ideal.Gen Cert.Reference11Ideal.Value
open Cert.Kernel11Ideal.Loss (x2 rootInv err dxAt dgAt lossAt bits_half half_sum)

variable (m : (ℓ : Loc nD τ sig) → Buf (Elt Ideal) ℓ)

/-- The derivative of half the mean of the squares. -/
theorem square_back (e : EReal) :
    Ideal.div (Ideal.ofBits FTy.f32 1056964608#32) (Ideal.ofBits FTy.f32 1149239296#32) * (Ideal.ofBits FTy.f32 1073741824#32 * e)
      = e * Ideal.ofBits FTy.f32 0x3A800000#32 := by
  have h2 : Ideal.ofBits FTy.f32 1073741824#32 = ((2 : ℝ) : EReal) := by
    simp [Ideal.ofBits, Ideal.ieee, -EReal.coe_mul]; norm_num
  have h3 : Ideal.ofBits FTy.f32 0x3A800000#32 = ((1 / 1024 : ℝ) : EReal) := by
    simp [Ideal.ofBits, Ideal.ieee, -EReal.coe_mul]; norm_num
  have hh : Ideal.ofBits FTy.f32 1056964608#32 = ((1 / 2 : ℝ) : EReal) := bits_half
  rw [hh, h2, h3, Cert.Proof.NormBack.bits_1024, Ideal.div_coe (by norm_num), ← mul_assoc, ← EReal.coe_mul, ← EReal.coe_mul, mul_comm]
  congr 2
  norm_num

/-- The plain text's gradient of the stream is the closed form. -/
theorem dx_eq (c : Dev nD) (y : S4096x1024.Idx) :
    (res_main_v54 (F := Ideal) m c : FVec Ideal S4096x1024 .f32) y = dxAt (m ((c : Thread nD τ).loc main_arg0)) (m ((c : Thread nD τ).loc main_arg1)) (m ((c : Thread nD τ).loc main_arg2)) (m ((c : Thread nD τ).loc main_arg3)) (m ((c : Thread nD τ).loc main_arg4)) y := by
  idx_vars y
  pointwise [res_main_v54, dxAt, err, rootInv, x2]
  simp only [Fin.sum_univ_one, square_back]
  exact Cert.Proof.NormBack.back_plain (fun k => x2 (m ((c : Thread nD τ).loc main_arg0)) (m ((c : Thread nD τ).loc main_arg1)) (m ((c : Thread nD τ).loc main_arg2)) y0 k)
    (fun k => err (m ((c : Thread nD τ).loc main_arg0)) (m ((c : Thread nD τ).loc main_arg1)) (m ((c : Thread nD τ).loc main_arg2)) (m ((c : Thread nD τ).loc main_arg3)) (m ((c : Thread nD τ).loc main_arg4)) y0 k * Ideal.ofBits .f32 0x3A800000#32 * (show EReal from (m ((c : Thread nD τ).loc main_arg4)) (ix2 0 k))) y1

theorem copy_eq (c : Dev nD) (y : S4096x1024.Idx) :
    (res_main_v55 (F := Ideal) m c : FVec Ideal S4096x1024 .bf16) y = dxAt (m ((c : Thread nD τ).loc main_arg0)) (m ((c : Thread nD τ).loc main_arg1)) (m ((c : Thread nD τ).loc main_arg2)) (m ((c : Thread nD τ).loc main_arg3)) (m ((c : Thread nD τ).loc main_arg4)) y := by
  refine Eq.trans ?_ (dx_eq m c y)
  rfl

theorem dg_eq (c : Dev nD) (y : S1x1024.Idx) :
    (res_main_v38 (F := Ideal) m c : FVec Ideal S1x1024 .f32) y = dgAt (m ((c : Thread nD τ).loc main_arg0)) (m ((c : Thread nD τ).loc main_arg1)) (m ((c : Thread nD τ).loc main_arg2)) (m ((c : Thread nD τ).loc main_arg3)) (m ((c : Thread nD τ).loc main_arg4)) y := by
  idx_vars y
  pointwise [res_main_v38, dgAt, err, rootInv, x2]
  simp only [square_back]
  refine (Finset.sum_congr rfl fun s _ => ?_ : (_ : EReal) = _)
  exact mul_comm (_ : EReal) _

theorem loss_eq (c : Dev nD) (y : S1x1024.Idx) :
    (res_main_v56 (F := Ideal) m c : FVec Ideal S1x1024 .f32) y = lossAt (m ((c : Thread nD τ).loc main_arg0)) (m ((c : Thread nD τ).loc main_arg1)) (m ((c : Thread nD τ).loc main_arg2)) (m ((c : Thread nD τ).loc main_arg3)) (m ((c : Thread nD τ).loc main_arg4)) := by
  unfold lossAt
  rw [← half_sum]
  idx_vars y
  pointwise [res_main_v56, err, rootInv, x2]

end Cert.Reference11Ideal.Loss

/-- The kernel's results and the plain text's are the same functions of the arguments. -/
theorem Cert.Proof.loss : Cert.algebraic_Kernel11Ideal_Reference11Ideal := by
  intro m g m' g' hpre hag
  refine ⟨fun c => (Cert.Kernel11Ideal.Gen.dats m 0 c).arrAt 5 (Cert.Kernel11Ideal.cfgs 0).N,
    fun c => (Cert.Kernel11Ideal.Gen.dats m 0 c).arrAt 6 (Cert.Kernel11Ideal.cfgs 0).N,
    fun c => (Cert.Kernel11Ideal.Gen.dats m 0 c).arrAt 7 (Cert.Kernel11Ideal.cfgs 0).N,
    fun c => (Cert.Kernel11Ideal.Gen.dats m 0 c).arrAt 8 (Cert.Kernel11Ideal.cfgs 0).N, ?_, ?_⟩
  · run_from Cert.Kernel11Ideal.Gen.run_main m g
  · refine (θ_run Cert.Reference11Ideal.defs _ _).mono (fun r h c => ?_) (Cert.Reference11Ideal.Value.run (F := Ideal) m' g')
    obtain ⟨h1, h2, h3, h4, h5⟩ := h c
    obtain ⟨a0, a1, a2, a3, a4⟩ := hag c
    refine ⟨h1.trans ?_, h2.trans ?_, h3.trans ?_, h4.trans ?_, h5⟩
    · refine (funext fun y => Cert.Reference11Ideal.Loss.dx_eq m' c y : _ = _).trans
        (Eq.trans ?_ (Cert.Kernel11Ideal.Loss.final_dx m c).symm)
      simp only [a0, a1, a2, a3, a4]
    · refine (funext fun y => Cert.Reference11Ideal.Loss.copy_eq m' c y : _ = _).trans
        (Eq.trans ?_ (Cert.Kernel11Ideal.Loss.final_copy m c).symm)
      simp only [a0, a1, a2, a3, a4]
    · refine (funext fun y => Cert.Reference11Ideal.Loss.dg_eq m' c y : _ = _).trans
        (Eq.trans ?_ (Cert.Kernel11Ideal.Loss.final_dg m c).symm)
      simp only [a0, a1, a2, a3, a4]
    · refine (funext fun y => Cert.Reference11Ideal.Loss.loss_eq m' c y : _ = _).trans
        (Eq.trans ?_ (Cert.Kernel11Ideal.Loss.final_loss m c).symm)
      rw [a0, a1, a2, a3, a4]
      rfl

end
-- ==== Proof.ProjBwd.lean ====
/-
  The gradient through the four projections of the first mixing layer and the norm before them, and the gradient of the
  gain of that norm: what the tiled kernel leaves in its two result arrays is the transposed derivative of the plain
  text, index by index.
-/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.Claim
public import proofs.«01_k».proof.Proof.NormBack

@[expose] public section

set_option maxRecDepth 16384

noncomputable section

open Idealize.ShloMosaic Idealize.ShloMosaic.TcCoe Idealize.SL.Sem
open Idealize.ShloMosaic.Pipeline (Dat)

namespace Cert.Kernel12Ideal.ProjBwd

open Cert.Kernel12Ideal Cert.Kernel12Ideal.Gen

variable (m : (ℓ : Loc nD τ sig) → Buf (Elt Ideal) ℓ)

/-- The incoming gradient of the normed rows. -/
def dh (QD KD VD : FVec Ideal S4096x512 .f32) (SD : FVec Ideal S4096x1024 .bf16) (WQ WK WV : FVec Ideal S512x1024 .bf16) (WS : FVec Ideal S1024x1024 .bf16) (s : Fin 4096) (j : Fin 1024) : EReal :=
  ((∑ k : Fin 1024, SD (ix2 s k) * WS (ix2 k j)) + ∑ k : Fin 512, VD (ix2 s k) * WV (ix2 k j))
    + (∑ k : Fin 512, KD (ix2 s k) * WK (ix2 k j)) + ∑ k : Fin 512, QD (ix2 s k) * WQ (ix2 k j)

/-- The inverse root of a row's mean square. -/
def rootInv (X : FVec Ideal S4096x1024 .f32) (s : Fin 4096) : EReal :=
  Ideal.rsqrt (Ideal.div (∑ k : Fin 1024, X (ix2 s k) * X (ix2 s k)) (Ideal.ofBits .f32 0x44800000#32) + Ideal.ofBits .f32 0x358637BD#32)

/-- The gradient of the rows, in the closed form, and what the residual branch adds. -/
def dxAt (QD KD VD : FVec Ideal S4096x512 .f32) (SD : FVec Ideal S4096x1024 .bf16) (WQ WK WV : FVec Ideal S512x1024 .bf16) (WS : FVec Ideal S1024x1024 .bf16)
    (X T : FVec Ideal S4096x1024 .f32) (G : FVec Ideal S1x1024 .f32) (j : S4096x1024.Idx) : EReal :=
  rootInv X (j 0) * (dh QD KD VD SD WQ WK WV WS (j 0) (j 1) * G (ix2 0 (j 1)))
    - X (ix2 (j 0) (j 1)) * (rootInv X (j 0) * rootInv X (j 0) * rootInv X (j 0)
        * Ideal.div (∑ k : Fin 1024, dh QD KD VD SD WQ WK WV WS (j 0) k * G (ix2 0 k) * X (ix2 (j 0) k)) (Ideal.ofBits .f32 0x44800000#32))
    + T (ix2 (j 0) (j 1))

/-- The gradient of the gain. -/
def dgAt (QD KD VD : FVec Ideal S4096x512 .f32) (SD : FVec Ideal S4096x1024 .bf16) (WQ WK WV : FVec Ideal S512x1024 .bf16) (WS : FVec Ideal S1024x1024 .bf16)
    (X : FVec Ideal S4096x1024 .f32) (j : S1x1024.Idx) : EReal :=
  ∑ s : Fin 4096, dh QD KD VD SD WQ WK WV WS s (j 1) * (X (ix2 s (j 1)) * rootInv X s)

/-- Every window's block index at every point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![0, 0]
    ∧ win0_11.index t = ![t.val, 0] ∧ win0_12.index t = ![0, 0] :=
  (by decide +kernel : ∀ t : Fin grid0.N, _)

/-- A tile of the incoming gradient: the four products, in the order of the plain text. -/
theorem grad (v0 : FVec Ideal S512x512 .f32) (v2 : FVec Ideal S512x1024 .bf16) (v4 : FVec Ideal S512x512 .f32) (v6 : FVec Ideal S512x1024 .bf16)
    (v9 : FVec Ideal S512x512 .f32) (v11 : FVec Ideal S512x1024 .bf16) (v14 : FVec Ideal S512x1024 .bf16) (v15 : FVec Ideal S1024x1024 .bf16)
    (a : Fin 512) (b : Fin 1024) :
    k0_pay4 (F := Ideal) v0 v2 v4 v6 v9 v11 v14 v15 (ix2 a b)
      = ((∑ k : Fin 1024, v14 (ix2 a k) * v15 (ix2 k b)) + ∑ k : Fin 512, v9 (ix2 a k) * v11 (ix2 k b))
        + (∑ k : Fin 512, v4 (ix2 a k) * v6 (ix2 k b)) + ∑ k : Fin 512, v0 (ix2 a k) * v2 (ix2 k b) := by
  have order : ∀ p q r s : EReal, s + r + q + p = p + q + r + s := fun p q r s => by ac_rfl
  rw [order]
  pointwise [k0_pay4]

/-- What a point stores at an index of its block of rows is the closed form at the index's place in the array. -/
theorem point (c : Dev nD) (t : Fin cfg0.N) (y : S512x1024.Idx) :
    k0_pay1 (F := Ideal) (k0_pay4 (iblk m c 0 t) (iblk m c 4 t) (iblk m c 1 t) (iblk m c 5 t) (iblk m c 2 t) (iblk m c 6 t) (iblk m c 3 t) (iblk m c 7 t))
        (iblk m c 8 t) (iblk m c 9 t) (iblk m c 10 t) (k0_pay5 (iblk m c 8 t)) y
      = dxAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb y) := by
  idx_vars y
  pointwise [k0_pay1, k0_pay5, dxAt, dh, rootInv]
  simp only [grad]
  blk_point [iblk, V, idx t]

/-- The first result array after the run. -/
theorem final_dx (c : Dev nD) : (dats m 0 c).arrAt 11 (cfgs 0).N = fun j => dxAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) j := by
  refine (dats m 0 c).arrAt_eq_of_covers 11 _ (by decide +kernel) fun t _ y => ?_
  blk_simp
  rw [after0_11]
  by_cases h : t.val % 8 = 0
  · rw [outsAt0_A m c t h]; frame_out
    exact point m c t y
  · rw [outsAt0_B m c t h]; frame_out
    exact point m c t y

theorem hzero (j) : k0_pay2 (F := Ideal) j = 0 := by pointwise [k0_pay2]

/-- A point adds its own rows' share of the gain's gradient. -/
theorem hpay (v0 : FVec Ideal S512x512 .f32) (v2 : FVec Ideal S512x1024 .bf16) (v4 : FVec Ideal S512x512 .f32) (v6 : FVec Ideal S512x1024 .bf16)
    (v9 : FVec Ideal S512x512 .f32) (v11 : FVec Ideal S512x1024 .bf16) (v14 : FVec Ideal S512x1024 .bf16) (v15 : FVec Ideal S1024x1024 .bf16)
    (x : FVec Ideal S512x1024 .f32) (a : FVec Ideal S1x1024 .f32) (j : S1x1024.Idx) :
    k0_pay3 (F := Ideal) (k0_pay4 v0 v2 v4 v6 v9 v11 v14 v15) x (k0_pay5 x) a j
      = a j + ∑ s : Fin 512, (((∑ k : Fin 1024, v14 (ix2 s k) * v15 (ix2 k (j 1))) + ∑ k : Fin 512, v9 (ix2 s k) * v11 (ix2 k (j 1)))
        + (∑ k : Fin 512, v4 (ix2 s k) * v6 (ix2 k (j 1))) + ∑ k : Fin 512, v0 (ix2 s k) * v2 (ix2 k (j 1))) * (x (ix2 s (j 1))
        * Ideal.rsqrt (Ideal.div (∑ k : Fin 1024, x (ix2 s k) * x (ix2 s k)) (Ideal.ofBits .f32 0x44800000#32) + Ideal.ofBits .f32 0x358637BD#32)) := by
  idx_vars j
  pointwise [k0_pay3, k0_pay5]
  simp only [grad]

/-- The sum after the last point is the sum over all rows. -/
theorem total (c : Dev nD) (t : Fin cfg0.N) (ht : t.val % 8 = 7) (y : S1x1024.Idx) :
    (outsAt0 m c t.val t.isLt).2 y = dgAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 12).blk t).view.emb y) := by
  rw [Pipeline.eq_sum_fin_of_reset_step_apply_of_flush (fun n h => (outsAt0 m c n h).2) 8 (fun _ => 0) _
    (fun t h j => by rw [outsAt0_A m c t h]; frame_out; rw [hpay, hzero])
    (fun t h j => by rw [outsAt0_B m c t h]; frame_out; rw [hpay]) t ht y, zero_add]
  unfold dgAt dh rootInv
  refine Fin.sum_mul_add_congr fun s k hl => ?_
  idx_vars y
  blk_point [iblk, V, idx t, idx ⟨_, Pipeline.run_point_lt_of_flush t ht s⟩]

/-- The gain's gradient after the run. -/
theorem final_dg (c : Dev nD) : (dats m 0 c).arrAt 12 (cfgs 0).N = fun j => dgAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j := by
  refine (dats m 0 c).arrAt_eq_of_covers 12 _ (by decide +kernel) fun t hf y => ?_
  blk_simp
  rw [after0_12]
  exact total m c t ((flush0_12 t).mp hf) y

end Cert.Kernel12Ideal.ProjBwd

namespace Cert.Reference12Ideal.ProjBwd

open Cert.Reference12Ideal Cert.Reference12Ideal.Gen Cert.Reference12Ideal.Value
open Cert.Kernel12Ideal.ProjBwd (dh rootInv dxAt dgAt)

variable (m : (ℓ : Loc nD τ sig) → Buf (Elt Ideal) ℓ)

/-- The plain text's gradient of the rows is the closed form. -/
theorem dx_eq (c : Dev nD) (y : S4096x1024.Idx) :
    (res_main_v50 (F := Ideal) m c : FVec Ideal S4096x1024 .f32) y = dxAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) y := by
  idx_vars y
  pointwise [res_main_v50, dxAt, dh, rootInv]
  simp only [Fin.sum_univ_one]
  exact Cert.Proof.NormBack.back_add (fun k => (m ((c : Thread nD τ).loc main_arg8)) (ix2 y0 k))
    (fun k => ((∑ q : Fin 1024, (show EReal from (m ((c : Thread nD τ).loc main_arg3)) (ix2 y0 q)) * (show EReal from (m ((c : Thread nD τ).loc main_arg7)) (ix2 q k))) + (∑ q : Fin 512, (show EReal from (m ((c : Thread nD τ).loc main_arg2)) (ix2 y0 q)) * (show EReal from (m ((c : Thread nD τ).loc main_arg6)) (ix2 q k))) + (∑ q : Fin 512, (show EReal from (m ((c : Thread nD τ).loc main_arg1)) (ix2 y0 q)) * (show EReal from (m ((c : Thread nD τ).loc main_arg5)) (ix2 q k)))
      + (∑ q : Fin 512, (show EReal from (m ((c : Thread nD τ).loc main_arg0)) (ix2 y0 q)) * (show EReal from (m ((c : Thread nD τ).loc main_arg4)) (ix2 q k)))) * (show EReal from (m ((c : Thread nD τ).loc main_arg10)) (ix2 0 k))) y1 ((m ((c : Thread nD τ).loc main_arg9)) (ix2 y0 y1))

/-- The gain's gradient as the plain text composes it. -/
def dg (QD KD VD : FVec Ideal S4096x512 .f32) (SD : FVec Ideal S4096x1024 .bf16) (WQ WK WV : FVec Ideal S512x1024 .bf16) (WS : FVec Ideal S1024x1024 .bf16) (X : FVec Ideal S4096x1024 .f32) : FVec Ideal S1x1024 .f32 :=
  shapeCast _ (Host.reduceAdd (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (addf (addf (addf (Host.dotGeneral dot_S4096x1024_S1024x1024_S4096x1024_1_0_0_1_n_n none (extf .f32 SD bitsLt_bf16_f32) (extf .f32 WS bitsLt_bf16_f32)) (Host.dotGeneral dot_S4096x512_S512x1024_S4096x1024_1_0_0_1_n_n none VD (extf .f32 WV bitsLt_bf16_f32))) (Host.dotGeneral dot_S4096x512_S512x1024_S4096x1024_1_0_0_1_n_n none KD (extf .f32 WK bitsLt_bf16_f32))) (Host.dotGeneral dot_S4096x512_S512x1024_S4096x1024_1_0_0_1_n_n none QD (extf .f32 WQ bitsLt_bf16_f32)))) (constant S_ .f32 0x00000000#32) reducesTo_S4096x1024_S1024_d0 h_S_) shapeCasts_S1024_S1x1024

theorem dg_eq (QD KD VD : FVec Ideal S4096x512 .f32) (SD : FVec Ideal S4096x1024 .bf16) (WQ WK WV : FVec Ideal S512x1024 .bf16) (WS : FVec Ideal S1024x1024 .bf16) (X : FVec Ideal S4096x1024 .f32) :
    dg QD KD VD SD WQ WK WV WS X = fun j => dgAt QD KD VD SD WQ WK WV WS X j := by
  funext y
  idx_vars y
  pointwise [dg, dgAt, dh, rootInv]
  exact Finset.sum_congr rfl fun s _ => mul_comm _ _

end Cert.Reference12Ideal.ProjBwd

set_option maxHeartbeats 4000000 in
/-- The kernel's results and the plain text's are the same functions of the arguments. -/
theorem Cert.Proof.proj_bwd : Cert.algebraic_Kernel12Ideal_Reference12Ideal := by
  intro m g m' g' hpre hag
  refine ⟨fun c => (Cert.Kernel12Ideal.Gen.dats m 0 c).arrAt 11 (Cert.Kernel12Ideal.cfgs 0).N,
    fun c => (Cert.Kernel12Ideal.Gen.dats m 0 c).arrAt 12 (Cert.Kernel12Ideal.cfgs 0).N, ?_, ?_⟩
  · run_from Cert.Kernel12Ideal.Gen.run_main m g
  · refine (θ_run Cert.Reference12Ideal.defs _ _).mono (fun r h c => ?_) (Cert.Reference12Ideal.Value.run (F := Ideal) m' g')
    obtain ⟨h1, h2, h3⟩ := h c
    obtain ⟨a0, a1, a2, a3, a4, a5, a6, a7, a8, a9, a10⟩ := hag c
    refine ⟨h1.trans ?_, h2.trans ?_, h3⟩
    · refine (funext fun y => Cert.Reference12Ideal.ProjBwd.dx_eq m' c y : _ = _).trans
        (Eq.trans ?_ (Cert.Kernel12Ideal.ProjBwd.final_dx m c).symm)
      simp only [a0, a1, a2, a3, a4, a5, a6, a7, a8, a9, a10]
    · refine (Cert.Reference12Ideal.ProjBwd.dg_eq _ _ _ _ _ _ _ _ _).trans
        (Eq.trans ?_ (Cert.Kernel12Ideal.ProjBwd.final_dg m c).symm)
      simp only [a0, a1, a2, a3, a4, a5, a6, a7, a8]

end
-- ==== Proof.OutProj.lean ====
/-
  The output projection with its residual and the norm after it: what the tiled kernel leaves in its two result arrays is
  the sum and the normed sum of the plain text, index by index.
-/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel13Ideal.OutProj

open Cert.Kernel13Ideal Cert.Kernel13Ideal.Gen

variable (m : (ℓ : Loc nD τ sig) → Buf (Elt Ideal) ℓ)

/-- The residual stream after the projection. -/
def stream (A : FVec Ideal S4096x1024 .bf16) (W : FVec Ideal S1024x1024 .bf16) (X : FVec Ideal S4096x1024 .f32) (s : Fin 4096) (k : Fin 1024) : EReal :=
  X (ix2 s k) + ∑ f : Fin 1024, A (ix2 s f) * W (ix2 f k)

/-- The normed stream. -/
def normed (A : FVec Ideal S4096x1024 .bf16) (W : FVec Ideal S1024x1024 .bf16) (X : FVec Ideal S4096x1024 .f32) (G : FVec Ideal S1x1024 .f32) (j : S4096x1024.Idx) : EReal :=
  stream A W X (j 0) (j 1)
    * Ideal.rsqrt (Ideal.div (∑ k : Fin 1024, stream A W X (j 0) k * stream A W X (j 0) k) (Ideal.ofBits .f32 0x44800000#32) + Ideal.ofBits .f32 0x358637BD#32)
    * G (ix2 0 (j 1))

/-- Every window's block index at every point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- A tile of the residual stream. -/
theorem tile (v0 v1 : FVec Ideal S1024x1024 .bf16) (v3 : FVec Ideal S1024x1024 .f32) (a b : Fin 1024) :
    k0_pay1 (F := Ideal) v0 v1 v3 (ix2 a b) = v3 (ix2 a b) + ∑ f : Fin 1024, v0 (ix2 a f) * v1 (ix2 f b) := by
  rw [add_comm]
  pointwise [k0_pay1]

/-- The first result array after the run. -/
theorem final_stream (c : Dev nD) : (dats m 0 c).arrAt 4 (cfgs 0).N = fun j => stream (m ((c : Thread nD τ).loc main_arg0)) (m ((c : Thread nD τ).loc main_arg1)) (m ((c : Thread nD τ).loc main_arg2)) (j 0) (j 1) := by
  refine (dats m 0 c).arrAt_eq_of_covers 4 _ (by decide +kernel) fun t _ y => ?_
  blk_simp
  rw [after0_4]
  frame_out
  idx_vars y
  unfold stream
  rw [tile]
  blk_point [iblk, V, idx t]

/-- The second result array after the run. -/
theorem final_normed (c : Dev nD) : (dats m 0 c).arrAt 5 (cfgs 0).N = fun j => normed (m ((c : Thread nD τ).loc main_arg0)) (m ((c : Thread nD τ).loc main_arg1)) (m ((c : Thread nD τ).loc main_arg2)) (m ((c : Thread nD τ).loc main_arg3)) j := by
  refine (dats m 0 c).arrAt_eq_of_covers 5 _ (by decide +kernel) fun t _ y => ?_
  blk_simp
  rw [after0_5]
  frame_out
  idx_vars y
  pointwise [k0_pay2, normed, stream]
  simp only [tile]
  blk_point [iblk, V, idx t]

end Cert.Kernel13Ideal.OutProj

namespace Cert.Reference13Ideal.OutProj

open Cert.Reference13Ideal Cert.Reference13Ideal.Gen
open Cert.Kernel13Ideal.OutProj (stream normed)

/-- The residual stream as the plain text composes it. -/
def streamText (A : FVec Ideal S4096x1024 .bf16) (W : FVec Ideal S1024x1024 .bf16) (X : FVec Ideal S4096x1024 .f32) : FVec Ideal S4096x1024 .f32 :=
  addf X (Host.dotGeneral dot_S4096x1024_S1024x1024_S4096x1024_1_0_0_1_n_n none (extf .f32 A bitsLt_bf16_f32) (extf .f32 W bitsLt_bf16_f32))

theorem stream_eq (A : FVec Ideal S4096x1024 .bf16) (W : FVec Ideal S1024x1024 .bf16) (X : FVec Ideal S4096x1024 .f32) : streamText A W X = fun j => stream A W X (j 0) (j 1) := by
  funext j
  idx_vars j
  pointwise [streamText, stream]

/-- The normed stream as the plain text composes it. -/
def normedText (A : FVec Ideal S4096x1024 .bf16) (W : FVec Ideal S1024x1024 .bf16) (X : FVec Ideal S4096x1024 .f32) (G : FVec Ideal S1x1024 .f32) : FVec Ideal S4096x1024 .bf16 :=
  truncf .bf16 (mulf (mulf (addf X (Host.dotGeneral dot_S4096x1024_S1024x1024_S4096x1024_1_0_0_1_n_n none (extf .f32 A bitsLt_bf16_f32) (extf .f32 W bitsLt_bf16_f32))) (broadcastInDim S4096x1024 ![0, 1] bcast_S4096x1_S4096x1024_0_1 (Host.rsqrt (addf (Host.divf (broadcastInDim S4096x1 ![0] bcast_S4096_S4096x1_0 (Host.reduceAdd (mulf (addf X (Host.dotGeneral dot_S4096x1024_S1024x1024_S4096x1024_1_0_0_1_n_n none (extf .f32 A bitsLt_bf16_f32) (extf .f32 W bitsLt_bf16_f32))) (addf X (Host.dotGeneral dot_S4096x1024_S1024x1024_S4096x1024_1_0_0_1_n_n none (extf .f32 A bitsLt_bf16_f32) (extf .f32 W bitsLt_bf16_f32)))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) bitsLt_bf16_f32

theorem normed_eq (A : FVec Ideal S4096x1024 .bf16) (W : FVec Ideal S1024x1024 .bf16) (X : FVec Ideal S4096x1024 .f32) (G : FVec Ideal S1x1024 .f32) : normedText A W X G = fun j => normed A W X G j := by
  funext j
  idx_vars j
  pointwise [normedText, normed, stream]

end Cert.Reference13Ideal.OutProj

/-- The kernel's results and the plain text's are the same functions of the arguments. -/
theorem Cert.Proof.out_proj : Cert.algebraic_Kernel13Ideal_Reference13Ideal := by
  pair_intro
  · run_from Cert.Kernel13Ideal.Gen.run_main m g
  · run_from Cert.Reference13Ideal.Value.run m' g'
    · rw [Cert.Kernel13Ideal.OutProj.final_stream m c]
      exact Cert.Reference13Ideal.OutProj.stream_eq _ _ _
    · rw [Cert.Kernel13Ideal.OutProj.final_normed m c]
      exact Cert.Reference13Ideal.OutProj.normed_eq _ _ _ _

end
-- ==== Proof.ProjSmall.lean ====
/-
  The narrow projections: the normed input times the transposed weight, tile by tile of rows.
-/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel14Ideal.ProjSmall

open Cert.Kernel14Ideal Cert.Kernel14Ideal.Gen

variable (m : (ℓ : Loc nD τ sig) → Buf (Elt Ideal) ℓ)

/-- The product of the rows and the rows of the transposed weight. -/
def prod (A : FVec Ideal S4096x1024 .bf16) (W : FVec Ideal S1024x1024 .bf16) : FVec Ideal S4096x1024 .f32 := fun j =>
  ∑ k : Fin 1024, A (ix2 (j 0) k) * W (ix2 (j 1) k)

/-- Every window's block index at every point. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  pointwise [k0_pay1, prod]
  blk_point [iblk, V, idx t]

end Cert.Kernel14Ideal.ProjSmall

namespace Cert.Reference14Ideal.ProjSmall

open Cert.Reference14Ideal Cert.Reference14Ideal.Gen

/-- The projection as the plain text composes it. -/
def text (A : FVec Ideal S4096x1024 .bf16) (W : FVec Ideal S1024x1024 .bf16) : FVec Ideal S4096x1024 .f32 :=
  Host.dotGeneral dot_S4096x1024_S1024x1024_S4096x1024_1_1_0_0_n_n none (extf .f32 A bitsLt_bf16_f32) (extf .f32 W bitsLt_bf16_f32)

theorem text_eq (A : FVec Ideal S4096x1024 .bf16) (W : FVec Ideal S1024x1024 .bf16) : text A W = Cert.Kernel14Ideal.ProjSmall.prod A W := by
  funext j
  idx_vars j
  pointwise [text, Cert.Kernel14Ideal.ProjSmall.prod]

end Cert.Reference14Ideal.ProjSmall

/-- The kernel's results and the plain text's are the same functions of the arguments. -/
theorem Cert.Proof.proj_small : Cert.algebraic_Kernel14Ideal_Reference14Ideal := by
  pair_intro
  · run_from Cert.Kernel14Ideal.Gen.run_main m g
  · run_from Cert.Reference14Ideal.Value.run m' g'
    rw [Cert.Kernel14Ideal.ProjSmall.final m c]
    exact Cert.Reference14Ideal.ProjSmall.text_eq _ _

end
-- ==== Proof.ProjQkv.lean ====
/-
  The wide projection: the normed input times the transposed weight, once by rows and once in transposed blocks of rows.
-/
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel15Ideal.ProjQkv

open Cert.Kernel15Ideal Cert.Kernel15Ideal.Gen

variable (m : (ℓ : Loc nD τ sig) → Buf (Elt Ideal) ℓ)

/-- The product of a row and a row of the transposed weight. -/
def prod (A : FVec Ideal S4096x1024 .bf16) (W : FVec Ideal S1536x1024 .bf16) (s : Fin 4096) (f : Fin 1536) : EReal :=
  ∑ k : Fin 1024, A (ix2 s k) * W (ix2 f k)

/-- The transposed blocks: block, feature, row within the block. -/
def blocked (A : FVec Ideal S4096x1024 .bf16) (W : FVec Ideal S1536x1024 .bf16) (j : S8x1536x512.Idx) : EReal :=
  prod A W ⟨(j 0).val * 512 + (j 2).val, by have h0 : (j 0).val < 8 := (j 0).isLt; have h2 : (j 2).val < 512 := (j 2).isLt; omega⟩ (j 1)

/-- Every window's block index at every point. -/
theorem idx : ∀ t : Fin cfg0.N, win0_0.index t = ![t.val, 0] ∧ win0_1.index t = ![0, 0] ∧ win0_2.index t = ![t.val, 0]
    ∧ win0_3.index t = ![t.val, 0, 0] :=
  (by decide +kernel : ∀ t : Fin grid0.N, _)

/-- The first result array after the run. -/
theorem final_rows (c : Dev nD) : (dats m 0 c).arrAt 2 (cfgs 0).N = fun j => prod (m ((c : Thread nD τ).loc main_arg0)) (m ((c : Thread nD τ).loc main_arg1)) (j 0) (j 1) := by
  refine (dats m 0 c).arrAt_eq_of_covers 2 _ (by decide +kernel) fun t _ y => ?_
  blk_simp
  rw [after0_2]
  frame_out
  idx_vars y
  pointwise [k0_pay2, k0_pay1, prod]
  blk_point [iblk, V, idx t]

/-- The product of a tile, at an entry whose place in the array of blocks is known. -/
theorem core (c : Dev nD) (t : Fin cfg0.N) (i : S1024x1536.Idx) (j : S8x1536x512.Idx)
    (hr : t.val * 1024 + (i 0 : ℕ) = (j 0).val * 512 + (j 2).val) (hf : (i 1 : ℕ) = (j 1).val) :
    k0_pay1 (F := Ideal) (iblk m c 0 t) (iblk m c 1 t) i = blocked (m ((c : Thread nD τ).loc main_arg0)) (m ((c : Thread nD τ).loc main_arg1)) j := by
  idx_vars i
  pointwise [k0_pay1, blocked, prod]
  blk_point [iblk, V, idx t]

/-- What a point stores in its two transposed blocks. -/
theorem point (c : Dev nD) (t : Fin cfg0.N) (y : S2x1536x512.Idx) :
    Gen.out0_3 (F := Ideal) (iblk m c 0 t) (iblk m c 1 t) y = blocked (m ((c : Thread nD τ).loc main_arg0)) (m ((c : Thread nD τ).loc main_arg1)) (((cfg0.win 3).blk t).view.emb y) := by
  obtain_idx i : S1024x1536 := [512 * (y 0 : ℕ) + (y 2 : ℕ), (y 1 : ℕ)] with hi
  refine Eq.trans (b := k0_pay1 (F := Ideal) (iblk m c 0 t) (iblk m c 1 t) i) ?_ (core m c t i _ ?_ ?_)
  · canon_tiles x h
    all_goals (open_payloads; pointwise; blk_ext)
  all_goals (blk_simp [idx t] <;> try omega)

/-- The second result array after the run. -/
theorem final_blocked (c : Dev nD) : (dats m 0 c).arrAt 3 (cfgs 0).N = fun j => blocked (m ((c : Thread nD τ).loc main_arg0)) (m ((c : Thread nD τ).loc main_arg1)) j := by
  refine (dats m 0 c).arrAt_eq_of_covers 3 _ (by decide +kernel) fun t _ y => ?_
  blk_simp
  rw [after0_3]
  exact point m c t y

end Cert.Kernel15Ideal.ProjQkv

namespace Cert.Reference15Ideal.ProjQkv

open Cert.Reference15Ideal Cert.Reference15Ideal.Gen
open Cert.Kernel15Ideal.ProjQkv (prod blocked)

/-- The rows as the plain text composes them. -/
def rowsText (A : FVec Ideal S4096x1024 .bf16) (W : FVec Ideal S1536x1024 .bf16) : FVec Ideal S4096x1536 .bf16 :=
  truncf .bf16 (Host.dotGeneral dot_S4096x1024_S1536x1024_S4096x1536_1_1_0_0_n_n none (extf .f32 A bitsLt_bf16_f32) (extf .f32 W bitsLt_bf16_f32)) bitsLt_bf16_f32

theorem rows_eq (A : FVec Ideal S4096x1024 .bf16) (W : FVec Ideal S1536x1024 .bf16) : rowsText A W = fun j => prod A W (j 0) (j 1) := by
  funext j
  idx_vars j
  pointwise [rowsText, prod]

/-- The transposed blocks as the plain text composes them. -/
def blockedText (A : FVec Ideal S4096x1024 .bf16) (W : FVec Ideal S1536x1024 .bf16) : FVec Ideal S8x1536x512 .bf16 :=
  transpose S8x1536x512 [0, 2, 1] (shapeCast _ (truncf .bf16 (Host.dotGeneral dot_S4096x1024_S1536x1024_S4096x1536_1_1_0_0_n_n none (extf .f32 A bitsLt_bf16_f32) (extf .f32 W bitsLt_bf16_f32)) bitsLt_bf16_f32) shapeCasts_S4096x1536_S8x512x1536) transposes_S8x512x1536_S8x1536x512_0_2_1

theorem blocked_eq (A : FVec Ideal S4096x1024 .bf16) (W : FVec Ideal S1536x1024 .bf16) : blockedText A W = fun j => blocked A W j := by
  funext j
  idx_vars j
  pointwise [blockedText, blocked, prod]

end Cert.Reference15Ideal.ProjQkv

/-- The kernel's results and the plain text's are the same functions of the arguments. -/
theorem Cert.Proof.proj_qkv : Cert.algebraic_Kernel15Ideal_Reference15Ideal := by
  pair_intro
  · run_from Cert.Kernel15Ideal.Gen.run_main m g
  · run_from Cert.Reference15Ideal.Value.run m' g'
    · rw [Cert.Kernel15Ideal.ProjQkv.final_rows m c]
      exact Cert.Reference15Ideal.ProjQkv.rows_eq _ _
    · rw [Cert.Kernel15Ideal.ProjQkv.final_blocked m c]
      exact Cert.Reference15Ideal.ProjQkv.blocked_eq _ _

end
-- ==== Proof.DwUq.lean ====
/-
  The gradient of the weight that widens the query latents: the normed latents, transposed, times the incoming gradient,
  summed over two halves of the rows.
-/
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel16Ideal.DwUq

open Cert.Kernel16Ideal Cert.Kernel16Ideal.Gen

variable (m : (ℓ : Loc nD τ sig) → Buf (Elt Ideal) ℓ)

/-- The sum over the rows of the latent value times the incoming gradient. -/
def gradAt (A : FVec Ideal S4096x384 .bf16) (B : FVec Ideal S4096x1024 .bf16) : FVec Ideal S384x1024 .f32 := fun j =>
  ∑ s : Fin 4096, A (ix2 s (j 0)) * B (ix2 s (j 1))

/-- Every window's block index at every point. -/
theorem idx : ∀ t : Fin cfg0.N, win0_0.index t = ![t.val % 2, 0] ∧ win0_1.index t = ![t.val % 2, 0]
    ∧ win0_2.index t = ![0, 0] :=
  (by decide +kernel : ∀ t : Fin grid0.N, _)

theorem hzero (j) : k0_pay1 (F := Ideal) j = 0 := by pointwise [k0_pay1]

/-- A point adds its own rows' share. -/
theorem hpay (v3 : FVec Ideal S2048x384 .bf16) (v4 : FVec Ideal S384x1024 .f32) (v6 : FVec Ideal S2048x1024 .bf16) (j : S384x1024.Idx) :
    k0_pay2 (F := Ideal) v3 v4 v6 j = v4 j + ∑ k : Fin 2048, v3 (ix2 k (j 0)) * v6 (ix2 k (j 1)) := by
  pointwise [k0_pay2]

/-- The sum after the last point of a run is the sum over all rows. -/
theorem total (c : Dev nD) (t : Fin cfg0.N) (ht : t.val % 2 = 1) (y : S384x1024.Idx) :
    (outsAt0 m c t.val t.isLt) y = gradAt (m ((c : Thread nD τ).loc main_arg0)) (m ((c : Thread nD τ).loc main_arg1)) (((cfg0.win 2).blk t).view.emb y) := by
  rw [Pipeline.eq_sum_fin_of_reset_step_apply_of_flush (fun n h => (outsAt0 m c n h)) 2 (fun _ => 0) _
    (fun t h j => by rw [outsAt0_A m c t h]; frame_out; rw [hpay, hzero])
    (fun t h j => by rw [outsAt0_B m c t h]; frame_out; rw [hpay]) t ht y, zero_add]
  unfold gradAt
  refine Fin.sum_mul_add_congr fun s k hl => ?_
  idx_vars y
  blk_point [iblk, V, idx t, idx ⟨_, Pipeline.run_point_lt_of_flush t ht s⟩]

/-- The array of sums after the run. -/
theorem final (c : Dev nD) : (dats m 0 c).arrAt 2 (cfgs 0).N = gradAt (m ((c : Thread nD τ).loc main_arg0)) (m ((c : Thread nD τ).loc main_arg1)) := by
  refine (dats m 0 c).arrAt_eq_of_covers 2 _ (by decide +kernel) fun t hf y => ?_
  blk_simp
  rw [after0_2]
  exact total m c t ((flush0_2 t).mp hf) y

end Cert.Kernel16Ideal.DwUq

namespace Cert.Reference16Ideal.DwUq

open Cert.Reference16Ideal Cert.Reference16Ideal.Gen

/-- The derivative as the plain text composes it. -/
def text (A : FVec Ideal S4096x384 .bf16) (B : FVec Ideal S4096x1024 .bf16) : FVec Ideal S384x1024 .f32 :=
  transpose S384x1024 [1, 0] (Host.dotGeneral dot_S4096x1024_S4096x384_S1024x384_0_0_1_1_n_n none (extf .f32 B bitsLt_bf16_f32) (extf .f32 A bitsLt_bf16_f32)) transposes_S1024x384_S384x1024_1_0

theorem text_eq (A : FVec Ideal S4096x384 .bf16) (B : FVec Ideal S4096x1024 .bf16) : text A B = Cert.Kernel16Ideal.DwUq.gradAt A B := by
  funext j
  idx_vars j
  pointwise [text, Cert.Kernel16Ideal.DwUq.gradAt]
  exact Finset.sum_congr rfl fun s _ => mul_comm _ _

end Cert.Reference16Ideal.DwUq

/-- The kernel's results and the plain text's are the same functions of the arguments. -/
theorem Cert.Proof.dw_uq : Cert.algebraic_Kernel16Ideal_Reference16Ideal := by
  pair_intro
  · run_from Cert.Kernel16Ideal.Gen.run_main m g
  · run_from Cert.Reference16Ideal.Value.run m' g'
    rw [Cert.Kernel16Ideal.DwUq.final m c]
    exact Cert.Reference16Ideal.DwUq.text_eq _ _

end
-- ==== Proof.DwUkv.lean ====
/-
  The gradient of the weight that widens the key and value latents: the normed latents, transposed, times the incoming
  gradient, summed over two halves of the rows.
-/
module

public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel17Ideal.DwUkv

open Cert.Kernel17Ideal Cert.Kernel17Ideal.Gen

variable (m : (ℓ : Loc nD τ sig) → Buf (Elt Ideal) ℓ)

/-- The sum over the rows of the latent value times the incoming gradient. -/
def gradAt (A : FVec Ideal S4096x256 .bf16) (B : FVec Ideal S4096x1536 .bf16) : FVec Ideal S256x1536 .f32 := fun j =>
  ∑ s : Fin 4096, A (ix2 s (j 0)) * B (ix2 s (j 1))

/-- Every window's block index at every point. -/
theorem idx : ∀ t : Fin cfg0.N, win0_0.index t = ![t.val % 2, 0] ∧ win0_1.index t = ![t.val % 2, t.val / 2]
    ∧ win0_2.index t = ![0, t.val / 2] :=
  (by decide +kernel : ∀ t : Fin grid0.N, _)

theorem hzero (j) : k0_pay1 (F := Ideal) j = 0 := by pointwise [k0_pay1]

/-- A point adds its own rows' share. -/
theorem hpay (v3 : FVec Ideal S2048x256 .bf16) (v4 : FVec Ideal S256x768 .f32) (v6 : FVec Ideal S2048x768 .bf16) (j : S256x768.Idx) :
    k0_pay2 (F := Ideal) v3 v4 v6 j = v4 j + ∑ k : Fin 2048, v3 (ix2 k (j 0)) * v6 (ix2 k (j 1)) := by
  pointwise [k0_pay2]

/-- The sum after the last point of a run is the sum over all rows. -/
theorem total (c : Dev nD) (t : Fin cfg0.N) (ht : t.val % 2 = 1) (y : S256x768.Idx) :
    (outsAt0 m c t.val t.isLt) y = gradAt (m ((c : Thread nD τ).loc main_arg0)) (m ((c : Thread nD τ).loc main_arg1)) (((cfg0.win 2).blk t).view.emb y) := by
  rw [Pipeline.eq_sum_fin_of_reset_step_apply_of_flush (fun n h => (outsAt0 m c n h)) 2 (fun _ => 0) _
    (fun t h j => by rw [outsAt0_A m c t h]; frame_out; rw [hpay, hzero])
    (fun t h j => by rw [outsAt0_B m c t h]; frame_out; rw [hpay]) t ht y, zero_add]
  unfold gradAt
  refine Fin.sum_mul_add_congr fun s k hl => ?_
  idx_vars y
  blk_point [iblk, V, idx t, idx ⟨_, Pipeline.run_point_lt_of_flush t ht s⟩]

/-- The array of sums after the run. -/
theorem final (c : Dev nD) : (dats m 0 c).arrAt 2 (cfgs 0).N = gradAt (m ((c : Thread nD τ).loc main_arg0)) (m ((c : Thread nD τ).loc main_arg1)) := by
  refine (dats m 0 c).arrAt_eq_of_covers 2 _ (by decide +kernel) fun t hf y => ?_
  blk_simp
  rw [after0_2]
  exact total m c t ((flush0_2 t).mp hf) y

end Cert.Kernel17Ideal.DwUkv

namespace Cert.Reference17Ideal.DwUkv

open Cert.Reference17Ideal Cert.Reference17Ideal.Gen

/-- The derivative as the plain text composes it. -/
def text (A : FVec Ideal S4096x256 .bf16) (B : FVec Ideal S4096x1536 .bf16) : FVec Ideal S256x1536 .f32 :=
  transpose S256x1536 [1, 0] (Host.dotGeneral dot_S4096x1536_S4096x256_S1536x256_0_0_1_1_n_n none (extf .f32 B bitsLt_bf16_f32) (extf .f32 A bitsLt_bf16_f32)) transposes_S1536x256_S256x1536_1_0

theorem text_eq (A : FVec Ideal S4096x256 .bf16) (B : FVec Ideal S4096x1536 .bf16) : text A B = Cert.Kernel17Ideal.DwUkv.gradAt A B := by
  funext j
  idx_vars j
  pointwise [text, Cert.Kernel17Ideal.DwUkv.gradAt]
  exact Finset.sum_congr rfl fun s _ => mul_comm _ _

end Cert.Reference17Ideal.DwUkv

/-- The kernel's results and the plain text's are the same functions of the arguments. -/
theorem Cert.Proof.dw_ukv : Cert.algebraic_Kernel17Ideal_Reference17Ideal := by
  pair_intro
  · run_from Cert.Kernel17Ideal.Gen.run_main m g
  · run_from Cert.Reference17Ideal.Value.run m' g'
    rw [Cert.Kernel17Ideal.DwUkv.final m c]
    exact Cert.Reference17Ideal.DwUkv.text_eq _ _

end
-- ==== Proof.MixNormBwd.lean ====
/-
  The gradient through the output projection of the first mixing layer and the norms of its two halves: what the tiled
  kernel leaves in its result arrays is the transposed derivative of the plain text, index by index: the gradients of the
  halves, their blocks transposed, the gradients of the two gains, and the row products of each head.
-/
module

public import proofs.«01_k».proof.Defs
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise
public import Idealize.ShloMosaic.Lib.Claim
public import proofs.«01_k».proof.Proof.NormBack

@[expose] public section

set_option maxRecDepth 16384

noncomputable section

open Idealize.ShloMosaic Idealize.ShloMosaic.TcCoe Idealize.SL.Sem
open Idealize.ShloMosaic.Pipeline (Dat)

namespace Cert.Kernel18Ideal.MixNormBwd

open Cert.Kernel18Ideal Cert.Kernel18Ideal.Gen

variable (m : (ℓ : Loc nD τ sig) → Buf (Elt Ideal) ℓ)

/-- The arguments: incoming gradient, weight, the two halves, their gains, their row statistics. -/
abbrev arr0 (c : Dev nD) : FVec Ideal S4096x1024 .bf16 := m ((c : Thread nD τ).loc main_arg0)
abbrev arr1 (c : Dev nD) : FVec Ideal S1024x1024 .bf16 := m ((c : Thread nD τ).loc main_arg1)
abbrev arr2 (c : Dev nD) : FVec Ideal S4096x512 .f32 := m ((c : Thread nD τ).loc main_arg2)
abbrev arr3 (c : Dev nD) : FVec Ideal S4096x512 .f32 := m ((c : Thread nD τ).loc main_arg3)
abbrev arr4 (c : Dev nD) : FVec Ideal S1x512 .f32 := m ((c : Thread nD τ).loc main_arg4)
abbrev arr5 (c : Dev nD) : FVec Ideal S1x512 .f32 := m ((c : Thread nD τ).loc main_arg5)
abbrev arr6 (c : Dev nD) : FVec Ideal S4x4096x128 .f32 := m ((c : Thread nD τ).loc main_arg6)
abbrev arr7 (c : Dev nD) : FVec Ideal S4x4096x128 .f32 := m ((c : Thread nD τ).loc main_arg7)

/-- The columns of the joined array that belong to the first half, and to the second. -/
def left (j : Fin 512) : Fin 1024 := ⟨j.val, by omega⟩
def right (j : Fin 512) : Fin 1024 := ⟨512 + j.val, by omega⟩

/-- The incoming gradient of the joined array. -/
def dh (D : FVec Ideal S4096x1024 .bf16) (W : FVec Ideal S1024x1024 .bf16) (s : Fin 4096) (j : Fin 1024) : EReal := ∑ k : Fin 1024, D (ix2 s k) * W (ix2 j k)

/-- The inverse root of a row's mean square. -/
def rootInv (X : FVec Ideal S4096x512 .f32) (s : Fin 4096) : EReal := Ideal.rsqrt (Ideal.div (∑ k : Fin 512, X (ix2 s k) * X (ix2 s k)) (Ideal.ofBits .f32 0x44000000#32) + Ideal.ofBits .f32 0x358637BD#32)

/-- The gradient of a half, in the closed form. -/
def dxAt (D : FVec Ideal S4096x1024 .bf16) (W : FVec Ideal S1024x1024 .bf16) (X : FVec Ideal S4096x512 .f32) (G : FVec Ideal S1x512 .f32) (col : Fin 512 → Fin 1024) (s : Fin 4096) (j : Fin 512) : EReal :=
  rootInv X s * (dh D W s (col j) * G (ix2 0 j))
    - X (ix2 s j) * (rootInv X s * rootInv X s * rootInv X s * Ideal.div (∑ k : Fin 512, dh D W s (col k) * G (ix2 0 k) * X (ix2 s k)) (Ideal.ofBits .f32 0x44000000#32))

/-- The gradient of a gain. -/
def dgAt (D : FVec Ideal S4096x1024 .bf16) (W : FVec Ideal S1024x1024 .bf16) (X : FVec Ideal S4096x512 .f32) (col : Fin 512 → Fin 1024) (j : S1x512.Idx) : EReal :=
  ∑ s : Fin 4096, dh D W s (col (j 1)) * (X (ix2 s (j 1)) * rootInv X s)

/-- The row products: two lanes of each pair of heads hold a head's sum of the value times its gradient, the other lanes
what they held. -/
def statAt (D : FVec Ideal S4096x1024 .bf16) (W : FVec Ideal S1024x1024 .bf16) (X : FVec Ideal S4096x512 .f32) (G : FVec Ideal S1x512 .f32) (col : Fin 512 → Fin 1024) (S : FVec Ideal S4x4096x128 .f32) (p : Fin 4) (s : Fin 4096) (l : Fin 128) : EReal :=
  if l.val = 2 then ∑ k : Fin 64, X (ix2 s ⟨128 * p.val + k.val, by omega⟩) * dxAt D W X G col s ⟨128 * p.val + k.val, by omega⟩
  else if l.val = 3 then ∑ k : Fin 64, X (ix2 s ⟨128 * p.val + (64 + k.val), by omega⟩) * dxAt D W X G col s ⟨128 * p.val + (64 + k.val), by omega⟩
  else S (ix3 p s l)

/-- Every window's block index at every point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![0, t.val, 0]
    ∧ win0_7.index t = ![0, t.val, 0] ∧ win0_8.index t = ![t.val, 0] ∧ win0_9.index t = ![t.val, 0] ∧ win0_10.index t = ![0, 0]
    ∧ win0_11.index t = ![0, 0] ∧ win0_12.index t = ![0, t.val, 0] ∧ win0_13.index t = ![0, t.val, 0]
    ∧ win0_14.index t = ![t.val, 0, 0] ∧ win0_15.index t = ![t.val, 0, 0] :=
  (by decide +kernel : ∀ t : Fin grid0.N, _)

/-- A block's gradient of the first half is the closed form at the block's rows. -/
theorem tile_left (c : Dev nD) (t : Fin cfg0.N) (a b j : Fin 512) (s : Fin 4096) (hs : s.val = 512 * t.val + a.val) (hj : j.val = b.val) :
    k0_pay7 (F := Ideal) (iblk m c 0 t) (iblk m c 1 t) (iblk m c 2 t) (iblk m c 4 t) (ix2 a b)
      = dxAt (arr0 m c) (arr1 m c) (arr2 m c) (arr4 m c) left s j := by
  obtain rfl : j = b := Fin.ext hj
  pointwise [k0_pay7, k0_pay6, k0_pay5, k0_pay4, dxAt, dh, rootInv, left]
  blk_point [iblk, V, idx t, hs]

/-- A block's gradient of the second half is the closed form at the block's rows. -/
theorem tile_right (c : Dev nD) (t : Fin cfg0.N) (a b j : Fin 512) (s : Fin 4096) (hs : s.val = 512 * t.val + a.val) (hj : j.val = b.val) :
    k0_pay30 (F := Ideal) (k0_pay4 (iblk m c 0 t) (iblk m c 1 t)) (iblk m c 3 t) (iblk m c 5 t) (ix2 a b)
      = dxAt (arr0 m c) (arr1 m c) (arr3 m c) (arr5 m c) right s j := by
  obtain rfl : j = b := Fin.ext hj
  pointwise [k0_pay30, k0_pay29, k0_pay28, k0_pay4, dxAt, dh, rootInv, right]
  blk_point [iblk, V, idx t, hs]

/-- The gradient of the first half after the run. -/
theorem final_dx_left (c : Dev nD) : (dats m 0 c).arrAt 8 (cfgs 0).N = fun j : S4096x512.Idx => dxAt (arr0 m c) (arr1 m c) (arr2 m c) (arr4 m c) left (j 0) (j 1) := by
  refine (dats m 0 c).arrAt_eq_of_covers 8 _ (by decide +kernel) fun t _ y => ?_
  blk_simp
  rw [after0_8]
  by_cases h : t.val % 8 = 0
  on_goal 1 => rw [outsAt0_A m c t h]
  on_goal 2 => rw [outsAt0_B m c t h]
  all_goals
    frame_out
    idx_vars y
    pointwise [k0_pay8]
    refine tile_left m c t _ _ _ _ ?_ ?_ <;> (blk_simp [idx t] <;> try omega)

/-- Its blocks transposed. -/
theorem final_tr_left (c : Dev nD) : (dats m 0 c).arrAt 14 (cfgs 0).N
    = fun j : S8x512x512.Idx => dxAt (arr0 m c) (arr1 m c) (arr2 m c) (arr4 m c) left ⟨512 * (j 0).val + (j 2).val, by have h0 : (j 0).val < 8 := (j 0).isLt; have h2 : (j 2).val < 512 := (j 2).isLt; omega⟩ (j 1) := by
  refine (dats m 0 c).arrAt_eq_of_covers 14 _ (by decide +kernel) fun t _ y => ?_
  blk_simp
  rw [after0_14]
  by_cases h : t.val % 8 = 0
  on_goal 1 => rw [outsAt0_A m c t h]
  on_goal 2 => rw [outsAt0_B m c t h]
  all_goals
    frame_out
    idx_vars y
    pointwise [k0_pay10, k0_pay9, k0_pay32]
    refine tile_left m c t _ _ _ _ ?_ ?_ <;> (blk_simp [idx t] <;> try omega)

/-- A point adds its own rows' share of the gain's gradient. -/
theorem hpay_left (d : FVec Ideal S512x1024 .bf16) (w : FVec Ideal S1024x1024 .bf16) (x : FVec Ideal S512x512 .f32) (a : FVec Ideal S1x512 .f32) (j : S1x512.Idx) :
    k0_pay11 (F := Ideal) x (k0_pay5 d w) (k0_pay6 x) a j
      = a j + ∑ s : Fin 512, (∑ k : Fin 1024, d (ix2 s k) * w (ix2 (left (j 1)) k)) * (x (ix2 s (j 1)) * Ideal.rsqrt (Ideal.div (∑ k : Fin 512, x (ix2 s k) * x (ix2 s k)) (Ideal.ofBits .f32 0x44000000#32) + Ideal.ofBits .f32 0x358637BD#32)) := by
  idx_vars j
  pointwise [k0_pay11, k0_pay6, k0_pay5, k0_pay4, left]
  all_goals blk_ext

theorem hzero_left (j) : k0_pay2 (F := Ideal) j = 0 := by pointwise [k0_pay2]

/-- The gain's gradient after the run. -/
theorem final_dg_left (c : Dev nD) : (dats m 0 c).arrAt 10 (cfgs 0).N = fun j : S1x512.Idx => dgAt (arr0 m c) (arr1 m c) (arr2 m c) left j := by
  refine (dats m 0 c).arrAt_eq_of_covers 10 _ (by decide +kernel) fun t hf y => ?_
  blk_simp
  rw [after0_10]
  have ht : t.val % 8 = 7 := (flush0_10 t).mp hf
  refine (Pipeline.eq_sum_fin_of_reset_step_apply_of_flush (fun n h => (outsAt0 m c n h).2.2.1) 8 (fun _ => 0) _
    (fun t h j => by rw [outsAt0_A m c t h]; frame_out; rw [hpay_left, hzero_left])
    (fun t h j => by rw [outsAt0_B m c t h]; frame_out; rw [hpay_left]) t ht y).trans ?_
  rw [zero_add]
  unfold dgAt dh rootInv left
  refine Fin.sum_mul_add_congr fun s k hl => ?_
  idx_vars y
  blk_point [iblk, V, idx t, idx ⟨_, Pipeline.run_point_lt_of_flush t ht s⟩]

/-- The gradient of the second half after the run. -/
theorem final_dx_right (c : Dev nD) : (dats m 0 c).arrAt 9 (cfgs 0).N = fun j : S4096x512.Idx => dxAt (arr0 m c) (arr1 m c) (arr3 m c) (arr5 m c) right (j 0) (j 1) := by
  refine (dats m 0 c).arrAt_eq_of_covers 9 _ (by decide +kernel) fun t _ y => ?_
  blk_simp
  rw [after0_9]
  by_cases h : t.val % 8 = 0
  on_goal 1 => rw [outsAt0_A m c t h]
  on_goal 2 => rw [outsAt0_B m c t h]
  all_goals
    frame_out
    idx_vars y
    pointwise [k0_pay31]
    refine tile_right m c t _ _ _ _ ?_ ?_ <;> (blk_simp [idx t] <;> try omega)

/-- Its blocks transposed. -/
theorem final_tr_right (c : Dev nD) : (dats m 0 c).arrAt 15 (cfgs 0).N
    = fun j : S8x512x512.Idx => dxAt (arr0 m c) (arr1 m c) (arr3 m c) (arr5 m c) right ⟨512 * (j 0).val + (j 2).val, by have h0 : (j 0).val < 8 := (j 0).isLt; have h2 : (j 2).val < 512 := (j 2).isLt; omega⟩ (j 1) := by
  refine (dats m 0 c).arrAt_eq_of_covers 15 _ (by decide +kernel) fun t _ y => ?_
  blk_simp
  rw [after0_15]
  by_cases h : t.val % 8 = 0
  on_goal 1 => rw [outsAt0_A m c t h]
  on_goal 2 => rw [outsAt0_B m c t h]
  all_goals
    frame_out
    idx_vars y
    pointwise [k0_pay10, k0_pay9, k0_pay32]
    refine tile_right m c t _ _ _ _ ?_ ?_ <;> (blk_simp [idx t] <;> try omega)

/-- A point adds its own rows' share of the gain's gradient. -/
theorem hpay_right (d : FVec Ideal S512x1024 .bf16) (w : FVec Ideal S1024x1024 .bf16) (x : FVec Ideal S512x512 .f32) (a : FVec Ideal S1x512 .f32) (j : S1x512.Idx) :
    k0_pay35 (F := Ideal) (k0_pay33 a) (k0_pay34 (k0_pay4 d w) x) j
      = a j + ∑ s : Fin 512, (∑ k : Fin 1024, d (ix2 s k) * w (ix2 (right (j 1)) k)) * (x (ix2 s (j 1)) * Ideal.rsqrt (Ideal.div (∑ k : Fin 512, x (ix2 s k) * x (ix2 s k)) (Ideal.ofBits .f32 0x44000000#32) + Ideal.ofBits .f32 0x358637BD#32)) := by
  idx_vars j
  pointwise [k0_pay35, k0_pay33, k0_pay34, k0_pay29, k0_pay28, k0_pay4, right]
  all_goals blk_ext

theorem hzero_right (j) : k0_pay3 (F := Ideal) j = 0 := by pointwise [k0_pay3]

/-- The gain's gradient after the run. -/
theorem final_dg_right (c : Dev nD) : (dats m 0 c).arrAt 11 (cfgs 0).N = fun j : S1x512.Idx => dgAt (arr0 m c) (arr1 m c) (arr3 m c) right j := by
  refine (dats m 0 c).arrAt_eq_of_covers 11 _ (by decide +kernel) fun t hf y => ?_
  blk_simp
  rw [after0_11]
  have ht : t.val % 8 = 7 := (flush0_11 t).mp hf
  refine (Pipeline.eq_sum_fin_of_reset_step_apply_of_flush (fun n h => (outsAt0 m c n h).2.2.2.1) 8 (fun _ => 0) _
    (fun t h j => by rw [outsAt0_A m c t h]; frame_out; rw [hpay_right, hzero_right])
    (fun t h j => by rw [outsAt0_B m c t h]; frame_out; rw [hpay_right]) t ht y).trans ?_
  rw [zero_add]
  unfold dgAt dh rootInv right
  refine Fin.sum_mul_add_congr fun s k hl => ?_
  idx_vars y
  blk_point [iblk, V, idx t, idx ⟨_, Pipeline.run_point_lt_of_flush t ht s⟩]

/-- Summing the lower lanes of a pair is summing one head, and the upper lanes the other. -/
theorem low (f : Fin 128 → EReal) : (∑ x : Fin 128, Scalar.select (IntOp.cmpi CmpIPredicate.slt (BitVec.ofNat 32 x.val) 64#32) (f x) 0) = ∑ k : Fin 64, f ⟨k.val, by omega⟩ := by
  have h : ∀ x : Fin 128, IntOp.cmpi CmpIPredicate.slt (BitVec.ofNat 32 x.val) 64#32 = if x.val < 64 then 1#1 else 0#1 := by decide +kernel
  simp only [h]
  refine (Fin.sum_univ_add (a := 64) (b := 64) _).trans ?_
  have e : ∀ k : Fin 64, ¬(Fin.natAdd 64 k).val < 64 := fun k => by simp
  simp [e, Scalar.select]
  rfl

theorem high (f : Fin 128 → EReal) : (∑ x : Fin 128, Scalar.select (IntOp.cmpi CmpIPredicate.sge (BitVec.ofNat 32 x.val) 64#32) (f x) 0) = ∑ k : Fin 64, f ⟨64 + k.val, by omega⟩ := by
  have h : ∀ x : Fin 128, IntOp.cmpi CmpIPredicate.sge (BitVec.ofNat 32 x.val) 64#32 = if x.val < 64 then 0#1 else 1#1 := by decide +kernel
  simp only [h]
  refine (Fin.sum_univ_add (a := 64) (b := 64) _).trans ?_
  have e : ∀ k : Fin 64, ¬(Fin.natAdd 64 k).val < 64 := fun k => by simp
  simp [e, Scalar.select]
  rfl

/-- Replacing the third and the fourth lane. -/
theorem lanes (l : Fin 128) (p q r : EReal) :
    Scalar.select (IntOp.cmpi CmpIPredicate.eq (BitVec.ofNat 32 l.val) 2#32) p (Scalar.select (IntOp.cmpi CmpIPredicate.eq (BitVec.ofNat 32 l.val) 3#32) q r)
      = if l.val = 2 then p else if l.val = 3 then q else r := by
  have h2 : ∀ x : Fin 128, IntOp.cmpi CmpIPredicate.eq (BitVec.ofNat 32 x.val) 2#32 = if x.val = 2 then 1#1 else 0#1 := by decide +kernel
  have h3 : ∀ x : Fin 128, IntOp.cmpi CmpIPredicate.eq (BitVec.ofNat 32 x.val) 3#32 = if x.val = 3 then 1#1 else 0#1 := by decide +kernel
  rw [h2, h3]
  split_ifs <;> simp [Scalar.select]

/-- The row products of one block and one pair of heads; `e` places the pair's lanes among the columns. -/
def rowAt (v : FVec Ideal S512x512 .f32) (o : FVec Ideal S512x512 .bf16) (e : Fin 128 → Fin 512) (st : FVec Ideal S1x512x128 .f32) (a : Fin 512) (l : Fin 128) : EReal :=
  if l.val = 2 then ∑ k : Fin 64, v (ix2 a (e ⟨k.val, by omega⟩)) * o (ix2 a (e ⟨k.val, by omega⟩))
  else if l.val = 3 then ∑ k : Fin 64, v (ix2 a (e ⟨64 + k.val, by omega⟩)) * o (ix2 a (e ⟨64 + k.val, by omega⟩))
  else st (ix3 0 a l)

theorem row_of (v : FVec Ideal S512x512 .f32) (o : FVec Ideal S512x512 .bf16) (e : Fin 128 → Fin 512) (st : FVec Ideal S1x512x128 .f32) (a : Fin 512) (l : Fin 128) :
    Scalar.select (IntOp.cmpi CmpIPredicate.eq (BitVec.ofNat 32 l.val) 2#32)
        (∑ x : Fin 128, Scalar.select (IntOp.cmpi CmpIPredicate.slt (BitVec.ofNat 32 x.val) 64#32) (v (ix2 a (e x)) * o (ix2 a (e x))) 0)
        (Scalar.select (IntOp.cmpi CmpIPredicate.eq (BitVec.ofNat 32 l.val) 3#32)
          (∑ x : Fin 128, Scalar.select (IntOp.cmpi CmpIPredicate.sge (BitVec.ofNat 32 x.val) 64#32) (v (ix2 a (e x)) * o (ix2 a (e x))) 0) (st (ix3 0 a l)))
      = rowAt v o e st a l := by
  rw [lanes, low fun x => v (ix2 a (e x)) * o (ix2 a (e x)), high fun x => v (ix2 a (e x)) * o (ix2 a (e x))]
  rfl

theorem row_left_0 (v : FVec Ideal S512x512 .f32) (o : FVec Ideal S512x512 .bf16) (st : FVec Ideal S1x512x128 .f32) (y : S1x512x128.Idx) :
    k0_pay19 (F := Ideal) (k0_pay14 v o) (k0_pay15 v o) k0_pay16 (k0_pay17 st) k0_pay18 y = rowAt v o (fun z => ⟨z.val, by omega⟩) st (y 1) (y 2) := by
  idx_vars y
  pointwise [k0_pay19, k0_pay18, k0_pay17, k0_pay16, k0_pay15, k0_pay14, k0_pay13, k0_pay12]
  exact row_of v o (fun z => ⟨z.val, by omega⟩) st y1 y2

theorem row_left_1 (v : FVec Ideal S512x512 .f32) (o : FVec Ideal S512x512 .bf16) (st : FVec Ideal S1x512x128 .f32) (y : S1x512x128.Idx) :
    k0_pay24 (F := Ideal) (k0_pay21 (k0_pay12 v o)) (k0_pay22 (k0_pay12 v o) st) k0_pay23 y = rowAt v o (fun z => ⟨128 + z.val, by omega⟩) st (y 1) (y 2) := by
  idx_vars y
  pointwise [k0_pay24, k0_pay23, k0_pay22, k0_pay21, k0_pay20, k0_pay12]
  exact row_of v o (fun z => ⟨128 + z.val, by omega⟩) st y1 y2

theorem row_left_2 (v : FVec Ideal S512x512 .f32) (o : FVec Ideal S512x512 .bf16) (st : FVec Ideal S1x512x128 .f32) (y : S1x512x128.Idx) :
    k0_pay26 (F := Ideal) (k0_pay25 (k0_pay12 v o) st) y = rowAt v o (fun z => ⟨256 + z.val, by omega⟩) st (y 1) (y 2) := by
  idx_vars y
  pointwise [k0_pay26, k0_pay25, k0_pay12]
  exact row_of v o (fun z => ⟨256 + z.val, by omega⟩) st y1 y2

theorem row_left_3 (v : FVec Ideal S512x512 .f32) (o : FVec Ideal S512x512 .bf16) (st : FVec Ideal S1x512x128 .f32) (y : S1x512x128.Idx) :
    k0_pay27 (F := Ideal) (k0_pay12 v o) st y = rowAt v o (fun z => ⟨384 + z.val, by omega⟩) st (y 1) (y 2) := by
  idx_vars y
  pointwise [k0_pay27, k0_pay12]
  exact row_of v o (fun z => ⟨384 + z.val, by omega⟩) st y1 y2

theorem row_right_0 (v : FVec Ideal S512x512 .f32) (o : FVec Ideal S512x512 .bf16) (st : FVec Ideal S1x512x128 .f32) (y : S1x512x128.Idx) :
    k0_pay38 (F := Ideal) (k0_pay37 v o st) y = rowAt v o (fun z => ⟨z.val, by omega⟩) st (y 1) (y 2) := by
  idx_vars y
  pointwise [k0_pay38, k0_pay37, k0_pay36]
  exact row_of v o (fun z => ⟨z.val, by omega⟩) st y1 y2

theorem row_right_1 (v : FVec Ideal S512x512 .f32) (o : FVec Ideal S512x512 .bf16) (st : FVec Ideal S1x512x128 .f32) (y : S1x512x128.Idx) :
    k0_pay39 (F := Ideal) (k0_pay36 v o) st y = rowAt v o (fun z => ⟨128 + z.val, by omega⟩) st (y 1) (y 2) := by
  idx_vars y
  pointwise [k0_pay39, k0_pay36]
  exact row_of v o (fun z => ⟨128 + z.val, by omega⟩) st y1 y2

theorem row_right_2 (v : FVec Ideal S512x512 .f32) (o : FVec Ideal S512x512 .bf16) (st : FVec Ideal S1x512x128 .f32) (y : S1x512x128.Idx) :
    k0_pay41 (F := Ideal) (k0_pay40 (k0_pay36 v o)) (iota Kind.tc S1x128 32 [1] iota_S1x128_d1_w32) 64#32 st y = rowAt v o (fun z => ⟨256 + z.val, by omega⟩) st (y 1) (y 2) := by
  idx_vars y
  pointwise [k0_pay41, k0_pay40, k0_pay36]
  exact row_of v o (fun z => ⟨256 + z.val, by omega⟩) st y1 y2

theorem row_right_3 (v : FVec Ideal S512x512 .f32) (o : FVec Ideal S512x512 .bf16) (st : FVec Ideal S1x512x128 .f32) (y : S1x512x128.Idx) :
    k0_pay1 (F := Ideal) (k0_pay42 (k0_pay36 v o)) (FloatOps.ofBits FTy.f32 0#32) k0_pay43 st y = rowAt v o (fun z => ⟨384 + z.val, by omega⟩) st (y 1) (y 2) := by
  idx_vars y
  pointwise [k0_pay1, k0_pay42, k0_pay43, k0_pay36]
  exact row_of v o (fun z => ⟨384 + z.val, by omega⟩) st y1 y2

/-- A block's row products are the closed form at the block's rows. -/
theorem core_left (c : Dev nD) (t : Fin cfg0.N) (e : Fin 128 → Fin 512) (st : FVec Ideal S1x512x128 .f32) (a : Fin 512) (l l' : Fin 128) (p : Fin 4) (s : Fin 4096)
    (hs : s.val = 512 * t.val + a.val) (hl : l'.val = l.val) (he : ∀ z, (e z).val = 128 * p.val + z.val) (hst : st (ix3 0 a l) = (show EReal from (arr6 m c) (ix3 p s l'))) :
    rowAt (iblk m c 2 t) (k0_pay8 (iblk m c 0 t) (iblk m c 1 t) (iblk m c 2 t) (iblk m c 4 t)) e st a l = statAt (arr0 m c) (arr1 m c) (arr2 m c) (arr4 m c) left (arr6 m c) p s l' := by
  obtain rfl : l' = l := Fin.ext hl
  have hx : ∀ b j : Fin 512, j.val = b.val → (show EReal from iblk m c 2 t (ix2 a b)) = (show EReal from (arr2 m c) (ix2 s j)) := by
    intro b j hj
    obtain rfl : j = b := Fin.ext hj
    blk_point [iblk, V, idx t, hs]
  have hd : ∀ b j : Fin 512, j.val = b.val → k0_pay8 (F := Ideal) (iblk m c 0 t) (iblk m c 1 t) (iblk m c 2 t) (iblk m c 4 t) (ix2 a b) = dxAt (arr0 m c) (arr1 m c) (arr2 m c) (arr4 m c) left s j := by
    intro b j hj
    pointwise [k0_pay8]
    exact tile_left m c t a b j s hs hj
  unfold rowAt statAt
  split_ifs
  · exact Finset.sum_congr rfl fun k _ => congrArg₂ (fun u v : EReal => u * v) (hx _ _ (by rw [he])) (hd _ _ (by rw [he]))
  · exact Finset.sum_congr rfl fun k _ => congrArg₂ (fun u v : EReal => u * v) (hx _ _ (by rw [he])) (hd _ _ (by rw [he]))
  · exact hst

/-- The row products of the first half after the run. -/
theorem final_st_left (c : Dev nD) : (dats m 0 c).arrAt 12 (cfgs 0).N
    = fun j : S4x4096x128.Idx => statAt (arr0 m c) (arr1 m c) (arr2 m c) (arr4 m c) left (arr6 m c) (j 0) (j 1) (j 2) := by
  refine (dats m 0 c).arrAt_eq_of_covers 12 _ (by decide +kernel) fun t _ y => ?_
  blk_simp
  rw [after0_12]
  by_cases h : t.val % 8 = 0
  on_goal 1 => rw [outsAt0_A m c t h]
  on_goal 2 => rw [outsAt0_B m c t h]
  all_goals
    frame_out
    canon_tiles x h
    · refine (row_left_3 _ _ _ x).trans (core_left m c t _ _ _ _ _ _ _ ?_ ?_ ?_ ?_)
      iterate 2 blk_simp [idx t] <;> omega
      · intro z; blk_simp [idx t] <;> (try dsimp only) <;> omega
      · pointwise; blk_point [iblk, V, idx t, h0, h1, h2]
    · refine (row_left_2 _ _ _ x).trans (core_left m c t _ _ _ _ _ _ _ ?_ ?_ ?_ ?_)
      iterate 2 blk_simp [idx t] <;> omega
      · intro z; blk_simp [idx t] <;> (try dsimp only) <;> omega
      · pointwise; blk_point [iblk, V, idx t, h0, h1, h2]
    · refine (row_left_1 _ _ _ x).trans (core_left m c t _ _ _ _ _ _ _ ?_ ?_ ?_ ?_)
      iterate 2 blk_simp [idx t] <;> omega
      · intro z; blk_simp [idx t] <;> (try dsimp only) <;> omega
      · pointwise; blk_point [iblk, V, idx t, h0, h1, h2]
    · refine (row_left_0 _ _ _ x).trans (core_left m c t _ _ _ _ _ _ _ ?_ ?_ ?_ ?_)
      iterate 2 blk_simp [idx t] <;> omega
      · intro z; blk_simp [idx t] <;> (try dsimp only) <;> omega
      · pointwise; blk_point [iblk, V, idx t, h0, h1, h2]

/-- A block's row products are the closed form at the block's rows. -/
theorem core_right (c : Dev nD) (t : Fin cfg0.N) (e : Fin 128 → Fin 512) (st : FVec Ideal S1x512x128 .f32) (a : Fin 512) (l l' : Fin 128) (p : Fin 4) (s : Fin 4096)
    (hs : s.val = 512 * t.val + a.val) (hl : l'.val = l.val) (he : ∀ z, (e z).val = 128 * p.val + z.val) (hst : st (ix3 0 a l) = (show EReal from (arr7 m c) (ix3 p s l'))) :
    rowAt (iblk m c 3 t) (k0_pay31 (k0_pay4 (iblk m c 0 t) (iblk m c 1 t)) (iblk m c 3 t) (iblk m c 5 t)) e st a l = statAt (arr0 m c) (arr1 m c) (arr3 m c) (arr5 m c) right (arr7 m c) p s l' := by
  obtain rfl : l' = l := Fin.ext hl
  have hx : ∀ b j : Fin 512, j.val = b.val → (show EReal from iblk m c 3 t (ix2 a b)) = (show EReal from (arr3 m c) (ix2 s j)) := by
    intro b j hj
    obtain rfl : j = b := Fin.ext hj
    blk_point [iblk, V, idx t, hs]
  have hd : ∀ b j : Fin 512, j.val = b.val → k0_pay31 (F := Ideal) (k0_pay4 (iblk m c 0 t) (iblk m c 1 t)) (iblk m c 3 t) (iblk m c 5 t) (ix2 a b) = dxAt (arr0 m c) (arr1 m c) (arr3 m c) (arr5 m c) right s j := by
    intro b j hj
    pointwise [k0_pay31]
    exact tile_right m c t a b j s hs hj
  unfold rowAt statAt
  split_ifs
  · exact Finset.sum_congr rfl fun k _ => congrArg₂ (fun u v : EReal => u * v) (hx _ _ (by rw [he])) (hd _ _ (by rw [he]))
  · exact Finset.sum_congr rfl fun k _ => congrArg₂ (fun u v : EReal => u * v) (hx _ _ (by rw [he])) (hd _ _ (by rw [he]))
  · exact hst

/-- The row products of the second half after the run. -/
theorem final_st_right (c : Dev nD) : (dats m 0 c).arrAt 13 (cfgs 0).N
    = fun j : S4x4096x128.Idx => statAt (arr0 m c) (arr1 m c) (arr3 m c) (arr5 m c) right (arr7 m c) (j 0) (j 1) (j 2) := by
  refine (dats m 0 c).arrAt_eq_of_covers 13 _ (by decide +kernel) fun t _ y => ?_
  blk_simp
  rw [after0_13]
  by_cases h : t.val % 8 = 0
  on_goal 1 => rw [outsAt0_A m c t h]
  on_goal 2 => rw [outsAt0_B m c t h]
  all_goals
    frame_out
    canon_tiles x h
    · refine (row_right_3 _ _ _ x).trans (core_right m c t _ _ _ _ _ _ _ ?_ ?_ ?_ ?_)
      iterate 2 blk_simp [idx t] <;> omega
      · intro z; blk_simp [idx t] <;> (try dsimp only) <;> omega
      · pointwise; blk_point [iblk, V, idx t, h0, h1, h2]
    · refine (row_right_2 _ _ _ x).trans (core_right m c t _ _ _ _ _ _ _ ?_ ?_ ?_ ?_)
      iterate 2 blk_simp [idx t] <;> omega
      · intro z; blk_simp [idx t] <;> (try dsimp only) <;> omega
      · pointwise; blk_point [iblk, V, idx t, h0, h1, h2]
    · refine (row_right_1 _ _ _ x).trans (core_right m c t _ _ _ _ _ _ _ ?_ ?_ ?_ ?_)
      iterate 2 blk_simp [idx t] <;> omega
      · intro z; blk_simp [idx t] <;> (try dsimp only) <;> omega
      · pointwise; blk_point [iblk, V, idx t, h0, h1, h2]
    · refine (row_right_0 _ _ _ x).trans (core_right m c t _ _ _ _ _ _ _ ?_ ?_ ?_ ?_)
      iterate 2 blk_simp [idx t] <;> omega
      · intro z; blk_simp [idx t] <;> (try dsimp only) <;> omega
      · pointwise; blk_point [iblk, V, idx t, h0, h1, h2]

end Cert.Kernel18Ideal.MixNormBwd

namespace Cert.Reference18Ideal.MixNormBwd

open Cert.Reference18Ideal Cert.Reference18Ideal.Gen Cert.Reference18Ideal.Value
open Cert.Kernel18Ideal.MixNormBwd (left right dh rootInv dxAt dgAt statAt)

variable (m : (ℓ : Loc nD τ sig) → Buf (Elt Ideal) ℓ)

/-- The arguments: incoming gradient, weight, the two halves, their gains, their row statistics. -/
abbrev arr0 (c : Dev nD) : FVec Ideal S4096x1024 .bf16 := m ((c : Thread nD τ).loc main_arg0)
abbrev arr1 (c : Dev nD) : FVec Ideal S1024x1024 .bf16 := m ((c : Thread nD τ).loc main_arg1)
abbrev arr2 (c : Dev nD) : FVec Ideal S4096x512 .f32 := m ((c : Thread nD τ).loc main_arg2)
abbrev arr3 (c : Dev nD) : FVec Ideal S4096x512 .f32 := m ((c : Thread nD τ).loc main_arg3)
abbrev arr4 (c : Dev nD) : FVec Ideal S1x512 .f32 := m ((c : Thread nD τ).loc main_arg4)
abbrev arr5 (c : Dev nD) : FVec Ideal S1x512 .f32 := m ((c : Thread nD τ).loc main_arg5)
abbrev arr6 (c : Dev nD) : FVec Ideal S4x4096x128 .f32 := m ((c : Thread nD τ).loc main_arg6)
abbrev arr7 (c : Dev nD) : FVec Ideal S4x4096x128 .f32 := m ((c : Thread nD τ).loc main_arg7)

/-- The plain text's gradient of the first half is the closed form. -/
theorem dx_left (c : Dev nD) (y : S4096x512.Idx) :
    (res_main_v75 (F := Ideal) m c : FVec Ideal S4096x512 .bf16) y = dxAt (arr0 m c) (arr1 m c) (arr2 m c) (arr4 m c) left (y 0) (y 1) := by
  idx_vars y
  pointwise [res_main_v75, dxAt, dh, rootInv, left]
  simp only [Fin.sum_univ_one]
  exact Cert.Proof.NormBack.back_512 (fun k => (arr2 m c) (ix2 y0 k))
    (fun k => (∑ q : Fin 1024, (show EReal from (arr0 m c) (ix2 y0 q)) * (show EReal from (arr1 m c) (ix2 ⟨k.val, by omega⟩ q))) * (show EReal from (arr4 m c) (ix2 0 k))) y1

/-- The plain text's gradient of the second half is the closed form. -/
theorem dx_right (c : Dev nD) (y : S4096x512.Idx) :
    (res_main_v76 (F := Ideal) m c : FVec Ideal S4096x512 .bf16) y = dxAt (arr0 m c) (arr1 m c) (arr3 m c) (arr5 m c) right (y 0) (y 1) := by
  idx_vars y
  pointwise [res_main_v76, dxAt, dh, rootInv, right]
  simp only [Fin.sum_univ_one]
  exact Cert.Proof.NormBack.back_512 (fun k => (arr3 m c) (ix2 y0 k))
    (fun k => (∑ q : Fin 1024, (show EReal from (arr0 m c) (ix2 y0 q)) * (show EReal from (arr1 m c) (ix2 ⟨512 + k.val, by omega⟩ q))) * (show EReal from (arr5 m c) (ix2 0 k))) y1

/-- The gain's gradient as the plain text composes it. -/
def dg_left (D : FVec Ideal S4096x1024 .bf16) (W : FVec Ideal S1024x1024 .bf16) (X : FVec Ideal S4096x512 .f32) : FVec Ideal S1x512 .f32 :=
  shapeCast _ (Host.reduceAdd (mulf (mulf X (broadcastInDim S4096x512 ![0, 1] bcast_S4096x1_S4096x512_0_1 (Host.rsqrt (addf (Host.divf (broadcastInDim S4096x1 ![0] bcast_S4096_S4096x1_0 (Host.reduceAdd (mulf X X) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (extractStridedSlice S4096x512 ![0, 0] (Host.dotGeneral dot_S4096x1024_S1024x1024_S4096x1024_1_1_0_0_n_n none (extf .f32 D bitsLt_bf16_f32) (extf .f32 W bitsLt_bf16_f32)) slices_S4096x1024_S4096x512_0_0)) (constant S_ .f32 0x00000000#32) reducesTo_S4096x512_S512_d0 h_S_) shapeCasts_S512_S1x512

theorem dg_left_eq (D : FVec Ideal S4096x1024 .bf16) (W : FVec Ideal S1024x1024 .bf16) (X : FVec Ideal S4096x512 .f32) : dg_left D W X = fun j => dgAt D W X left j := by
  funext y
  idx_vars y
  pointwise [dg_left, dgAt, dh, rootInv, left]
  exact Finset.sum_congr rfl fun s _ => mul_comm _ _

/-- The gain's gradient as the plain text composes it. -/
def dg_right (D : FVec Ideal S4096x1024 .bf16) (W : FVec Ideal S1024x1024 .bf16) (X : FVec Ideal S4096x512 .f32) : FVec Ideal S1x512 .f32 :=
  shapeCast _ (Host.reduceAdd (mulf (mulf X (broadcastInDim S4096x512 ![0, 1] bcast_S4096x1_S4096x512_0_1 (Host.rsqrt (addf (Host.divf (broadcastInDim S4096x1 ![0] bcast_S4096_S4096x1_0 (Host.reduceAdd (mulf X X) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (extractStridedSlice S4096x512 ![0, 512] (Host.dotGeneral dot_S4096x1024_S1024x1024_S4096x1024_1_1_0_0_n_n none (extf .f32 D bitsLt_bf16_f32) (extf .f32 W bitsLt_bf16_f32)) slices_S4096x1024_S4096x512_0_512)) (constant S_ .f32 0x00000000#32) reducesTo_S4096x512_S512_d0 h_S_) shapeCasts_S512_S1x512

theorem dg_right_eq (D : FVec Ideal S4096x1024 .bf16) (W : FVec Ideal S1024x1024 .bf16) (X : FVec Ideal S4096x512 .f32) : dg_right D W X = fun j => dgAt D W X right j := by
  funext y
  idx_vars y
  pointwise [dg_right, dgAt, dh, rootInv, right]
  exact Finset.sum_congr rfl fun s _ => mul_comm _ _

/-- The blocks transposed, and the row products, of a gradient `O`. -/
def tr (O : FVec Ideal S4096x512 .bf16) : FVec Ideal S8x512x512 .bf16 :=
  transpose S8x512x512 [0, 2, 1] (shapeCast _ (O) shapeCasts_S4096x512_S8x512x512) transposes_S8x512x512_S8x512x512_0_2_1

def st (X : FVec Ideal S4096x512 .f32) (O : FVec Ideal S4096x512 .bf16) (S : FVec Ideal S4x4096x128 .f32) : FVec Ideal S4x4096x128 .f32 :=
  (concatenate S4x4096x128 2 [⟨S4x4096x2, ((extractStridedSlice S4x4096x2 ![0, 0, 0] S slices_S4x4096x128_S4x4096x2_0_0_0) : (⟨S4x4096x2, .f32⟩ : BufTy).Contents (Elt Ideal))⟩, ⟨S4x4096x2, ((transpose S4x4096x2 [1, 0, 2] (Host.reduceAdd (shapeCast _ (mulf X (extf .f32 O bitsLt_bf16_f32)) shapeCasts_S4096x512_S4096x4x2x64) (constant S_ .f32 0x00000000#32) reducesTo_S4096x4x2x64_S4096x4x2_d3 h_S_) transposes_S4096x4x2_S4x4096x2_1_0_2) : (⟨S4x4096x2, .f32⟩ : BufTy).Contents (Elt Ideal))⟩, ⟨S4x4096x124, ((extractStridedSlice S4x4096x124 ![0, 0, 4] S slices_S4x4096x128_S4x4096x124_0_0_4) : (⟨S4x4096x124, .f32⟩ : BufTy).Contents (Elt Ideal))⟩] concatenates_S4x4096x2_S4x4096x2_S4x4096x124_S4x4096x128_d2 : (⟨S4x4096x128, .f32⟩ : BufTy).Contents (Elt Ideal))

theorem tr_eq (O : FVec Ideal S4096x512 .bf16) (y : S8x512x512.Idx) :
    tr O y = O (ix2 ⟨512 * (y 0).val + (y 2).val, by have h0 : (y 0).val < 8 := (y 0).isLt; have h2 : (y 2).val < 512 := (y 2).isLt; omega⟩ (y 1)) := by
  idx_vars y
  pointwise [tr]
  blk_ext

theorem st_eq (X : FVec Ideal S4096x512 .f32) (O : FVec Ideal S4096x512 .bf16) (S : FVec Ideal S4x4096x128 .f32) (y : S4x4096x128.Idx) :
    st X O S y = if (y 2).val = 2 then ∑ k : Fin 64, X (ix2 (y 1) ⟨128 * (y 0).val + k.val, by have h0 : (y 0).val < 4 := (y 0).isLt; omega⟩) * O (ix2 (y 1) ⟨128 * (y 0).val + k.val, by have h0 : (y 0).val < 4 := (y 0).isLt; omega⟩)
      else if (y 2).val = 3 then ∑ k : Fin 64, X (ix2 (y 1) ⟨128 * (y 0).val + (64 + k.val), by have h0 : (y 0).val < 4 := (y 0).isLt; omega⟩) * O (ix2 (y 1) ⟨128 * (y 0).val + (64 + k.val), by have h0 : (y 0).val < 4 := (y 0).isLt; omega⟩)
      else S (ix3 (y 0) (y 1) (y 2)) := by
  idx_vars y
  pointwise [st]
  have e : ∀ a b : Fin 512, a.val = b.val → X (ix2 y1 a) * O (ix2 y1 a) = X (ix2 y1 b) * O (ix2 y1 b) := fun a b h => by rw [Fin.ext h]
  by_cases h2 : y2.val = 2
  · rw [dif_neg (by omega), dif_pos (by omega), if_pos h2]; exact Finset.sum_congr rfl fun k _ => e _ _ (by dsimp only; omega)
  by_cases h3 : y2.val = 3
  · rw [dif_neg (by omega), dif_pos (by omega), if_neg h2, if_pos h3]; exact Finset.sum_congr rfl fun k _ => e _ _ (by dsimp only; omega)
  rw [if_neg h2, if_neg h3]
  by_cases h : y2.val < 2
  · rw [dif_pos h]
  · rw [dif_neg h, dif_neg (by omega)]; blk_ext

theorem stat_left (c : Dev nD) (y : S4x4096x128.Idx) :
    (res_main_v84 (F := Ideal) m c : FVec Ideal S4x4096x128 .f32) y = statAt (arr0 m c) (arr1 m c) (arr2 m c) (arr4 m c) left (arr6 m c) (y 0) (y 1) (y 2) := by
  have e : (res_main_v84 (F := Ideal) m c : FVec Ideal S4x4096x128 .f32) = st (arr2 m c) (res_main_v75 (F := Ideal) m c) (arr6 m c) := rfl
  rw [e, st_eq]
  unfold statAt
  simp only [dx_left]
  rfl

theorem tr_left (c : Dev nD) (y : S8x512x512.Idx) :
    (res_main_v94 (F := Ideal) m c : FVec Ideal S8x512x512 .bf16) y = dxAt (arr0 m c) (arr1 m c) (arr2 m c) (arr4 m c) left ⟨512 * (y 0).val + (y 2).val, by have h0 : (y 0).val < 8 := (y 0).isLt; have h2 : (y 2).val < 512 := (y 2).isLt; omega⟩ (y 1) := by
  have e : (res_main_v94 (F := Ideal) m c : FVec Ideal S8x512x512 .bf16) = tr (res_main_v75 (F := Ideal) m c) := rfl
  rw [e, tr_eq]
  exact dx_left m c _

theorem stat_right (c : Dev nD) (y : S4x4096x128.Idx) :
    (res_main_v92 (F := Ideal) m c : FVec Ideal S4x4096x128 .f32) y = statAt (arr0 m c) (arr1 m c) (arr3 m c) (arr5 m c) right (arr7 m c) (y 0) (y 1) (y 2) := by
  have e : (res_main_v92 (F := Ideal) m c : FVec Ideal S4x4096x128 .f32) = st (arr3 m c) (res_main_v76 (F := Ideal) m c) (arr7 m c) := rfl
  rw [e, st_eq]
  unfold statAt
  simp only [dx_right]
  rfl

theorem tr_right (c : Dev nD) (y : S8x512x512.Idx) :
    (res_main_v96 (F := Ideal) m c : FVec Ideal S8x512x512 .bf16) y = dxAt (arr0 m c) (arr1 m c) (arr3 m c) (arr5 m c) right ⟨512 * (y 0).val + (y 2).val, by have h0 : (y 0).val < 8 := (y 0).isLt; have h2 : (y 2).val < 512 := (y 2).isLt; omega⟩ (y 1) := by
  have e : (res_main_v96 (F := Ideal) m c : FVec Ideal S8x512x512 .bf16) = tr (res_main_v76 (F := Ideal) m c) := rfl
  rw [e, tr_eq]
  exact dx_right m c _

end Cert.Reference18Ideal.MixNormBwd

set_option maxHeartbeats 4000000 in
/-- The kernel's results and the plain text's are the same functions of the arguments. -/
theorem Cert.Proof.mix_norm_bwd : Cert.algebraic_Kernel18Ideal_Reference18Ideal := by
  intro m g m' g' hpre hag
  refine ⟨fun c => (Cert.Kernel18Ideal.Gen.dats m 0 c).arrAt 8 (Cert.Kernel18Ideal.cfgs 0).N,
    fun c => (Cert.Kernel18Ideal.Gen.dats m 0 c).arrAt 9 (Cert.Kernel18Ideal.cfgs 0).N,
    fun c => (Cert.Kernel18Ideal.Gen.dats m 0 c).arrAt 10 (Cert.Kernel18Ideal.cfgs 0).N,
    fun c => (Cert.Kernel18Ideal.Gen.dats m 0 c).arrAt 11 (Cert.Kernel18Ideal.cfgs 0).N,
    fun c => (Cert.Kernel18Ideal.Gen.dats m 0 c).arrAt 12 (Cert.Kernel18Ideal.cfgs 0).N,
    fun c => (Cert.Kernel18Ideal.Gen.dats m 0 c).arrAt 13 (Cert.Kernel18Ideal.cfgs 0).N,
    fun c => (Cert.Kernel18Ideal.Gen.dats m 0 c).arrAt 14 (Cert.Kernel18Ideal.cfgs 0).N,
    fun c => (Cert.Kernel18Ideal.Gen.dats m 0 c).arrAt 15 (Cert.Kernel18Ideal.cfgs 0).N, ?_, ?_⟩
  · run_from Cert.Kernel18Ideal.Gen.run_main m g
  · refine (θ_run Cert.Reference18Ideal.defs _ _).mono (fun r h c => ?_) (Cert.Reference18Ideal.Value.run (F := Ideal) m' g')
    obtain ⟨h1, h2, h3, h4, h5, h6, h7, h8, h9⟩ := h c
    obtain ⟨a0, a1, a2, a3, a4, a5, a6, a7⟩ := hag c
    refine ⟨h1.trans ?_, h2.trans ?_, h3.trans ?_, h4.trans ?_, h5.trans ?_, h6.trans ?_, h7.trans ?_, h8.trans ?_, h9⟩
    · refine (funext fun y => Cert.Reference18Ideal.MixNormBwd.dx_left m' c y : _ = _).trans (Eq.trans ?_ (Cert.Kernel18Ideal.MixNormBwd.final_dx_left m c).symm)
      simp only [a0, a1, a2, a3, a4, a5, a6, a7]
    · refine (funext fun y => Cert.Reference18Ideal.MixNormBwd.dx_right m' c y : _ = _).trans (Eq.trans ?_ (Cert.Kernel18Ideal.MixNormBwd.final_dx_right m c).symm)
      simp only [a0, a1, a2, a3, a4, a5, a6, a7]
    · refine (Cert.Reference18Ideal.MixNormBwd.dg_left_eq _ _ _).trans (Eq.trans ?_ (Cert.Kernel18Ideal.MixNormBwd.final_dg_left m c).symm)
      simp only [a0, a1, a2, a3, a4, a5, a6, a7]
    · refine (Cert.Reference18Ideal.MixNormBwd.dg_right_eq _ _ _).trans (Eq.trans ?_ (Cert.Kernel18Ideal.MixNormBwd.final_dg_right m c).symm)
      simp only [a0, a1, a2, a3, a4, a5, a6, a7]
    · refine (funext fun y => Cert.Reference18Ideal.MixNormBwd.stat_left m' c y : _ = _).trans (Eq.trans ?_ (Cert.Kernel18Ideal.MixNormBwd.final_st_left m c).symm)
      simp only [a0, a1, a2, a3, a4, a5, a6, a7]
    · refine (funext fun y => Cert.Reference18Ideal.MixNormBwd.stat_right m' c y : _ = _).trans (Eq.trans ?_ (Cert.Kernel18Ideal.MixNormBwd.final_st_right m c).symm)
      simp only [a0, a1, a2, a3, a4, a5, a6, a7]
    · refine (funext fun y => Cert.Reference18Ideal.MixNormBwd.tr_left m' c y : _ = _).trans (Eq.trans ?_ (Cert.Kernel18Ideal.MixNormBwd.final_tr_left m c).symm)
      simp only [a0, a1, a2, a3, a4, a5, a6, a7]
    · refine (funext fun y => Cert.Reference18Ideal.MixNormBwd.tr_right m' c y : _ = _).trans (Eq.trans ?_ (Cert.Kernel18Ideal.MixNormBwd.final_tr_right m c).symm)
      simp only [a0, a1, a2, a3, a4, a5, a6, a7]

end
-- ==== Proof.MixNorm.lean ====
/-
  The norms of the two mixed halves side by side: the tiled kernel writes the halves of a block one after the other, the
  plain text joins the two normed arrays.
-/
module

public import proofs.«01_k».proof.Defs
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel19Ideal.MixNorm

open Cert.Kernel19Ideal Cert.Kernel19Ideal.Gen

variable (m : (ℓ : Loc nD τ sig) → Buf (Elt Ideal) ℓ)

/-- An entry of a normed half. -/
def half (X : FVec Ideal S4096x512 .f32) (G : FVec Ideal S1x512 .f32) (s : Fin 4096) (k : Fin 512) : EReal :=
  X (ix2 s k) * Ideal.rsqrt (Ideal.div (∑ k : Fin 512, X (ix2 s k) * X (ix2 s k)) (Ideal.ofBits .f32 0x44000000#32) + Ideal.ofBits .f32 0x358637BD#32) * G (ix2 0 k)

/-- The two normed halves side by side. -/
def both (X Y : FVec Ideal S4096x512 .f32) (G H : FVec Ideal S1x512 .f32) : FVec Ideal S4096x1024 .bf16 := fun j =>
  if h : (j 1).val < 512 then half X G (j 0) ⟨(j 1).val, h⟩
  else half Y H (j 0) ⟨(j 1).val - 512, by have := (j 1).isLt; change (j 1).val < 1024 at this; omega⟩

/-- Every window's block index at every point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

/-- A block's left half holds the first normed half. -/
theorem left (c : Dev nD) (t : Fin cfg0.N) (i : S512x512.Idx) (j : S4096x1024.Idx) (h0 : (j 0 : ℕ) = 512 * t.val + (i 0 : ℕ)) (h1 : (j 1 : ℕ) = (i 1 : ℕ)) :
    k0_pay1 (F := Ideal) (iblk m c 0 t) (iblk m c 2 t) i = both (m ((c : Thread nD τ).loc main_arg0)) (m ((c : Thread nD τ).loc main_arg1)) (m ((c : Thread nD τ).loc main_arg2)) (m ((c : Thread nD τ).loc main_arg3)) j := by
  have hb : (j 1).val < 512 := h1 ▸ (i 1).isLt
  rw [both, dif_pos hb]
  idx_vars i
  pointwise [k0_pay1, half]
  blk_point [iblk, V, idx t, h0, h1]

/-- A block's right half holds the second. -/
theorem right (c : Dev nD) (t : Fin cfg0.N) (i : S512x512.Idx) (j : S4096x1024.Idx) (h0 : (j 0 : ℕ) = 512 * t.val + (i 0 : ℕ)) (h1 : (j 1 : ℕ) = 512 + (i 1 : ℕ)) :
    k0_pay2 (F := Ideal) (iblk m c 1 t) (iblk m c 3 t) i = both (m ((c : Thread nD τ).loc main_arg0)) (m ((c : Thread nD τ).loc main_arg1)) (m ((c : Thread nD τ).loc main_arg2)) (m ((c : Thread nD τ).loc main_arg3)) j := by
  have hb : ¬(j 1).val < 512 := by omega
  rw [both, dif_neg hb]
  idx_vars i
  pointwise [k0_pay2, half]
  blk_point [iblk, V, idx t, h0, h1]

/-- What a point leaves at an index of its block. -/
theorem point (c : Dev nD) (t : Fin cfg0.N) (y : S512x1024.Idx) :
    Gen.out0_4 (F := Ideal) (iblk m c 0 t) (iblk m c 1 t) (iblk m c 2 t) (iblk m c 3 t) y
      = both (m ((c : Thread nD τ).loc main_arg0)) (m ((c : Thread nD τ).loc main_arg1)) (m ((c : Thread nD τ).loc main_arg2)) (m ((c : Thread nD τ).loc main_arg3)) (((cfg0.win 4).blk t).view.emb y) := by
  canon_tiles x h
  · refine Eq.trans (b := k0_pay2 (F := Ideal) (iblk m c 1 t) (iblk m c 3 t) x) ?_ (right m c t x _ ?_ ?_)
    · open_payloads
    all_goals (blk_simp [idx t] <;> try omega)
  · refine Eq.trans (b := k0_pay1 (F := Ideal) (iblk m c 0 t) (iblk m c 2 t) x) ?_ (left m c t x _ ?_ ?_)
    · open_payloads
    all_goals (blk_simp [idx t] <;> try omega)

/-- The result array after the run. -/
theorem final (c : Dev nD) : (dats m 0 c).arrAt 4 (cfgs 0).N = both (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.Kernel19Ideal.MixNorm

namespace Cert.Reference19Ideal.MixNorm

open Cert.Reference19Ideal Cert.Reference19Ideal.Gen

/-- The two norms as the plain text composes them. -/
def text (X Y : FVec Ideal S4096x512 .f32) (G H : FVec Ideal S1x512 .f32) : FVec Ideal S4096x1024 .bf16 :=
  truncf .bf16 (concatenate S4096x1024 1 [⟨S4096x512, (mulf (mulf X (broadcastInDim S4096x512 ![0, 1] bcast_S4096x1_S4096x512_0_1 (Host.rsqrt (addf (Host.divf (broadcastInDim S4096x1 ![0] bcast_S4096_S4096x1_0 (Host.reduceAdd (mulf X X) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 G))⟩, ⟨S4096x512, (mulf (mulf Y (broadcastInDim S4096x512 ![0, 1] bcast_S4096x1_S4096x512_0_1 (Host.rsqrt (addf (Host.divf (broadcastInDim S4096x1 ![0] bcast_S4096_S4096x1_0 (Host.reduceAdd (mulf Y Y) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 H))⟩] concatenates_S4096x512_S4096x512_S4096x1024_d1) bitsLt_bf16_f32

theorem text_eq (X Y : FVec Ideal S4096x512 .f32) (G H : FVec Ideal S1x512 .f32) : text X Y G H = Cert.Kernel19Ideal.MixNorm.both X Y G H := by
  funext j
  idx_vars j
  pointwise [text, Cert.Kernel19Ideal.MixNorm.both, Cert.Kernel19Ideal.MixNorm.half]

end Cert.Reference19Ideal.MixNorm

/-- The kernel's results and the plain text's are the same functions of the arguments. -/
theorem Cert.Proof.mix_norm : Cert.algebraic_Kernel19Ideal_Reference19Ideal := by
  intro m g m' g' hpre hag
  refine ⟨fun c => (Cert.Kernel19Ideal.Gen.dats m 0 c).arrAt 4 (Cert.Kernel19Ideal.cfgs 0).N, ?_, ?_⟩
  · run_from Cert.Kernel19Ideal.Gen.run_main m g
  · refine (θ_run Cert.Reference19Ideal.defs _ _).mono (fun r h c => ?_) (Cert.Reference19Ideal.Value.run (F := Ideal) m' g')
    obtain ⟨h1, h2⟩ := h c
    obtain ⟨a0, a1, a2, a3⟩ := hag c
    refine ⟨h1.trans ?_, h2⟩
    refine (Cert.Reference19Ideal.MixNorm.text_eq _ _ _ _).trans (Eq.trans ?_ (Cert.Kernel19Ideal.MixNorm.final m c).symm)
    simp only [a0, a1, a2, a3]

end
-- ==== Proof.NormAttn.lean ====
/-
  The norm before the first mixing layer: every row divided by the root of its mean square and scaled by the gain, in the
  tiled kernel and in the plain text.
-/
module

public import proofs.«01_k».proof.Defs
public import proofs.«01_k».proof.Proof.Gen.Kernel20Ideal.Value
public import proofs.«01_k».proof.Proof.Gen.Reference20Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel20Ideal.NormAttn

open Cert.Kernel20Ideal Cert.Kernel20Ideal.Gen

variable (m : (ℓ : Loc nD τ sig) → Buf (Elt Ideal) ℓ)

/-- The normed rows. -/
def normed (X : FVec Ideal S4096x1024 .f32) (G : FVec Ideal S1x1024 .f32) : FVec Ideal S4096x1024 .bf16 := fun j =>
  X (ix2 (j 0) (j 1)) * Ideal.rsqrt (Ideal.div (∑ k : Fin 1024, X (ix2 (j 0) k) * X (ix2 (j 0) k)) (Ideal.ofBits .f32 0x44800000#32) + Ideal.ofBits .f32 0x358637BD#32) * G (ix2 0 (j 1))

/-- Every window's block index at every point. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem final (c : Dev nD) : (dats m 0 c).arrAt 2 (cfgs 0).N = normed (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  pointwise [k0_pay1, normed]
  blk_point [iblk, V, idx t]

end Cert.Kernel20Ideal.NormAttn

namespace Cert.Reference20Ideal.NormAttn

open Cert.Reference20Ideal Cert.Reference20Ideal.Gen

/-- The norm as the plain text composes it. -/
def text (X : FVec Ideal S4096x1024 .f32) (G : FVec Ideal S1x1024 .f32) : FVec Ideal S4096x1024 .bf16 :=
  truncf .bf16 (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) bitsLt_bf16_f32

theorem text_eq (X : FVec Ideal S4096x1024 .f32) (G : FVec Ideal S1x1024 .f32) : text X G = Cert.Kernel20Ideal.NormAttn.normed X G := by
  funext j
  idx_vars j
  pointwise [text, Cert.Kernel20Ideal.NormAttn.normed]

end Cert.Reference20Ideal.NormAttn

/-- The kernel's results and the plain text's are the same functions of the arguments. -/
theorem Cert.Proof.norm_attn : Cert.algebraic_Kernel20Ideal_Reference20Ideal := by
  pair_intro
  · run_from Cert.Kernel20Ideal.Gen.run_main m g
  · run_from Cert.Reference20Ideal.Value.run m' g'
    rw [Cert.Kernel20Ideal.NormAttn.final m c]
    exact Cert.Reference20Ideal.NormAttn.text_eq _ _

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Loops
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Loops
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel2Ideal.Value
public import proofs.«01_k».proof.Proof.Gen.Reference2Ideal.Run
public import proofs.«01_k».proof.Proof.Gen.ReferenceIdeal.Run
public import proofs.«01_k».proof.Proof.Gen.Pre_finite
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Reference9Ideal.Run
public import proofs.«01_k».proof.Proof.Gen.Pre_finite9
public import proofs.«01_k».proof.Proof.DownBwd
public import proofs.«01_k».proof.Proof.DwDown
public import proofs.«01_k».proof.Proof.DwUp
public import proofs.«01_k».proof.Proof.DwO
public import proofs.«01_k».proof.Proof.DwQkv
public import proofs.«01_k».proof.Proof.DwSmall
public import proofs.«01_k».proof.Proof.MlpUp
public import proofs.«01_k».proof.Proof.KernelFrame
public import proofs.«01_k».proof.Proof.KernelIdealFrame
public import proofs.«01_k».proof.Proof.AttnBwd
public import proofs.«01_k».proof.Proof.FoxFrame
public import proofs.«01_k».proof.Proof.FoxIdealFrame
public import proofs.«01_k».proof.Proof.FoxBwd
public import proofs.«01_k».proof.Proof.UpBwd
public import proofs.«01_k».proof.Proof.Loss
public import proofs.«01_k».proof.Proof.ProjBwd
public import proofs.«01_k».proof.Proof.OutProj
public import proofs.«01_k».proof.Proof.ProjSmall
public import proofs.«01_k».proof.Proof.ProjQkv
public import proofs.«01_k».proof.Proof.DwUq
public import proofs.«01_k».proof.Proof.DwUkv
public import proofs.«01_k».proof.Proof.MixNormBwd
public import proofs.«01_k».proof.Proof.MixNorm
public import proofs.«01_k».proof.Proof.NormAttn
public import Idealize.ShloMosaic.Adequacy
public import Idealize.ShloMosaic.Init

@[expose] public section

noncomputable section

namespace Cert.Proof

open Idealize.ShloMosaic Idealize.SL.Sem Cert.Kernel

theorem frame_p : Cert.quiescent_Kernel := fun m ρ _ => Cert.Kernel.Bwd.frame m ρ
theorem frame_pi : Cert.quiescent_KernelIdeal := fun m ρ _ => Cert.KernelIdeal.Bwd.frame m ρ
theorem frame_pi_finite : Cert.quiescent_KernelIdeal_pre_finite := fun m ρ _ => Cert.KernelIdeal.Bwd.frame m ρ
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)
theorem frame_ri_finite : Cert.quiescent_ReferenceIdeal_pre_finite := fun m ρ _ => frame_ri m ρ trivial
theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)
theorem frame_p4 : Cert.quiescent_Kernel4 := fun m ρ _ => Cert.Kernel4.Gen.frame m ρ
theorem frame_pi4 : Cert.quiescent_Kernel4Ideal := fun m ρ _ => Cert.Kernel4Ideal.Gen.frame m ρ
theorem frame_ri4 : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)
theorem frame_p5 : Cert.quiescent_Kernel5 := fun m ρ _ => Cert.Kernel5.Gen.frame m ρ
theorem frame_pi5 : Cert.quiescent_Kernel5Ideal := fun m ρ _ => Cert.Kernel5Ideal.Gen.frame m ρ
theorem frame_ri5 : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)
theorem frame_p6 : Cert.quiescent_Kernel6 := fun m ρ _ => Cert.Kernel6.Gen.frame m ρ
theorem frame_pi6 : Cert.quiescent_Kernel6Ideal := fun m ρ _ => Cert.Kernel6Ideal.Gen.frame m ρ
theorem frame_ri6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)
theorem frame_p7 : Cert.quiescent_Kernel7 := fun m ρ _ => Cert.Kernel7.Gen.frame m ρ
theorem frame_pi7 : Cert.quiescent_Kernel7Ideal := fun m ρ _ => Cert.Kernel7Ideal.Gen.frame m ρ
theorem frame_ri7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)
theorem frame_p8 : Cert.quiescent_Kernel8 := fun m ρ _ => Cert.Kernel8.Gen.frame m ρ
theorem frame_pi8 : Cert.quiescent_Kernel8Ideal := fun m ρ _ => Cert.Kernel8Ideal.Gen.frame m ρ
theorem frame_ri8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)
theorem frame_p9 : Cert.quiescent_Kernel9 := fun m ρ _ => Cert.Kernel9.Bwd.frame m ρ
theorem frame_pi9 : Cert.quiescent_Kernel9Ideal := fun m ρ _ => Cert.Kernel9Ideal.Bwd.frame m ρ
theorem frame_pi9_finite : Cert.quiescent_Kernel9Ideal_pre_finite9 := fun m ρ _ => Cert.Kernel9Ideal.Bwd.frame m ρ
theorem frame_ri9 : Cert.quiescent_Reference9Ideal := fun m ρ _ =>
  (θ_run Cert.Reference9Ideal.defs _ _).mono (fun r h => ⟨fun c => (h c).2.2.2.2,
      Idealize.ShloMosaic.sem_eq_zero_of_no_sems (by decide) r.2⟩)
    (Cert.Reference9Ideal.Value.run (F := Ideal) m ρ)
theorem frame_ri9_finite : Cert.quiescent_Reference9Ideal_pre_finite9 := fun m ρ _ => frame_ri9 m ρ trivial
theorem frame_p10 : Cert.quiescent_Kernel10 := fun m ρ _ => Cert.Kernel10.Gen.frame m ρ
theorem frame_pi10 : Cert.quiescent_Kernel10Ideal := fun m ρ _ => Cert.Kernel10Ideal.Gen.frame m ρ
theorem frame_ri10 : Cert.quiescent_Reference10Ideal := fun m ρ _ =>
  (θ_run Cert.Reference10Ideal.defs _ _).mono (fun r h => ⟨fun c => (h c).2.2.2,
      Idealize.ShloMosaic.sem_eq_zero_of_no_sems (by decide) r.2⟩)
    (Cert.Reference10Ideal.Value.run (F := Ideal) m ρ)
theorem frame_p11 : Cert.quiescent_Kernel11 := fun m ρ _ => Cert.Kernel11.Gen.frame m ρ
theorem frame_pi11 : Cert.quiescent_Kernel11Ideal := fun m ρ _ => Cert.Kernel11Ideal.Gen.frame m ρ
theorem frame_ri11 : Cert.quiescent_Reference11Ideal := fun m ρ _ =>
  (θ_run Cert.Reference11Ideal.defs _ _).mono (fun r h => ⟨fun c => (h c).2.2.2.2,
      Idealize.ShloMosaic.sem_eq_zero_of_no_sems (by decide) r.2⟩)
    (Cert.Reference11Ideal.Value.run (F := Ideal) m ρ)
theorem frame_p12 : Cert.quiescent_Kernel12 := fun m ρ _ => Cert.Kernel12.Gen.frame m ρ
theorem frame_pi12 : Cert.quiescent_Kernel12Ideal := fun m ρ _ => Cert.Kernel12Ideal.Gen.frame m ρ
theorem frame_ri12 : Cert.quiescent_Reference12Ideal := fun m ρ _ =>
  (θ_run Cert.Reference12Ideal.defs _ _).mono (fun r h => ⟨fun c => (h c).2.2,
      Idealize.ShloMosaic.sem_eq_zero_of_no_sems (by decide) r.2⟩)
    (Cert.Reference12Ideal.Value.run (F := Ideal) m ρ)
theorem frame_p13 : Cert.quiescent_Kernel13 := fun m ρ _ => Cert.Kernel13.Gen.frame m ρ
theorem frame_pi13 : Cert.quiescent_Kernel13Ideal := fun m ρ _ => Cert.Kernel13Ideal.Gen.frame m ρ
theorem frame_ri13 : Cert.quiescent_Reference13Ideal := fun m ρ _ =>
  (θ_run Cert.Reference13Ideal.defs _ _).mono (fun r h => ⟨fun c => (h c).2.2,
      Idealize.ShloMosaic.sem_eq_zero_of_no_sems (by decide) r.2⟩)
    (Cert.Reference13Ideal.Value.run (F := Ideal) m ρ)
theorem frame_p14 : Cert.quiescent_Kernel14 := fun m ρ _ => Cert.Kernel14.Gen.frame m ρ
theorem frame_pi14 : Cert.quiescent_Kernel14Ideal := fun m ρ _ => Cert.Kernel14Ideal.Gen.frame m ρ
theorem frame_ri14 : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)
theorem frame_p15 : Cert.quiescent_Kernel15 := fun m ρ _ => Cert.Kernel15.Gen.frame m ρ
theorem frame_pi15 : Cert.quiescent_Kernel15Ideal := fun m ρ _ => Cert.Kernel15Ideal.Gen.frame m ρ
theorem frame_ri15 : Cert.quiescent_Reference15Ideal := fun m ρ _ =>
  (θ_run Cert.Reference15Ideal.defs _ _).mono (fun r h => ⟨fun c => (h c).2.2,
      Idealize.ShloMosaic.sem_eq_zero_of_no_sems (by decide) r.2⟩)
    (Cert.Reference15Ideal.Value.run (F := Ideal) m ρ)
theorem frame_p16 : Cert.quiescent_Kernel16 := fun m ρ _ => Cert.Kernel16.Gen.frame m ρ
theorem frame_pi16 : Cert.quiescent_Kernel16Ideal := fun m ρ _ => Cert.Kernel16Ideal.Gen.frame m ρ
theorem frame_ri16 : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)
theorem frame_p17 : Cert.quiescent_Kernel17 := fun m ρ _ => Cert.Kernel17.Gen.frame m ρ
theorem frame_pi17 : Cert.quiescent_Kernel17Ideal := fun m ρ _ => Cert.Kernel17Ideal.Gen.frame m ρ
theorem frame_ri17 : Cert.quiescent_Reference17Ideal := fun m ρ _ =>
  (θ_run Cert.Reference17Ideal.defs _ _).mono (fun r h => ⟨fun c => (h c).2,
      Idealize.ShloMosaic.sem_eq_zero_of_no_sems (by decide) r.2⟩)
    (Cert.Reference17Ideal.Value.run (F := Ideal) m ρ)
theorem frame_p18 : Cert.quiescent_Kernel18 := fun m ρ _ => Cert.Kernel18.Gen.frame m ρ
theorem frame_pi18 : Cert.quiescent_Kernel18Ideal := fun m ρ _ => Cert.Kernel18Ideal.Gen.frame m ρ
theorem frame_ri18 : Cert.quiescent_Reference18Ideal := fun m ρ _ =>
  (θ_run Cert.Reference18Ideal.defs _ _).mono (fun r h => ⟨fun c => (h c).2.2.2.2.2.2.2.2,
      Idealize.ShloMosaic.sem_eq_zero_of_no_sems (by decide) r.2⟩)
    (Cert.Reference18Ideal.Value.run (F := Ideal) m ρ)
theorem frame_p19 : Cert.quiescent_Kernel19 := fun m ρ _ => Cert.Kernel19.Gen.frame m ρ
theorem frame_pi19 : Cert.quiescent_Kernel19Ideal := fun m ρ _ => Cert.Kernel19Ideal.Gen.frame m ρ
theorem frame_ri19 : Cert.quiescent_Reference19Ideal := fun m ρ _ =>
  (θ_run Cert.Reference19Ideal.defs _ _).mono (fun r h => ⟨fun c => (h c).2,
      Idealize.ShloMosaic.sem_eq_zero_of_no_sems (by decide) r.2⟩)
    (Cert.Reference19Ideal.Value.run (F := Ideal) m ρ)
theorem frame_p20 : Cert.quiescent_Kernel20 := fun m ρ _ => Cert.Kernel20.Gen.frame m ρ
theorem frame_pi20 : Cert.quiescent_Kernel20Ideal := fun m ρ _ => Cert.Kernel20Ideal.Gen.frame m ρ
theorem frame_ri20 : Cert.quiescent_Reference20Ideal := fun m ρ _ =>
  (θ_run Cert.Reference20Ideal.defs _ _).mono (fun r h => ⟨fun c => (h c).2,
      Idealize.ShloMosaic.sem_eq_zero_of_no_sems (by decide) r.2⟩)
    (Cert.Reference20Ideal.Value.run (F := Ideal) m ρ)

/-- Every name of the table has the value that the ledger gives it. -/
theorem preserves : Cert.preserves_Kernel_KernelIdeal :=
  ⟨IdealRules.named_const.statement Cert.KernelIdeal.κ "scale_log2e" .f32 0x3E16C740#32 _ rfl,
    IdealRules.named_const.statement Cert.KernelIdeal.κ "scale" .f32 0x3DD105EC#32 _ rfl,
    IdealRules.named_const.statement Cert.KernelIdeal.κ "ln2" .f32 0x3F317218#32 _ rfl⟩
theorem preserves9 : Cert.preserves_Kernel9_Kernel9Ideal :=
  ⟨IdealRules.named_const.statement Cert.Kernel9Ideal.κ "log2e" .f32 0x3FB8AA3B#32 _ rfl,
    IdealRules.named_const.statement Cert.Kernel9Ideal.κ "fox_scale_log2e" .f32 0x3E38AA3B#32 _ rfl,
    IdealRules.named_const.statement Cert.Kernel9Ideal.κ "ln2" .f32 0x3F317218#32 _ rfl⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts,
  Cert.Pre_finite.Gen.facts, Cert.Pre_finite9.Gen.facts,
  frame_p, frame_pi, frame_pi_finite, frame_ri, frame_ri_finite, frame_p2, frame_pi2, frame_ri2,
  frame_p3, frame_pi3, frame_ri3, frame_p4, frame_pi4, frame_ri4, frame_p5, frame_pi5, frame_ri5, frame_p6, frame_pi6, frame_ri6, frame_p7, frame_pi7, frame_ri7, frame_p8, frame_pi8, frame_ri8,
  frame_p9, frame_pi9, frame_pi9_finite, frame_ri9, frame_ri9_finite,
  frame_p10, frame_pi10, frame_ri10, frame_p11, frame_pi11, frame_ri11, frame_p12, frame_pi12, frame_ri12, frame_p13, frame_pi13, frame_ri13, frame_p14, frame_pi14, frame_ri14, frame_p15, frame_pi15, frame_ri15, frame_p16, frame_pi16, frame_ri16, frame_p17, frame_pi17, frame_ri17, frame_p18, frame_pi18, frame_ri18, frame_p19, frame_pi19, frame_ri19, frame_p20, frame_pi20, frame_ri20,
  preserves, Cert.Proof.attn, trivial, Cert.Proof.down,
  trivial, Cert.Proof.dw_down, trivial, Cert.Proof.dw_up, trivial, Cert.Proof.dw_o, trivial, Cert.Proof.dw_qkv, trivial, Cert.Proof.dw_small, trivial, Cert.Proof.mlp_up,
  preserves9, Cert.Proof.fox,
  trivial, Cert.Proof.up_bwd, trivial, Cert.Proof.loss, trivial, Cert.Proof.proj_bwd, trivial, Cert.Proof.out_proj, trivial, Cert.Proof.proj_small, trivial, Cert.Proof.proj_qkv, trivial, Cert.Proof.dw_uq, trivial, Cert.Proof.dw_ukv,
  trivial, Cert.Proof.mix_norm_bwd, trivial, Cert.Proof.mix_norm, trivial, Cert.Proof.norm_attn⟩

end Cert.Proof

end
